-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_steps [hPre_finite_steps : Cert.Pre_finite_steps.Facts] (m : (ℓ : Loc Cert.KernelIdeal.nD Cert.KernelIdeal.τ Cert.KernelIdeal.sig) → Buf (Elt Ideal) ℓ) : Prop :=
  ∀ c : Dev Cert.KernelIdeal.nD,
    (Cert.Pre_finite_steps.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_steps [hPre_finite_steps : Cert.Pre_finite_steps.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_steps.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_keys [hPre_finite_keys : Cert.Pre_finite_keys.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_keys.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_keys [hPre_finite_keys : Cert.Pre_finite_keys.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_keys.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_step_keys [hPre_finite_step_keys : Cert.Pre_finite_step_keys.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_step_keys.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_step_keys [hPre_finite_step_keys : Cert.Pre_finite_step_keys.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_step_keys.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_steps [hKernelIdeal : Cert.KernelIdeal.Facts] [hPre_finite_steps : Cert.Pre_finite_steps.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_steps m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_steps [hReferenceIdeal : Cert.ReferenceIdeal.Facts] [hPre_finite_steps : Cert.Pre_finite_steps.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_steps m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Kernel2Ideal_pre_finite_keys [hKernel2Ideal : Cert.Kernel2Ideal.Facts] [hPre_finite_keys : Cert.Pre_finite_keys.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_keys m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Reference2Ideal_pre_finite_keys [hReference2Ideal : Cert.Reference2Ideal.Facts] [hPre_finite_keys : Cert.Pre_finite_keys.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_keys m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Kernel6Ideal_pre_finite_step_keys [hKernel6Ideal : Cert.Kernel6Ideal.Facts] [hPre_finite_step_keys : Cert.Pre_finite_step_keys.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_step_keys m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def quiescent_Reference6Ideal_pre_finite_step_keys [hReference6Ideal : Cert.Reference6Ideal.Facts] [hPre_finite_step_keys : Cert.Pre_finite_step_keys.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_step_keys m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_steps [hKernelIdeal : Cert.KernelIdeal.Facts] [hReferenceIdeal : Cert.ReferenceIdeal.Facts] [hPre_finite_steps : Cert.Pre_finite_steps.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_steps m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)) (v2 : (c : Dev Cert.KernelIdeal.nD) → Buf (Elt Ideal) ((c.tc : Thread Cert.KernelIdeal.nD Cert.KernelIdeal.τ).loc Cert.KernelIdeal.main_v19_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_v19_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v271) = v0 c
          ∧ r.2.mem ((c.tc : Thread Cert.ReferenceIdeal.nD Cert.ReferenceIdeal.τ).loc Cert.ReferenceIdeal.main_v272) = v1 c
          ∧ r.2.mem ((c.tc : Thread Cert.ReferenceIdeal.nD Cert.ReferenceIdeal.τ).loc Cert.ReferenceIdeal.main_v216) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal_pre_finite_keys [hKernel2Ideal : Cert.Kernel2Ideal.Facts] [hReference2Ideal : Cert.Reference2Ideal.Facts] [hPre_finite_keys : Cert.Pre_finite_keys.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_keys m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v36_0)) (v1 : (c : Dev Cert.Kernel2Ideal.nD) → Buf (Elt Ideal) ((c.tc : Thread Cert.Kernel2Ideal.nD Cert.Kernel2Ideal.τ).loc Cert.Kernel2Ideal.main_v36_1)) (v2 : (c : Dev Cert.Kernel2Ideal.nD) → Buf (Elt Ideal) ((c.tc : Thread Cert.Kernel2Ideal.nD Cert.Kernel2Ideal.τ).loc Cert.Kernel2Ideal.main_v36_2)) (v3 : (c : Dev Cert.Kernel2Ideal.nD) → Buf (Elt Ideal) ((c.tc : Thread Cert.Kernel2Ideal.nD Cert.Kernel2Ideal.τ).loc Cert.Kernel2Ideal.main_v36_3)) (v4 : (c : Dev Cert.Kernel2Ideal.nD) → Buf (Elt Ideal) ((c.tc : Thread Cert.Kernel2Ideal.nD Cert.Kernel2Ideal.τ).loc Cert.Kernel2Ideal.main_v36_4)) (v5 : (c : Dev Cert.Kernel2Ideal.nD) → Buf (Elt Ideal) ((c.tc : Thread Cert.Kernel2Ideal.nD Cert.Kernel2Ideal.τ).loc Cert.Kernel2Ideal.main_v36_5)) (v6 : (c : Dev Cert.Kernel2Ideal.nD) → Buf (Elt Ideal) ((c.tc : Thread Cert.Kernel2Ideal.nD Cert.Kernel2Ideal.τ).loc Cert.Kernel2Ideal.main_v36_6)) (v7 : (c : Dev Cert.Kernel2Ideal.nD) → Buf (Elt Ideal) ((c.tc : Thread Cert.Kernel2Ideal.nD Cert.Kernel2Ideal.τ).loc Cert.Kernel2Ideal.main_v36_7)) (v8 : (c : Dev Cert.Kernel2Ideal.nD) → Buf (Elt Ideal) ((c.tc : Thread Cert.Kernel2Ideal.nD Cert.Kernel2Ideal.τ).loc Cert.Kernel2Ideal.main_v36_8)) (v9 : (c : Dev Cert.Kernel2Ideal.nD) → Buf (Elt Ideal) ((c.tc : Thread Cert.Kernel2Ideal.nD Cert.Kernel2Ideal.τ).loc Cert.Kernel2Ideal.main_v36_9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v36_0) = v0 c
          ∧ r.2.mem ((c.tc : Thread Cert.Kernel2Ideal.nD Cert.Kernel2Ideal.τ).loc Cert.Kernel2Ideal.main_v36_1) = v1 c
          ∧ r.2.mem ((c.tc : Thread Cert.Kernel2Ideal.nD Cert.Kernel2Ideal.τ).loc Cert.Kernel2Ideal.main_v36_2) = v2 c
          ∧ r.2.mem ((c.tc : Thread Cert.Kernel2Ideal.nD Cert.Kernel2Ideal.τ).loc Cert.Kernel2Ideal.main_v36_3) = v3 c
          ∧ r.2.mem ((c.tc : Thread Cert.Kernel2Ideal.nD Cert.Kernel2Ideal.τ).loc Cert.Kernel2Ideal.main_v36_4) = v4 c
          ∧ r.2.mem ((c.tc : Thread Cert.Kernel2Ideal.nD Cert.Kernel2Ideal.τ).loc Cert.Kernel2Ideal.main_v36_5) = v5 c
          ∧ r.2.mem ((c.tc : Thread Cert.Kernel2Ideal.nD Cert.Kernel2Ideal.τ).loc Cert.Kernel2Ideal.main_v36_6) = v6 c
          ∧ r.2.mem ((c.tc : Thread Cert.Kernel2Ideal.nD Cert.Kernel2Ideal.τ).loc Cert.Kernel2Ideal.main_v36_7) = v7 c
          ∧ r.2.mem ((c.tc : Thread Cert.Kernel2Ideal.nD Cert.Kernel2Ideal.τ).loc Cert.Kernel2Ideal.main_v36_8) = v8 c
          ∧ r.2.mem ((c.tc : Thread Cert.Kernel2Ideal.nD Cert.Kernel2Ideal.τ).loc Cert.Kernel2Ideal.main_v36_9) = v9 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v84) = v0 c
          ∧ r.2.mem ((c.tc : Thread Cert.Reference2Ideal.nD Cert.Reference2Ideal.τ).loc Cert.Reference2Ideal.main_v88) = v1 c
          ∧ r.2.mem ((c.tc : Thread Cert.Reference2Ideal.nD Cert.Reference2Ideal.τ).loc Cert.Reference2Ideal.main_v91) = v2 c
          ∧ r.2.mem ((c.tc : Thread Cert.Reference2Ideal.nD Cert.Reference2Ideal.τ).loc Cert.Reference2Ideal.main_v93) = v3 c
          ∧ r.2.mem ((c.tc : Thread Cert.Reference2Ideal.nD Cert.Reference2Ideal.τ).loc Cert.Reference2Ideal.main_v27) = v4 c
          ∧ r.2.mem ((c.tc : Thread Cert.Reference2Ideal.nD Cert.Reference2Ideal.τ).loc Cert.Reference2Ideal.main_v95) = v5 c
          ∧ r.2.mem ((c.tc : Thread Cert.Reference2Ideal.nD Cert.Reference2Ideal.τ).loc Cert.Reference2Ideal.main_v96) = v6 c
          ∧ r.2.mem ((c.tc : Thread Cert.Reference2Ideal.nD Cert.Reference2Ideal.τ).loc Cert.Reference2Ideal.main_v97) = v7 c
          ∧ r.2.mem ((c.tc : Thread Cert.Reference2Ideal.nD Cert.Reference2Ideal.τ).loc Cert.Reference2Ideal.main_v98) = v8 c
          ∧ r.2.mem ((c.tc : Thread Cert.Reference2Ideal.nD Cert.Reference2Ideal.τ).loc Cert.Reference2Ideal.main_v99) = v9 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_pre_finite_step_keys [hKernel6Ideal : Cert.Kernel6Ideal.Facts] [hReference6Ideal : Cert.Reference6Ideal.Facts] [hPre_finite_step_keys : Cert.Pre_finite_step_keys.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_step_keys m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)) →
    ∃ (v0 : (c : Dev Cert.Kernel6Ideal.nD) → Buf (Elt Ideal) ((c.tc : Thread Cert.Kernel6Ideal.nD Cert.Kernel6Ideal.τ).loc Cert.Kernel6Ideal.main_v21_0)) (v1 : (c : Dev Cert.Kernel6Ideal.nD) → Buf (Elt Ideal) ((c.tc : Thread Cert.Kernel6Ideal.nD Cert.Kernel6Ideal.τ).loc Cert.Kernel6Ideal.main_v21_1)) (v2 : (c : Dev Cert.Kernel6Ideal.nD) → Buf (Elt Ideal) ((c.tc : Thread Cert.Kernel6Ideal.nD Cert.Kernel6Ideal.τ).loc Cert.Kernel6Ideal.main_v21_2)) (v3 : (c : Dev Cert.Kernel6Ideal.nD) → Buf (Elt Ideal) ((c.tc : Thread Cert.Kernel6Ideal.nD Cert.Kernel6Ideal.τ).loc Cert.Kernel6Ideal.main_v21_3)) (v4 : (c : Dev Cert.Kernel6Ideal.nD) → Buf (Elt Ideal) ((c.tc : Thread Cert.Kernel6Ideal.nD Cert.Kernel6Ideal.τ).loc Cert.Kernel6Ideal.main_v21_4)) (v5 : (c : Dev Cert.Kernel6Ideal.nD) → Buf (Elt Ideal) ((c.tc : Thread Cert.Kernel6Ideal.nD Cert.Kernel6Ideal.τ).loc Cert.Kernel6Ideal.main_v21_5)) (v6 : (c : Dev Cert.Kernel6Ideal.nD) → Buf (Elt Ideal) ((c.tc : Thread Cert.Kernel6Ideal.nD Cert.Kernel6Ideal.τ).loc Cert.Kernel6Ideal.main_v21_6)) (v7 : (c : Dev Cert.Kernel6Ideal.nD) → Buf (Elt Ideal) ((c.tc : Thread Cert.Kernel6Ideal.nD Cert.Kernel6Ideal.τ).loc Cert.Kernel6Ideal.main_v21_7)) (v8 : (c : Dev Cert.Kernel6Ideal.nD) → Buf (Elt Ideal) ((c.tc : Thread Cert.Kernel6Ideal.nD Cert.Kernel6Ideal.τ).loc Cert.Kernel6Ideal.main_v21_8)) (v9 : (c : Dev Cert.Kernel6Ideal.nD) → Buf (Elt Ideal) ((c.tc : Thread Cert.Kernel6Ideal.nD Cert.Kernel6Ideal.τ).loc Cert.Kernel6Ideal.main_v21_9)) (v10 : (c : Dev Cert.Kernel6Ideal.nD) → Buf (Elt Ideal) ((c.tc : Thread Cert.Kernel6Ideal.nD Cert.Kernel6Ideal.τ).loc Cert.Kernel6Ideal.main_v21_10)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v21_0) = v0 c
          ∧ r.2.mem ((c.tc : Thread Cert.Kernel6Ideal.nD Cert.Kernel6Ideal.τ).loc Cert.Kernel6Ideal.main_v21_1) = v1 c
          ∧ r.2.mem ((c.tc : Thread Cert.Kernel6Ideal.nD Cert.Kernel6Ideal.τ).loc Cert.Kernel6Ideal.main_v21_2) = v2 c
          ∧ r.2.mem ((c.tc : Thread Cert.Kernel6Ideal.nD Cert.Kernel6Ideal.τ).loc Cert.Kernel6Ideal.main_v21_3) = v3 c
          ∧ r.2.mem ((c.tc : Thread Cert.Kernel6Ideal.nD Cert.Kernel6Ideal.τ).loc Cert.Kernel6Ideal.main_v21_4) = v4 c
          ∧ r.2.mem ((c.tc : Thread Cert.Kernel6Ideal.nD Cert.Kernel6Ideal.τ).loc Cert.Kernel6Ideal.main_v21_5) = v5 c
          ∧ r.2.mem ((c.tc : Thread Cert.Kernel6Ideal.nD Cert.Kernel6Ideal.τ).loc Cert.Kernel6Ideal.main_v21_6) = v6 c
          ∧ r.2.mem ((c.tc : Thread Cert.Kernel6Ideal.nD Cert.Kernel6Ideal.τ).loc Cert.Kernel6Ideal.main_v21_7) = v7 c
          ∧ r.2.mem ((c.tc : Thread Cert.Kernel6Ideal.nD Cert.Kernel6Ideal.τ).loc Cert.Kernel6Ideal.main_v21_8) = v8 c
          ∧ r.2.mem ((c.tc : Thread Cert.Kernel6Ideal.nD Cert.Kernel6Ideal.τ).loc Cert.Kernel6Ideal.main_v21_9) = v9 c
          ∧ r.2.mem ((c.tc : Thread Cert.Kernel6Ideal.nD Cert.Kernel6Ideal.τ).loc Cert.Kernel6Ideal.main_v21_10) = v10 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v66) = v0 c
          ∧ r.2.mem ((c.tc : Thread Cert.Reference6Ideal.nD Cert.Reference6Ideal.τ).loc Cert.Reference6Ideal.main_v75) = v1 c
          ∧ r.2.mem ((c.tc : Thread Cert.Reference6Ideal.nD Cert.Reference6Ideal.τ).loc Cert.Reference6Ideal.main_v74) = v2 c
          ∧ r.2.mem ((c.tc : Thread Cert.Reference6Ideal.nD Cert.Reference6Ideal.τ).loc Cert.Reference6Ideal.main_v21) = v3 c
          ∧ r.2.mem ((c.tc : Thread Cert.Reference6Ideal.nD Cert.Reference6Ideal.τ).loc Cert.Reference6Ideal.main_v23) = v4 c
          ∧ r.2.mem ((c.tc : Thread Cert.Reference6Ideal.nD Cert.Reference6Ideal.τ).loc Cert.Reference6Ideal.main_v76) = v5 c
          ∧ r.2.mem ((c.tc : Thread Cert.Reference6Ideal.nD Cert.Reference6Ideal.τ).loc Cert.Reference6Ideal.main_v77) = v6 c
          ∧ r.2.mem ((c.tc : Thread Cert.Reference6Ideal.nD Cert.Reference6Ideal.τ).loc Cert.Reference6Ideal.main_v78) = v7 c
          ∧ r.2.mem ((c.tc : Thread Cert.Reference6Ideal.nD Cert.Reference6Ideal.τ).loc Cert.Reference6Ideal.main_v79) = v8 c
          ∧ r.2.mem ((c.tc : Thread Cert.Reference6Ideal.nD Cert.Reference6Ideal.τ).loc Cert.Reference6Ideal.main_v80) = v9 c
          ∧ r.2.mem ((c.tc : Thread Cert.Reference6Ideal.nD Cert.Reference6Ideal.τ).loc Cert.Reference6Ideal.main_v12) = v10 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)) →
    ∃ (v0 : (c : Dev Cert.Kernel7Ideal.nD) → Buf (Elt Ideal) ((c.tc : Thread Cert.Kernel7Ideal.nD Cert.Kernel7Ideal.τ).loc Cert.Kernel7Ideal.main_v21_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v21_1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_steps : Cert.Pre_finite_steps.Facts) (hPre_finite_keys : Cert.Pre_finite_keys.Facts) (hPre_finite_step_keys : Cert.Pre_finite_step_keys.Facts),
    quiescent_Kernel (hKernel := hKernel)
    ∧ quiescent_KernelIdeal (hKernelIdeal := hKernelIdeal)
    ∧ quiescent_KernelIdeal_pre_finite_steps (hKernelIdeal := hKernelIdeal) (hPre_finite_steps := hPre_finite_steps)
    ∧ quiescent_ReferenceIdeal (hReferenceIdeal := hReferenceIdeal)
    ∧ quiescent_ReferenceIdeal_pre_finite_steps (hReferenceIdeal := hReferenceIdeal) (hPre_finite_steps := hPre_finite_steps)
    ∧ quiescent_Kernel2 (hKernel2 := hKernel2)
    ∧ quiescent_Kernel2Ideal (hKernel2Ideal := hKernel2Ideal)
    ∧ quiescent_Kernel2Ideal_pre_finite_keys (hKernel2Ideal := hKernel2Ideal) (hPre_finite_keys := hPre_finite_keys)
    ∧ quiescent_Reference2Ideal (hReference2Ideal := hReference2Ideal)
    ∧ quiescent_Reference2Ideal_pre_finite_keys (hReference2Ideal := hReference2Ideal) (hPre_finite_keys := hPre_finite_keys)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_step_keys (hKernel6Ideal := hKernel6Ideal) (hPre_finite_step_keys := hPre_finite_step_keys)
    ∧ quiescent_Reference6Ideal (hReference6Ideal := hReference6Ideal)
    ∧ quiescent_Reference6Ideal_pre_finite_step_keys (hReference6Ideal := hReference6Ideal) (hPre_finite_step_keys := hPre_finite_step_keys)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite_steps (hKernelIdeal := hKernelIdeal) (hReferenceIdeal := hReferenceIdeal) (hPre_finite_steps := hPre_finite_steps)
    ∧ preserves_Kernel2_Kernel2Ideal
    ∧ algebraic_Kernel2Ideal_Reference2Ideal_pre_finite_keys (hKernel2Ideal := hKernel2Ideal) (hReference2Ideal := hReference2Ideal) (hPre_finite_keys := hPre_finite_keys)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_step_keys (hKernel6Ideal := hKernel6Ideal) (hReference6Ideal := hReference6Ideal) (hPre_finite_step_keys := hPre_finite_step_keys)
    ∧ preserves_Kernel7_Kernel7Ideal
    ∧ algebraic_Kernel7Ideal_Reference7Ideal (hKernel7Ideal := hKernel7Ideal) (hReference7Ideal := hReference7Ideal)
-- ==== Pre_finite_keys.lean ====
abbrev S16384x1024 : Shape := ⟨2, ![16384, 1024]⟩
abbrev S1024 : Shape := ⟨1, ![1024]⟩
abbrev S1024x6912 : Shape := ⟨2, ![1024, 6912]⟩
abbrev S8x1x3200 : Shape := ⟨3, ![8, 1, 3200]⟩
abbrev S3200 : Shape := ⟨1, ![3200]⟩
abbrev S64x1024 : Shape := ⟨2, ![64, 1024]⟩
abbrev S_ : Shape := ⟨0, ![]⟩
abbrev S1024x1024 : Shape := ⟨2, ![1024, 1024]⟩
abbrev S8x1x1024 : Shape := ⟨3, ![8, 1, 1024]⟩

class Facts : Prop where
  bcast_S_S1024 : S_.BroadcastsInDim S1024 (![] : Fin 0 → Fin S1024.rank)
  reducesTo_S1024_S_d0 : S1024.ReducesTo [0] S_
  h_S_ : 0 < S_.numel
  bitsLt_bf16_f32 : FTy.bits .bf16 < FTy.bits .f32
  slices_S1024x6912_S1024x1024_0_1024 : S1024x6912.Slices ![0, 1024] S1024x1024
  bcast_S_S1024x1024 : S_.BroadcastsInDim S1024x1024 (![] : Fin 0 → Fin S1024x1024.rank)
  reducesTo_S1024x1024_S_d0_1 : S1024x1024.ReducesTo [0, 1] S_
  slices_S8x1x3200_S8x1x1024_0_0_1024 : S8x1x3200.Slices ![0, 0, 1024] S8x1x1024
  bcast_S_S8x1x1024 : S_.BroadcastsInDim S8x1x1024 (![] : Fin 0 → Fin S8x1x1024.rank)
  reducesTo_S8x1x1024_S_d0_1_2 : S8x1x1024.ReducesTo [0, 1, 2] S_
  slices_S3200_S1024_1024 : S3200.Slices ![1024] S1024

variable [Facts]

def fn_part1 {F : FTy → Type} [FloatOps F] (main_arg9 : FVec F S1024 .f32) (main_v16 : IVec S_ 1) (main_v17 : FVec F S1024 .f32) : IVec S_ 1 :=
  let main_v18 : FVec F S1024 .f32 := Host.absf main_v17
  let main_cst_4 : FVec F S_ .f32 := constant S_ .f32 0x7F800000#32
  let main_v19 : FVec F S1024 .f32 := broadcastInDim S1024 ![] bcast_S_S1024 main_cst_4
  let main_v20 : IVec S1024 1 := cmpf .olt main_v18 main_v19
  let main_c_5 : IVec S_ 1 := constantI S_ 1 1#1
  let main_v21 : IVec S_ 1 := (fun x v => Host.reduce IntOp.andi x v reducesTo_S1024_S_d0 h_S_) main_v20 main_c_5
  let main_v22 : IVec S_ 1 := andi main_v16 main_v21
  let main_v23 : FVec F S1024 .f32 := Host.absf main_arg9
  let main_cst_6 : FVec F S_ .f32 := constant S_ .f32 0x7F800000#32
  let main_v24 : FVec F S1024 .f32 := broadcastInDim S1024 ![] bcast_S_S1024 main_cst_6
  let main_v25 : IVec S1024 1 := cmpf .olt main_v23 main_v24
  let main_c_7 : IVec S_ 1 := constantI S_ 1 1#1
  let main_v26 : IVec S_ 1 := (fun x v => Host.reduce IntOp.andi x v reducesTo_S1024_S_d0 h_S_) main_v25 main_c_7
  let main_v27 : IVec S_ 1 := andi main_v22 main_v26
  main_v27

def fn {F : FTy → Type} [FloatOps F] (main_arg0 : FVec F S16384x1024 .f32) (main_arg1 : FVec F S1024 .f32) (main_arg2 : FVec F S1024x6912 .bf16) (main_arg3 : FVec F S8x1x3200 .f32) (main_arg4 : FVec F S3200 .f32) (main_arg5 : FVec F S1024 .f32) (main_arg6 : FVec F S64x1024 .f32) (main_arg7 : FVec F S1024 .f32) (main_arg8 : FVec F S64x1024 .f32) (main_arg9 : FVec F S1024 .f32) (main_arg10 : FVec F S1024 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x6912 .f32 := (extf .f32 · bitsLt_bf16_f32) main_arg2
  let main_v5 : FVec F S1024x1024 .f32 := (extractStridedSlice S1024x1024 ![0, 1024] · slices_S1024x6912_S1024x1024_0_1024) main_v4
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : IVec S_ 1 := andi main_v3 main_v9
  let main_v11 : FVec F S8x1x1024 .f32 := (extractStridedSlice S8x1x1024 ![0, 0, 1024] · slices_S8x1x3200_S8x1x1024_0_0_1024) main_arg3
  let main_v12 : FVec F S8x1x1024 .f32 := Host.absf main_v11
  let main_cst_2 : FVec F S_ .f32 := constant S_ .f32 0x7F800000#32
  let main_v13 : FVec F S8x1x1024 .f32 := broadcastInDim S8x1x1024 ![] bcast_S_S8x1x1024 main_cst_2
  let main_v14 : IVec S8x1x1024 1 := cmpf .olt main_v12 main_v13
  let main_c_3 : IVec S_ 1 := constantI S_ 1 1#1
  let main_v15 : IVec S_ 1 := (fun x v => Host.reduce IntOp.andi x v reducesTo_S8x1x1024_S_d0_1_2 h_S_) main_v14 main_c_3
  let main_v16 : IVec S_ 1 := andi main_v10 main_v15
  let main_v17 : FVec F S1024 .f32 := (extractStridedSlice S1024 ![1024] · slices_S3200_S1024_1024) main_arg4
  fn_part1 (F := F) main_arg9 main_v16 main_v17
-- ==== Pre_finite_step_keys.lean ====
abbrev S128x1024 : Shape := ⟨2, ![128, 1024]⟩
abbrev S1024 : Shape := ⟨1, ![1024]⟩
abbrev S1024x6912 : Shape := ⟨2, ![1024, 6912]⟩
abbrev S128x3200 : Shape := ⟨2, ![128, 3200]⟩
abbrev S3200 : Shape := ⟨1, ![3200]⟩
abbrev S64x1024 : Shape := ⟨2, ![64, 1024]⟩
abbrev S_ : Shape := ⟨0, ![]⟩
abbrev S1024x1024 : Shape := ⟨2, ![1024, 1024]⟩

class Facts : Prop where
  bcast_S_S1024 : S_.BroadcastsInDim S1024 (![] : Fin 0 → Fin S1024.rank)
  reducesTo_S1024_S_d0 : S1024.ReducesTo [0] S_
  h_S_ : 0 < S_.numel
  bitsLt_bf16_f32 : FTy.bits .bf16 < FTy.bits .f32
  slices_S1024x6912_S1024x1024_0_1024 : S1024x6912.Slices ![0, 1024] S1024x1024
  bcast_S_S1024x1024 : S_.BroadcastsInDim S1024x1024 (![] : Fin 0 → Fin S1024x1024.rank)
  reducesTo_S1024x1024_S_d0_1 : S1024x1024.ReducesTo [0, 1] S_
  slices_S128x3200_S128x1024_0_1024 : S128x3200.Slices ![0, 1024] S128x1024
  bcast_S_S128x1024 : S_.BroadcastsInDim S128x1024 (![] : Fin 0 → Fin S128x1024.rank)
  reducesTo_S128x1024_S_d0_1 : S128x1024.ReducesTo [0, 1] S_
  slices_S3200_S1024_1024 : S3200.Slices ![1024] S1024

variable [Facts]

def fn_part1 {F : FTy → Type} [FloatOps F] (main_arg9 : FVec F S1024 .f32) (main_v16 : IVec S_ 1) (main_v17 : FVec F S1024 .f32) : IVec S_ 1 :=
  let main_v18 : FVec F S1024 .f32 := Host.absf main_v17
  let main_cst_4 : FVec F S_ .f32 := constant S_ .f32 0x7F800000#32
  let main_v19 : FVec F S1024 .f32 := broadcastInDim S1024 ![] bcast_S_S1024 main_cst_4
  let main_v20 : IVec S1024 1 := cmpf .olt main_v18 main_v19
  let main_c_5 : IVec S_ 1 := constantI S_ 1 1#1
  let main_v21 : IVec S_ 1 := (fun x v => Host.reduce IntOp.andi x v reducesTo_S1024_S_d0 h_S_) main_v20 main_c_5
  let main_v22 : IVec S_ 1 := andi main_v16 main_v21
  let main_v23 : FVec F S1024 .f32 := Host.absf main_arg9
  let main_cst_6 : FVec F S_ .f32 := constant S_ .f32 0x7F800000#32
  let main_v24 : FVec F S1024 .f32 := broadcastInDim S1024 ![] bcast_S_S1024 main_cst_6
  let main_v25 : IVec S1024 1 := cmpf .olt main_v23 main_v24
  let main_c_7 : IVec S_ 1 := constantI S_ 1 1#1
  let main_v26 : IVec S_ 1 := (fun x v => Host.reduce IntOp.andi x v reducesTo_S1024_S_d0 h_S_) main_v25 main_c_7
  let main_v27 : IVec S_ 1 := andi main_v22 main_v26
  main_v27

def fn {F : FTy → Type} [FloatOps F] (main_arg0 : FVec F S128x1024 .f32) (main_arg1 : FVec F S1024 .f32) (main_arg2 : FVec F S1024x6912 .bf16) (main_arg3 : FVec F S128x3200 .f32) (main_arg4 : FVec F S3200 .f32) (main_arg5 : FVec F S1024 .f32) (main_arg6 : FVec F S64x1024 .f32) (main_arg7 : FVec F S1024 .f32) (main_arg8 : FVec F S64x1024 .f32) (main_arg9 : FVec F S1024 .f32) (main_arg10 : FVec F S1024 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x6912 .f32 := (extf .f32 · bitsLt_bf16_f32) main_arg2
  let main_v5 : FVec F S1024x1024 .f32 := (extractStridedSlice S1024x1024 ![0, 1024] · slices_S1024x6912_S1024x1024_0_1024) main_v4
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : IVec S_ 1 := andi main_v3 main_v9
  let main_v11 : FVec F S128x1024 .f32 := (extractStridedSlice S128x1024 ![0, 1024] · slices_S128x3200_S128x1024_0_1024) main_arg3
  let main_v12 : FVec F S128x1024 .f32 := Host.absf main_v11
  let main_cst_2 : FVec F S_ .f32 := constant S_ .f32 0x7F800000#32
  let main_v13 : FVec F S128x1024 .f32 := broadcastInDim S128x1024 ![] bcast_S_S128x1024 main_cst_2
  let main_v14 : IVec S128x1024 1 := cmpf .olt main_v12 main_v13
  let main_c_3 : IVec S_ 1 := constantI S_ 1 1#1
  let main_v15 : IVec S_ 1 := (fun x v => Host.reduce IntOp.andi x v reducesTo_S128x1024_S_d0_1 h_S_) main_v14 main_c_3
  let main_v16 : IVec S_ 1 := andi main_v10 main_v15
  let main_v17 : FVec F S1024 .f32 := (extractStridedSlice S1024 ![1024] · slices_S3200_S1024_1024) main_arg4
  fn_part1 (F := F) main_arg9 main_v16 main_v17
-- ==== Pre_finite_steps.lean ====
abbrev S16384x1536 : Shape := ⟨2, ![16384, 1536]⟩
abbrev S16384x1024 : Shape := ⟨2, ![16384, 1024]⟩
abbrev S16384x128 : Shape := ⟨2, ![16384, 128]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S16384x16 : Shape := ⟨2, ![16384, 16]⟩
abbrev S1x16 : Shape := ⟨2, ![1, 16]⟩
abbrev S_ : Shape := ⟨0, ![]⟩

class Facts : Prop where
  slices_S16384x128_S16384x16_0_0 : S16384x128.Slices ![0, 0] S16384x16
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  bcast_S_S16384x16 : S_.BroadcastsInDim S16384x16 (![] : Fin 0 → Fin S16384x16.rank)
  reducesTo_S16384x16_S_d0_1 : S16384x16.ReducesTo [0, 1] S_
  h_S_ : 0 < S_.numel

variable [Facts]

def fn {F : FTy → Type} [FloatOps F] (main_arg0 : FVec F S16384x1536 .f32) (main_arg1 : FVec F S16384x1024 .f32) (main_arg2 : FVec F S16384x128 .f32) (main_arg3 : FVec F S4x1536 .f32) (main_arg4 : FVec F S1536 .f32) (main_arg5 : FVec F S16 .f32) (main_arg6 : FVec F S16 .f32) (main_arg7 : FVec F S16 .f32) (main_arg8 : FVec F S1024 .f32) : IVec S_ 1 :=
  let main_v0 : FVec F S16384x16 .f32 := (extractStridedSlice S16384x16 ![0, 0] · slices_S16384x128_S16384x16_0_0) main_arg2
  let main_v1 : FVec F S1x16 .f32 := broadcastInDim S1x16 ![1] bcast_S16_S1x16_1 main_arg5
  let main_v2 : FVec F S16384x16 .f32 := broadcastInDim S16384x16 ![0, 1] bcast_S1x16_S16384x16_0_1 main_v1
  let main_v3 : FVec F S16384x16 .f32 := addf main_v0 main_v2
  let main_cst : FVec F S_ .f32 := constant S_ .f32 0x7F800000#32
  let main_v4 : FVec F S16384x16 .f32 := broadcastInDim S16384x16 ![] bcast_S_S16384x16 main_cst
  let main_v5 : IVec S16384x16 1 := cmpf .olt main_v3 main_v4
  let main_c : IVec S_ 1 := constantI S_ 1 1#1
  let main_v6 : IVec S_ 1 := (fun x v => Host.reduce IntOp.andi x v reducesTo_S16384x16_S_d0_1 h_S_) main_v5 main_c
  main_v6
-- ==== Kernel.lean ====
abbrev S16384x1536 : Shape := ⟨2, ![16384, 1536]⟩
abbrev S16384x1024 : Shape := ⟨2, ![16384, 1024]⟩
abbrev S16384x128 : Shape := ⟨2, ![16384, 128]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S128 : Shape := ⟨1, ![128]⟩
abbrev S128x1 : Shape := ⟨2, ![128, 1]⟩
abbrev S1x1024 : Shape := ⟨2, ![1, 1024]⟩
abbrev S_ : Shape := ⟨0, ![]⟩
abbrev S128x1024 : Shape := ⟨2, ![128, 1024]⟩
abbrev S1x1536 : Shape := ⟨2, ![1, 1536]⟩
abbrev S1x16 : Shape := ⟨2, ![1, 16]⟩
abbrev S1x128 : Shape := ⟨2, ![1, 128]⟩
abbrev S16x64 : Shape := ⟨2, ![16, 64]⟩
abbrev S1024x128 : Shape := ⟨2, ![1024, 128]⟩
abbrev S8x3x1536 : Shape := ⟨3, ![8, 3, 1536]⟩
abbrev S8x1024x128 : Shape := ⟨3, ![8, 1024, 128]⟩
abbrev S128x1536 : Shape := ⟨2, ![128, 1536]⟩
abbrev S128x128 : Shape := ⟨2, ![128, 128]⟩
abbrev S1x3x1536 : Shape := ⟨3, ![1, 3, 1536]⟩
abbrev S1x1024x128 : Shape := ⟨3, ![1, 1024, 128]⟩
abbrev S136x1536 : Shape := ⟨2, ![136, 1536]⟩
abbrev S8x1536 : Shape := ⟨2, ![8, 1536]⟩
abbrev S128x256 : Shape := ⟨2, ![128, 256]⟩
abbrev S256x128 : Shape := ⟨2, ![256, 128]⟩
abbrev S128x512 : Shape := ⟨2, ![128, 512]⟩
abbrev S3x1536 : Shape := ⟨2, ![3, 1536]⟩

abbrev nBuf : Space → Nat
  | .hbm => 52
  | .vmem => 22
  | .smem => 0
  | _ => 0

abbrev bufTy : (tb : Table) → Fin (tcTables nBuf tb) → BufTy
  | .hbm, ⟨0, _⟩ => ⟨S16384x1536, .f32⟩
  | .hbm, ⟨1, _⟩ => ⟨S16384x1024, .f32⟩
  | .hbm, ⟨2, _⟩ => ⟨S16384x128, .f32⟩
  | .hbm, ⟨3, _⟩ => ⟨S4x1536, .f32⟩
  | .hbm, ⟨4, _⟩ => ⟨S1536, .f32⟩
  | .hbm, ⟨5, _⟩ => ⟨S16, .f32⟩
  | .hbm, ⟨6, _⟩ => ⟨S16, .f32⟩
  | .hbm, ⟨7, _⟩ => ⟨S16, .f32⟩
  | .hbm, ⟨8, _⟩ => ⟨S1024, .f32⟩
  | .hbm, ⟨9, _⟩ => ⟨S128, .i32⟩
  | .hbm, ⟨10, _⟩ => ⟨S128x1, .i32⟩
  | .hbm, ⟨11, _⟩ => ⟨S1024, .i32⟩
  | .hbm, ⟨12, _⟩ => ⟨S1x1024, .i32⟩
  | .hbm, ⟨13, _⟩ => ⟨S_, .i32⟩
  | .hbm, ⟨14, _⟩ => ⟨S_, .i32⟩
  | .hbm, ⟨15, _⟩ => ⟨S1x1024, .i32⟩
  | .hbm, ⟨16, _⟩ => ⟨S1x1024, .i32⟩
  | .hbm, ⟨17, _⟩ => ⟨S1x1024, .i32⟩
  | .hbm, ⟨18, _⟩ => ⟨S_, .i32⟩
  | .hbm, ⟨19, _⟩ => ⟨S1x1024, .i32⟩
  | .hbm, ⟨20, _⟩ => ⟨S1x1024, .i1⟩
  | .hbm, ⟨21, _⟩ => ⟨S1x1024, .i32⟩
  | .hbm, ⟨22, _⟩ => ⟨S1x1024, .i32⟩
  | .hbm, ⟨23, _⟩ => ⟨S_, .i32⟩
  | .hbm, ⟨24, _⟩ => ⟨S1x1024, .i32⟩
  | .hbm, ⟨25, _⟩ => ⟨S1x1024, .i1⟩
  | .hbm, ⟨26, _⟩ => ⟨S1x1024, .i1⟩
  | .hbm, ⟨27, _⟩ => ⟨S_, .i32⟩
  | .hbm, ⟨28, _⟩ => ⟨S1x1024, .i32⟩
  | .hbm, ⟨29, _⟩ => ⟨S1x1024, .i32⟩
  | .hbm, ⟨30, _⟩ => ⟨S1x1024, .i32⟩
  | .hbm, ⟨31, _⟩ => ⟨S128x1024, .i32⟩
  | .hbm, ⟨32, _⟩ => ⟨S128x1024, .i32⟩
  | .hbm, ⟨33, _⟩ => ⟨S128x1024, .i1⟩
  | .hbm, ⟨34, _⟩ => ⟨S128x1024, .bf16⟩
  | .hbm, ⟨35, _⟩ => ⟨S1x1536, .f32⟩
  | .hbm, ⟨36, _⟩ => ⟨S1x16, .f32⟩
  | .hbm, ⟨37, _⟩ => ⟨S_, .i32⟩
  | .hbm, ⟨38, _⟩ => ⟨S_, .f32⟩
  | .hbm, ⟨39, _⟩ => ⟨S1x128, .f32⟩
  | .hbm, ⟨40, _⟩ => ⟨S1x16, .f32⟩
  | .hbm, ⟨41, _⟩ => ⟨S_, .i32⟩
  | .hbm, ⟨42, _⟩ => ⟨S_, .f32⟩
  | .hbm, ⟨43, _⟩ => ⟨S1x128, .f32⟩
  | .hbm, ⟨44, _⟩ => ⟨S16x64, .f32⟩
  | .hbm, ⟨45, _⟩ => ⟨S1024, .f32⟩
  | .hbm, ⟨46, _⟩ => ⟨S1x1024, .f32⟩
  | .hbm, ⟨47, _⟩ => ⟨S1x1024, .f32⟩
  | .hbm, ⟨48, _⟩ => ⟨S1024x128, .bf16⟩
  | .hbm, ⟨49, _⟩ => ⟨S16384x1024, .bf16⟩
  | .hbm, ⟨50, _⟩ => ⟨S8x3x1536, .f32⟩
  | .hbm, ⟨51, _⟩ => ⟨S8x1024x128, .f32⟩
  | .local _ .vmem, ⟨0, _⟩ => ⟨S128x1536, .f32⟩
  | .local _ .vmem, ⟨1, _⟩ => ⟨S128x1536, .f32⟩
  | .local _ .vmem, ⟨2, _⟩ => ⟨S128x1024, .f32⟩
  | .local _ .vmem, ⟨3, _⟩ => ⟨S128x1024, .f32⟩
  | .local _ .vmem, ⟨4, _⟩ => ⟨S128x128, .f32⟩
  | .local _ .vmem, ⟨5, _⟩ => ⟨S128x128, .f32⟩
  | .local _ .vmem, ⟨6, _⟩ => ⟨S4x1536, .f32⟩
  | .local _ .vmem, ⟨7, _⟩ => ⟨S1x1536, .f32⟩
  | .local _ .vmem, ⟨8, _⟩ => ⟨S1x128, .f32⟩
  | .local _ .vmem, ⟨9, _⟩ => ⟨S1x128, .f32⟩
  | .local _ .vmem, ⟨10, _⟩ => ⟨S1x1024, .f32⟩
  | .local _ .vmem, ⟨11, _⟩ => ⟨S1x1024, .f32⟩
  | .local _ .vmem, ⟨12, _⟩ => ⟨S128x1024, .bf16⟩
  | .local _ .vmem, ⟨13, _⟩ => ⟨S1024x128, .bf16⟩
  | .local _ .vmem, ⟨14, _⟩ => ⟨S128x1024, .bf16⟩
  | .local _ .vmem, ⟨15, _⟩ => ⟨S128x1024, .bf16⟩
  | .local _ .vmem, ⟨16, _⟩ => ⟨S1x3x1536, .f32⟩
  | .local _ .vmem, ⟨17, _⟩ => ⟨S1x3x1536, .f32⟩
  | .local _ .vmem, ⟨18, _⟩ => ⟨S1x1024x128, .f32⟩
  | .local _ .vmem, ⟨19, _⟩ => ⟨S1x1024x128, .f32⟩
  | .local _ .vmem, ⟨20, _⟩ => ⟨S136x1536, .f32⟩
  | .local _ .vmem, ⟨21, _⟩ => ⟨S1024x128, .f32⟩
  | _, _ => ⟨S16384x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_c_0 : Ref sig .tc := ⟨.hbm, 37, rfl⟩
abbrev main_call1_v0 : Ref sig .tc := ⟨.hbm, 38, rfl⟩
abbrev main_v11 : Ref sig .tc := ⟨.hbm, 39, rfl⟩
abbrev main_v12 : Ref sig .tc := ⟨.hbm, 40, rfl⟩
abbrev main_c_1 : Ref sig .tc := ⟨.hbm, 41, rfl⟩
abbrev main_call2_v0 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19_0 : Ref sig .tc := ⟨.hbm, 49, rfl⟩
abbrev main_v19_1 : Ref sig .tc := ⟨.hbm, 50, rfl⟩
abbrev main_v19_2 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v604 : BitVec 1 := Scalar.cmpi .eq arg1 c15_i32
  let v605 : BitVec 32 := Scalar.extui v604
  let c0_i32_174 : BitVec 32 := 0#32
  let v606 : BitVec 1 := Scalar.cmpi .ne v605 c0_i32_174
  v606

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S128x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x3x1536 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S16384x1536 : Shape := ⟨2, ![16384, 1536]⟩
abbrev S16384x1024 : Shape := ⟨2, ![16384, 1024]⟩
abbrev S16384x128 : Shape := ⟨2, ![16384, 128]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S_ : Shape := ⟨0, ![]⟩
abbrev S8x3x1536 : Shape := ⟨3, ![8, 3, 1536]⟩
abbrev S8x2048x1536 : Shape := ⟨3, ![8, 2048, 1536]⟩
abbrev S8x2051x1536 : Shape := ⟨3, ![8, 2051, 1536]⟩
abbrev S1x1536 : Shape := ⟨2, ![1, 1536]⟩
abbrev S1x1x1536 : Shape := ⟨3, ![1, 1, 1536]⟩
abbrev S128x128x2x8x64 : Shape := ⟨5, ![128, 128, 2, 8, 64]⟩
abbrev S16384x256 : Shape := ⟨2, ![16384, 256]⟩
abbrev S128x128x2x128 : Shape := ⟨4, ![128, 128, 2, 128]⟩
abbrev S16384x16 : Shape := ⟨2, ![16384, 16]⟩
abbrev S1x16 : Shape := ⟨2, ![1, 16]⟩
abbrev S128x128x2x8 : Shape := ⟨4, ![128, 128, 2, 8]⟩
abbrev S128x128x2x8x1 : Shape := ⟨5, ![128, 128, 2, 8, 1]⟩
abbrev S128x128x1x2x8 : Shape := ⟨5, ![128, 128, 1, 2, 8]⟩
abbrev S128x1x128x2x8 : Shape := ⟨5, ![128, 1, 128, 2, 8]⟩
abbrev S128x128x128x2x8 : Shape := ⟨5, ![128, 128, 128, 2, 8]⟩
abbrev S128x128 : Shape := ⟨2, ![128, 128]⟩
abbrev S128x128x1x1 : Shape := ⟨4, ![128, 128, 1, 1]⟩
abbrev S128x2x128x128 : Shape := ⟨4, ![128, 2, 128, 128]⟩
abbrev S128x128x128x2 : Shape := ⟨4, ![128, 128, 128, 2]⟩
abbrev S128x128x128x2x1 : Shape := ⟨5, ![128, 128, 128, 2, 1]⟩
abbrev S128x2x8x64x128 : Shape := ⟨5, ![128, 2, 8, 64, 128]⟩
abbrev S128x1x2x8 : Shape := ⟨4, ![128, 1, 2, 8]⟩
abbrev S128x2x8 : Shape := ⟨3, ![128, 2, 8]⟩
abbrev S8x16x1024x128 : Shape := ⟨4, ![8, 16, 1024, 128]⟩
abbrev S128x2x8x1 : Shape := ⟨4, ![128, 2, 8, 1]⟩
abbrev S128x2x8x64 : Shape := ⟨4, ![128, 2, 8, 64]⟩
abbrev S8x16x1024x1 : Shape := ⟨4, ![8, 16, 1024, 1]⟩
abbrev S8x1024x128 : Shape := ⟨3, ![8, 1024, 128]⟩
abbrev S8x1x1024x1 : Shape := ⟨4, ![8, 1, 1024, 1]⟩
abbrev S8x1024x1 : Shape := ⟨3, ![8, 1024, 1]⟩
abbrev S8x1x1024x128 : Shape := ⟨4, ![8, 1, 1024, 128]⟩
abbrev S2x8x1 : Shape := ⟨3, ![2, 8, 1]⟩
abbrev S1x1x2x8x1 : Shape := ⟨5, ![1, 1, 2, 8, 1]⟩
abbrev S16384x2x512 : Shape := ⟨3, ![16384, 2, 512]⟩
abbrev S16384x2 : Shape := ⟨2, ![16384, 2]⟩
abbrev S16384x2x1 : Shape := ⟨3, ![16384, 2, 1]⟩
abbrev S1x1024 : Shape := ⟨2, ![1, 1024]⟩

abbrev nBuf : Space → Nat
  | .hbm => 299
  | .vmem => 0
  | .smem => 0
  | _ => 0

abbrev hbmTy0_0 (i : Nat) : BufTy := match i % 128 with
  | 0 => ⟨S16384x1536, .f32⟩
  | 1 => ⟨S16384x1024, .f32⟩
  | 2 => ⟨S16384x128, .f32⟩
  | 3 => ⟨S4x1536, .f32⟩
  | 4 => ⟨S1536, .f32⟩
  | 5 => ⟨S16, .f32⟩
  | 6 => ⟨S16, .f32⟩
  | 7 => ⟨S16, .f32⟩
  | 8 => ⟨S1024, .f32⟩
  | 9 => ⟨S_, .f32⟩
  | 10 => ⟨S8x3x1536, .f32⟩
  | 11 => ⟨S8x2048x1536, .f32⟩
  | 12 => ⟨S8x2051x1536, .f32⟩
  | 13 => ⟨S8x2048x1536, .f32⟩
  | 14 => ⟨S1x1536, .f32⟩
  | 15 => ⟨S1536, .f32⟩
  | 16 => ⟨S1x1x1536, .f32⟩
  | 17 => ⟨S8x2048x1536, .f32⟩
  | 18 => ⟨S8x2048x1536, .f32⟩
  | 19 => ⟨S_, .f32⟩
  | 20 => ⟨S8x2048x1536, .f32⟩
  | 21 => ⟨S8x2048x1536, .f32⟩
  | 22 => ⟨S8x2048x1536, .f32⟩
  | 23 => ⟨S1x1536, .f32⟩
  | 24 => ⟨S1536, .f32⟩
  | 25 => ⟨S1x1x1536, .f32⟩
  | 26 => ⟨S8x2048x1536, .f32⟩
  | 27 => ⟨S8x2048x1536, .f32⟩
  | 28 => ⟨S8x2048x1536, .f32⟩
  | 29 => ⟨S8x2048x1536, .f32⟩
  | 30 => ⟨S1x1536, .f32⟩
  | 31 => ⟨S1536, .f32⟩
  | 32 => ⟨S1x1x1536, .f32⟩
  | 33 => ⟨S8x2048x1536, .f32⟩
  | 34 => ⟨S8x2048x1536, .f32⟩
  | 35 => ⟨S8x2048x1536, .f32⟩
  | 36 => ⟨S8x2048x1536, .f32⟩
  | 37 => ⟨S1x1536, .f32⟩
  | 38 => ⟨S1536, .f32⟩
  | 39 => ⟨S1x1x1536, .f32⟩
  | 40 => ⟨S8x2048x1536, .f32⟩
  | 41 => ⟨S8x2048x1536, .f32⟩
  | 42 => ⟨S8x2048x1536, .f32⟩
  | 43 => ⟨S1x1x1536, .f32⟩
  | 44 => ⟨S8x2048x1536, .f32⟩
  | 45 => ⟨S8x2048x1536, .f32⟩
  | 46 => ⟨S8x2048x1536, .f32⟩
  | 47 => ⟨S8x2048x1536, .f32⟩
  | 48 => ⟨S_, .f32⟩
  | 49 => ⟨S8x2048x1536, .f32⟩
  | 50 => ⟨S8x2048x1536, .f32⟩
  | 51 => ⟨S_, .f32⟩
  | 52 => ⟨S8x2048x1536, .f32⟩
  | 53 => ⟨S8x2048x1536, .f32⟩
  | 54 => ⟨S8x2048x1536, .f32⟩
  | 55 => ⟨S16384x1536, .f32⟩
  | 56 => ⟨S16384x1024, .f32⟩
  | 57 => ⟨S128x128x2x8x64, .f32⟩
  | 58 => ⟨S16384x256, .f32⟩
  | 59 => ⟨S128x128x2x128, .f32⟩
  | 60 => ⟨S16384x256, .f32⟩
  | 61 => ⟨S128x128x2x128, .f32⟩
  | 62 => ⟨S16384x16, .f32⟩
  | 63 => ⟨S1x16, .f32⟩
  | 64 => ⟨S16384x16, .f32⟩
  | 65 => ⟨S16384x16, .f32⟩
  | 66 => ⟨S_, .f32⟩
  | 67 => ⟨S16384x16, .f32⟩
  | 68 => ⟨S16384x16, .f32⟩
  | 69 => ⟨S16384x16, .f32⟩
  | 70 => ⟨S16384x16, .f32⟩
  | 71 => ⟨S16384x16, .f32⟩
  | 72 => ⟨S16384x16, .f32⟩
  | 73 => ⟨S16384x16, .f32⟩
  | 74 => ⟨S16, .f32⟩
  | 75 => ⟨S16, .f32⟩
  | 76 => ⟨S1x16, .f32⟩
  | 77 => ⟨S16384x16, .f32⟩
  | 78 => ⟨S16384x16, .f32⟩
  | 79 => ⟨S128x128x2x8, .f32⟩
  | 80 => ⟨S128x128x2x8, .f32⟩
  | 81 => ⟨S128x128x2x8x1, .f32⟩
  | 82 => ⟨S128x128x2x8x64, .f32⟩
  | 83 => ⟨S128x128x2x8x64, .f32⟩
  | 84 => ⟨S_, .f32⟩
  | 85 => ⟨S_, .f32⟩
  | 86 => ⟨S128x128x2x8, .f32⟩
  | 87 => ⟨S128x128x1x2x8, .f32⟩
  | 88 => ⟨S128x1x128x2x8, .f32⟩
  | 89 => ⟨S128x128x128x2x8, .f32⟩
  | 90 => ⟨S128x128x128x2x8, .f32⟩
  | 91 => ⟨S128x128x128x2x8, .f32⟩
  | 92 => ⟨S128x128, .i32⟩
  | 93 => ⟨S128x128, .i32⟩
  | 94 => ⟨S128x128, .i1⟩
  | 95 => ⟨S128x128x1x1, .i1⟩
  | 96 => ⟨S_, .f32⟩
  | 97 => ⟨S_, .f32⟩
  | 98 => ⟨S128x128x128x2x8, .i1⟩
  | 99 => ⟨S128x128x128x2x8, .f32⟩
  | 100 => ⟨S128x128x128x2x8, .f32⟩
  | 101 => ⟨S128x128x128x2x8, .f32⟩
  | 102 => ⟨S128x2x128x128, .f32⟩
  | 103 => ⟨S128x128x128x2, .f32⟩
  | 104 => ⟨S128x128x128x2x1, .f32⟩
  | 105 => ⟨S128x128x128x2x8, .f32⟩
  | 106 => ⟨S128x128x128x2x8, .f32⟩
  | 107 => ⟨S128x2x8x64x128, .f32⟩
  | 108 => ⟨S128x128x2x8x64, .f32⟩
  | 109 => ⟨S128x1x2x8, .f32⟩
  | 110 => ⟨S128x128x2x8, .f32⟩
  | 111 => ⟨S128x128x2x8, .f32⟩
  | 112 => ⟨S128x128x2x8, .f32⟩
  | 113 => ⟨S128x128x2x8x1, .f32⟩
  | 114 => ⟨S128x128x2x8x64, .f32⟩
  | 115 => ⟨S128x128x2x8x64, .f32⟩
  | 116 => ⟨S128x2x8x64x128, .f32⟩
  | 117 => ⟨S128x1x2x8, .f32⟩
  | 118 => ⟨S128x2x8, .f32⟩
  | 119 => ⟨S128x2x8, .f32⟩
  | 120 => ⟨S8x16x1024x128, .f32⟩
  | 121 => ⟨S128x2x8x1, .f32⟩
  | 122 => ⟨S128x2x8x64, .f32⟩
  | 123 => ⟨S8x16x1024x1, .f32⟩
  | 124 => ⟨S_, .f32⟩
  | 125 => ⟨S8x1024x128, .f32⟩
  | 126 => ⟨S8x1x1024x1, .f32⟩
  | 127 => ⟨S8x1024x1, .f32⟩
  | _ => ⟨S16384x1536, .f32⟩

abbrev hbmTy0_1 (i : Nat) : BufTy := match i % 128 with
  | 0 => ⟨S8x1024x128, .f32⟩
  | 1 => ⟨S8x1024x128, .f32⟩
  | 2 => ⟨S8x1x1024x128, .f32⟩
  | 3 => ⟨S8x1024x128, .f32⟩
  | 4 => ⟨S8x1024x128, .f32⟩
  | 5 => ⟨S8x1x1024x1, .f32⟩
  | 6 => ⟨S8x1024x1, .f32⟩
  | 7 => ⟨S8x1024x128, .f32⟩
  | 8 => ⟨S8x1024x128, .f32⟩
  | 9 => ⟨S8x1x1024x128, .f32⟩
  | 10 => ⟨S8x1024x128, .f32⟩
  | 11 => ⟨S8x1024x128, .f32⟩
  | 12 => ⟨S8x1x1024x1, .f32⟩
  | 13 => ⟨S8x1024x1, .f32⟩
  | 14 => ⟨S8x1024x128, .f32⟩
  | 15 => ⟨S8x1024x128, .f32⟩
  | 16 => ⟨S8x1x1024x128, .f32⟩
  | 17 => ⟨S8x1024x128, .f32⟩
  | 18 => ⟨S8x1024x128, .f32⟩
  | 19 => ⟨S8x1x1024x1, .f32⟩
  | 20 => ⟨S8x1024x1, .f32⟩
  | 21 => ⟨S8x1024x128, .f32⟩
  | 22 => ⟨S8x1024x128, .f32⟩
  | 23 => ⟨S8x1x1024x128, .f32⟩
  | 24 => ⟨S8x1024x128, .f32⟩
  | 25 => ⟨S8x1024x128, .f32⟩
  | 26 => ⟨S8x1x1024x1, .f32⟩
  | 27 => ⟨S8x1024x1, .f32⟩
  | 28 => ⟨S8x1024x128, .f32⟩
  | 29 => ⟨S8x1024x128, .f32⟩
  | 30 => ⟨S8x1x1024x128, .f32⟩
  | 31 => ⟨S8x1024x128, .f32⟩
  | 32 => ⟨S8x1024x128, .f32⟩
  | 33 => ⟨S8x1x1024x1, .f32⟩
  | 34 => ⟨S8x1024x1, .f32⟩
  | 35 => ⟨S8x1024x128, .f32⟩
  | 36 => ⟨S8x1024x128, .f32⟩
  | 37 => ⟨S8x1x1024x128, .f32⟩
  | 38 => ⟨S8x1024x128, .f32⟩
  | 39 => ⟨S8x1024x128, .f32⟩
  | 40 => ⟨S8x1x1024x1, .f32⟩
  | 41 => ⟨S8x1024x1, .f32⟩
  | 42 => ⟨S8x1024x128, .f32⟩
  | 43 => ⟨S8x1024x128, .f32⟩
  | 44 => ⟨S8x1x1024x128, .f32⟩
  | 45 => ⟨S8x1024x128, .f32⟩
  | 46 => ⟨S8x1024x128, .f32⟩
  | 47 => ⟨S8x1x1024x1, .f32⟩
  | 48 => ⟨S8x1024x1, .f32⟩
  | 49 => ⟨S8x1024x128, .f32⟩
  | 50 => ⟨S8x1024x128, .f32⟩
  | 51 => ⟨S8x1x1024x128, .f32⟩
  | 52 => ⟨S8x1024x128, .f32⟩
  | 53 => ⟨S8x1024x128, .f32⟩
  | 54 => ⟨S8x1x1024x1, .f32⟩
  | 55 => ⟨S8x1024x1, .f32⟩
  | 56 => ⟨S8x1024x128, .f32⟩
  | 57 => ⟨S8x1024x128, .f32⟩
  | 58 => ⟨S8x1x1024x128, .f32⟩
  | 59 => ⟨S8x1024x128, .f32⟩
  | 60 => ⟨S8x1024x128, .f32⟩
  | 61 => ⟨S8x1x1024x1, .f32⟩
  | 62 => ⟨S8x1024x1, .f32⟩
  | 63 => ⟨S8x1024x128, .f32⟩
  | 64 => ⟨S8x1024x128, .f32⟩
  | 65 => ⟨S8x1x1024x128, .f32⟩
  | 66 => ⟨S8x1024x128, .f32⟩
  | 67 => ⟨S8x1024x128, .f32⟩
  | 68 => ⟨S8x1x1024x1, .f32⟩
  | 69 => ⟨S8x1024x1, .f32⟩
  | 70 => ⟨S8x1024x128, .f32⟩
  | 71 => ⟨S8x1024x128, .f32⟩
  | 72 => ⟨S8x1x1024x128, .f32⟩
  | 73 => ⟨S8x1024x128, .f32⟩
  | 74 => ⟨S8x1024x128, .f32⟩
  | 75 => ⟨S8x1x1024x1, .f32⟩
  | 76 => ⟨S8x1024x1, .f32⟩
  | 77 => ⟨S8x1024x128, .f32⟩
  | 78 => ⟨S8x1024x128, .f32⟩
  | 79 => ⟨S8x1x1024x128, .f32⟩
  | 80 => ⟨S8x1024x128, .f32⟩
  | 81 => ⟨S8x1024x128, .f32⟩
  | 82 => ⟨S8x1x1024x1, .f32⟩
  | 83 => ⟨S8x1024x1, .f32⟩
  | 84 => ⟨S8x1024x128, .f32⟩
  | 85 => ⟨S8x1024x128, .f32⟩
  | 86 => ⟨S8x1x1024x128, .f32⟩
  | 87 => ⟨S8x1024x128, .f32⟩
  | 88 => ⟨S8x1024x128, .f32⟩
  | 89 => ⟨S8x1x1024x1, .f32⟩
  | 90 => ⟨S8x1024x1, .f32⟩
  | 91 => ⟨S8x1024x128, .f32⟩
  | 92 => ⟨S8x1024x128, .f32⟩
  | 93 => ⟨S8x1x1024x128, .f32⟩
  | 94 => ⟨S8x1024x128, .f32⟩
  | 95 => ⟨S8x1024x128, .f32⟩
  | 96 => ⟨S8x1x1024x1, .f32⟩
  | 97 => ⟨S8x1024x1, .f32⟩
  | 98 => ⟨S8x1024x128, .f32⟩
  | 99 => ⟨S8x1024x128, .f32⟩
  | 100 => ⟨S8x1x1024x128, .f32⟩
  | 101 => ⟨S8x1024x128, .f32⟩
  | 102 => ⟨S8x1024x128, .f32⟩
  | 103 => ⟨S8x1x1024x1, .f32⟩
  | 104 => ⟨S8x1024x1, .f32⟩
  | 105 => ⟨S8x1024x128, .f32⟩
  | 106 => ⟨S8x1024x128, .f32⟩
  | 107 => ⟨S8x1x1024x128, .f32⟩
  | 108 => ⟨S8x1024x128, .f32⟩
  | 109 => ⟨S8x1024x128, .f32⟩
  | 110 => ⟨S8x1x1024x128, .f32⟩
  | 111 => ⟨S8x1x1024x128, .f32⟩
  | 112 => ⟨S8x1x1024x128, .f32⟩
  | 113 => ⟨S8x1x1024x128, .f32⟩
  | 114 => ⟨S8x1x1024x128, .f32⟩
  | 115 => ⟨S8x1x1024x128, .f32⟩
  | 116 => ⟨S8x1x1024x128, .f32⟩
  | 117 => ⟨S8x1x1024x128, .f32⟩
  | 118 => ⟨S8x1x1024x128, .f32⟩
  | 119 => ⟨S8x1x1024x128, .f32⟩
  | 120 => ⟨S8x1x1024x128, .f32⟩
  | 121 => ⟨S8x1x1024x128, .f32⟩
  | 122 => ⟨S8x1x1024x128, .f32⟩
  | 123 => ⟨S8x1x1024x128, .f32⟩
  | 124 => ⟨S8x1x1024x128, .f32⟩
  | 125 => ⟨S8x1x1024x128, .f32⟩
  | 126 => ⟨S8x16x1024x128, .f32⟩
  | 127 => ⟨S128x2x8x64x128, .f32⟩
  | _ => ⟨S16384x1536, .f32⟩

abbrev hbmTy0_2 (i : Nat) : BufTy := match i % 128 with
  | 0 => ⟨S128x2x8x64x128, .f32⟩
  | 1 => ⟨S128x128x2x8x64, .f32⟩
  | 2 => ⟨S128x128x2x8, .f32⟩
  | 3 => ⟨S128x128x2x8x1, .f32⟩
  | 4 => ⟨S128x128x2x8x64, .f32⟩
  | 5 => ⟨S128x128x2x8x64, .f32⟩
  | 6 => ⟨S128x128x2x8x64, .f32⟩
  | 7 => ⟨S2x8x1, .f32⟩
  | 8 => ⟨S1x1x2x8x1, .f32⟩
  | 9 => ⟨S128x128x2x8x64, .f32⟩
  | 10 => ⟨S128x128x2x8x64, .f32⟩
  | 11 => ⟨S128x128x2x8x64, .f32⟩
  | 12 => ⟨S16384x1024, .f32⟩
  | 13 => ⟨S16384x1024, .f32⟩
  | 14 => ⟨S16384x1024, .f32⟩
  | 15 => ⟨S_, .f32⟩
  | 16 => ⟨S16384x1024, .f32⟩
  | 17 => ⟨S16384x1024, .f32⟩
  | 18 => ⟨S_, .f32⟩
  | 19 => ⟨S16384x1024, .f32⟩
  | 20 => ⟨S16384x1024, .f32⟩
  | 21 => ⟨S16384x1024, .f32⟩
  | 22 => ⟨S16384x1024, .f32⟩
  | 23 => ⟨S16384x2x512, .f32⟩
  | 24 => ⟨S16384x2x512, .f32⟩
  | 25 => ⟨S_, .f32⟩
  | 26 => ⟨S16384x2, .f32⟩
  | 27 => ⟨S16384x2x1, .f32⟩
  | 28 => ⟨S_, .f32⟩
  | 29 => ⟨S16384x2x1, .f32⟩
  | 30 => ⟨S16384x2x1, .f32⟩
  | 31 => ⟨S_, .f32⟩
  | 32 => ⟨S16384x2x1, .f32⟩
  | 33 => ⟨S16384x2x1, .f32⟩
  | 34 => ⟨S16384x2x1, .f32⟩
  | 35 => ⟨S16384x2x512, .f32⟩
  | 36 => ⟨S16384x2x512, .f32⟩
  | 37 => ⟨S16384x1024, .f32⟩
  | 38 => ⟨S1x1024, .f32⟩
  | 39 => ⟨S16384x1024, .f32⟩
  | 40 => ⟨S16384x1024, .f32⟩
  | 41 => ⟨S16384x1024, .bf16⟩
  | 42 => ⟨S8x3x1536, .f32⟩
  | _ => ⟨S16384x1536, .f32⟩

abbrev hbmTy (i : Nat) : BufTy := match i / 128 with
  | 0 => hbmTy0_0 i
  | 1 => hbmTy0_1 i
  | 2 => hbmTy0_2 i
  | _ => ⟨S16384x1536, .f32⟩

abbrev bufTy : (tb : Table) → Fin (tcTables nBuf tb) → BufTy
  | .hbm, ⟨i, _⟩ => hbmTy i
  | _, _ => ⟨S16384x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_1 : Ref sig .tc := ⟨.hbm, 48, rfl⟩
abbrev main_v37 : Ref sig .tc := ⟨.hbm, 49, rfl⟩
abbrev main_v38 : Ref sig .tc := ⟨.hbm, 50, rfl⟩
abbrev main_cst_2 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_3 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_call0_call0_cst : Ref sig .tc := ⟨.hbm, 84, rfl⟩
abbrev main_call0_call0_v0 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_cst_4 : Ref sig .tc := ⟨.hbm, 96, rfl⟩
abbrev main_call1_v0 : Ref sig .tc := ⟨.hbm, 97, rfl⟩
abbrev main_call1_v1 : Ref sig .tc := ⟨.hbm, 98, rfl⟩
abbrev main_call1_v2 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_cst_5 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_v178 : Ref sig .tc := ⟨.hbm, 199, rfl⟩
abbrev main_v179 : Ref sig .tc := ⟨.hbm, 200, rfl⟩
abbrev main_v180 : Ref sig .tc := ⟨.hbm, 201, rfl⟩
abbrev main_v181 : Ref sig .tc := ⟨.hbm, 202, rfl⟩
abbrev main_v182 : Ref sig .tc := ⟨.hbm, 203, rfl⟩
abbrev main_v183 : Ref sig .tc := ⟨.hbm, 204, rfl⟩
abbrev main_v184 : Ref sig .tc := ⟨.hbm, 205, rfl⟩
abbrev main_v185 : Ref sig .tc := ⟨.hbm, 206, rfl⟩
abbrev main_v186 : Ref sig .tc := ⟨.hbm, 207, rfl⟩
abbrev main_v187 : Ref sig .tc := ⟨.hbm, 208, rfl⟩
abbrev main_v188 : Ref sig .tc := ⟨.hbm, 209, rfl⟩
abbrev main_v189 : Ref sig .tc := ⟨.hbm, 210, rfl⟩
abbrev main_v190 : Ref sig .tc := ⟨.hbm, 211, rfl⟩
abbrev main_v191 : Ref sig .tc := ⟨.hbm, 212, rfl⟩
abbrev main_v192 : Ref sig .tc := ⟨.hbm, 213, rfl⟩
abbrev main_v193 : Ref sig .tc := ⟨.hbm, 214, rfl⟩
abbrev main_v194 : Ref sig .tc := ⟨.hbm, 215, rfl⟩
abbrev main_v195 : Ref sig .tc := ⟨.hbm, 216, rfl⟩
abbrev main_v196 : Ref sig .tc := ⟨.hbm, 217, rfl⟩
abbrev main_v197 : Ref sig .tc := ⟨.hbm, 218, rfl⟩
abbrev main_v198 : Ref sig .tc := ⟨.hbm, 219, rfl⟩
abbrev main_v199 : Ref sig .tc := ⟨.hbm, 220, rfl⟩
abbrev main_v200 : Ref sig .tc := ⟨.hbm, 221, rfl⟩
abbrev main_v201 : Ref sig .tc := ⟨.hbm, 222, rfl⟩
abbrev main_v202 : Ref sig .tc := ⟨.hbm, 223, rfl⟩
abbrev main_v203 : Ref sig .tc := ⟨.hbm, 224, rfl⟩
abbrev main_v204 : Ref sig .tc := ⟨.hbm, 225, rfl⟩
abbrev main_v205 : Ref sig .tc := ⟨.hbm, 226, rfl⟩
abbrev main_v206 : Ref sig .tc := ⟨.hbm, 227, rfl⟩
abbrev main_v207 : Ref sig .tc := ⟨.hbm, 228, rfl⟩
abbrev main_v208 : Ref sig .tc := ⟨.hbm, 229, rfl⟩
abbrev main_v209 : Ref sig .tc := ⟨.hbm, 230, rfl⟩
abbrev main_v210 : Ref sig .tc := ⟨.hbm, 231, rfl⟩
abbrev main_v211 : Ref sig .tc := ⟨.hbm, 232, rfl⟩
abbrev main_v212 : Ref sig .tc := ⟨.hbm, 233, rfl⟩
abbrev main_v213 : Ref sig .tc := ⟨.hbm, 234, rfl⟩
abbrev main_v214 : Ref sig .tc := ⟨.hbm, 235, rfl⟩
abbrev main_v215 : Ref sig .tc := ⟨.hbm, 236, rfl⟩
abbrev main_v216 : Ref sig .tc := ⟨.hbm, 237, rfl⟩
abbrev main_v217 : Ref sig .tc := ⟨.hbm, 238, rfl⟩
abbrev main_v218 : Ref sig .tc := ⟨.hbm, 239, rfl⟩
abbrev main_v219 : Ref sig .tc := ⟨.hbm, 240, rfl⟩
abbrev main_v220 : Ref sig .tc := ⟨.hbm, 241, rfl⟩
abbrev main_v221 : Ref sig .tc := ⟨.hbm, 242, rfl⟩
abbrev main_v222 : Ref sig .tc := ⟨.hbm, 243, rfl⟩
abbrev main_v223 : Ref sig .tc := ⟨.hbm, 244, rfl⟩
abbrev main_v224 : Ref sig .tc := ⟨.hbm, 245, rfl⟩
abbrev main_v225 : Ref sig .tc := ⟨.hbm, 246, rfl⟩
abbrev main_v226 : Ref sig .tc := ⟨.hbm, 247, rfl⟩
abbrev main_v227 : Ref sig .tc := ⟨.hbm, 248, rfl⟩
abbrev main_v228 : Ref sig .tc := ⟨.hbm, 249, rfl⟩
abbrev main_v229 : Ref sig .tc := ⟨.hbm, 250, rfl⟩
abbrev main_v230 : Ref sig .tc := ⟨.hbm, 251, rfl⟩
abbrev main_v231 : Ref sig .tc := ⟨.hbm, 252, rfl⟩
abbrev main_v232 : Ref sig .tc := ⟨.hbm, 253, rfl⟩
abbrev main_v233 : Ref sig .tc := ⟨.hbm, 254, rfl⟩
abbrev main_v234 : Ref sig .tc := ⟨.hbm, 255, rfl⟩
abbrev main_v235 : Ref sig .tc := ⟨.hbm, 256, rfl⟩
abbrev main_v236 : Ref sig .tc := ⟨.hbm, 257, rfl⟩
abbrev main_v237 : Ref sig .tc := ⟨.hbm, 258, rfl⟩
abbrev main_v238 : Ref sig .tc := ⟨.hbm, 259, rfl⟩
abbrev main_v239 : Ref sig .tc := ⟨.hbm, 260, rfl⟩
abbrev main_v240 : Ref sig .tc := ⟨.hbm, 261, rfl⟩
abbrev main_v241 : Ref sig .tc := ⟨.hbm, 262, rfl⟩
abbrev main_v242 : Ref sig .tc := ⟨.hbm, 263, rfl⟩
abbrev main_v243 : Ref sig .tc := ⟨.hbm, 264, rfl⟩
abbrev main_v244 : Ref sig .tc := ⟨.hbm, 265, rfl⟩
abbrev main_v245 : Ref sig .tc := ⟨.hbm, 266, rfl⟩
abbrev main_v246 : Ref sig .tc := ⟨.hbm, 267, rfl⟩
abbrev main_v247 : Ref sig .tc := ⟨.hbm, 268, rfl⟩
abbrev main_v248 : Ref sig .tc := ⟨.hbm, 269, rfl⟩
abbrev main_v249 : Ref sig .tc := ⟨.hbm, 270, rfl⟩
abbrev main_cst_6 : Ref sig .tc := ⟨.hbm, 271, rfl⟩
abbrev main_v250 : Ref sig .tc := ⟨.hbm, 272, rfl⟩
abbrev main_v251 : Ref sig .tc := ⟨.hbm, 273, rfl⟩
abbrev main_cst_7 : Ref sig .tc := ⟨.hbm, 274, rfl⟩
abbrev main_v252 : Ref sig .tc := ⟨.hbm, 275, rfl⟩
abbrev main_v253 : Ref sig .tc := ⟨.hbm, 276, rfl⟩
abbrev main_v254 : Ref sig .tc := ⟨.hbm, 277, rfl⟩
abbrev main_v255 : Ref sig .tc := ⟨.hbm, 278, rfl⟩
abbrev main_v256 : Ref sig .tc := ⟨.hbm, 279, rfl⟩
abbrev main_v257 : Ref sig .tc := ⟨.hbm, 280, rfl⟩
abbrev main_cst_8 : Ref sig .tc := ⟨.hbm, 281, rfl⟩
abbrev main_v258 : Ref sig .tc := ⟨.hbm, 282, rfl⟩
abbrev main_v259 : Ref sig .tc := ⟨.hbm, 283, rfl⟩
abbrev main_cst_9 : Ref sig .tc := ⟨.hbm, 284, rfl⟩
abbrev main_v260 : Ref sig .tc := ⟨.hbm, 285, rfl⟩
abbrev main_v261 : Ref sig .tc := ⟨.hbm, 286, rfl⟩
abbrev main_cst_10 : Ref sig .tc := ⟨.hbm, 287, rfl⟩
abbrev main_v262 : Ref sig .tc := ⟨.hbm, 288, rfl⟩
abbrev main_v263 : Ref sig .tc := ⟨.hbm, 289, rfl⟩
abbrev main_v264 : Ref sig .tc := ⟨.hbm, 290, rfl⟩
abbrev main_v265 : Ref sig .tc := ⟨.hbm, 291, rfl⟩
abbrev main_v266 : Ref sig .tc := ⟨.hbm, 292, rfl⟩
abbrev main_v267 : Ref sig .tc := ⟨.hbm, 293, rfl⟩
abbrev main_v268 : Ref sig .tc := ⟨.hbm, 294, rfl⟩
abbrev main_v269 : Ref sig .tc := ⟨.hbm, 295, rfl⟩
abbrev main_v270 : Ref sig .tc := ⟨.hbm, 296, rfl⟩
abbrev main_v271 : Ref sig .tc := ⟨.hbm, 297, rfl⟩
abbrev main_v272 : Ref sig .tc := ⟨.hbm, 298, rfl⟩

abbrev nD : Nat := 1
abbrev τ : Topo := Topo.v7x

variable {F : FTy → Type} [FloatOps F]
-- ==== Kernel2.lean ====
abbrev S16384x1024 : Shape := ⟨2, ![16384, 1024]⟩
abbrev S1024 : Shape := ⟨1, ![1024]⟩
abbrev S1024x6912 : Shape := ⟨2, ![1024, 6912]⟩
abbrev S8x1x3200 : Shape := ⟨3, ![8, 1, 3200]⟩
abbrev S3200 : Shape := ⟨1, ![3200]⟩
abbrev S64x1024 : Shape := ⟨2, ![64, 1024]⟩
abbrev S_ : Shape := ⟨0, ![]⟩
abbrev S128x1024 : Shape := ⟨2, ![128, 1024]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x1024 : Shape := ⟨2, ![1, 1024]⟩
abbrev S1x3200 : Shape := ⟨2, ![1, 3200]⟩
abbrev S256x1x1024 : Shape := ⟨3, ![256, 1, 1024]⟩
abbrev S16384x1536 : Shape := ⟨2, ![16384, 1536]⟩
abbrev S16384x128 : Shape := ⟨2, ![16384, 128]⟩
abbrev S256x1024 : Shape := ⟨2, ![256, 1024]⟩
abbrev S1x1x3200 : Shape := ⟨3, ![1, 1, 3200]⟩
abbrev S4x1x1024 : Shape := ⟨3, ![4, 1, 1024]⟩
abbrev S256x1536 : Shape := ⟨2, ![256, 1536]⟩
abbrev S256x128 : Shape := ⟨2, ![256, 128]⟩
abbrev S8x3200 : Shape := ⟨2, ![8, 3200]⟩
abbrev S1024x128 : Shape := ⟨2, ![1024, 128]⟩
abbrev S1x128 : Shape := ⟨2, ![1, 128]⟩
abbrev S8x128 : Shape := ⟨2, ![8, 128]⟩
abbrev S1024x1024 : Shape := ⟨2, ![1024, 1024]⟩
abbrev S8x1024 : Shape := ⟨2, ![8, 1024]⟩
abbrev S1024x1536 : Shape := ⟨2, ![1024, 1536]⟩
abbrev S1x1x1024 : Shape := ⟨3, ![1, 1, 1024]⟩

abbrev nBuf : Space → Nat
  | .hbm => 126
  | .vmem => 36
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x6912, .bf16⟩
  | .hbm, ⟨3, _⟩ => ⟨S8x1x3200, .f32⟩
  | .hbm, ⟨4, _⟩ => ⟨S3200, .f32⟩
  | .hbm, ⟨5, _⟩ => ⟨S1024, .f32⟩
  | .hbm, ⟨6, _⟩ => ⟨S64x1024, .f32⟩
  | .hbm, ⟨7, _⟩ => ⟨S1024, .f32⟩
  | .hbm, ⟨8, _⟩ => ⟨S64x1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S64x1024, .f32⟩
  | .hbm, ⟨13, _⟩ => ⟨S128x1024, .f32⟩
  | .hbm, ⟨14, _⟩ => ⟨S128x1024, .bf16⟩
  | .hbm, ⟨15, _⟩ => ⟨S128x1024, .f32⟩
  | .hbm, ⟨16, _⟩ => ⟨S128x1024, .bf16⟩
  | .hbm, ⟨17, _⟩ => ⟨S256, .i32⟩
  | .hbm, ⟨18, _⟩ => ⟨S256x1, .i32⟩
  | .hbm, ⟨19, _⟩ => ⟨S_, .i32⟩
  | .hbm, ⟨20, _⟩ => ⟨S_, .i32⟩
  | .hbm, ⟨21, _⟩ => ⟨S256x1, .i32⟩
  | .hbm, ⟨22, _⟩ => ⟨S256x1, .i32⟩
  | .hbm, ⟨23, _⟩ => ⟨S256x1, .i32⟩
  | .hbm, ⟨24, _⟩ => ⟨S_, .i32⟩
  | .hbm, ⟨25, _⟩ => ⟨S256x1, .i32⟩
  | .hbm, ⟨26, _⟩ => ⟨S256x1, .i1⟩
  | .hbm, ⟨27, _⟩ => ⟨S256x1, .i32⟩
  | .hbm, ⟨28, _⟩ => ⟨S256x1, .i32⟩
  | .hbm, ⟨29, _⟩ => ⟨S_, .i32⟩
  | .hbm, ⟨30, _⟩ => ⟨S256x1, .i32⟩
  | .hbm, ⟨31, _⟩ => ⟨S256x1, .i1⟩
  | .hbm, ⟨32, _⟩ => ⟨S256x1, .i1⟩
  | .hbm, ⟨33, _⟩ => ⟨S_, .i32⟩
  | .hbm, ⟨34, _⟩ => ⟨S256x1, .i32⟩
  | .hbm, ⟨35, _⟩ => ⟨S256x1, .i32⟩
  | .hbm, ⟨36, _⟩ => ⟨S256x1, .i32⟩
  | .hbm, ⟨37, _⟩ => ⟨S256, .i32⟩
  | .hbm, ⟨38, _⟩ => ⟨S1x256, .i32⟩
  | .hbm, ⟨39, _⟩ => ⟨S_, .i32⟩
  | .hbm, ⟨40, _⟩ => ⟨S_, .i32⟩
  | .hbm, ⟨41, _⟩ => ⟨S1x256, .i32⟩
  | .hbm, ⟨42, _⟩ => ⟨S1x256, .i32⟩
  | .hbm, ⟨43, _⟩ => ⟨S1x256, .i32⟩
  | .hbm, ⟨44, _⟩ => ⟨S_, .i32⟩
  | .hbm, ⟨45, _⟩ => ⟨S1x256, .i32⟩
  | .hbm, ⟨46, _⟩ => ⟨S1x256, .i1⟩
  | .hbm, ⟨47, _⟩ => ⟨S1x256, .i32⟩
  | .hbm, ⟨48, _⟩ => ⟨S1x256, .i32⟩
  | .hbm, ⟨49, _⟩ => ⟨S_, .i32⟩
  | .hbm, ⟨50, _⟩ => ⟨S1x256, .i32⟩
  | .hbm, ⟨51, _⟩ => ⟨S1x256, .i1⟩
  | .hbm, ⟨52, _⟩ => ⟨S1x256, .i1⟩
  | .hbm, ⟨53, _⟩ => ⟨S_, .i32⟩
  | .hbm, ⟨54, _⟩ => ⟨S1x256, .i32⟩
  | .hbm, ⟨55, _⟩ => ⟨S1x256, .i32⟩
  | .hbm, ⟨56, _⟩ => ⟨S1x256, .i32⟩
  | .hbm, ⟨57, _⟩ => ⟨S256x256, .i32⟩
  | .hbm, ⟨58, _⟩ => ⟨S256x256, .i32⟩
  | .hbm, ⟨59, _⟩ => ⟨S256x256, .i1⟩
  | .hbm, ⟨60, _⟩ => ⟨S256x256, .bf16⟩
  | .hbm, ⟨61, _⟩ => ⟨S1x1024, .f32⟩
  | .hbm, ⟨62, _⟩ => ⟨S1x3200, .f32⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S256, .i32⟩
  | .hbm, ⟨68, _⟩ => ⟨S256x1, .i32⟩
  | .hbm, ⟨69, _⟩ => ⟨S_, .i32⟩
  | .hbm, ⟨70, _⟩ => ⟨S_, .i32⟩
  | .hbm, ⟨71, _⟩ => ⟨S256x1, .i32⟩
  | .hbm, ⟨72, _⟩ => ⟨S256x1, .i32⟩
  | .hbm, ⟨73, _⟩ => ⟨S256x1, .i32⟩
  | .hbm, ⟨74, _⟩ => ⟨S_, .i32⟩
  | .hbm, ⟨75, _⟩ => ⟨S256x1, .i32⟩
  | .hbm, ⟨76, _⟩ => ⟨S256x1, .i1⟩
  | .hbm, ⟨77, _⟩ => ⟨S256x1, .i32⟩
  | .hbm, ⟨78, _⟩ => ⟨S256x1, .i32⟩
  | .hbm, ⟨79, _⟩ => ⟨S_, .i32⟩
  | .hbm, ⟨80, _⟩ => ⟨S256x1, .i32⟩
  | .hbm, ⟨81, _⟩ => ⟨S256x1, .i1⟩
  | .hbm, ⟨82, _⟩ => ⟨S256x1, .i1⟩
  | .hbm, ⟨83, _⟩ => ⟨S_, .i32⟩
  | .hbm, ⟨84, _⟩ => ⟨S256x1, .i32⟩
  | .hbm, ⟨85, _⟩ => ⟨S256x1, .i32⟩
  | .hbm, ⟨86, _⟩ => ⟨S256x1, .i32⟩
  | .hbm, ⟨87, _⟩ => ⟨S1x256, .i32⟩
  | .hbm, ⟨88, _⟩ => ⟨S_, .i32⟩
  | .hbm, ⟨89, _⟩ => ⟨S_, .i32⟩
  | .hbm, ⟨90, _⟩ => ⟨S1x256, .i32⟩
  | .hbm, ⟨91, _⟩ => ⟨S1x256, .i32⟩
  | .hbm, ⟨92, _⟩ => ⟨S1x256, .i32⟩
  | .hbm, ⟨93, _⟩ => ⟨S_, .i32⟩
  | .hbm, ⟨94, _⟩ => ⟨S1x256, .i32⟩
  | .hbm, ⟨95, _⟩ => ⟨S1x256, .i1⟩
  | .hbm, ⟨96, _⟩ => ⟨S1x256, .i32⟩
  | .hbm, ⟨97, _⟩ => ⟨S1x256, .i32⟩
  | .hbm, ⟨98, _⟩ => ⟨S_, .i32⟩
  | .hbm, ⟨99, _⟩ => ⟨S1x256, .i32⟩
  | .hbm, ⟨100, _⟩ => ⟨S1x256, .i1⟩
  | .hbm, ⟨101, _⟩ => ⟨S1x256, .i1⟩
  | .hbm, ⟨102, _⟩ => ⟨S_, .i32⟩
  | .hbm, ⟨103, _⟩ => ⟨S1x256, .i32⟩
  | .hbm, ⟨104, _⟩ => ⟨S1x256, .i32⟩
  | .hbm, ⟨105, _⟩ => ⟨S1x256, .i32⟩
  | .hbm, ⟨106, _⟩ => ⟨S256x256, .i32⟩
  | .hbm, ⟨107, _⟩ => ⟨S256x256, .i32⟩
  | .hbm, ⟨108, _⟩ => ⟨S256x256, .i1⟩
  | .hbm, ⟨109, _⟩ => ⟨S1x256, .i32⟩
  | .hbm, ⟨110, _⟩ => ⟨S256x1, .i32⟩
  | .hbm, ⟨111, _⟩ => ⟨S256x256, .i32⟩
  | .hbm, ⟨112, _⟩ => ⟨S256x256, .i32⟩
  | .hbm, ⟨113, _⟩ => ⟨S256x256, .i1⟩
  | .hbm, ⟨114, _⟩ => ⟨S256x256, .i1⟩
  | .hbm, ⟨115, _⟩ => ⟨S256x256, .bf16⟩
  | .hbm, ⟨116, _⟩ => ⟨S16384x1024, .f32⟩
  | .hbm, ⟨117, _⟩ => ⟨S16384x1024, .f32⟩
  | .hbm, ⟨118, _⟩ => ⟨S16384x1024, .f32⟩
  | .hbm, ⟨119, _⟩ => ⟨S16384x1024, .f32⟩
  | .hbm, ⟨120, _⟩ => ⟨S16384x1024, .f32⟩
  | .hbm, ⟨121, _⟩ => ⟨S256x1x1024, .f32⟩
  | .hbm, ⟨122, _⟩ => ⟨S16384x1024, .f32⟩
  | .hbm, ⟨123, _⟩ => ⟨S16384x1024, .f32⟩
  | .hbm, ⟨124, _⟩ => ⟨S16384x1536, .f32⟩
  | .hbm, ⟨125, _⟩ => ⟨S16384x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x6912, .bf16⟩
  | .local _ .vmem, ⟨4, _⟩ => ⟨S1x1x3200, .f32⟩
  | .local _ .vmem, ⟨5, _⟩ => ⟨S1x1x3200, .f32⟩
  | .local _ .vmem, ⟨6, _⟩ => ⟨S1x3200, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S128x1024, .bf16⟩
  | .local _ .vmem, ⟨12, _⟩ => ⟨S128x1024, .bf16⟩
  | .local _ .vmem, ⟨13, _⟩ => ⟨S256x256, .bf16⟩
  | .local _ .vmem, ⟨14, _⟩ => ⟨S256x256, .bf16⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S4x1x1024, .f32⟩
  | .local _ .vmem, ⟨26, _⟩ => ⟨S4x1x1024, .f32⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | .local _ .vmem, ⟨30, _⟩ => ⟨S256x1024, .f32⟩
  | .local _ .vmem, ⟨31, _⟩ => ⟨S256x1536, .f32⟩
  | .local _ .vmem, ⟨32, _⟩ => ⟨S256x1536, .f32⟩
  | .local _ .vmem, ⟨33, _⟩ => ⟨S256x128, .f32⟩
  | .local _ .vmem, ⟨34, _⟩ => ⟨S256x128, .f32⟩
  | .local _ .vmem, ⟨35, _⟩ => ⟨S8x3200, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_c_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_c : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_0 : Ref sig .tc := ⟨.hbm, 53, rfl⟩
abbrev main_call1_v12 : Ref sig .tc := ⟨.hbm, 54, rfl⟩
abbrev main_call1_v13 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_c_1 : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_v5 : Ref sig .tc := ⟨.hbm, 75, rfl⟩
abbrev main_call2_v6 : Ref sig .tc := ⟨.hbm, 76, rfl⟩
abbrev main_call2_v7 : Ref sig .tc := ⟨.hbm, 77, rfl⟩
abbrev main_call2_v8 : Ref sig .tc := ⟨.hbm, 78, rfl⟩
abbrev main_call2_c : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_c_0 : Ref sig .tc := ⟨.hbm, 83, rfl⟩
abbrev main_call2_v12 : Ref sig .tc := ⟨.hbm, 84, rfl⟩
abbrev main_call2_v13 : Ref sig .tc := ⟨.hbm, 85, rfl⟩
abbrev main_v23 : Ref sig .tc := ⟨.hbm, 86, rfl⟩
abbrev main_v24 : Ref sig .tc := ⟨.hbm, 87, rfl⟩
abbrev main_c_2 : Ref sig .tc := ⟨.hbm, 88, rfl⟩
abbrev main_call3_v0 : Ref sig .tc := ⟨.hbm, 89, rfl⟩
abbrev main_call3_v1 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_call3_v5 : Ref sig .tc := ⟨.hbm, 94, rfl⟩
abbrev main_call3_v6 : Ref sig .tc := ⟨.hbm, 95, rfl⟩
abbrev main_call3_v7 : Ref sig .tc := ⟨.hbm, 96, rfl⟩
abbrev main_call3_v8 : Ref sig .tc := ⟨.hbm, 97, rfl⟩
abbrev main_call3_c : Ref sig .tc := ⟨.hbm, 98, rfl⟩
abbrev main_call3_v9 : Ref sig .tc := ⟨.hbm, 99, rfl⟩
abbrev main_call3_v10 : Ref sig .tc := ⟨.hbm, 100, rfl⟩
abbrev main_call3_v11 : Ref sig .tc := ⟨.hbm, 101, rfl⟩
abbrev main_call3_c_0 : Ref sig .tc := ⟨.hbm, 102, rfl⟩
abbrev main_call3_v12 : Ref sig .tc := ⟨.hbm, 103, rfl⟩
abbrev main_call3_v13 : Ref sig .tc := ⟨.hbm, 104, rfl⟩
abbrev main_v25 : Ref sig .tc := ⟨.hbm, 105, rfl⟩
abbrev main_v26 : Ref sig .tc := ⟨.hbm, 106, rfl⟩
abbrev main_v27 : Ref sig .tc := ⟨.hbm, 107, rfl⟩
abbrev main_v28 : Ref sig .tc := ⟨.hbm, 108, rfl⟩
abbrev main_v29 : Ref sig .tc := ⟨.hbm, 109, rfl⟩
abbrev main_v30 : Ref sig .tc := ⟨.hbm, 110, rfl⟩
abbrev main_v31 : Ref sig .tc := ⟨.hbm, 111, rfl⟩
abbrev main_v32 : Ref sig .tc := ⟨.hbm, 112, rfl⟩
abbrev main_v33 : Ref sig .tc := ⟨.hbm, 113, rfl⟩
abbrev main_v34 : Ref sig .tc := ⟨.hbm, 114, rfl⟩
abbrev main_v35 : Ref sig .tc := ⟨.hbm, 115, rfl⟩
abbrev main_v36_0 : Ref sig .tc := ⟨.hbm, 116, rfl⟩
abbrev main_v36_1 : Ref sig .tc := ⟨.hbm, 117, rfl⟩
abbrev main_v36_2 : Ref sig .tc := ⟨.hbm, 118, rfl⟩
abbrev main_v36_3 : Ref sig .tc := ⟨.hbm, 119, rfl⟩
abbrev main_v36_4 : Ref sig .tc := ⟨.hbm, 120, rfl⟩
abbrev main_v36_5 : Ref sig .tc := ⟨.hbm, 121, rfl⟩
abbrev main_v36_6 : Ref sig .tc := ⟨.hbm, 122, rfl⟩
abbrev main_v36_7 : Ref sig .tc := ⟨.hbm, 123, rfl⟩
abbrev main_v36_8 : Ref sig .tc := ⟨.hbm, 124, rfl⟩
abbrev main_v36_9 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_stg22_0 : Ref sig .tc := ⟨.vmem, 33, rfl⟩
abbrev cc0_stg22_1 : Ref sig .tc := ⟨.vmem, 34, rfl⟩
abbrev cc0_scratch0 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32
abbrev cc0_sem22_0 : DmaSem sig := 33
abbrev cc0_sem22_1 : DmaSem sig := 34

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6912 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x3200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x3200 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S4x1x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1536 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== Reference2Ideal.lean ====
abbrev S16384x1024 : Shape := ⟨2, ![16384, 1024]⟩
abbrev S1024 : Shape := ⟨1, ![1024]⟩
abbrev S1024x6912 : Shape := ⟨2, ![1024, 6912]⟩
abbrev S8x1x3200 : Shape := ⟨3, ![8, 1, 3200]⟩
abbrev S3200 : Shape := ⟨1, ![3200]⟩
abbrev S64x1024 : Shape := ⟨2, ![64, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x6912 : Shape := ⟨2, ![16384, 6912]⟩
abbrev S16384x3200 : Shape := ⟨2, ![16384, 3200]⟩
abbrev S8x2048x3200 : Shape := ⟨3, ![8, 2048, 3200]⟩
abbrev S8x2047x3200 : Shape := ⟨3, ![8, 2047, 3200]⟩
abbrev S1x1x3200 : Shape := ⟨3, ![1, 1, 3200]⟩
abbrev S16384x64 : Shape := ⟨2, ![16384, 64]⟩
abbrev S16384x16x64 : Shape := ⟨3, ![16384, 16, 64]⟩
abbrev S16384x16 : Shape := ⟨2, ![16384, 16]⟩
abbrev S16384x16x1 : Shape := ⟨3, ![16384, 16, 1]⟩
abbrev S256x64x1024 : Shape := ⟨3, ![256, 64, 1024]⟩
abbrev S256x1x1024 : Shape := ⟨3, ![256, 1, 1024]⟩
abbrev S16384x1536 : Shape := ⟨2, ![16384, 1536]⟩
abbrev S16384x128 : Shape := ⟨2, ![16384, 128]⟩

abbrev nBuf : Space → Nat
  | .hbm => 124
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x6912, .bf16⟩
  | .hbm, ⟨3, _⟩ => ⟨S8x1x3200, .f32⟩
  | .hbm, ⟨4, _⟩ => ⟨S3200, .f32⟩
  | .hbm, ⟨5, _⟩ => ⟨S1024, .f32⟩
  | .hbm, ⟨6, _⟩ => ⟨S64x1024, .f32⟩
  | .hbm, ⟨7, _⟩ => ⟨S1024, .f32⟩
  | .hbm, ⟨8, _⟩ => ⟨S64x1024, .f32⟩
  | .hbm, ⟨9, _⟩ => ⟨S1024, .f32⟩
  | .hbm, ⟨10, _⟩ => ⟨S1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S1024x6912, .f32⟩
  | .hbm, ⟨28, _⟩ => ⟨S16384x6912, .f32⟩
  | .hbm, ⟨29, _⟩ => ⟨S16384x3200, .f32⟩
  | .hbm, ⟨30, _⟩ => ⟨S8x2048x3200, .f32⟩
  | .hbm, ⟨31, _⟩ => ⟨S8x2047x3200, .f32⟩
  | .hbm, ⟨32, _⟩ => ⟨S8x2048x3200, .f32⟩
  | .hbm, ⟨33, _⟩ => ⟨S8x2048x3200, .f32⟩
  | .hbm, ⟨34, _⟩ => ⟨S1x1x3200, .f32⟩
  | .hbm, ⟨35, _⟩ => ⟨S8x2048x3200, .f32⟩
  | .hbm, ⟨36, _⟩ => ⟨S8x2048x3200, .f32⟩
  | .hbm, ⟨37, _⟩ => ⟨S8x2048x3200, .f32⟩
  | .hbm, ⟨38, _⟩ => ⟨S16384x3200, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x64, .f32⟩
  | .hbm, ⟨43, _⟩ => ⟨S16384x64, .f32⟩
  | .hbm, ⟨44, _⟩ => ⟨S16384x64, .f32⟩
  | .hbm, ⟨45, _⟩ => ⟨S16384x1024, .f32⟩
  | .hbm, ⟨46, _⟩ => ⟨S1x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S_, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S1x1024, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S_, .f32⟩
  | .hbm, ⟨71, _⟩ => ⟨S16384x1024, .f32⟩
  | .hbm, ⟨72, _⟩ => ⟨S16384x1024, .f32⟩
  | .hbm, ⟨73, _⟩ => ⟨S_, .f32⟩
  | .hbm, ⟨74, _⟩ => ⟨S16384x1024, .f32⟩
  | .hbm, ⟨75, _⟩ => ⟨S16384x1024, .f32⟩
  | .hbm, ⟨76, _⟩ => ⟨S1x1024, .f32⟩
  | .hbm, ⟨77, _⟩ => ⟨S16384x1024, .f32⟩
  | .hbm, ⟨78, _⟩ => ⟨S16384x1024, .f32⟩
  | .hbm, ⟨79, _⟩ => ⟨S16384x16x64, .f32⟩
  | .hbm, ⟨80, _⟩ => ⟨S16384x16x64, .f32⟩
  | .hbm, ⟨81, _⟩ => ⟨S_, .f32⟩
  | .hbm, ⟨82, _⟩ => ⟨S16384x16, .f32⟩
  | .hbm, ⟨83, _⟩ => ⟨S16384x16x1, .f32⟩
  | .hbm, ⟨84, _⟩ => ⟨S16384x16x1, .f32⟩
  | .hbm, ⟨85, _⟩ => ⟨S_, .f32⟩
  | .hbm, ⟨86, _⟩ => ⟨S16384x16x1, .f32⟩
  | .hbm, ⟨87, _⟩ => ⟨S16384x16x1, .f32⟩
  | .hbm, ⟨88, _⟩ => ⟨S16384x16x64, .f32⟩
  | .hbm, ⟨89, _⟩ => ⟨S16384x16x64, .f32⟩
  | .hbm, ⟨90, _⟩ => ⟨S16384x1024, .f32⟩
  | .hbm, ⟨91, _⟩ => ⟨S_, .f32⟩
  | .hbm, ⟨92, _⟩ => ⟨S16384x1024, .f32⟩
  | .hbm, ⟨93, _⟩ => ⟨S16384x1024, .f32⟩
  | .hbm, ⟨94, _⟩ => ⟨S1x1024, .f32⟩
  | .hbm, ⟨95, _⟩ => ⟨S16384x1024, .f32⟩
  | .hbm, ⟨96, _⟩ => ⟨S16384x1024, .f32⟩
  | .hbm, ⟨97, _⟩ => ⟨S_, .f32⟩
  | .hbm, ⟨98, _⟩ => ⟨S16384x1024, .f32⟩
  | .hbm, ⟨99, _⟩ => ⟨S16384x1024, .f32⟩
  | .hbm, ⟨100, _⟩ => ⟨S16384x1024, .f32⟩
  | .hbm, ⟨101, _⟩ => ⟨S256x64x1024, .f32⟩
  | .hbm, ⟨102, _⟩ => ⟨S_, .f32⟩
  | .hbm, ⟨103, _⟩ => ⟨S_, .f32⟩
  | .hbm, ⟨104, _⟩ => ⟨S256x64x1024, .f32⟩
  | .hbm, ⟨105, _⟩ => ⟨S16384x1024, .f32⟩
  | .hbm, ⟨106, _⟩ => ⟨S16384x1024, .f32⟩
  | .hbm, ⟨107, _⟩ => ⟨S16384x1024, .f32⟩
  | .hbm, ⟨108, _⟩ => ⟨S16384x1024, .f32⟩
  | .hbm, ⟨109, _⟩ => ⟨S16384x1024, .f32⟩
  | .hbm, ⟨110, _⟩ => ⟨S16384x1024, .f32⟩
  | .hbm, ⟨111, _⟩ => ⟨S16384x1024, .f32⟩
  | .hbm, ⟨112, _⟩ => ⟨S16384x1024, .f32⟩
  | .hbm, ⟨113, _⟩ => ⟨S16384x1024, .f32⟩
  | .hbm, ⟨114, _⟩ => ⟨S16384x1024, .f32⟩
  | .hbm, ⟨115, _⟩ => ⟨S16384x1024, .f32⟩
  | .hbm, ⟨116, _⟩ => ⟨S16384x1024, .f32⟩
  | .hbm, ⟨117, _⟩ => ⟨S16384x1024, .f32⟩
  | .hbm, ⟨118, _⟩ => ⟨S256x1x1024, .f32⟩
  | .hbm, ⟨119, _⟩ => ⟨S256x1x1024, .f32⟩
  | .hbm, ⟨120, _⟩ => ⟨S16384x1024, .f32⟩
  | .hbm, ⟨121, _⟩ => ⟨S16384x1024, .f32⟩
  | .hbm, ⟨122, _⟩ => ⟨S16384x1536, .f32⟩
  | .hbm, ⟨123, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_2 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_3 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_4 : Ref sig .tc := ⟨.hbm, 70, rfl⟩
abbrev main_v54 : Ref sig .tc := ⟨.hbm, 71, rfl⟩
abbrev main_v55 : Ref sig .tc := ⟨.hbm, 72, rfl⟩
abbrev main_cst_5 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_6 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_7 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_8 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_9 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_call0_call0_cst : Ref sig .tc := ⟨.hbm, 102, rfl⟩
abbrev main_call0_call0_v0 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩

abbrev nD : Nat := 1
abbrev τ : Topo := Topo.v7x

variable {F : FTy → Type} [FloatOps F]
-- ==== Kernel3.lean ====
abbrev S16384x1024 : Shape := ⟨2, ![16384, 1024]⟩
abbrev S2048x1024 : Shape := ⟨2, ![2048, 1024]⟩
abbrev S1024 : Shape := ⟨1, ![1024]⟩
abbrev S1x1024 : Shape := ⟨2, ![1, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .bf16⟩
  | .hbm, ⟨3, _⟩ => ⟨S2048x1024, .f32⟩
  | .hbm, ⟨4, _⟩ => ⟨S1024, .f32⟩
  | .hbm, ⟨5, _⟩ => ⟨S2048x1024, .bf16⟩
  | .hbm, ⟨6, _⟩ => ⟨S1x1024, .f32⟩
  | .hbm, ⟨7, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S2048x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S16384x1024 : Shape := ⟨2, ![16384, 1024]⟩
abbrev S2048x1024 : Shape := ⟨2, ![2048, 1024]⟩
abbrev S1024 : Shape := ⟨1, ![1024]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .bf16⟩
  | .hbm, ⟨3, _⟩ => ⟨S2048x1024, .f32⟩
  | .hbm, ⟨4, _⟩ => ⟨S1024, .f32⟩
  | .hbm, ⟨5, _⟩ => ⟨S16384x1024, .f32⟩
  | .hbm, ⟨6, _⟩ => ⟨S16384x1024, .f32⟩
  | .hbm, ⟨7, _⟩ => ⟨S16384x2048, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S1x1024, .f32⟩
  | .hbm, ⟨24, _⟩ => ⟨S16384x1024, .f32⟩
  | .hbm, ⟨25, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel4.lean ====
abbrev S16384x1024 : Shape := ⟨2, ![16384, 1024]⟩
abbrev S1024 : Shape := ⟨1, ![1024]⟩
abbrev S8x2048x1024 : Shape := ⟨3, ![8, 2048, 1024]⟩
abbrev S8x1x1024 : Shape := ⟨3, ![8, 1, 1024]⟩
abbrev S8x1024 : Shape := ⟨2, ![8, 1024]⟩
abbrev S1x1024 : Shape := ⟨2, ![1, 1024]⟩
abbrev S8 : Shape := ⟨1, ![8]⟩
abbrev S8x1 : Shape := ⟨2, ![8, 1]⟩

abbrev nBuf : Space → Nat
  | .hbm => 7
  | .vmem => 3
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S8x2048x1024, .f32⟩
  | .hbm, ⟨3, _⟩ => ⟨S8x1x1024, .f32⟩
  | .hbm, ⟨4, _⟩ => ⟨S8x1024, .f32⟩
  | .hbm, ⟨5, _⟩ => ⟨S1x1024, .f32⟩
  | .hbm, ⟨6, _⟩ => ⟨S8x1024, .f32⟩
  | .local _ .vmem, ⟨0, _⟩ => ⟨S8x1024, .f32⟩
  | .local _ .vmem, ⟨1, _⟩ => ⟨S1x1024, .f32⟩
  | .local _ .vmem, ⟨2, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference4Ideal.lean ====
abbrev S16384x1024 : Shape := ⟨2, ![16384, 1024]⟩
abbrev S1024 : Shape := ⟨1, ![1024]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S8x1024 : Shape := ⟨2, ![8, 1024]⟩

abbrev nBuf : Space → Nat
  | .hbm => 21
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S8x2048x1024, .f32⟩
  | .hbm, ⟨3, _⟩ => ⟨S8x2048x1024, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x1024, .f32⟩
  | .hbm, ⟨15, _⟩ => ⟨S8x2048x1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S8x1x1024, .f32⟩
  | .hbm, ⟨20, _⟩ => ⟨S8x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel5.lean ====
abbrev S128x1024 : Shape := ⟨2, ![128, 1024]⟩
abbrev S2048x1024 : Shape := ⟨2, ![2048, 1024]⟩
abbrev S1024 : Shape := ⟨1, ![1024]⟩
abbrev S1x1024 : Shape := ⟨2, ![1, 1024]⟩
abbrev S1024x1024 : Shape := ⟨2, ![1024, 1024]⟩
abbrev S128 : Shape := ⟨1, ![128]⟩
abbrev S128x1 : Shape := ⟨2, ![128, 1]⟩

abbrev nBuf : Space → Nat
  | .hbm => 8
  | .vmem => 6
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S2048x1024, .f32⟩
  | .hbm, ⟨4, _⟩ => ⟨S1024, .f32⟩
  | .hbm, ⟨5, _⟩ => ⟨S2048x1024, .bf16⟩
  | .hbm, ⟨6, _⟩ => ⟨S1x1024, .f32⟩
  | .hbm, ⟨7, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S2048x1024, .bf16⟩
  | .local _ .vmem, ⟨4, _⟩ => ⟨S1x1024, .f32⟩
  | .local _ .vmem, ⟨5, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== Reference5Ideal.lean ====
abbrev S128x1024 : Shape := ⟨2, ![128, 1024]⟩
abbrev S2048x1024 : Shape := ⟨2, ![2048, 1024]⟩
abbrev S1024 : Shape := ⟨1, ![1024]⟩
abbrev S128x2048 : Shape := ⟨2, ![128, 2048]⟩
abbrev S_ : Shape := ⟨0, ![]⟩
abbrev S128 : Shape := ⟨1, ![128]⟩
abbrev S128x1 : Shape := ⟨2, ![128, 1]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S2048x1024, .f32⟩
  | .hbm, ⟨4, _⟩ => ⟨S1024, .f32⟩
  | .hbm, ⟨5, _⟩ => ⟨S128x2048, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S_, .f32⟩
  | .hbm, ⟨10, _⟩ => ⟨S128, .f32⟩
  | .hbm, ⟨11, _⟩ => ⟨S128x1, .f32⟩
  | .hbm, ⟨12, _⟩ => ⟨S_, .f32⟩
  | .hbm, ⟨13, _⟩ => ⟨S128x1, .f32⟩
  | .hbm, ⟨14, _⟩ => ⟨S128x1, .f32⟩
  | .hbm, ⟨15, _⟩ => ⟨S_, .f32⟩
  | .hbm, ⟨16, _⟩ => ⟨S128x1, .f32⟩
  | .hbm, ⟨17, _⟩ => ⟨S128x1, .f32⟩
  | .hbm, ⟨18, _⟩ => ⟨S128x1, .f32⟩
  | .hbm, ⟨19, _⟩ => ⟨S128x1024, .f32⟩
  | .hbm, ⟨20, _⟩ => ⟨S128x1024, .f32⟩
  | .hbm, ⟨21, _⟩ => ⟨S1x1024, .f32⟩
  | .hbm, ⟨22, _⟩ => ⟨S128x1024, .f32⟩
  | .hbm, ⟨23, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Kernel6.lean ====
abbrev S128x1024 : Shape := ⟨2, ![128, 1024]⟩
abbrev S1024 : Shape := ⟨1, ![1024]⟩
abbrev S1024x6912 : Shape := ⟨2, ![1024, 6912]⟩
abbrev S128x3200 : Shape := ⟨2, ![128, 3200]⟩
abbrev S3200 : Shape := ⟨1, ![3200]⟩
abbrev S64x1024 : Shape := ⟨2, ![64, 1024]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x1024 : Shape := ⟨2, ![1, 1024]⟩
abbrev S1x3200 : Shape := ⟨2, ![1, 3200]⟩
abbrev S128x1536 : Shape := ⟨2, ![128, 1536]⟩
abbrev S128x128 : Shape := ⟨2, ![128, 128]⟩
abbrev S128 : Shape := ⟨1, ![128]⟩
abbrev S128x1 : Shape := ⟨2, ![128, 1]⟩
abbrev S1024x128 : Shape := ⟨2, ![1024, 128]⟩
abbrev S1x128 : Shape := ⟨2, ![1, 128]⟩
abbrev S1024x1024 : Shape := ⟨2, ![1024, 1024]⟩
abbrev S128x256 : Shape := ⟨2, ![128, 256]⟩
abbrev S1024x1536 : Shape := ⟨2, ![1024, 1536]⟩

abbrev nBuf : Space → Nat
  | .hbm => 78
  | .vmem => 23
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x6912, .bf16⟩
  | .hbm, ⟨3, _⟩ => ⟨S128x3200, .f32⟩
  | .hbm, ⟨4, _⟩ => ⟨S3200, .f32⟩
  | .hbm, ⟨5, _⟩ => ⟨S1024, .f32⟩
  | .hbm, ⟨6, _⟩ => ⟨S64x1024, .f32⟩
  | .hbm, ⟨7, _⟩ => ⟨S1024, .f32⟩
  | .hbm, ⟨8, _⟩ => ⟨S64x1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S64x1024, .f32⟩
  | .hbm, ⟨13, _⟩ => ⟨S128x1024, .f32⟩
  | .hbm, ⟨14, _⟩ => ⟨S128x1024, .bf16⟩
  | .hbm, ⟨15, _⟩ => ⟨S128x1024, .f32⟩
  | .hbm, ⟨16, _⟩ => ⟨S128x1024, .bf16⟩
  | .hbm, ⟨17, _⟩ => ⟨S256, .i32⟩
  | .hbm, ⟨18, _⟩ => ⟨S256x1, .i32⟩
  | .hbm, ⟨19, _⟩ => ⟨S_, .i32⟩
  | .hbm, ⟨20, _⟩ => ⟨S_, .i32⟩
  | .hbm, ⟨21, _⟩ => ⟨S256x1, .i32⟩
  | .hbm, ⟨22, _⟩ => ⟨S256x1, .i32⟩
  | .hbm, ⟨23, _⟩ => ⟨S256x1, .i32⟩
  | .hbm, ⟨24, _⟩ => ⟨S_, .i32⟩
  | .hbm, ⟨25, _⟩ => ⟨S256x1, .i32⟩
  | .hbm, ⟨26, _⟩ => ⟨S256x1, .i1⟩
  | .hbm, ⟨27, _⟩ => ⟨S256x1, .i32⟩
  | .hbm, ⟨28, _⟩ => ⟨S256x1, .i32⟩
  | .hbm, ⟨29, _⟩ => ⟨S_, .i32⟩
  | .hbm, ⟨30, _⟩ => ⟨S256x1, .i32⟩
  | .hbm, ⟨31, _⟩ => ⟨S256x1, .i1⟩
  | .hbm, ⟨32, _⟩ => ⟨S256x1, .i1⟩
  | .hbm, ⟨33, _⟩ => ⟨S_, .i32⟩
  | .hbm, ⟨34, _⟩ => ⟨S256x1, .i32⟩
  | .hbm, ⟨35, _⟩ => ⟨S256x1, .i32⟩
  | .hbm, ⟨36, _⟩ => ⟨S256x1, .i32⟩
  | .hbm, ⟨37, _⟩ => ⟨S256, .i32⟩
  | .hbm, ⟨38, _⟩ => ⟨S1x256, .i32⟩
  | .hbm, ⟨39, _⟩ => ⟨S_, .i32⟩
  | .hbm, ⟨40, _⟩ => ⟨S_, .i32⟩
  | .hbm, ⟨41, _⟩ => ⟨S1x256, .i32⟩
  | .hbm, ⟨42, _⟩ => ⟨S1x256, .i32⟩
  | .hbm, ⟨43, _⟩ => ⟨S1x256, .i32⟩
  | .hbm, ⟨44, _⟩ => ⟨S_, .i32⟩
  | .hbm, ⟨45, _⟩ => ⟨S1x256, .i32⟩
  | .hbm, ⟨46, _⟩ => ⟨S1x256, .i1⟩
  | .hbm, ⟨47, _⟩ => ⟨S1x256, .i32⟩
  | .hbm, ⟨48, _⟩ => ⟨S1x256, .i32⟩
  | .hbm, ⟨49, _⟩ => ⟨S_, .i32⟩
  | .hbm, ⟨50, _⟩ => ⟨S1x256, .i32⟩
  | .hbm, ⟨51, _⟩ => ⟨S1x256, .i1⟩
  | .hbm, ⟨52, _⟩ => ⟨S1x256, .i1⟩
  | .hbm, ⟨53, _⟩ => ⟨S_, .i32⟩
  | .hbm, ⟨54, _⟩ => ⟨S1x256, .i32⟩
  | .hbm, ⟨55, _⟩ => ⟨S1x256, .i32⟩
  | .hbm, ⟨56, _⟩ => ⟨S1x256, .i32⟩
  | .hbm, ⟨57, _⟩ => ⟨S256x256, .i32⟩
  | .hbm, ⟨58, _⟩ => ⟨S256x256, .i32⟩
  | .hbm, ⟨59, _⟩ => ⟨S256x256, .i1⟩
  | .hbm, ⟨60, _⟩ => ⟨S256x256, .bf16⟩
  | .hbm, ⟨61, _⟩ => ⟨S1x1024, .f32⟩
  | .hbm, ⟨62, _⟩ => ⟨S1x3200, .f32⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S128x1024, .f32⟩
  | .hbm, ⟨68, _⟩ => ⟨S128x1024, .f32⟩
  | .hbm, ⟨69, _⟩ => ⟨S128x1024, .f32⟩
  | .hbm, ⟨70, _⟩ => ⟨S128x1024, .f32⟩
  | .hbm, ⟨71, _⟩ => ⟨S128x1024, .f32⟩
  | .hbm, ⟨72, _⟩ => ⟨S128x1024, .f32⟩
  | .hbm, ⟨73, _⟩ => ⟨S128x1024, .f32⟩
  | .hbm, ⟨74, _⟩ => ⟨S128x1024, .f32⟩
  | .hbm, ⟨75, _⟩ => ⟨S128x1536, .f32⟩
  | .hbm, ⟨76, _⟩ => ⟨S128x128, .f32⟩
  | .hbm, ⟨77, _⟩ => ⟨S128x1024, .f32⟩
  | .local _ .vmem, ⟨0, _⟩ => ⟨S128x1024, .f32⟩
  | .local _ .vmem, ⟨1, _⟩ => ⟨S1x1024, .f32⟩
  | .local _ .vmem, ⟨2, _⟩ => ⟨S1024x6912, .bf16⟩
  | .local _ .vmem, ⟨3, _⟩ => ⟨S128x3200, .f32⟩
  | .local _ .vmem, ⟨4, _⟩ => ⟨S1x3200, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S128x1024, .bf16⟩
  | .local _ .vmem, ⟨10, _⟩ => ⟨S128x1024, .bf16⟩
  | .local _ .vmem, ⟨11, _⟩ => ⟨S256x256, .bf16⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S128x1536, .f32⟩
  | .local _ .vmem, ⟨21, _⟩ => ⟨S128x128, .f32⟩
  | .local _ .vmem, ⟨22, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_c_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_c : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_0 : Ref sig .tc := ⟨.hbm, 53, rfl⟩
abbrev main_call1_v12 : Ref sig .tc := ⟨.hbm, 54, rfl⟩
abbrev main_call1_v13 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21_0 : Ref sig .tc := ⟨.hbm, 67, rfl⟩
abbrev main_v21_1 : Ref sig .tc := ⟨.hbm, 68, rfl⟩
abbrev main_v21_2 : Ref sig .tc := ⟨.hbm, 69, rfl⟩
abbrev main_v21_3 : Ref sig .tc := ⟨.hbm, 70, rfl⟩
abbrev main_v21_4 : Ref sig .tc := ⟨.hbm, 71, rfl⟩
abbrev main_v21_5 : Ref sig .tc := ⟨.hbm, 72, rfl⟩
abbrev main_v21_6 : Ref sig .tc := ⟨.hbm, 73, rfl⟩
abbrev main_v21_7 : Ref sig .tc := ⟨.hbm, 74, rfl⟩
abbrev main_v21_8 : Ref sig .tc := ⟨.hbm, 75, rfl⟩
abbrev main_v21_9 : Ref sig .tc := ⟨.hbm, 76, rfl⟩
abbrev main_v21_10 : Ref sig .tc := ⟨.hbm, 77, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6912 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x3200 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x3200 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S128x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S128x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S128x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S128x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]

abbrev stage0_19 : Fin 1 → Memref sig .tc .vmem S128x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true]

abbrev stage0_20 : Fin 1 → Memref sig .tc .vmem S128x1536 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true]

abbrev stage0_21 : Fin 1 → Memref sig .tc .vmem S128x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![true]

abbrev stage0_22 : Fin 1 → Memref sig .tc .vmem S128x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![true]
-- ==== Reference6Ideal.lean ====
abbrev S128x1024 : Shape := ⟨2, ![128, 1024]⟩
abbrev S1024 : Shape := ⟨1, ![1024]⟩
abbrev S1024x6912 : Shape := ⟨2, ![1024, 6912]⟩
abbrev S128x3200 : Shape := ⟨2, ![128, 3200]⟩
abbrev S3200 : Shape := ⟨1, ![3200]⟩
abbrev S64x1024 : Shape := ⟨2, ![64, 1024]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x6912 : Shape := ⟨2, ![128, 6912]⟩
abbrev S1x3200 : Shape := ⟨2, ![1, 3200]⟩
abbrev S128x64 : Shape := ⟨2, ![128, 64]⟩
abbrev S128x16x64 : Shape := ⟨3, ![128, 16, 64]⟩
abbrev S128x16 : Shape := ⟨2, ![128, 16]⟩
abbrev S128x16x1 : Shape := ⟨3, ![128, 16, 1]⟩
abbrev S128x1536 : Shape := ⟨2, ![128, 1536]⟩
abbrev S128x128 : Shape := ⟨2, ![128, 128]⟩

abbrev nBuf : Space → Nat
  | .hbm => 103
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x6912, .bf16⟩
  | .hbm, ⟨3, _⟩ => ⟨S128x3200, .f32⟩
  | .hbm, ⟨4, _⟩ => ⟨S3200, .f32⟩
  | .hbm, ⟨5, _⟩ => ⟨S1024, .f32⟩
  | .hbm, ⟨6, _⟩ => ⟨S64x1024, .f32⟩
  | .hbm, ⟨7, _⟩ => ⟨S1024, .f32⟩
  | .hbm, ⟨8, _⟩ => ⟨S64x1024, .f32⟩
  | .hbm, ⟨9, _⟩ => ⟨S1024, .f32⟩
  | .hbm, ⟨10, _⟩ => ⟨S1024, .f32⟩
  | .hbm, ⟨11, _⟩ => ⟨S128x1024, .f32⟩
  | .hbm, ⟨12, _⟩ => ⟨S_, .f32⟩
  | .hbm, ⟨13, _⟩ => ⟨S128, .f32⟩
  | .hbm, ⟨14, _⟩ => ⟨S128x1, .f32⟩
  | .hbm, ⟨15, _⟩ => ⟨S_, .f32⟩
  | .hbm, ⟨16, _⟩ => ⟨S128x1, .f32⟩
  | .hbm, ⟨17, _⟩ => ⟨S128x1, .f32⟩
  | .hbm, ⟨18, _⟩ => ⟨S_, .f32⟩
  | .hbm, ⟨19, _⟩ => ⟨S128x1, .f32⟩
  | .hbm, ⟨20, _⟩ => ⟨S128x1, .f32⟩
  | .hbm, ⟨21, _⟩ => ⟨S128x1, .f32⟩
  | .hbm, ⟨22, _⟩ => ⟨S128x1024, .f32⟩
  | .hbm, ⟨23, _⟩ => ⟨S128x1024, .f32⟩
  | .hbm, ⟨24, _⟩ => ⟨S1x1024, .f32⟩
  | .hbm, ⟨25, _⟩ => ⟨S128x1024, .f32⟩
  | .hbm, ⟨26, _⟩ => ⟨S128x1024, .f32⟩
  | .hbm, ⟨27, _⟩ => ⟨S1024x6912, .f32⟩
  | .hbm, ⟨28, _⟩ => ⟨S128x6912, .f32⟩
  | .hbm, ⟨29, _⟩ => ⟨S128x3200, .f32⟩
  | .hbm, ⟨30, _⟩ => ⟨S128x3200, .f32⟩
  | .hbm, ⟨31, _⟩ => ⟨S1x3200, .f32⟩
  | .hbm, ⟨32, _⟩ => ⟨S128x3200, .f32⟩
  | .hbm, ⟨33, _⟩ => ⟨S128x3200, .f32⟩
  | .hbm, ⟨34, _⟩ => ⟨S128x3200, .f32⟩
  | .hbm, ⟨35, _⟩ => ⟨S128x1024, .f32⟩
  | .hbm, ⟨36, _⟩ => ⟨S128x1024, .f32⟩
  | .hbm, ⟨37, _⟩ => ⟨S128x1024, .f32⟩
  | .hbm, ⟨38, _⟩ => ⟨S128x64, .f32⟩
  | .hbm, ⟨39, _⟩ => ⟨S128x64, .f32⟩
  | .hbm, ⟨40, _⟩ => ⟨S128x64, .f32⟩
  | .hbm, ⟨41, _⟩ => ⟨S128x1024, .f32⟩
  | .hbm, ⟨42, _⟩ => ⟨S1x1024, .f32⟩
  | .hbm, ⟨43, _⟩ => ⟨S128x1024, .f32⟩
  | .hbm, ⟨44, _⟩ => ⟨S128x1024, .f32⟩
  | .hbm, ⟨45, _⟩ => ⟨S128x1024, .f32⟩
  | .hbm, ⟨46, _⟩ => ⟨S_, .f32⟩
  | .hbm, ⟨47, _⟩ => ⟨S128x1024, .f32⟩
  | .hbm, ⟨48, _⟩ => ⟨S128x1024, .f32⟩
  | .hbm, ⟨49, _⟩ => ⟨S128x1024, .f32⟩
  | .hbm, ⟨50, _⟩ => ⟨S128x1024, .f32⟩
  | .hbm, ⟨51, _⟩ => ⟨S128x1024, .f32⟩
  | .hbm, ⟨52, _⟩ => ⟨S128x1024, .f32⟩
  | .hbm, ⟨53, _⟩ => ⟨S128x1024, .f32⟩
  | .hbm, ⟨54, _⟩ => ⟨S128x1024, .f32⟩
  | .hbm, ⟨55, _⟩ => ⟨S128x1024, .f32⟩
  | .hbm, ⟨56, _⟩ => ⟨S_, .f32⟩
  | .hbm, ⟨57, _⟩ => ⟨S128x1024, .f32⟩
  | .hbm, ⟨58, _⟩ => ⟨S128x1024, .f32⟩
  | .hbm, ⟨59, _⟩ => ⟨S128x1024, .f32⟩
  | .hbm, ⟨60, _⟩ => ⟨S128x1024, .f32⟩
  | .hbm, ⟨61, _⟩ => ⟨S1x1024, .f32⟩
  | .hbm, ⟨62, _⟩ => ⟨S128x1024, .f32⟩
  | .hbm, ⟨63, _⟩ => ⟨S128x1024, .f32⟩
  | .hbm, ⟨64, _⟩ => ⟨S128x1024, .f32⟩
  | .hbm, ⟨65, _⟩ => ⟨S128x1024, .f32⟩
  | .hbm, ⟨66, _⟩ => ⟨S_, .f32⟩
  | .hbm, ⟨67, _⟩ => ⟨S128x1024, .f32⟩
  | .hbm, ⟨68, _⟩ => ⟨S128x1024, .f32⟩
  | .hbm, ⟨69, _⟩ => ⟨S_, .f32⟩
  | .hbm, ⟨70, _⟩ => ⟨S128x1024, .f32⟩
  | .hbm, ⟨71, _⟩ => ⟨S128x1024, .f32⟩
  | .hbm, ⟨72, _⟩ => ⟨S1x1024, .f32⟩
  | .hbm, ⟨73, _⟩ => ⟨S128x1024, .f32⟩
  | .hbm, ⟨74, _⟩ => ⟨S128x1024, .f32⟩
  | .hbm, ⟨75, _⟩ => ⟨S128x16x64, .f32⟩
  | .hbm, ⟨76, _⟩ => ⟨S128x16x64, .f32⟩
  | .hbm, ⟨77, _⟩ => ⟨S_, .f32⟩
  | .hbm, ⟨78, _⟩ => ⟨S128x16, .f32⟩
  | .hbm, ⟨79, _⟩ => ⟨S128x16x1, .f32⟩
  | .hbm, ⟨80, _⟩ => ⟨S128x16x1, .f32⟩
  | .hbm, ⟨81, _⟩ => ⟨S_, .f32⟩
  | .hbm, ⟨82, _⟩ => ⟨S128x16x1, .f32⟩
  | .hbm, ⟨83, _⟩ => ⟨S128x16x1, .f32⟩
  | .hbm, ⟨84, _⟩ => ⟨S128x16x64, .f32⟩
  | .hbm, ⟨85, _⟩ => ⟨S128x16x64, .f32⟩
  | .hbm, ⟨86, _⟩ => ⟨S128x1024, .f32⟩
  | .hbm, ⟨87, _⟩ => ⟨S_, .f32⟩
  | .hbm, ⟨88, _⟩ => ⟨S128x1024, .f32⟩
  | .hbm, ⟨89, _⟩ => ⟨S128x1024, .f32⟩
  | .hbm, ⟨90, _⟩ => ⟨S1x1024, .f32⟩
  | .hbm, ⟨91, _⟩ => ⟨S128x1024, .f32⟩
  | .hbm, ⟨92, _⟩ => ⟨S128x1024, .f32⟩
  | .hbm, ⟨93, _⟩ => ⟨S_, .f32⟩
  | .hbm, ⟨94, _⟩ => ⟨S128x1024, .f32⟩
  | .hbm, ⟨95, _⟩ => ⟨S128x1024, .f32⟩
  | .hbm, ⟨96, _⟩ => ⟨S128x1024, .f32⟩
  | .hbm, ⟨97, _⟩ => ⟨S128x1024, .f32⟩
  | .hbm, ⟨98, _⟩ => ⟨S128x1024, .f32⟩
  | .hbm, ⟨99, _⟩ => ⟨S128x1024, .f32⟩
  | .hbm, ⟨100, _⟩ => ⟨S128x1024, .f32⟩
  | .hbm, ⟨101, _⟩ => ⟨S128x1536, .f32⟩
  | .hbm, ⟨102, _⟩ => ⟨S128x128, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_2 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_3 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_4 : Ref sig .tc := ⟨.hbm, 66, rfl⟩
abbrev main_v50 : Ref sig .tc := ⟨.hbm, 67, rfl⟩
abbrev main_v51 : Ref sig .tc := ⟨.hbm, 68, rfl⟩
abbrev main_cst_5 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_6 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_7 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_8 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_9 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩

abbrev nD : Nat := 1
abbrev τ : Topo := Topo.v7x

variable {F : FTy → Type} [FloatOps F]
-- ==== Kernel7.lean ====
abbrev S128x1536 : Shape := ⟨2, ![128, 1536]⟩
abbrev S128x1024 : Shape := ⟨2, ![128, 1024]⟩
abbrev S128x128 : Shape := ⟨2, ![128, 128]⟩
abbrev S128x3x1536 : Shape := ⟨3, ![128, 3, 1536]⟩
abbrev S128x1024x128 : Shape := ⟨3, ![128, 1024, 128]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S1x128x3x1536 : Shape := ⟨4, ![1, 128, 3, 1536]⟩
abbrev S1x128x1024x128 : Shape := ⟨4, ![1, 128, 1024, 128]⟩
abbrev S128 : Shape := ⟨1, ![128]⟩
abbrev S128x1 : Shape := ⟨2, ![128, 1]⟩
abbrev S1x1024 : Shape := ⟨2, ![1, 1024]⟩
abbrev S_ : Shape := ⟨0, ![]⟩
abbrev S1x1536 : Shape := ⟨2, ![1, 1536]⟩
abbrev S1x16 : Shape := ⟨2, ![1, 16]⟩
abbrev S1x128 : Shape := ⟨2, ![1, 128]⟩
abbrev S16x64 : Shape := ⟨2, ![16, 64]⟩
abbrev S1024x128 : Shape := ⟨2, ![1024, 128]⟩
abbrev S8x1536 : Shape := ⟨2, ![8, 1536]⟩
abbrev S1x8x3x1536 : Shape := ⟨4, ![1, 8, 3, 1536]⟩
abbrev S8x1024 : Shape := ⟨2, ![8, 1024]⟩
abbrev S8x128 : Shape := ⟨2, ![8, 128]⟩
abbrev S1x8x1024x128 : Shape := ⟨4, ![1, 8, 1024, 128]⟩
abbrev S1x1x1x1536 : Shape := ⟨4, ![1, 1, 1, 1536]⟩
abbrev S1x1x2x1536 : Shape := ⟨4, ![1, 1, 2, 1536]⟩
abbrev S2x1536 : Shape := ⟨2, ![2, 1536]⟩
abbrev S8x3x1536 : Shape := ⟨3, ![8, 3, 1536]⟩
abbrev S1x2x1536 : Shape := ⟨3, ![1, 2, 1536]⟩
abbrev S1x1x1536 : Shape := ⟨3, ![1, 1, 1536]⟩
abbrev S120x128 : Shape := ⟨2, ![120, 128]⟩
abbrev S1x1 : Shape := ⟨2, ![1, 1]⟩
abbrev S1x1x128x128 : Shape := ⟨4, ![1, 1, 128, 128]⟩
abbrev S8x1024x128 : Shape := ⟨3, ![8, 1024, 128]⟩
abbrev S1x128x128 : Shape := ⟨3, ![1, 128, 128]⟩
abbrev S8x512 : Shape := ⟨2, ![8, 512]⟩
abbrev S8 : Shape := ⟨1, ![8]⟩
abbrev S8x1 : Shape := ⟨2, ![8, 1]⟩

abbrev nBuf : Space → Nat
  | .hbm => 56
  | .vmem => 23
  | .smem => 0
  | _ => 0

abbrev bufTy : (tb : Table) → Fin (tcTables nBuf tb) → BufTy
  | .hbm, ⟨0, _⟩ => ⟨S128x1536, .f32⟩
  | .hbm, ⟨1, _⟩ => ⟨S128x1024, .f32⟩
  | .hbm, ⟨2, _⟩ => ⟨S128x128, .f32⟩
  | .hbm, ⟨3, _⟩ => ⟨S128x3x1536, .f32⟩
  | .hbm, ⟨4, _⟩ => ⟨S128x1024x128, .f32⟩
  | .hbm, ⟨5, _⟩ => ⟨S4x1536, .f32⟩
  | .hbm, ⟨6, _⟩ => ⟨S1536, .f32⟩
  | .hbm, ⟨7, _⟩ => ⟨S16, .f32⟩
  | .hbm, ⟨8, _⟩ => ⟨S16, .f32⟩
  | .hbm, ⟨9, _⟩ => ⟨S16, .f32⟩
  | .hbm, ⟨10, _⟩ => ⟨S1024, .f32⟩
  | .hbm, ⟨11, _⟩ => ⟨S1x128x3x1536, .f32⟩
  | .hbm, ⟨12, _⟩ => ⟨S1x128x1024x128, .f32⟩
  | .hbm, ⟨13, _⟩ => ⟨S128, .i32⟩
  | .hbm, ⟨14, _⟩ => ⟨S128x1, .i32⟩
  | .hbm, ⟨15, _⟩ => ⟨S1024, .i32⟩
  | .hbm, ⟨16, _⟩ => ⟨S1x1024, .i32⟩
  | .hbm, ⟨17, _⟩ => ⟨S_, .i32⟩
  | .hbm, ⟨18, _⟩ => ⟨S_, .i32⟩
  | .hbm, ⟨19, _⟩ => ⟨S1x1024, .i32⟩
  | .hbm, ⟨20, _⟩ => ⟨S1x1024, .i32⟩
  | .hbm, ⟨21, _⟩ => ⟨S1x1024, .i32⟩
  | .hbm, ⟨22, _⟩ => ⟨S_, .i32⟩
  | .hbm, ⟨23, _⟩ => ⟨S1x1024, .i32⟩
  | .hbm, ⟨24, _⟩ => ⟨S1x1024, .i1⟩
  | .hbm, ⟨25, _⟩ => ⟨S1x1024, .i32⟩
  | .hbm, ⟨26, _⟩ => ⟨S1x1024, .i32⟩
  | .hbm, ⟨27, _⟩ => ⟨S_, .i32⟩
  | .hbm, ⟨28, _⟩ => ⟨S1x1024, .i32⟩
  | .hbm, ⟨29, _⟩ => ⟨S1x1024, .i1⟩
  | .hbm, ⟨30, _⟩ => ⟨S1x1024, .i1⟩
  | .hbm, ⟨31, _⟩ => ⟨S_, .i32⟩
  | .hbm, ⟨32, _⟩ => ⟨S1x1024, .i32⟩
  | .hbm, ⟨33, _⟩ => ⟨S1x1024, .i32⟩
  | .hbm, ⟨34, _⟩ => ⟨S1x1024, .i32⟩
  | .hbm, ⟨35, _⟩ => ⟨S128x1024, .i32⟩
  | .hbm, ⟨36, _⟩ => ⟨S128x1024, .i32⟩
  | .hbm, ⟨37, _⟩ => ⟨S128x1024, .i1⟩
  | .hbm, ⟨38, _⟩ => ⟨S128x1024, .bf16⟩
  | .hbm, ⟨39, _⟩ => ⟨S1x1536, .f32⟩
  | .hbm, ⟨40, _⟩ => ⟨S1x16, .f32⟩
  | .hbm, ⟨41, _⟩ => ⟨S_, .i32⟩
  | .hbm, ⟨42, _⟩ => ⟨S_, .f32⟩
  | .hbm, ⟨43, _⟩ => ⟨S1x128, .f32⟩
  | .hbm, ⟨44, _⟩ => ⟨S1x16, .f32⟩
  | .hbm, ⟨45, _⟩ => ⟨S_, .i32⟩
  | .hbm, ⟨46, _⟩ => ⟨S_, .f32⟩
  | .hbm, ⟨47, _⟩ => ⟨S1x128, .f32⟩
  | .hbm, ⟨48, _⟩ => ⟨S16x64, .f32⟩
  | .hbm, ⟨49, _⟩ => ⟨S1024, .f32⟩
  | .hbm, ⟨50, _⟩ => ⟨S1x1024, .f32⟩
  | .hbm, ⟨51, _⟩ => ⟨S1x1024, .f32⟩
  | .hbm, ⟨52, _⟩ => ⟨S1024x128, .bf16⟩
  | .hbm, ⟨53, _⟩ => ⟨S128x1024, .f32⟩
  | .hbm, ⟨54, _⟩ => ⟨S1x128x3x1536, .f32⟩
  | .hbm, ⟨55, _⟩ => ⟨S1x128x1024x128, .f32⟩
  | .local _ .vmem, ⟨0, _⟩ => ⟨S8x1536, .f32⟩
  | .local _ .vmem, ⟨1, _⟩ => ⟨S8x1536, .f32⟩
  | .local _ .vmem, ⟨2, _⟩ => ⟨S1x8x3x1536, .f32⟩
  | .local _ .vmem, ⟨3, _⟩ => ⟨S1x8x3x1536, .f32⟩
  | .local _ .vmem, ⟨4, _⟩ => ⟨S8x1024, .f32⟩
  | .local _ .vmem, ⟨5, _⟩ => ⟨S8x1024, .f32⟩
  | .local _ .vmem, ⟨6, _⟩ => ⟨S8x128, .f32⟩
  | .local _ .vmem, ⟨7, _⟩ => ⟨S8x128, .f32⟩
  | .local _ .vmem, ⟨8, _⟩ => ⟨S4x1536, .f32⟩
  | .local _ .vmem, ⟨9, _⟩ => ⟨S1x1536, .f32⟩
  | .local _ .vmem, ⟨10, _⟩ => ⟨S1x128, .f32⟩
  | .local _ .vmem, ⟨11, _⟩ => ⟨S1x128, .f32⟩
  | .local _ .vmem, ⟨12, _⟩ => ⟨S1x1024, .f32⟩
  | .local _ .vmem, ⟨13, _⟩ => ⟨S1x1024, .f32⟩
  | .local _ .vmem, ⟨14, _⟩ => ⟨S128x1024, .bf16⟩
  | .local _ .vmem, ⟨15, _⟩ => ⟨S1x8x1024x128, .f32⟩
  | .local _ .vmem, ⟨16, _⟩ => ⟨S1x8x1024x128, .f32⟩
  | .local _ .vmem, ⟨17, _⟩ => ⟨S8x1024, .f32⟩
  | .local _ .vmem, ⟨18, _⟩ => ⟨S8x1024, .f32⟩
  | .local _ .vmem, ⟨19, _⟩ => ⟨S1x8x3x1536, .f32⟩
  | .local _ .vmem, ⟨20, _⟩ => ⟨S1x8x3x1536, .f32⟩
  | .local _ .vmem, ⟨21, _⟩ => ⟨S1x8x1024x128, .f32⟩
  | .local _ .vmem, ⟨22, _⟩ => ⟨S1x8x1024x128, .f32⟩
  | _, _ => ⟨S128x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_c_0 : Ref sig .tc := ⟨.hbm, 41, rfl⟩
abbrev main_call1_v0 : Ref sig .tc := ⟨.hbm, 42, rfl⟩
abbrev main_v13 : Ref sig .tc := ⟨.hbm, 43, rfl⟩
abbrev main_v14 : Ref sig .tc := ⟨.hbm, 44, rfl⟩
abbrev main_c_1 : Ref sig .tc := ⟨.hbm, 45, rfl⟩
abbrev main_call2_v0 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21_0 : Ref sig .tc := ⟨.hbm, 53, rfl⟩
abbrev main_v21_1 : Ref sig .tc := ⟨.hbm, 54, rfl⟩
abbrev main_v21_2 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S8x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x3x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x8x1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x3x1536 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x8x1024x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference7Ideal.lean ====
abbrev S128x1536 : Shape := ⟨2, ![128, 1536]⟩
abbrev S128x1024 : Shape := ⟨2, ![128, 1024]⟩
abbrev S128x128 : Shape := ⟨2, ![128, 128]⟩
abbrev S128x3x1536 : Shape := ⟨3, ![128, 3, 1536]⟩
abbrev S128x1024x128 : Shape := ⟨3, ![128, 1024, 128]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S128x1x1536 : Shape := ⟨3, ![128, 1, 1536]⟩
abbrev S128x4x1536 : Shape := ⟨3, ![128, 4, 1536]⟩
abbrev S1x128x3x1536 : Shape := ⟨4, ![1, 128, 3, 1536]⟩

abbrev nBuf : Space → Nat
  | .hbm => 15
  | .vmem => 0
  | .smem => 0
  | _ => 0

abbrev bufTy : (tb : Table) → Fin (tcTables nBuf tb) → BufTy
  | .hbm, ⟨0, _⟩ => ⟨S128x1536, .f32⟩
  | .hbm, ⟨1, _⟩ => ⟨S128x1024, .f32⟩
  | .hbm, ⟨2, _⟩ => ⟨S128x128, .f32⟩
  | .hbm, ⟨3, _⟩ => ⟨S128x3x1536, .f32⟩
  | .hbm, ⟨4, _⟩ => ⟨S128x1024x128, .f32⟩
  | .hbm, ⟨5, _⟩ => ⟨S4x1536, .f32⟩
  | .hbm, ⟨6, _⟩ => ⟨S1536, .f32⟩
  | .hbm, ⟨7, _⟩ => ⟨S16, .f32⟩
  | .hbm, ⟨8, _⟩ => ⟨S16, .f32⟩
  | .hbm, ⟨9, _⟩ => ⟨S16, .f32⟩
  | .hbm, ⟨10, _⟩ => ⟨S1024, .f32⟩
  | .hbm, ⟨11, _⟩ => ⟨S128x1x1536, .f32⟩
  | .hbm, ⟨12, _⟩ => ⟨S128x4x1536, .f32⟩
  | .hbm, ⟨13, _⟩ => ⟨S128x3x1536, .f32⟩
  | .hbm, ⟨14, _⟩ => ⟨S1x128x3x1536, .f32⟩
  | _, _ => ⟨S128x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Proof.Ssd.Spec.lean ====
/-
  THE CHUNK MATHEMATICS of the Mamba-2 state-space scan, over the extended reals: what one chunk of 128 tokens of one sequence
  computes from the activated convolution `u`, the step sizes `dt`, the decay rates `na`, the gate `z` and the state `h`
  entering the chunk. Head `c / 64` owns column `c` of the 1024, and group `j / 8` owns head `j` of the 16.
-/
module

public import Idealize.ShloMosaic.Lib.Pointwise

@[expose] public section

noncomputable section

namespace Cert.Ssd

open Idealize.ShloMosaic

/-- `x · σ(x)`. -/
def silu (x : EReal) : EReal := x * Ideal.div 1 (1 + Ideal.exp (-x))

/-- The step size of a raw step `t`: `log (1 + eᵗ)`, computed stably. -/
def softplus (t : EReal) : EReal := max t 0 + Ideal.log (1 + Ideal.exp (-(max t (-t))))

/-- The head that owns a column. -/
def hd (c : Fin 1024) : Fin 16 := ⟨c.val / 64, by omega⟩

/-- The group that owns a head. -/
def gr (j : Fin 16) : Fin 2 := ⟨j.val / 8, by omega⟩

section Chunk

variable (u : Fin 128 → Fin 1536 → EReal) (dt : Fin 128 → Fin 16 → EReal) (na : Fin 16 → EReal)
variable (h : Fin 1024 → Fin 128 → EReal)

/-- Token `l`'s input column `c`. -/
def xs (l : Fin 128) (c : Fin 1024) : EReal := u l ⟨c.val, by omega⟩

/-- Token `s`'s input projection `B` of group `g`. -/
def bm (s : Fin 128) (g : Fin 2) (n : Fin 128) : EReal := u s ⟨1024 + g.val * 128 + n.val, by omega⟩

/-- Token `l`'s output projection `C` of group `g`. -/
def cm (l : Fin 128) (g : Fin 2) (n : Fin 128) : EReal := u l ⟨1280 + g.val * 128 + n.val, by omega⟩

/-- The running sum of the log decays of head `j` up to and including token `r`. -/
def cs (r : Fin 128) (j : Fin 16) : EReal := ∑ s : Fin 128, if s ≤ r then dt s j * na j else 0

/-- The input scaled by its step size. -/
def xdt (s : Fin 128) (c : Fin 1024) : EReal := xs u s c * dt s (hd c)

/-- `C_l · B_s` in group `g`. -/
def cb (l s : Fin 128) (g : Fin 2) : EReal := ∑ n : Fin 128, cm u l g n * bm u s g n

/-- The decay from token `s` to token `l`, zero where `s` comes after `l`. -/
def lm (l s : Fin 128) (j : Fin 16) : EReal := Ideal.exp (if s ≤ l then cs dt na l j - cs dt na s j else ⊥)

/-- What the chunk's own tokens contribute to token `l`. -/
def yDiag (l : Fin 128) (c : Fin 1024) : EReal :=
  ∑ s : Fin 128, (cb u l s (gr (hd c)) * lm dt na l s (hd c)) * xdt u dt s c

/-- What the entering state contributes to token `l`. -/
def yOff (l : Fin 128) (c : Fin 1024) : EReal :=
  (∑ n : Fin 128, cm u l (gr (hd c)) n * h c n) * Ideal.exp (cs dt na l (hd c))

/-- What the chunk's tokens add to the state. -/
def states (c : Fin 1024) (n : Fin 128) : EReal :=
  ∑ s : Fin 128, (xdt u dt s c * Ideal.exp (cs dt na 127 (hd c) - cs dt na s (hd c))) * bm u s (gr (hd c)) n

/-- The state leaving the chunk. -/
def hNext (c : Fin 1024) (n : Fin 128) : EReal :=
  Ideal.exp (cs dt na 127 (hd c)) * h c n + states u dt na c n

variable (z : Fin 128 → Fin 1024 → EReal) (ds : Fin 16 → EReal) (gn : Fin 1024 → EReal)

/-- The scan's output with the skip term, gated. -/
def gated (l : Fin 128) (c : Fin 1024) : EReal :=
  (yDiag u dt na l c + yOff u dt na h l c + ds (hd c) * xs u l c) * silu (z l c)

/-- The sum of squares of the half of 512 columns that holds column `c`. -/
def sumSq (w : Fin 1024 → EReal) (c : Fin 1024) : EReal :=
  ∑ k : Fin 512, w ⟨512 * (c.val / 512) + k.val, by omega⟩ * w ⟨512 * (c.val / 512) + k.val, by omega⟩

/-- The gated output normalised over each half of 512 columns. -/
def normed (w : Fin 1024 → EReal) (c : Fin 1024) : EReal :=
  w c * Ideal.rsqrt (Ideal.div (sumSq w c) (Ideal.ofBits .f32 0x44000000#32) + Ideal.ofBits .f32 0x3727C5AC#32) * gn c

end Chunk

/-! ## Chunks in sequence: 16 chunks of 128 rows to a sequence -/

section Seq

variable (X : ℕ → Fin 1536 → EReal) (w : Fin 4 → Fin 1536 → EReal) (b : Fin 1536 → EReal)

/-- The row that tap `i` reads at row `l` of chunk `z`: three rows back plus `i`, zero before the sequence starts. -/
def tap (z : ℕ) (l : Fin 128) (i : ℕ) (k : Fin 1536) : EReal :=
  if 128 * (z % 16) + l.val + i < 3 then 0 else X (128 * z + l.val + i - 3) k

/-- The causal convolution with its bias. -/
def conv (z : ℕ) (l : Fin 128) (k : Fin 1536) : EReal :=
  tap X z l 0 k * w 0 k + tap X z l 1 k * w 1 k + tap X z l 2 k * w 2 k + tap X z l 3 k * w 3 k + b k

/-- The convolved columns. -/
def cols (z : ℕ) (l : Fin 128) (k : Fin 1536) : EReal := silu (conv X w b z l k)

variable (u : ℕ → Fin 128 → Fin 1536 → EReal) (dt : ℕ → Fin 128 → Fin 16 → EReal) (na : Fin 16 → EReal)

/-- The state entering chunk `z`: zero at a sequence's first chunk. -/
def hIn : ℕ → Fin 1024 → Fin 128 → EReal
  | 0 => fun _ _ => 0
  | z + 1 => if (z + 1) % 16 = 0 then fun _ _ => 0 else hNext (u z) (dt z) na (hIn z)

theorem hIn_first (z : ℕ) (h : z % 16 = 0) : hIn u dt na z = fun _ _ => 0 := by
  cases z with
  | zero => rfl
  | succ z => rw [hIn, if_pos h]

theorem hIn_next (z : ℕ) (h : ¬ z % 16 = 0) : hIn u dt na z = hNext (u (z - 1)) (dt (z - 1)) na (hIn u dt na (z - 1)) := by
  cases z with
  | zero => exact absurd rfl h
  | succ z => rw [hIn, if_neg h]; rfl

end Seq

/-! ## A value minus itself -/

/-- Splitting off a piece and adding the rest back changes nothing but `⊤`. -/
theorem add_sub_self_of_ne_top {x : EReal} (hx : x ≠ ⊤) : x + (x - x) = x := by
  induction x with
  | bot => rfl
  | coe r => norm_cast; simp
  | top => exact absurd rfl hx

end Cert.Ssd

end
-- ==== Proof.Ssd.Pay.lean ====
/-
  THE KERNEL'S CHUNK ARITHMETIC, PAYLOAD BY PAYLOAD: each value the kernel's body computes, read at an index over the extended
  reals. The three-piece products with 0/1 matrices, the paired heads (two heads of 64 columns in one product 256 deep) and the
  eight column pieces of the output are opened here; no claim about memory is made in this file.
-/
module

public import proofs.«01_k».proof.Proof.Gen.KernelIdeal.Skeleton
public import proofs.«01_k».proof.Proof.Ssd.Spec
public import Idealize.ShloMosaic.Lib.WordCmp

@[expose] public section

set_option maxRecDepth 16384

noncomputable section

namespace Cert.KPay

open Idealize.ShloMosaic Idealize.SL.Sem
open Cert.KernelIdeal Cert.KernelIdeal.Gen Cert.Ssd

/-! ## Words and masks -/

/-- The row number of each entry of a 128 × 128 block. -/
abbrev rowIota : IVec S128x128 32 := iota .tc S128x128 32 [0] iota_S128x128_d0_w32

/-- Selecting by the comparison `k ≤ r` of two lane numbers. -/
theorem select_sle (k r : Nat) (hk : k < 128) (hr : r < 128) (a b : EReal) :
    Scalar.select (IntOp.cmpi CmpIPredicate.sle (BitVec.ofNat 32 k) (BitVec.ofNat 32 r)) a b = if k ≤ r then a else b := by
  rw [WordCmp.cmpi_sle_ofNat (by omega) (by omega)]; unfold Scalar.select; by_cases h : k ≤ r <;> simp [h]

/-- Selecting by the comparison `p < 64` of a lane number. -/
theorem select_slt (p : Nat) (hp : p < 128) (a b : EReal) :
    Scalar.select (IntOp.cmpi CmpIPredicate.slt (BitVec.ofNat 32 p) 64#32) a b = if p < 64 then a else b := by
  rw [show (64#32 : BitVec 32) = BitVec.ofNat 32 64 from rfl, WordCmp.cmpi_slt_ofNat (by omega) (by omega)]
  unfold Scalar.select; by_cases h : p < 64 <;> simp [h]

/-- The comparison `k ≤ r` as a number. -/
theorem sle_val (k r : Nat) (hk : k < 128) (hr : r < 128) :
    (FloatOps.sitofp FTy.f32 (BitVec.setWidth 32 (IntOp.cmpi CmpIPredicate.sle (BitVec.ofNat 32 k) (BitVec.ofNat 32 r))) :
      Idealize.ShloMosaic.Ideal .f32) = if k ≤ r then (1 : EReal) else 0 := by
  rw [WordCmp.cmpi_sle_ofNat (by omega) (by omega)]
  by_cases h : k ≤ r
  · simp only [h, if_true]; show (((1 : Int) : ℝ) : EReal) = 1; norm_num
  · simp only [h, if_false]; show (((0 : Int) : ℝ) : EReal) = 0; norm_num

/-- The comparison `k = r` as a number. -/
theorem eq_val (k r : Nat) (hk : k < 128) (hr : r < 128) :
    (FloatOps.sitofp FTy.f32 (BitVec.setWidth 32 (IntOp.cmpi CmpIPredicate.eq (BitVec.ofNat 32 k) (BitVec.ofNat 32 r))) :
      Idealize.ShloMosaic.Ideal .f32) = if k = r then (1 : EReal) else 0 := by
  rw [WordCmp.cmpi_eq_ofNat (by omega) (by omega)]
  by_cases h : k = r
  · simp only [h, if_true]; show (((1 : Int) : ℝ) : EReal) = 1; norm_num
  · simp only [h, if_false]; show (((0 : Int) : ℝ) : EReal) = 0; norm_num

/-- Three pieces of a value other than `⊤` add back to the value. -/
theorem three_pieces {x : EReal} (hx : x ≠ ⊤) : x + (x - x) + (x - x - (x - x)) = x := by
  induction x with
  | bot => rfl
  | coe r => norm_cast; simp
  | top => exact absurd rfl hx

/-- The named mask is minus infinity. -/
theorem mask_eq : (Named.named κ "mask" 0xF149F2CA#32 : Idealize.ShloMosaic.Ideal .f32) = (⊥ : EReal) := rfl

/-- A product with a 0/1 row that holds its one at `j` picks the entry `j`. -/
theorem sum_onehot {n : Nat} (f e : Fin n → EReal) (j : Fin n) (he : ∀ x, e x = if x = j then 1 else 0) :
    ∑ x, f x * e x = f j := by
  rw [Finset.sum_eq_single j]
  · rw [he, if_pos rfl, mul_one]
  · intro b _ hb; rw [he, if_neg hb, mul_zero]
  · intro h; exact absurd (Finset.mem_univ j) h

/-! ## Activations and step sizes -/

theorem p9 (v : FVec Ideal S128x1536 .f32) (r : Fin 128) (k : Fin 1536) : k0_pay9 v (ix2 r k) = silu (v (ix2 r k)) := by
  pointwise [k0_pay9]
  unfold silu; rw [zero_sub]

theorem p10 (v : FVec Ideal S128x1536 .f32) (r : Fin 128) (c : Fin 1024) :
    k0_pay10 v (ix2 r c) = silu (v (ix2 r ⟨c.val, by omega⟩)) := by
  pointwise [k0_pay10]
  rw [p9]

theorem p11 (v : FVec Ideal S128x1536 .f32) (r n : Fin 128) :
    k0_pay11 v (ix2 r n) = silu (v (ix2 r ⟨1024 + 0 * 128 + n.val, by omega⟩)) := by
  pointwise [k0_pay11]
  rw [p9]

theorem p12 (v : FVec Ideal S128x1536 .f32) (r n : Fin 128) :
    k0_pay12 v (ix2 r n) = silu (v (ix2 r ⟨1024 + 1 * 128 + n.val, by omega⟩)) := by
  pointwise [k0_pay12]
  rw [p9]

theorem p13 (v : FVec Ideal S128x1536 .f32) (r n : Fin 128) :
    k0_pay13 v (ix2 r n) = silu (v (ix2 r ⟨1280 + 0 * 128 + n.val, by omega⟩)) := by
  pointwise [k0_pay13]
  rw [p9]

theorem p14 (v : FVec Ideal S128x1536 .f32) (r n : Fin 128) :
    k0_pay14 v (ix2 r n) = silu (v (ix2 r ⟨1280 + 1 * 128 + n.val, by omega⟩)) := by
  pointwise [k0_pay14]
  rw [p9]

theorem p15 (v51 : Vec Ideal S128x128 .f32) (v52 : Vec Ideal S1x128 .f32) (r k : Fin 128) :
    k0_pay15 v51 v52 (ix2 r k) = softplus (v51 (ix2 r k) + v52 (ix2 0 k)) := by
  pointwise [k0_pay15]
  unfold softplus; rw [zero_sub]; rfl

theorem p16 (v51 : Vec Ideal S128x128 .f32) (v52 v66 : Vec Ideal S1x128 .f32) (r k : Fin 128) :
    k0_pay16 v51 v52 v66 (ix2 r k) = softplus (v51 (ix2 r k) + v52 (ix2 0 k)) * -(Ideal.exp (v66 (ix2 0 k))) := by
  pointwise [k0_pay16]
  rw [p15, zero_sub]

/-! ## The running sums -/

theorem p18 (v : FVec Ideal S128x128 .f32) (r k : Fin 128) (hv : ∀ s, v (ix2 s k) ≠ (⊤ : EReal)) :
    k0_pay18 v rowIota (ix2 r k) = ∑ s : Fin 128, if s ≤ r then v (ix2 s k) else 0 := by
  pointwise [k0_pay18, k0_pay17]
  simp only [fun x : Fin 128 => sle_val x.val r.val x.isLt r.isLt, ← Finset.sum_add_distrib, ite_mul, one_mul, zero_mul]
  refine Finset.sum_congr rfl fun s _ => ?_
  by_cases h : s.val ≤ r.val
  · simp only [if_pos h, if_pos (show s ≤ r from h)]; exact three_pieces (hv s)
  · simp only [if_neg h, if_neg (show ¬ s ≤ r from h), add_zero]

theorem p19 (v : FVec Ideal S128x128 .f32) (r k : Fin 128) (hv : k0_pay18 v rowIota (ix2 r k) ≠ (⊤ : EReal)) :
    k0_pay19 v rowIota (ix2 k r) = k0_pay18 v rowIota (ix2 r k) := by
  pointwise [k0_pay19]
  have h : ∀ x : Fin 128, _ = if x = r then (1 : EReal) else 0 := fun x =>
    (eq_val x.val r.val x.isLt r.isLt).trans (by simp only [Fin.ext_iff])
  rw [sum_onehot (fun x => k0_pay18 v rowIota (ix2 x k)) _ r h,
    sum_onehot (fun x => k0_pay18 v rowIota (ix2 x k) - k0_pay18 v rowIota (ix2 x k)) _ r h,
    sum_onehot (fun x => k0_pay18 v rowIota (ix2 x k) - k0_pay18 v rowIota (ix2 x k)
      - (k0_pay18 v rowIota (ix2 x k) - k0_pay18 v rowIota (ix2 x k))) _ r h]
  exact three_pieces hv

theorem p20 (v : FVec Ideal S128x128 .f32) (v') (k : Fin 128) : k0_pay20 v v' (ix2 0 k) = k0_pay18 v v' (ix2 127 k) := by
  pointwise [k0_pay20]

/-! ## Spreading a head's value over its columns -/

/-- A 0/1 matrix whose column `c` holds its one in row `c / 64`. -/
def IsSpread (e : Fin 128 → Fin 1024 → EReal) : Prop := ∀ k c, e k c = if k.val = c.val / 64 then 1 else 0

/-- The lane of the head that owns a column. -/
def ln (c : Fin 1024) : Fin 128 := ⟨c.val / 64, by omega⟩

/-- Spreading a value in two pieces gives the value back where it is not `⊤`. -/
theorem sum_spread {e : Fin 128 → Fin 1024 → EReal} (he : IsSpread e) (f : Fin 128 → EReal) (c : Fin 1024) (hf : f (ln c) ≠ ⊤) :
    ∑ x, f x * e x c + ∑ x, (f x - f x) * e x c = f (ln c) := by
  have h : ∀ x, e x c = if x = ln c then 1 else 0 := fun x => by rw [he]; simp only [Fin.ext_iff, ln]
  rw [sum_onehot f _ _ h, sum_onehot (fun x => f x - f x) _ _ h, add_sub_self_of_ne_top hf]

theorem p24 (c : FVec Ideal S128x128 .f32) (l : FVec Ideal S1x128 .f32) (e : Vec Ideal S128x1024 .bf16)
    (he : IsSpread fun k c => e (ix2 k c)) (r : Fin 128) (k : Fin 1024)
    (ht : Ideal.exp (l (ix2 0 (ln k)) - c (ix2 r (ln k))) ≠ ⊤) :
    k0_pay24 c l e e (ix2 r k) = Ideal.exp (l (ix2 0 (ln k)) - c (ix2 r (ln k))) := by
  pointwise [k0_pay24]
  exact sum_spread he (fun x => Ideal.exp (l (ix2 0 x) - c (ix2 r x))) k ht

theorem p25 (c : FVec Ideal S128x128 .f32) (e : Vec Ideal S128x1024 .bf16)
    (he : IsSpread fun k c => e (ix2 k c)) (r : Fin 128) (k : Fin 1024) (ht : Ideal.exp (c (ix2 r (ln k))) ≠ ⊤) :
    k0_pay25 c e e (ix2 r k) = Ideal.exp (c (ix2 r (ln k))) := by
  pointwise [k0_pay25]
  exact sum_spread he (fun x => Ideal.exp (c (ix2 r x))) k ht

theorem p26 (v : FVec Ideal S128x128 .f32) (x : FVec Ideal S128x1024 .f32) (e : Vec Ideal S128x1024 .bf16)
    (he : IsSpread fun k c => e (ix2 k c)) (r : Fin 128) (k : Fin 1024) (ht : v (ix2 r (ln k)) ≠ (⊤ : EReal)) :
    k0_pay26 x (k0_pay22 v) (k0_pay23 v e) e (ix2 r k) = x (ix2 r k) * v (ix2 r (ln k)) := by
  pointwise [k0_pay26, k0_pay22, k0_pay23, k0_pay21]
  exact congrArg (x (ix2 r k) * ·) (sum_spread he (fun l => v (ix2 r l)) k ht)

theorem p30 (v : FVec Ideal S128x128 .f32) (e : Vec Ideal S1024x128 .bf16)
    (he : IsSpread fun k c => e (ix2 c k)) (c : Fin 1024) (n : Fin 128) (ht : Ideal.exp (v (ix2 (ln c) 127)) ≠ ⊤) :
    k0_pay30 (k0_pay28 v) (k0_pay29 v) e e (ix2 c n) = Ideal.exp (v (ix2 (ln c) 127)) := by
  pointwise [k0_pay30, k0_pay28, k0_pay29, k0_pay27]
  simp only [mul_comm (e _)]
  exact sum_spread (e := fun k c => e (ix2 c k)) he (fun x => Ideal.exp (v (ix2 x 127))) c ht

theorem p31 (b k : FVec Ideal S128x128 .bf16) (l s : Fin 128) :
    k0_pay31 b k (ix2 l s) = ∑ n : Fin 128, k (ix2 l n) * b (ix2 s n) := by
  pointwise [k0_pay31]

theorem p32 (b k : FVec Ideal S128x128 .bf16) (l s : Fin 128) :
    k0_pay32 b k (ix2 l s) = ∑ n : Fin 128, k (ix2 l n) * b (ix2 s n) := by
  pointwise [k0_pay32]

/-! ## Two heads in one product -/

/-- Columns `128 q + p` of the chunk's own contribution, from the products `cb`, the running sums `c` (token by head) and `m`
    (head by token) and the scaled input. -/
def yPiece (cb c m : FVec Ideal S128x128 .f32) (xd : FVec Ideal S128x1024 .f32) (q : Fin 8) (l p : Fin 128) : EReal :=
  ∑ s : Fin 128, if p.val < 64
    then cb (ix2 l s) * Ideal.exp (if s.val ≤ l.val then c (ix2 l ⟨2 * q.val, by omega⟩) - m (ix2 ⟨2 * q.val, by omega⟩ s) else ⊥)
      * xd (ix2 s ⟨128 * q.val + p.val, by omega⟩)
    else cb (ix2 l s) * Ideal.exp (if s.val ≤ l.val then c (ix2 l ⟨2 * q.val + 1, by omega⟩) - m (ix2 ⟨2 * q.val + 1, by omega⟩ s) else ⊥)
      * xd (ix2 s ⟨128 * q.val + p.val, by omega⟩)

/-- The two halves of a paired product, of which the lane keeps one. -/
theorem pair_sum (l p : Fin 128) (f g u v y : Fin 128 → EReal) :
    ∑ x : Fin 128, Scalar.select (IntOp.cmpi CmpIPredicate.slt (BitVec.ofNat 32 p.val) 64#32)
        (f x * Ideal.exp (Scalar.select (IntOp.cmpi CmpIPredicate.sle (BitVec.ofNat 32 x.val) (BitVec.ofNat 32 l.val)) (u x)
          (Named.named κ "mask" 0xF149F2CA#32 : Idealize.ShloMosaic.Ideal .f32)) * y x) 0
      + ∑ x : Fin 128, Scalar.select (IntOp.cmpi CmpIPredicate.slt (BitVec.ofNat 32 p.val) 64#32) 0
        (g x * Ideal.exp (Scalar.select (IntOp.cmpi CmpIPredicate.sle (BitVec.ofNat 32 x.val) (BitVec.ofNat 32 l.val)) (v x)
          (Named.named κ "mask" 0xF149F2CA#32 : Idealize.ShloMosaic.Ideal .f32)) * y x)
      = ∑ x : Fin 128, if p.val < 64 then f x * Ideal.exp (if x.val ≤ l.val then u x else ⊥) * y x
        else g x * Ideal.exp (if x.val ≤ l.val then v x else ⊥) * y x := by
  simp only [select_slt p.val p.isLt, fun x : Fin 128 => select_sle x.val l.val x.isLt l.isLt, mask_eq]
  by_cases h : p.val < 64 <;> simp [h]

section Pairs

variable (b k : FVec Ideal S128x128 .bf16) (cb c m : FVec Ideal S128x128 .f32) (xd : FVec Ideal S128x1024 .f32) (l p : Fin 128)

theorem y0 : k0_pay48 xd (k0_pay33 b k (k0_pay17 rowIota) c m) (ix2 l p) = yPiece (k0_pay31 b k) c m xd 0 l p := by
  pointwise [k0_pay48, k0_pay33, k0_pay17, yPiece]
  exact pair_sum ..

theorem y1 : k0_pay51 (k0_pay36 (k0_pay31 b k) (k0_pay34 b k (k0_pay17 rowIota) c m) (k0_pay35 (k0_pay17 rowIota) c m))
    (k0_pay49 xd) k0_pay50 (Scalar.ofBits .f32 0#32) (ix2 l p) = yPiece (k0_pay31 b k) c m xd 1 l p := by
  pointwise [k0_pay51, k0_pay49, k0_pay50, k0_pay34, k0_pay35, k0_pay36, k0_pay17, yPiece]
  exact pair_sum ..

theorem y2 : k0_pay52 xd (k0_pay37 (k0_pay17 rowIota) c m cb) (ix2 l p) = yPiece cb c m xd 2 l p := by
  pointwise [k0_pay52, k0_pay37, k0_pay17, yPiece]
  exact pair_sum ..

theorem y3 : k0_pay53 xd (k0_pay38 (k0_pay17 rowIota) c m cb) (ix2 l p) = yPiece cb c m xd 3 l p := by
  pointwise [k0_pay53, k0_pay38, k0_pay17, yPiece]
  exact pair_sum ..

theorem y4 : k0_pay54 xd (k0_pay42 (k0_pay17 rowIota) cb (k0_pay39 (k0_pay17 rowIota) c m cb) (k0_pay40 m) (k0_pay41 c))
    (ix2 l p) = yPiece cb c m xd 4 l p := by
  pointwise [k0_pay54, k0_pay39, k0_pay40, k0_pay41, k0_pay42, k0_pay17, yPiece]
  exact pair_sum ..

theorem y5 : k0_pay57 (k0_pay43 (k0_pay17 rowIota) c m cb) (k0_pay55 xd) k0_pay56 (Scalar.ofBits .f32 0#32) (ix2 l p)
    = yPiece cb c m xd 5 l p := by
  pointwise [k0_pay57, k0_pay43, k0_pay55, k0_pay56, k0_pay17, yPiece]
  exact pair_sum ..

theorem y6 : k0_pay58 xd (k0_pay44 (k0_pay17 rowIota) c m cb) (ix2 l p) = yPiece cb c m xd 6 l p := by
  pointwise [k0_pay58, k0_pay44, k0_pay17, yPiece]
  exact pair_sum ..

theorem y7 : k0_pay59 xd (k0_pay47 (k0_pay17 rowIota) c m cb (k0_pay45 c m) k0_pay46) (ix2 l p)
    = yPiece cb c m xd 7 l p := by
  pointwise [k0_pay59, k0_pay45, k0_pay46, k0_pay47, k0_pay17, yPiece]
  exact pair_sum ..

end Pairs

/-! ## The entering state's contribution and the state leaving the chunk -/

/-- Columns `128 q + p` of `C` times the entering state. -/
def oPiece (k hq : FVec Ideal S128x128 .f32) (l p : Fin 128) : EReal := ∑ n : Fin 128, k (ix2 l n) * hq (ix2 p n)

/-- Rows `128 q + p` of the state leaving the chunk. -/
def hPiece (b : FVec Ideal S128x128 .bf16) (dte xd : FVec Ideal S128x1024 .f32) (dec : FVec Ideal S1024x128 .f32)
    (hq : Vec Ideal S128x128 .f32) (q : Fin 8) (p n : Fin 128) : EReal :=
  dec (ix2 ⟨128 * q.val + p.val, by omega⟩ n) * hq (ix2 p n)
    + ∑ s : Fin 128, xd (ix2 s ⟨128 * q.val + p.val, by omega⟩) * dte (ix2 s ⟨128 * q.val + p.val, by omega⟩) * b (ix2 s n)

section State

variable (k : FVec Ideal S128x128 .bf16) (hq : Vec Ideal S128x128 .f32) (l p n : Fin 128)

theorem o0 : k0_pay60 k hq (ix2 l p) = oPiece k hq l p := by pointwise [k0_pay60, oPiece]
theorem o1 : k0_pay61 k hq (ix2 l p) = oPiece k hq l p := by pointwise [k0_pay61, oPiece]
theorem o2 : k0_pay62 k hq (ix2 l p) = oPiece k hq l p := by pointwise [k0_pay62, oPiece]
theorem o3 : k0_pay63 k hq (ix2 l p) = oPiece k hq l p := by pointwise [k0_pay63, oPiece]
theorem o4 : k0_pay64 k hq (ix2 l p) = oPiece k hq l p := by pointwise [k0_pay64, oPiece]
theorem o5 : k0_pay65 k hq (ix2 l p) = oPiece k hq l p := by pointwise [k0_pay65, oPiece]
theorem o6 : k0_pay66 k hq (ix2 l p) = oPiece k hq l p := by pointwise [k0_pay66, oPiece]
theorem o7 : k0_pay67 k hq (ix2 l p) = oPiece k hq l p := by pointwise [k0_pay67, oPiece]

variable (b : FVec Ideal S128x128 .bf16) (dte xd : FVec Ideal S128x1024 .f32) (dec : FVec Ideal S1024x128 .f32)

theorem h0 : k0_pay75 b dte xd dec hq (ix2 p n) = hPiece b dte xd dec hq 0 p n := by pointwise [k0_pay75, hPiece]
theorem h1 : k0_pay76 dec hq (k0_pay68 b dte xd) (ix2 p n) = hPiece b dte xd dec hq 1 p n := by
  pointwise [k0_pay76, k0_pay68, hPiece]
theorem h2 : k0_pay77 dec hq (k0_pay69 b dte xd) (ix2 p n) = hPiece b dte xd dec hq 2 p n := by
  pointwise [k0_pay77, k0_pay69, hPiece]
theorem h3 : k0_pay78 dec hq (k0_pay70 b dte xd) (ix2 p n) = hPiece b dte xd dec hq 3 p n := by
  pointwise [k0_pay78, k0_pay70, hPiece]
theorem h4 : k0_pay79 dec hq (k0_pay71 b dte xd) (ix2 p n) = hPiece b dte xd dec hq 4 p n := by
  pointwise [k0_pay79, k0_pay71, hPiece]
theorem h5 : k0_pay80 dec hq (k0_pay72 b dte xd) (ix2 p n) = hPiece b dte xd dec hq 5 p n := by
  pointwise [k0_pay80, k0_pay72, hPiece]
theorem h6 : k0_pay81 dec hq (k0_pay73 b dte xd) (ix2 p n) = hPiece b dte xd dec hq 6 p n := by
  pointwise [k0_pay81, k0_pay73, hPiece]
theorem h7 : k0_pay83 (k0_pay82 dec hq (k0_pay74 b dte xd)) (ix2 p n) = hPiece b dte xd dec hq 7 p n := by
  pointwise [k0_pay83, k0_pay82, k0_pay74, hPiece]

end State

/-! ## Gate and norm -/

/-- The gated output, given each piece of 128 columns as `G`. -/
theorem p85 (x e : FVec Ideal S128x1024 .f32) (a0 a1 a2 a3 a4 a5 a6 a7 b0 b1 b2 b3 b4 b5 b6 b7 : FVec Ideal S128x128 .f32)
    (z : Vec Ideal S128x1024 .f32) (d : Vec Ideal S1x1024 .f32) (G : Fin 128 → Fin 1024 → EReal) (l : Fin 128)
    (g0 : ∀ (p : Fin 128) (c : Fin 1024), c.val = 128 * 0 + p.val → a0 (ix2 l p) + b0 (ix2 l p) * e (ix2 l c) = G l c)
    (g1 : ∀ (p : Fin 128) (c : Fin 1024), c.val = 128 * 1 + p.val → a1 (ix2 l p) + b1 (ix2 l p) * e (ix2 l c) = G l c)
    (g2 : ∀ (p : Fin 128) (c : Fin 1024), c.val = 128 * 2 + p.val → a2 (ix2 l p) + b2 (ix2 l p) * e (ix2 l c) = G l c)
    (g3 : ∀ (p : Fin 128) (c : Fin 1024), c.val = 128 * 3 + p.val → a3 (ix2 l p) + b3 (ix2 l p) * e (ix2 l c) = G l c)
    (g4 : ∀ (p : Fin 128) (c : Fin 1024), c.val = 128 * 4 + p.val → a4 (ix2 l p) + b4 (ix2 l p) * e (ix2 l c) = G l c)
    (g5 : ∀ (p : Fin 128) (c : Fin 1024), c.val = 128 * 5 + p.val → a5 (ix2 l p) + b5 (ix2 l p) * e (ix2 l c) = G l c)
    (g6 : ∀ (p : Fin 128) (c : Fin 1024), c.val = 128 * 6 + p.val → a6 (ix2 l p) + b6 (ix2 l p) * e (ix2 l c) = G l c)
    (g7 : ∀ (p : Fin 128) (c : Fin 1024), c.val = 128 * 7 + p.val → a7 (ix2 l p) + b7 (ix2 l p) * e (ix2 l c) = G l c)
    (c : Fin 1024) :
    k0_pay85 x e a0 a1 a2 a3 a4 a5 a6 a7 b0 b1 b2 b3 b4 b5 b6 b7 z d (ix2 l c)
      = (G l c + d (ix2 0 c) * x (ix2 l c)) * silu (z (ix2 l c)) := by
  pointwise [k0_pay85]
  unfold silu
  rw [zero_sub]
  refine congrArg (fun y => (y + d (ix2 0 c) * x (ix2 l c)) * _) ?_
  split
  · exact g0 _ _ (by dsimp only; omega)
  split
  · exact (g1 _ _ (by dsimp only)).trans (congrArg (G l) (Fin.ext (by dsimp only; omega)))
  split
  · exact (g2 _ _ (by dsimp only)).trans (congrArg (G l) (Fin.ext (by dsimp only; omega)))
  split
  · exact (g3 _ _ (by dsimp only)).trans (congrArg (G l) (Fin.ext (by dsimp only; omega)))
  split
  · exact (g4 _ _ (by dsimp only)).trans (congrArg (G l) (Fin.ext (by dsimp only; omega)))
  split
  · exact (g5 _ _ (by dsimp only)).trans (congrArg (G l) (Fin.ext (by dsimp only; omega)))
  split
  · exact (g6 _ _ (by dsimp only)).trans (congrArg (G l) (Fin.ext (by dsimp only; omega)))
  · exact (g7 _ _ (by dsimp only)).trans (congrArg (G l) (Fin.ext (by dsimp only; omega)))

theorem p1 (x e : FVec Ideal S128x1024 .f32) (a0 a1 a2 a3 a4 a5 a6 a7 b0 b1 b2 b3 b4 b5 b6 b7 : FVec Ideal S128x128 .f32)
    (z : Vec Ideal S128x1024 .f32) (d gn : Vec Ideal S1x1024 .f32) (w : Fin 128 → Fin 1024 → EReal) (l : Fin 128)
    (hw : ∀ c, k0_pay85 x e a0 a1 a2 a3 a4 a5 a6 a7 b0 b1 b2 b3 b4 b5 b6 b7 z d (ix2 l c) = w l c) (c : Fin 1024) :
    k0_pay1 (k0_pay84 gn) (k0_pay85 x e a0 a1 a2 a3 a4 a5 a6 a7 b0 b1 b2 b3 b4 b5 b6 b7 z d)
      (k0_pay86 x e a0 a1 a2 a3 a4 a5 a6 a7 b0 b1 b2 b3 b4 b5 b6 b7 z d)
      (k0_pay87 x e a0 a1 a2 a3 a4 a5 a6 a7 b0 b1 b2 b3 b4 b5 b6 b7 z d) (Scalar.ofBits .f32 0x44000000#32) (ix2 l c)
      = normed (fun c => gn (ix2 0 c)) (w l) c := by
  pointwise [k0_pay1, k0_pay84, k0_pay86, k0_pay87]
  simp only [hw]
  unfold normed sumSq
  refine congrArg (· * gn (ix2 0 c)) ?_
  split
  · rename_i h
    refine congrArg (fun y => w l c * Ideal.rsqrt (Ideal.div y _ + _)) (Finset.sum_congr rfl fun k _ => ?_)
    exact congrArg (fun i => w l i * w l i) (Fin.ext (by dsimp only at h ⊢; omega))
  · rename_i h
    refine congrArg₂ (fun i y => w l i * Ideal.rsqrt (Ideal.div y _ + _)) (Fin.ext (by dsimp only at h ⊢; omega))
      (Finset.sum_congr rfl fun k _ => ?_)
    exact congrArg (fun i => w l i * w l i) (Fin.ext (by dsimp only at h ⊢; omega))

/-! ## The convolution -/

theorem p7 (b w0 w1 w2 w3 : Vec Ideal S1x1536 .f32) (e5 e6 e7 e8 : Vec Ideal S128x1536 .f32) (r : Fin 128) (k : Fin 1536) :
    k0_pay7 b w3 e8 w0 e5 w1 e6 w2 e7 (ix2 r k)
      = b (ix2 0 k) + w3 (ix2 0 k) * e8 (ix2 r k) + w0 (ix2 0 k) * e5 (ix2 r k) + w1 (ix2 0 k) * e6 (ix2 r k)
        + w2 (ix2 0 k) * e7 (ix2 r k) := by
  pointwise [k0_pay7]

theorem p6 (x : Vec Ideal S128x1536 .f32) : k0_pay6 x = x := by
  unfold k0_pay6; exact shapeCast_self ..

theorem p8 (x : Vec Ideal S8x1536 .f32) : k0_pay8 x = x := by
  unfold k0_pay8; exact shapeCast_self ..

theorem p4 (r k) : k0_pay4 (F := Ideal) (ix2 r k) = (0 : EReal) := by pointwise [k0_pay4]

theorem p5 (r k) : k0_pay5 (F := Ideal) (ix2 r k) = (0 : EReal) := by pointwise [k0_pay5]

theorem p2 (x : Vec Ideal S3x1536 .f32) (i : Fin 3) (k : Fin 1536) : k0_pay2 x (ix3 0 i k) = x (ix2 i k) := by
  pointwise [k0_pay2]

theorem p3 (x : Vec Ideal S1024x128 .f32) (c : Fin 1024) (n : Fin 128) : k0_pay3 x (ix3 0 c n) = x (ix2 c n) := by
  pointwise [k0_pay3]

end Cert.KPay

end
-- ==== Proof.Ssd.Blk.lean ====
/-
  THE BLOCKS A GRID POINT READS, as the arguments' elements: point `t` reads rows `128 t … 128 t + 127` of the projected columns,
  the gate and the raw steps, and the whole of every parameter; the padded step biases and rates hold the arguments on lanes below
  16, the skip weights are repeated over a head's 64 columns, and the two spreading matrices are 0/1.
-/
module

public import proofs.«01_k».proof.Proof.Gen.KernelIdeal.Value
public import Idealize.ShloMosaic.Lib.Claim
public import Idealize.ShloMosaic.Lib.Pipeline.ValueKit
public import Idealize.ShloMosaic.Lib.StableHlo.ReadAt
public import proofs.«01_k».proof.Proof.Ssd.Pay

@[expose] public section

set_option maxRecDepth 16384

noncomputable section

namespace Cert.KBlk

open Idealize.ShloMosaic Idealize.ShloMosaic.TcCoe Idealize.SL.Sem
open Cert.KernelIdeal Cert.KernelIdeal.Gen Cert.KPay

variable (m : (ℓ : Loc nD τ sig) → Buf (Elt Ideal) ℓ) (c : Dev nD) (t : Fin cfg0.N)

theorem t_lt : t.val < 128 := lt_of_lt_of_eq t.isLt N_0

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)

theorem z3 (a : Fin 2) : win0_3.index t a = 0 := by fin_cases a <;> rfl
theorem z4 (a : Fin 2) : win0_4.index t a = 0 := by fin_cases a <;> rfl
theorem z5 (a : Fin 2) : win0_5.index t a = 0 := by fin_cases a <;> rfl
theorem z6 (a : Fin 2) : win0_6.index t a = 0 := by fin_cases a <;> rfl
theorem z7 (a : Fin 2) : win0_7.index t a = 0 := by fin_cases a <;> rfl
theorem z8 (a : Fin 2) : win0_8.index t a = 0 := by fin_cases a <;> rfl
theorem z9 (a : Fin 2) : win0_9.index t a = 0 := by fin_cases a <;> rfl
theorem z10 (a : Fin 2) : win0_10.index t a = 0 := by fin_cases a <;> rfl

/-- The column's head, as the words of the printed floor division. -/
theorem head_word : ∀ j : Fin 1024, Scalar.select
          (IntOp.andi
            (IntOp.cmpi CmpIPredicate.ne
              (if BitVec.ofNat 32 j.val = 0 then 0 else if (BitVec.ofNat 32 j.val).msb = true then -1 else 1)
              (if (64#32 : BitVec 32) = 0 then 0 else if BitVec.msb (64#32 : BitVec 32) = true then -1 else (1 : BitVec 32)))
            (IntOp.cmpi CmpIPredicate.ne (IntOp.remsi ArithUnit.host (BitVec.ofNat 32 j.val) 64#32) 0#32))
          (IntOp.subi (IntOp.divsi ArithUnit.host (BitVec.ofNat 32 j.val) 64#32) 1#32)
          (IntOp.divsi ArithUnit.host (BitVec.ofNat 32 j.val) 64#32) = BitVec.ofNat 32 (j.val / 64) := by
  decide +kernel

/-- The 0/1 entry as the comparison's value. -/
theorem spread_val (k : Fin 128) (j : Fin 1024) :
    (FloatOps.uitofp FTy.bf16 (IntOp.cmpi CmpIPredicate.eq (BitVec.ofNat 32 k.val) (BitVec.ofNat 32 (j.val / 64))) :
      Idealize.ShloMosaic.Ideal .bf16) = if k.val = j.val / 64 then (1 : EReal) else 0 := by
  rw [WordCmp.cmpi_eq_ofNat (by omega) (by omega)]
  by_cases h : k.val = j.val / 64
  · simp only [h, if_true]; show (((1 : Nat) : ℝ) : EReal) = 1; norm_num
  · simp only [h, if_false]; show (((0 : Nat) : ℝ) : EReal) = 0; norm_num

theorem b0 (r : Fin 128) (k : Fin 1536) : iblk m c 0 t (ix2 r k)
    = m ((c : Thread nD τ).loc main_arg0) (ix2 ⟨128 * t.val + r.val, by have := t_lt t; omega⟩ k) := by
  obtain ⟨e0, e1⟩ := idx0 t
  blk_ext [iblk, V_main_arg0, e0, e1]

theorem b1 (r : Fin 128) (k : Fin 1024) : iblk m c 1 t (ix2 r k)
    = m ((c : Thread nD τ).loc main_arg1) (ix2 ⟨128 * t.val + r.val, by have := t_lt t; omega⟩ k) := by
  obtain ⟨e0, e1⟩ := idx1 t
  blk_ext [iblk, V_main_arg1, e0, e1]

theorem b2 (r : Fin 128) (k : Fin 128) : iblk m c 2 t (ix2 r k)
    = m ((c : Thread nD τ).loc main_arg2) (ix2 ⟨128 * t.val + r.val, by have := t_lt t; omega⟩ k) := by
  obtain ⟨e0, e1⟩ := idx2 t
  blk_ext [iblk, V_main_arg2, e0, e1]

theorem b3 (r : Fin 4) (k : Fin 1536) : iblk m c 3 t (ix2 r k) = m ((c : Thread nD τ).loc main_arg3) (ix2 r k) := by
  blk_ext [iblk, V_main_arg3, z3 t]

theorem b4 (k : Fin 1536) : iblk m c 4 t (ix2 0 k) = m ((c : Thread nD τ).loc main_arg4) (ix1 k) := by
  trans V m c main_v9 (ix2 0 k)
  · blk_ext [iblk, z4 t]
  · unfold V; after_reads_at

theorem b5 (k : Fin 16) : iblk m c 5 t (ix2 0 ⟨k.val, by omega⟩) = m ((c : Thread nD τ).loc main_arg5) (ix1 k) := by
  trans V m c main_v11 (ix2 0 ⟨k.val, by omega⟩)
  · blk_ext [iblk, z5 t]
  · unfold V; after_reads_at

theorem b6 (k : Fin 16) : iblk m c 6 t (ix2 0 ⟨k.val, by omega⟩) = m ((c : Thread nD τ).loc main_arg6) (ix1 k) := by
  trans V m c main_v13 (ix2 0 ⟨k.val, by omega⟩)
  · blk_ext [iblk, z6 t]
  · unfold V; after_reads_at

theorem b7 (k : Fin 1024) : iblk m c 7 t (ix2 0 k) = m ((c : Thread nD τ).loc main_arg7) (ix1 ⟨k.val / 64, by omega⟩) := by
  trans V m c main_v16 (ix2 0 k)
  · blk_ext [iblk, z7 t]
  · unfold V; after_reads_at

theorem b8 (k : Fin 1024) : iblk m c 8 t (ix2 0 k) = m ((c : Thread nD τ).loc main_arg8) (ix1 k) := by
  trans V m c main_v17 (ix2 0 k)
  · blk_ext [iblk, z8 t]
  · unfold V; after_reads_at

theorem b9 : IsSpread fun k j => iblk m c 9 t (ix2 k j) := fun k j => by
  trans V m c main_v8 (ix2 k j)
  · blk_ext [iblk, z9 t]
  · unfold V; after_reads_at
    exact (congrArg (fun w => FloatOps.uitofp (F := Idealize.ShloMosaic.Ideal) FTy.bf16 (IntOp.cmpi CmpIPredicate.eq (BitVec.ofNat 32 k.val) w))
      (head_word j)).trans (spread_val k j)

theorem b10 : IsSpread fun k j => iblk m c 10 t (ix2 j k) := fun k j => by
  trans V m c main_v18 (ix2 j k)
  · blk_ext [iblk, z10 t]
  · unfold V; after_reads_at
    exact (congrArg (fun w => FloatOps.uitofp (F := Idealize.ShloMosaic.Ideal) FTy.bf16 (IntOp.cmpi CmpIPredicate.eq (BitVec.ofNat 32 k.val) w))
      (head_word j)).trans (spread_val k j)

end Cert.KBlk

end
-- ==== Proof.Ssd.Body.lean ====
/-
  THE KERNEL'S BODY AS FUNCTIONS of the blocks it reads: `x0 … x10` the input blocks in the call's order (the projected columns,
  the gate, the raw steps, the taps, the bias, the step bias, the log rates, the skip, the norm's weight, the two 0/1 spreading
  matrices), `E` the extended buffer after the chunk's rows are stored into it, `H` the state entering the chunk. The names stand
  for the payloads of the printed body; the file holds no arithmetic of its own.
-/
module

public import proofs.«01_k».proof.Proof.Ssd.Pay

@[expose] public section

set_option maxRecDepth 16384

noncomputable section

namespace Cert.KBody

open Idealize.ShloMosaic Idealize.SL.Sem
open Cert.KernelIdeal Cert.KernelIdeal.Gen Cert.KPay

variable (x0 : Vec Ideal S128x1536 .f32) (x1 : Vec Ideal S128x1024 .f32) (x2 : Vec Ideal S128x128 .f32)
variable (x3 : Vec Ideal S4x1536 .f32) (x4 : Vec Ideal S1x1536 .f32) (x5 x6 : Vec Ideal S1x128 .f32)
variable (x7 x8 : Vec Ideal S1x1024 .f32) (x9 : Vec Ideal S128x1024 .bf16) (x10 : Vec Ideal S1024x128 .bf16)
variable (E : Vec Ideal S136x1536 .f32) (H : Vec Ideal S1024x128 .f32)

/-- The convolution with its bias. -/
def pre : FVec Ideal S128x1536 .f32 :=
  k0_pay7 x4 (View.ld x3 (Rect.unit ![3, 0] ![1, 1536] inb_S4x1536_S1x1536_3_0)) (k0_pay6 x0)
    (View.ld x3 (Rect.unit ![0, 0] ![1, 1536] inb_S4x1536_S1x1536_0_0))
    (View.ld E (Rect.unit ![5, 0] ![128, 1536] inb_S136x1536_S128x1536_5_0))
    (View.ld x3 (Rect.unit ![1, 0] ![1, 1536] inb_S4x1536_S1x1536_1_0))
    (View.ld E (Rect.unit ![6, 0] ![128, 1536] inb_S136x1536_S128x1536_6_0))
    (View.ld x3 (Rect.unit ![2, 0] ![1, 1536] inb_S4x1536_S1x1536_2_0))
    (View.ld E (Rect.unit ![7, 0] ![128, 1536] inb_S136x1536_S128x1536_7_0))

variable (u : FVec Ideal S128x1536 .f32)

/-- The step sizes. -/
def dt : FVec Ideal S128x128 .f32 := k0_pay15 x2 x5
/-- The log decays. -/
def da : FVec Ideal S128x128 .f32 := k0_pay16 x2 x5 x6
/-- Their running sums, token by head. -/
def cum : FVec Ideal S128x128 .f32 := k0_pay18 (da x2 x5 x6) rowIota
/-- Their running sums, head by token. -/
def cumT : FVec Ideal S128x128 .f32 := k0_pay19 (da x2 x5 x6) rowIota
/-- The decay from each token to the chunk's end, spread over the columns. -/
def toEnd : FVec Ideal S128x1024 .f32 := k0_pay24 (cum x2 x5 x6) (k0_pay20 (da x2 x5 x6) rowIota) x9 x9
/-- The decay from the chunk's start to each token, spread over the columns. -/
def fromStart : FVec Ideal S128x1024 .f32 := k0_pay25 (cum x2 x5 x6) x9 x9
/-- The input scaled by the step sizes. -/
def scaled : FVec Ideal S128x1024 .f32 := k0_pay26 (k0_pay10 u) (k0_pay22 (dt x2 x5)) (k0_pay23 (dt x2 x5) x9) x9
/-- The decay over the whole chunk, spread over the state's rows. -/
def decay : FVec Ideal S1024x128 .f32 := k0_pay30 (k0_pay28 (cumT x2 x5 x6)) (k0_pay29 (cumT x2 x5 x6)) x10 x10
/-- Rows of the entering state. -/
def rows (o : Nat) (inb : ∀ a, (![o, 0] : Fin 2 → Nat) a + (![128, 128] : Fin 2 → Nat) a ≤ S1024x128.size a) :
    Vec Ideal S128x128 .f32 := View.ld H (Rect.unit (s := S1024x128) ![o, 0] ![128, 128] inb)

/-- The gated output. -/
def gate {α : Type} (f : FVec Ideal S128x1024 .f32 → FVec Ideal S128x1024 .f32 → FVec Ideal S128x128 .f32 → FVec Ideal S128x128 .f32 →
      FVec Ideal S128x128 .f32 → FVec Ideal S128x128 .f32 → FVec Ideal S128x128 .f32 → FVec Ideal S128x128 .f32 →
      FVec Ideal S128x128 .f32 → FVec Ideal S128x128 .f32 → FVec Ideal S128x128 .f32 → FVec Ideal S128x128 .f32 →
      FVec Ideal S128x128 .f32 → FVec Ideal S128x128 .f32 → FVec Ideal S128x128 .f32 → FVec Ideal S128x128 .f32 →
      FVec Ideal S128x128 .f32 → FVec Ideal S128x128 .f32 → Vec Ideal S128x1024 .f32 → Vec Ideal S1x1024 .f32 → α) : α :=
  f (k0_pay10 u) (fromStart x2 x5 x6 x9)
    (k0_pay48 (scaled x2 x5 x9 u) (k0_pay33 (k0_pay11 u) (k0_pay13 u) (k0_pay17 rowIota) (cum x2 x5 x6) (cumT x2 x5 x6)))
    (k0_pay51 (k0_pay36 (k0_pay31 (k0_pay11 u) (k0_pay13 u))
        (k0_pay34 (k0_pay11 u) (k0_pay13 u) (k0_pay17 rowIota) (cum x2 x5 x6) (cumT x2 x5 x6))
        (k0_pay35 (k0_pay17 rowIota) (cum x2 x5 x6) (cumT x2 x5 x6)))
      (k0_pay49 (scaled x2 x5 x9 u)) k0_pay50 (Scalar.ofBits .f32 0#32))
    (k0_pay52 (scaled x2 x5 x9 u)
      (k0_pay37 (k0_pay17 rowIota) (cum x2 x5 x6) (cumT x2 x5 x6) (k0_pay31 (k0_pay11 u) (k0_pay13 u))))
    (k0_pay53 (scaled x2 x5 x9 u)
      (k0_pay38 (k0_pay17 rowIota) (cum x2 x5 x6) (cumT x2 x5 x6) (k0_pay31 (k0_pay11 u) (k0_pay13 u))))
    (k0_pay54 (scaled x2 x5 x9 u)
      (k0_pay42 (k0_pay17 rowIota) (k0_pay32 (k0_pay12 u) (k0_pay14 u))
        (k0_pay39 (k0_pay17 rowIota) (cum x2 x5 x6) (cumT x2 x5 x6) (k0_pay32 (k0_pay12 u) (k0_pay14 u)))
        (k0_pay40 (cumT x2 x5 x6)) (k0_pay41 (cum x2 x5 x6))))
    (k0_pay57 (k0_pay43 (k0_pay17 rowIota) (cum x2 x5 x6) (cumT x2 x5 x6) (k0_pay32 (k0_pay12 u) (k0_pay14 u)))
      (k0_pay55 (scaled x2 x5 x9 u)) k0_pay56 (Scalar.ofBits .f32 0#32))
    (k0_pay58 (scaled x2 x5 x9 u)
      (k0_pay44 (k0_pay17 rowIota) (cum x2 x5 x6) (cumT x2 x5 x6) (k0_pay32 (k0_pay12 u) (k0_pay14 u))))
    (k0_pay59 (scaled x2 x5 x9 u)
      (k0_pay47 (k0_pay17 rowIota) (cum x2 x5 x6) (cumT x2 x5 x6) (k0_pay32 (k0_pay12 u) (k0_pay14 u))
        (k0_pay45 (cum x2 x5 x6) (cumT x2 x5 x6)) k0_pay46))
    (k0_pay60 (k0_pay13 u) (rows H 0 inb_S1024x128_S128x128_0_0))
    (k0_pay61 (k0_pay13 u) (rows H 128 inb_S1024x128_S128x128_128_0))
    (k0_pay62 (k0_pay13 u) (rows H 256 inb_S1024x128_S128x128_256_0))
    (k0_pay63 (k0_pay13 u) (rows H 384 inb_S1024x128_S128x128_384_0))
    (k0_pay64 (k0_pay14 u) (rows H 512 inb_S1024x128_S128x128_512_0))
    (k0_pay65 (k0_pay14 u) (rows H 640 inb_S1024x128_S128x128_640_0))
    (k0_pay66 (k0_pay14 u) (rows H 768 inb_S1024x128_S128x128_768_0))
    (k0_pay67 (k0_pay14 u) (rows H 896 inb_S1024x128_S128x128_896_0))
    x1 x7

/-- The output block. -/
def outY : FVec Ideal S128x1024 .bf16 :=
  k0_pay1 (k0_pay84 x8) (gate x1 x2 x5 x6 x7 x9 H u k0_pay85) (gate x1 x2 x5 x6 x7 x9 H u k0_pay86)
    (gate x1 x2 x5 x6 x7 x9 H u k0_pay87) (Scalar.ofBits .f32 0x44000000#32)

/-- The eight stores of the state leaving the chunk, last first. -/
def stores : List (View.Piece (Elt Ideal) S1024x128 .f32) :=
  [⟨Rect.unit ![896, 0] ![128, 128] inb_S1024x128_S128x128_896_0,
      k0_pay83 (k0_pay82 (decay x2 x5 x6 x10) (rows H 896 inb_S1024x128_S128x128_896_0)
        (k0_pay74 (k0_pay12 u) (toEnd x2 x5 x6 x9) (scaled x2 x5 x9 u)))⟩,
    ⟨Rect.unit ![768, 0] ![128, 128] inb_S1024x128_S128x128_768_0,
      k0_pay81 (decay x2 x5 x6 x10) (rows H 768 inb_S1024x128_S128x128_768_0)
        (k0_pay73 (k0_pay12 u) (toEnd x2 x5 x6 x9) (scaled x2 x5 x9 u))⟩,
    ⟨Rect.unit ![640, 0] ![128, 128] inb_S1024x128_S128x128_640_0,
      k0_pay80 (decay x2 x5 x6 x10) (rows H 640 inb_S1024x128_S128x128_640_0)
        (k0_pay72 (k0_pay12 u) (toEnd x2 x5 x6 x9) (scaled x2 x5 x9 u))⟩,
    ⟨Rect.unit ![512, 0] ![128, 128] inb_S1024x128_S128x128_512_0,
      k0_pay79 (decay x2 x5 x6 x10) (rows H 512 inb_S1024x128_S128x128_512_0)
        (k0_pay71 (k0_pay12 u) (toEnd x2 x5 x6 x9) (scaled x2 x5 x9 u))⟩,
    ⟨Rect.unit ![384, 0] ![128, 128] inb_S1024x128_S128x128_384_0,
      k0_pay78 (decay x2 x5 x6 x10) (rows H 384 inb_S1024x128_S128x128_384_0)
        (k0_pay70 (k0_pay11 u) (toEnd x2 x5 x6 x9) (scaled x2 x5 x9 u))⟩,
    ⟨Rect.unit ![256, 0] ![128, 128] inb_S1024x128_S128x128_256_0,
      k0_pay77 (decay x2 x5 x6 x10) (rows H 256 inb_S1024x128_S128x128_256_0)
        (k0_pay69 (k0_pay11 u) (toEnd x2 x5 x6 x9) (scaled x2 x5 x9 u))⟩,
    ⟨Rect.unit ![128, 0] ![128, 128] inb_S1024x128_S128x128_128_0,
      k0_pay76 (decay x2 x5 x6 x10) (rows H 128 inb_S1024x128_S128x128_128_0)
        (k0_pay68 (k0_pay11 u) (toEnd x2 x5 x6 x9) (scaled x2 x5 x9 u))⟩,
    ⟨Rect.unit ![0, 0] ![128, 128] inb_S1024x128_S128x128_0_0,
      k0_pay75 (k0_pay11 u) (toEnd x2 x5 x6 x9) (scaled x2 x5 x9 u) (decay x2 x5 x6 x10)
        (rows H 0 inb_S1024x128_S128x128_0_0)⟩]

/-- The stores into the extended buffer, last first: the chunk's last eight rows come to stand before the next chunk's. -/
def extStores (L : List (View.Piece (Elt Ideal) S136x1536 .f32)) : List (View.Piece (Elt Ideal) S136x1536 .f32) :=
  ⟨Rect.unit ![0, 0] ![8, 1536] inb_S136x1536_S8x1536_0_0,
      k0_pay8 (View.ld (View.canon (⟨Rect.unit ![8, 0] ![128, 1536] inb_S136x1536_S128x1536_8_0, k0_pay6 x0⟩ :: L))
        (Rect.unit ![128, 0] ![8, 1536] inb_S136x1536_S8x1536_128_0))⟩ ::
    ⟨Rect.unit ![8, 0] ![128, 1536] inb_S136x1536_S128x1536_8_0, k0_pay6 x0⟩ :: L

end Cert.KBody

end
-- ==== Proof.Ssd.Outs.lean ====
/-
  WHAT A GRID POINT LEAVES, as the body's functions of its blocks: the first chunk of a sequence (`A`) starts from the zero tail and
  the zero state, the later ones (`B`, and `C` for the last, which also stores the two carried results) from what the point before
  left.
-/
module

public import proofs.«01_k».proof.Proof.Gen.KernelIdeal.Value
public import Idealize.ShloMosaic.Lib.Pipeline.ReadBack
public import Idealize.ShloMosaic.Lib.Pipeline.ValueKit
public import proofs.«01_k».proof.Proof.Ssd.Body

@[expose] public section

set_option maxRecDepth 16384

noncomputable section

namespace Cert.KOuts

open Idealize.ShloMosaic Idealize.SL.Sem
open Cert.KernelIdeal Cert.KernelIdeal.Gen Cert.KBody

variable (m : (ℓ : Loc nD τ sig) → Buf (Elt Ideal) ℓ) (c : Dev nD) (t : Fin cfg0.N)

/-- A load back out of a buffer that stores have filled reads the stores' canonical content. -/
theorem readCov_eq_ld {sig : RefSig} {κ : Kind} {sp : Space} {s : Shape} {e : EltTy} (v : View sig κ sp s e)
    (L : List (View.Piece (Elt Ideal) s e)) (r : Rect s) : v.readCov L r.toLoadRect = View.ld (View.canon L) r :=
  View.readCov_eq_canon' v L r

/-- The point before. -/
theorem pred_lt : t.val - 1 < cfg0.N := by have := t.isLt; omega

/-- The extended buffer after the chunk's rows are stored over what the point before left. -/
def extIn : Vec Ideal S136x1536 .f32 :=
  (View.whole cc0_scratch0).read (Elt Ideal) ((View.whole cc0_scratch0).writes (Elt Ideal)
    ((Memref.isWhole_whole cc0_scratch0).unread (outsAt0 m c (t.val - 1) (pred_lt t)).2.2.2.1)
    [⟨Rect.unit ![8, 0] ![128, 1536] inb_S136x1536_S128x1536_8_0, k0_pay6 (iblk m c 0 t)⟩])

/-- The load of the whole state reads what the stores left. -/
theorem readWhole (L : List (View.Piece (Elt Ideal) S1024x128 .f32)) :
    (View.whole cc0_scratch1).readCov L
      (Rect.unit (s := S1024x128) ![0, 0] ![1024, 128] inb_S1024x128_S1024x128_0_0).toLoadRect = View.canon L := by
  refine (View.readCov_eq_canon' _ _ _).trans (funext fun j => congrArg (View.canon L) ?_)
  funext a
  refine Fin.ext ?_
  fin_cases a <;> simp [LoadRect.idx, Rect.unit]

/-- The zero rows that stand before a sequence's first chunk. -/
def zeroTail : List (View.Piece (Elt Ideal) S136x1536 .f32) :=
  [⟨Rect.unit ![0, 0] ![8, 1536] inb_S136x1536_S8x1536_0_0, k0_pay4 (F := Idealize.ShloMosaic.Ideal)⟩]

/-- The extended buffer of a sequence's first chunk. -/
def extFirst : Vec Ideal S136x1536 .f32 :=
  View.canon (⟨Rect.unit ![8, 0] ![128, 1536] inb_S136x1536_S128x1536_8_0, k0_pay6 (iblk m c 0 t)⟩ :: zeroTail)

/-- The convolution of a point's chunk. -/
abbrev preAt (E : Vec Ideal S136x1536 .f32) : FVec Ideal S128x1536 .f32 := pre (iblk m c 0 t) (iblk m c 3 t) (iblk m c 4 t) E
/-- The output block of a point. -/
abbrev yAt (E : Vec Ideal S136x1536 .f32) (H : Vec Ideal S1024x128 .f32) : FVec Ideal S128x1024 .bf16 :=
  outY (iblk m c 1 t) (iblk m c 2 t) (iblk m c 5 t) (iblk m c 6 t) (iblk m c 7 t) (iblk m c 8 t) (iblk m c 9 t) H (preAt m c t E)
/-- The stores of a point's state. -/
abbrev hAt (E : Vec Ideal S136x1536 .f32) (H : Vec Ideal S1024x128 .f32) : List (View.Piece (Elt Ideal) S1024x128 .f32) :=
  stores (iblk m c 2 t) (iblk m c 5 t) (iblk m c 6 t) (iblk m c 9 t) (iblk m c 10 t) H (preAt m c t E)

/-- A first chunk: the output block. -/
theorem yA (h0 : t.val % 16 = 0) (h1 : ¬t.val % 16 = 15) :
    (outsAt0 m c t.val t.isLt).1 = yAt m c t (extFirst m c t) (k0_pay5 (F := Idealize.ShloMosaic.Ideal)) := by
  rw [Gen.outsAt0_A m c t h0 h1]
  frame_out
  simp (disch := decide) only [↓ View.readCov_skip, ↓ View.readCov_cons_toLoadRect, ↓ View.readCov_fill, readCov_eq_ld]
  rfl

/-- A first chunk: the extended buffer. -/
theorem extA (h0 : t.val % 16 = 0) (h1 : ¬t.val % 16 = 15) :
    (outsAt0 m c t.val t.isLt).2.2.2.1 = View.canon (extStores (iblk m c 0 t) zeroTail) := by
  rw [Gen.outsAt0_A m c t h0 h1]
  frame_out
  simp only [readCov_eq_ld]
  rfl

/-- A first chunk: the state. -/
theorem hA (h0 : t.val % 16 = 0) (h1 : ¬t.val % 16 = 15) :
    (outsAt0 m c t.val t.isLt).2.2.2.2 = View.canon (hAt m c t (extFirst m c t) (k0_pay5 (F := Idealize.ShloMosaic.Ideal)) ++ [⟨Rect.unit ![0, 0] ![1024, 128] inb_S1024x128_S1024x128_0_0, k0_pay5 (F := Idealize.ShloMosaic.Ideal)⟩]) := by
  rw [Gen.outsAt0_A m c t h0 h1]
  frame_out
  simp (disch := decide) only [↓ View.readCov_skip, ↓ View.readCov_cons_toLoadRect, ↓ View.readCov_fill, readCov_eq_ld]
  rfl

/-- A middle chunk: the output block. -/
theorem yB (h0 : ¬t.val % 16 = 0) (h1 : ¬t.val % 16 = 15) :
    (outsAt0 m c t.val t.isLt).1 = yAt m c t (extIn m c t) (outsAt0 m c (t.val - 1) (pred_lt t)).2.2.2.2 := by
  rw [Gen.outsAt0_B m c t h0 h1]
  frame_out
  simp (disch := decide) only [↓ View.readCov_skip, ↓ View.readCov_cons_toLoadRect, ↓ View.readCov_fill, readCov_eq_ld, read_unread_whole]
  rfl

/-- A middle chunk: the extended buffer. -/
theorem extB (h0 : ¬t.val % 16 = 0) (h1 : ¬t.val % 16 = 15) :
    (outsAt0 m c t.val t.isLt).2.2.2.1 = View.canon (extStores (iblk m c 0 t) []) := by
  rw [Gen.outsAt0_B m c t h0 h1]
  frame_out
  simp only [readCov_eq_ld]
  rfl

/-- A middle chunk: the state. -/
theorem hB (h0 : ¬t.val % 16 = 0) (h1 : ¬t.val % 16 = 15) :
    (outsAt0 m c t.val t.isLt).2.2.2.2 = View.canon (hAt m c t (extIn m c t) (outsAt0 m c (t.val - 1) (pred_lt t)).2.2.2.2) := by
  rw [Gen.outsAt0_B m c t h0 h1]
  frame_out
  simp (disch := decide) only [↓ View.readCov_skip, ↓ View.readCov_cons_toLoadRect, ↓ View.readCov_fill, readCov_eq_ld, read_unread_whole]
  rfl

/-- A last chunk: the output block. -/
theorem yC (h0 : ¬t.val % 16 = 0) (h1 : t.val % 16 = 15) :
    (outsAt0 m c t.val t.isLt).1 = yAt m c t (extIn m c t) (outsAt0 m c (t.val - 1) (pred_lt t)).2.2.2.2 := by
  rw [Gen.outsAt0_C m c t h0 h1]
  frame_out
  simp (disch := decide) only [↓ View.readCov_skip, ↓ View.readCov_cons_toLoadRect, ↓ View.readCov_fill, readCov_eq_ld, read_unread_whole]
  rfl

/-- A last chunk: the extended buffer. -/
theorem extC (h0 : ¬t.val % 16 = 0) (h1 : t.val % 16 = 15) :
    (outsAt0 m c t.val t.isLt).2.2.2.1 = View.canon (extStores (iblk m c 0 t) []) := by
  rw [Gen.outsAt0_C m c t h0 h1]
  frame_out
  simp only [readCov_eq_ld]
  rfl

/-- A last chunk: the state. -/
theorem hC (h0 : ¬t.val % 16 = 0) (h1 : t.val % 16 = 15) :
    (outsAt0 m c t.val t.isLt).2.2.2.2 = View.canon (hAt m c t (extIn m c t) (outsAt0 m c (t.val - 1) (pred_lt t)).2.2.2.2) := by
  rw [Gen.outsAt0_C m c t h0 h1]
  frame_out
  simp (disch := decide) only [↓ View.readCov_skip, ↓ View.readCov_cons_toLoadRect, ↓ View.readCov_fill, readCov_eq_ld, read_unread_whole]
  rfl

/-- A last chunk: the convolution tail it stores. -/
theorem convC (h0 : ¬t.val % 16 = 0) (h1 : t.val % 16 = 15) :
    (outsAt0 m c t.val t.isLt).2.1 = k0_pay2 (View.ld (outsAt0 m c t.val t.isLt).2.2.2.1 (Rect.unit ![133, 0] ![3, 1536] inb_S136x1536_S3x1536_133_0)) := by
  rw [Gen.outsAt0_C m c t h0 h1]
  frame_out
  simp only [readCov_eq_ld]

/-- A last chunk: the final state it stores. -/
theorem ssmC (h0 : ¬t.val % 16 = 0) (h1 : t.val % 16 = 15) :
    (outsAt0 m c t.val t.isLt).2.2.1 = k0_pay3 (outsAt0 m c t.val t.isLt).2.2.2.2 := by
  rw [Gen.outsAt0_C m c t h0 h1]
  frame_out
  rw [readWhole]

end Cert.KOuts

end
-- ==== Proof.Ssd.Chunk.lean ====
/-
  THE BODY IS THE CHUNK'S RECURRENCE: where every raw step plus its bias is below `⊤`, the body's blocks are the specification's
  gated, normalised output and the state leaving the chunk, of the chunk's convolved columns `u`.
-/
module

public import proofs.«01_k».proof.Proof.Ssd.Body

@[expose] public section

set_option maxRecDepth 16384

noncomputable section

namespace Cert.Ssd

open Idealize.ShloMosaic Idealize.SL.Sem

/-! ## Signs and finiteness -/

theorem exp_ne_top {x : EReal} (h : x ≠ ⊤) : Ideal.exp x ≠ ⊤ := by
  induction x with
  | bot => simp
  | coe r => simp
  | top => exact absurd rfl h

theorem exp_nonneg (x : EReal) : 0 ≤ Ideal.exp x := by
  induction x with
  | bot => simp
  | coe r => rw [Ideal.exp_coe]; exact_mod_cast (Real.exp_pos r).le
  | top => simp

/-- The step size of a real raw step is the real `max r 0 + log (1 + e^(-|r|))`. -/
theorem softplus_coe (r : ℝ) : softplus (r : EReal) = ((max r 0 + Real.log (1 + Real.exp (-(max r (-r)))) : ℝ) : EReal) := by
  have h : (0 : ℝ) < 1 + Real.exp (-(max r (-r))) := by positivity
  have e1 : max (r : EReal) 0 = ((max r 0 : ℝ) : EReal) := by norm_cast
  have e2 : -(max (r : EReal) (-(r : EReal))) = ((-(max r (-r)) : ℝ) : EReal) := by norm_cast
  have e3 : (1 : EReal) + ((Real.exp (-(max r (-r))) : ℝ) : EReal) = ((1 + Real.exp (-(max r (-r))) : ℝ) : EReal) := by norm_cast
  rw [softplus, e1, e2, Ideal.exp_coe, e3, Ideal.log_coe, if_neg (not_le.mpr h)]
  norm_cast

theorem softplus_bot : softplus ⊥ = 0 := by
  have e : (1 : EReal) = ((1 : ℝ) : EReal) := rfl
  rw [softplus, EReal.neg_bot, max_eq_right bot_le, max_eq_right bot_le, EReal.neg_top, Ideal.exp_bot, add_zero, zero_add, e,
    Ideal.log_coe, if_neg (by norm_num)]
  simp

theorem softplus_ne_top {t : EReal} (h : t ≠ ⊤) : softplus t ≠ ⊤ := by
  induction t with
  | bot => rw [softplus_bot]; exact EReal.zero_ne_top
  | coe r => rw [softplus_coe]; exact EReal.coe_ne_top _
  | top => exact absurd rfl h

theorem softplus_nonneg (t : EReal) : 0 ≤ softplus t := by
  induction t with
  | bot => rw [softplus_bot]
  | coe r =>
    rw [softplus_coe]
    have : 0 ≤ Real.log (1 + Real.exp (-(max r (-r)))) := Real.log_nonneg (by have := Real.exp_pos (-(max r (-r))); linarith)
    exact_mod_cast add_nonneg (le_max_right _ _) this
  | top =>
    have e : (1 : EReal) = ((1 : ℝ) : EReal) := rfl
    rw [softplus, max_eq_left le_top, max_eq_left le_top, EReal.neg_top, Ideal.exp_bot, add_zero, e, Ideal.log_coe,
      if_neg (by norm_num), EReal.top_add_coe]
    exact le_top

section Decay

variable {dt : Fin 128 → Fin 16 → EReal} {na : Fin 16 → EReal} (h : ∀ s j, dt s j * na j ≤ 0)

include h

theorem cs_nonpos (r : Fin 128) (j : Fin 16) : cs dt na r j ≤ 0 :=
  Finset.sum_nonpos fun s _ => by split <;> [exact h s j; exact le_rfl]

theorem cs_last_le (r : Fin 128) (j : Fin 16) : cs dt na 127 j ≤ cs dt na r j :=
  Finset.sum_le_sum fun s _ => by
    rw [if_pos (show s ≤ 127 by have := s.isLt; simp only [Fin.le_def]; omega)]
    split <;> [exact le_rfl; exact h s j]

theorem cs_ne_top (r : Fin 128) (j : Fin 16) : cs dt na r j ≠ ⊤ := fun e => by
  have := cs_nonpos h r j; rw [e] at this; exact absurd this (by simp)

theorem to_end_ne_top (r : Fin 128) (j : Fin 16) : Ideal.exp (cs dt na 127 j - cs dt na r j) ≠ ⊤ :=
  exp_ne_top fun e => by
    have := EReal.sub_nonpos.mpr (cs_last_le h r j); rw [e] at this; exact absurd this (by simp)

end Decay

end Cert.Ssd

namespace Cert.KBody

open Idealize.ShloMosaic Idealize.SL.Sem
open Cert.KernelIdeal Cert.KernelIdeal.Gen Cert.KPay Cert.Ssd

/-- The step sizes of the chunk. -/
def dtOf (x2 : Vec Ideal S128x128 .f32) (x5 : Vec Ideal S1x128 .f32) (s : Fin 128) (j : Fin 16) : EReal :=
  softplus (x2 (ix2 s ⟨j.val, by omega⟩) + x5 (ix2 0 ⟨j.val, by omega⟩))

/-- The negated rates. -/
def naOf (x6 : Vec Ideal S1x128 .f32) (j : Fin 16) : EReal := -(Ideal.exp (x6 (ix2 0 ⟨j.val, by omega⟩)))

/-- The convolved columns. -/
def uOf (v : FVec Ideal S128x1536 .f32) (l : Fin 128) (k : Fin 1536) : EReal := silu (v (ix2 l k))

/-- The state as a table. -/
def hOf (H : Vec Ideal S1024x128 .f32) (c : Fin 1024) (n : Fin 128) : EReal := H (ix2 c n)

variable {x1 : Vec Ideal S128x1024 .f32} {x2 : Vec Ideal S128x128 .f32} {x5 x6 : Vec Ideal S1x128 .f32}
variable {x7 x8 : Vec Ideal S1x1024 .f32} {x9 : Vec Ideal S128x1024 .bf16} {x10 : Vec Ideal S1024x128 .bf16}
variable {H : Vec Ideal S1024x128 .f32} {u : FVec Ideal S128x1536 .f32}

theorem da_nonpos (s : Fin 128) (j : Fin 16) : dtOf x2 x5 s j * naOf x6 j ≤ 0 :=
  EReal.mul_nonpos_iff.mpr (Or.inl ⟨softplus_nonneg _, by
    rw [naOf, EReal.neg_le, neg_zero]; exact exp_nonneg _⟩)

theorem cum_apply (r : Fin 128) (j : Fin 16) : cum x2 x5 x6 (ix2 r ⟨j.val, by omega⟩) = cs (dtOf x2 x5) (naOf x6) r j := by
  have hd : ∀ s, da x2 x5 x6 (ix2 s ⟨j.val, by omega⟩) = dtOf x2 x5 s j * naOf x6 j := fun s => p16 ..
  rw [cum, p18 _ _ _ fun s => ?_, cs]
  · simp only [hd]
  · rw [hd]; exact fun e => by have := da_nonpos (x2 := x2) (x5 := x5) (x6 := x6) s j; rw [e] at this; exact absurd this (by simp)

theorem cumT_apply (r : Fin 128) (j : Fin 16) : cumT x2 x5 x6 (ix2 ⟨j.val, by omega⟩ r) = cs (dtOf x2 x5) (naOf x6) r j := by
  have h := cum_apply (x2 := x2) (x5 := x5) (x6 := x6) r j
  rw [cumT, p19 _ _ _ (by rw [cum] at h; rw [h]; exact cs_ne_top da_nonpos r j)]
  exact h

variable (he : IsSpread fun k c => x9 (ix2 k c)) (het : IsSpread fun k c => x10 (ix2 c k))
variable (ht : ∀ s (j : Fin 16), x2 (ix2 s ⟨j.val, by omega⟩) + x5 (ix2 0 ⟨j.val, by omega⟩) ≠ (⊤ : EReal))

theorem xs_apply (l : Fin 128) (c : Fin 1024) : k0_pay10 u (ix2 l c) = xs (uOf u) l c := p10 ..

theorem b_apply (i : Fin 2) (s n : Fin 128) : (if i = 0 then k0_pay11 u else k0_pay12 u) (ix2 s n) = bm (uOf u) s i n := by
  fin_cases i
  · exact (p11 u s n).trans (congrArg (fun k => silu (u (ix2 s k))) (Fin.ext (by simp)))
  · exact (p12 u s n).trans (congrArg (fun k => silu (u (ix2 s k))) (Fin.ext (by simp)))

theorem c_apply (i : Fin 2) (s n : Fin 128) : (if i = 0 then k0_pay13 u else k0_pay14 u) (ix2 s n) = cm (uOf u) s i n := by
  fin_cases i
  · exact (p13 u s n).trans (congrArg (fun k => silu (u (ix2 s k))) (Fin.ext (by simp)))
  · exact (p14 u s n).trans (congrArg (fun k => silu (u (ix2 s k))) (Fin.ext (by simp)))

theorem cb_apply0 (l s : Fin 128) : k0_pay31 (k0_pay11 u) (k0_pay13 u) (ix2 l s) = cb (uOf u) l s 0 := by
  rw [p31, cb]
  exact Finset.sum_congr rfl fun n _ => congrArg₂ (· * ·) (c_apply 0 l n) (b_apply 0 s n)

theorem cb_apply1 (l s : Fin 128) : k0_pay32 (k0_pay12 u) (k0_pay14 u) (ix2 l s) = cb (uOf u) l s 1 := by
  rw [p32, cb]
  exact Finset.sum_congr rfl fun n _ => congrArg₂ (· * ·) (c_apply 1 l n) (b_apply 1 s n)

include he in
theorem toEnd_apply (s : Fin 128) (c : Fin 1024) : toEnd x2 x5 x6 x9 (ix2 s c)
    = Ideal.exp (cs (dtOf x2 x5) (naOf x6) 127 (hd c) - cs (dtOf x2 x5) (naOf x6) s (hd c)) := by
  have e : Ideal.exp (k0_pay20 (da x2 x5 x6) rowIota (ix2 0 (ln c)) - cum x2 x5 x6 (ix2 s (ln c)))
      = Ideal.exp (cs (dtOf x2 x5) (naOf x6) 127 (hd c) - cs (dtOf x2 x5) (naOf x6) s (hd c)) := by
    rw [p20]; exact congrArg₂ (fun a b => Ideal.exp (a - b)) (cum_apply 127 (hd c)) (cum_apply s (hd c))
  rw [toEnd, p24 _ _ _ he _ _ (by rw [e]; exact to_end_ne_top da_nonpos _ _), e]

include he in
theorem fromStart_apply (l : Fin 128) (c : Fin 1024) : fromStart x2 x5 x6 x9 (ix2 l c)
    = Ideal.exp (cs (dtOf x2 x5) (naOf x6) l (hd c)) := by
  have e : Ideal.exp (cum x2 x5 x6 (ix2 l (ln c))) = Ideal.exp (cs (dtOf x2 x5) (naOf x6) l (hd c)) :=
    congrArg Ideal.exp (cum_apply l (hd c))
  rw [fromStart, p25 _ _ he _ _ (by rw [e]; exact exp_ne_top (cs_ne_top da_nonpos _ _)), e]

include het in
theorem decay_apply (c : Fin 1024) (n : Fin 128) : decay x2 x5 x6 x10 (ix2 c n)
    = Ideal.exp (cs (dtOf x2 x5) (naOf x6) 127 (hd c)) := by
  have e : Ideal.exp (cumT x2 x5 x6 (ix2 (ln c) 127)) = Ideal.exp (cs (dtOf x2 x5) (naOf x6) 127 (hd c)) :=
    congrArg Ideal.exp (cumT_apply 127 (hd c))
  rw [decay, p30 _ _ het _ _ (by rw [e]; exact exp_ne_top (cs_ne_top da_nonpos _ _)), e]

include he ht in
theorem scaled_apply (s : Fin 128) (c : Fin 1024) : scaled x2 x5 x9 u (ix2 s c) = xdt (uOf u) (dtOf x2 x5) s c := by
  have e : dt x2 x5 (ix2 s (ln c)) = dtOf x2 x5 s (hd c) := p15 ..
  rw [scaled, p26 _ _ _ he _ _ (by rw [e]; exact softplus_ne_top (ht _ _)), e, xs_apply]
  rfl

include he ht in
/-- A piece of 128 columns of the chunk's own contribution. -/
theorem yPiece_apply (k : FVec Ideal S128x128 .f32) (g : Fin 2) (hk : ∀ l s, k (ix2 l s) = cb (uOf u) l s g) (q : Fin 8)
    (hq : q.val / 4 = g.val) (l p : Fin 128) (c : Fin 1024) (hc : c.val = 128 * q.val + p.val) :
    yPiece k (cum x2 x5 x6) (cumT x2 x5 x6) (scaled x2 x5 x9 u) q l p
      = yDiag (uOf u) (dtOf x2 x5) (naOf x6) l c := by
  unfold yPiece yDiag
  refine Finset.sum_congr rfl fun s _ => ?_
  have hg : gr (hd c) = g := Fin.ext (by simp only [gr, hd]; omega)
  have hcc : (⟨128 * q.val + p.val, by omega⟩ : Fin 1024) = c := Fin.ext hc.symm
  rw [hcc, scaled_apply he ht, hg, hk]
  unfold lm
  by_cases hp : p.val < 64
  · have hj : hd c = ⟨2 * q.val, by omega⟩ := Fin.ext (by simp only [hd]; omega)
    rw [if_pos hp, hj, cum_apply l ⟨2 * q.val, by omega⟩, cumT_apply s ⟨2 * q.val, by omega⟩]
    rfl
  · have hj : hd c = ⟨2 * q.val + 1, by omega⟩ := Fin.ext (by simp only [hd]; omega)
    rw [if_neg hp, hj, cum_apply l ⟨2 * q.val + 1, by omega⟩, cumT_apply s ⟨2 * q.val + 1, by omega⟩]
    rfl

theorem rows_apply (o : Nat) (inb) (p n : Fin 128) (c : Fin 1024) (hc : c.val = o + p.val) :
    rows H o inb (ix2 p n) = hOf H c n :=
  congrArg H (funext fun a => Fin.ext (by
    fin_cases a <;> simp [Rect.unit, Rect.emb, ix2, hc]))

include he in
/-- A piece of 128 columns of the entering state's contribution. -/
theorem oPiece_apply (k : FVec Ideal S128x128 .bf16) (g : Fin 2) (hk : ∀ l n, k (ix2 l n) = cm (uOf u) l g n) (q : Fin 8)
    (hq : q.val / 4 = g.val) (inb) (l p : Fin 128) (c : Fin 1024) (hc : c.val = 128 * q.val + p.val) :
    oPiece k (rows H (128 * q.val) inb) l p * fromStart x2 x5 x6 x9 (ix2 l c)
      = yOff (uOf u) (dtOf x2 x5) (naOf x6) (hOf H) l c := by
  unfold oPiece yOff
  have hg : gr (hd c) = g := Fin.ext (by simp only [gr, hd]; omega)
  rw [fromStart_apply he, hg]
  refine congrArg (· * _) (Finset.sum_congr rfl fun n _ => ?_)
  rw [hk, rows_apply _ _ p n c hc]

include he het ht in
/-- A piece of 128 rows of the state leaving the chunk. -/
theorem hPiece_apply (k : FVec Ideal S128x128 .bf16) (g : Fin 2) (hk : ∀ s n, k (ix2 s n) = bm (uOf u) s g n) (q : Fin 8)
    (hq : q.val / 4 = g.val) (inb) (p n : Fin 128) (c : Fin 1024) (hc : c.val = 128 * q.val + p.val) :
    hPiece k (toEnd x2 x5 x6 x9) (scaled x2 x5 x9 u) (decay x2 x5 x6 x10) (rows H (128 * q.val) inb) q p n
      = hNext (uOf u) (dtOf x2 x5) (naOf x6) (hOf H) c n := by
  unfold hPiece hNext states
  have hg : gr (hd c) = g := Fin.ext (by simp only [gr, hd]; omega)
  have hcc : (⟨128 * q.val + p.val, by omega⟩ : Fin 1024) = c := Fin.ext hc.symm
  rw [hcc, decay_apply het, rows_apply _ _ p n c hc, hg]
  refine congrArg (_ + ·) (Finset.sum_congr rfl fun s _ => ?_)
  rw [scaled_apply he ht, toEnd_apply he, hk]

include he ht in
/-- The body's output block. -/
theorem outY_apply (ds : Fin 16 → EReal) (hds : ∀ c, x7 (ix2 0 c) = ds (hd c)) (l : Fin 128) (c : Fin 1024) :
    outY x1 x2 x5 x6 x7 x8 x9 H u (ix2 l c)
      = normed (fun c => x8 (ix2 0 c))
          (gated (uOf u) (dtOf x2 x5) (naOf x6) (hOf H) (fun l c => x1 (ix2 l c)) ds l) c := by
  refine p1 _ _ _ _ _ _ _ _ _ _ _ _ _ _ _ _ _ _ _ _ _ (gated (uOf u) (dtOf x2 x5) (naOf x6) (hOf H) (fun l c => x1 (ix2 l c)) ds) l
    (fun c => ?_) c
  rw [p85 _ _ _ _ _ _ _ _ _ _ _ _ _ _ _ _ _ _ _ _
    (fun l c => yDiag (uOf u) (dtOf x2 x5) (naOf x6) l c + yOff (uOf u) (dtOf x2 x5) (naOf x6) (hOf H) l c) l
    (fun p c hc => ?_) (fun p c hc => ?_) (fun p c hc => ?_) (fun p c hc => ?_) (fun p c hc => ?_) (fun p c hc => ?_)
    (fun p c hc => ?_) (fun p c hc => ?_) c, hds, xs_apply]
  · rfl
  · rw [y0, o0]
    exact congrArg₂ (· + ·) (yPiece_apply he ht _ 0 cb_apply0 0 rfl l p c hc) (oPiece_apply he _ 0 (c_apply 0) 0 rfl _ l p c hc)
  · rw [y1, o1]
    exact congrArg₂ (· + ·) (yPiece_apply he ht _ 0 cb_apply0 1 rfl l p c hc) (oPiece_apply he _ 0 (c_apply 0) 1 rfl _ l p c hc)
  · rw [y2, o2]
    exact congrArg₂ (· + ·) (yPiece_apply he ht _ 0 cb_apply0 2 rfl l p c hc) (oPiece_apply he _ 0 (c_apply 0) 2 rfl _ l p c hc)
  · rw [y3, o3]
    exact congrArg₂ (· + ·) (yPiece_apply he ht _ 0 cb_apply0 3 rfl l p c hc) (oPiece_apply he _ 0 (c_apply 0) 3 rfl _ l p c hc)
  · rw [y4, o4]
    exact congrArg₂ (· + ·) (yPiece_apply he ht _ 1 cb_apply1 4 rfl l p c hc) (oPiece_apply he _ 1 (c_apply 1) 4 rfl _ l p c hc)
  · rw [y5, o5]
    exact congrArg₂ (· + ·) (yPiece_apply he ht _ 1 cb_apply1 5 rfl l p c hc) (oPiece_apply he _ 1 (c_apply 1) 5 rfl _ l p c hc)
  · rw [y6, o6]
    exact congrArg₂ (· + ·) (yPiece_apply he ht _ 1 cb_apply1 6 rfl l p c hc) (oPiece_apply he _ 1 (c_apply 1) 6 rfl _ l p c hc)
  · rw [y7, o7]
    exact congrArg₂ (· + ·) (yPiece_apply he ht _ 1 cb_apply1 7 rfl l p c hc) (oPiece_apply he _ 1 (c_apply 1) 7 rfl _ l p c hc)

end Cert.KBody

end
-- ==== Proof.Ssd.Fold.lean ====
/-
  THE KERNEL'S THREE RESULTS in closed form: by induction over the grid points the extended buffer and the state are the
  specification's, so each output block is the specification's of its chunk.
-/
module

public import proofs.«01_k».proof.Proof.Ssd.Blk
public import proofs.«01_k».proof.Proof.Ssd.Outs
public import proofs.«01_k».proof.Proof.Ssd.Chunk
public import Idealize.ShloMosaic.Lib.WritesUnit

@[expose] public section

set_option maxRecDepth 16384

noncomputable section

namespace Cert.KFold

open Idealize.ShloMosaic Idealize.ShloMosaic.TcCoe Idealize.SL.Sem
open Cert.KernelIdeal Cert.KernelIdeal.Gen Cert.KPay Cert.KBody Cert.KBlk Cert.KOuts Cert.Ssd

/-! ## Whole rows of a stored buffer -/

theorem canon_row {A D W o : Nat} (inb : ∀ a, (![o, 0] : Fin 2 → Nat) a + (![W, D] : Fin 2 → Nat) a ≤ (⟨2, ![A, D]⟩ : Shape).size a)
    (w : (Rect.unit (s := ⟨2, ![A, D]⟩) ![o, 0] ![W, D] inb).shape.Idx → Elt Ideal .f32)
    (L : List (View.Piece (Elt Ideal) ⟨2, ![A, D]⟩ .f32)) (r : Fin A) (k : Fin D) (p : Fin W) (h : r.val = o + p.val) :
    View.canon (⟨Rect.unit (s := ⟨2, ![A, D]⟩) ![o, 0] ![W, D] inb, w⟩ :: L) (ix2 r k) = w (ix2 p k) := by
  have e : (ix2 r k : (⟨2, ![A, D]⟩ : Shape).Idx)
      = (Rect.unit (s := ⟨2, ![A, D]⟩) ![o, 0] ![W, D] inb).emb (ix2 p k) := funext fun a => Fin.ext (by
    fin_cases a <;> simp [Rect.unit, Rect.emb, ix2, h])
  rw [e]; exact View.canon_cons_emb _ _ _ _

theorem canon_row_skip {A D W o : Nat} (inb : ∀ a, (![o, 0] : Fin 2 → Nat) a + (![W, D] : Fin 2 → Nat) a ≤ (⟨2, ![A, D]⟩ : Shape).size a)
    (w : (Rect.unit (s := ⟨2, ![A, D]⟩) ![o, 0] ![W, D] inb).shape.Idx → Elt Ideal .f32)
    (L : List (View.Piece (Elt Ideal) ⟨2, ![A, D]⟩ .f32)) (r : Fin A) (k : Fin D) (h : r.val < o ∨ o + W ≤ r.val) :
    View.canon (⟨Rect.unit (s := ⟨2, ![A, D]⟩) ![o, 0] ![W, D] inb, w⟩ :: L) (ix2 r k) = View.canon L (ix2 r k) := by
  refine View.canon_cons_of_not_mem _ _ fun hm => ?_
  have := (Rect.mem_set_unit (inb := inb)).mp hm 0
  obtain ⟨h1, h2⟩ : o ≤ r.val ∧ r.val < o + W := this
  omega

theorem ld_row {A D W o : Nat} (inb : ∀ a, (![o, 0] : Fin 2 → Nat) a + (![W, D] : Fin 2 → Nat) a ≤ (⟨2, ![A, D]⟩ : Shape).size a)
    (v : Vec Ideal ⟨2, ![A, D]⟩ .f32) (r : Fin A) (k : Fin D) (p : Fin W) (h : r.val = o + p.val) :
    View.ld v (Rect.unit (s := ⟨2, ![A, D]⟩) ![o, 0] ![W, D] inb) (ix2 p k) = v (ix2 r k) :=
  congrArg v (funext fun a => Fin.ext (by fin_cases a <;> simp [Rect.unit, Rect.emb, ix2, h]))

theorem writes_row {A D W o : Nat} {κ : Kind} {sp : Space} (v : View sig κ sp ⟨2, ![A, D]⟩ .f32) (f : v.ty.Contents (Elt Ideal))
    (inb : ∀ a, (![o, 0] : Fin 2 → Nat) a + (![W, D] : Fin 2 → Nat) a ≤ (⟨2, ![A, D]⟩ : Shape).size a)
    (w : (Rect.unit (s := ⟨2, ![A, D]⟩) ![o, 0] ![W, D] inb).shape.Idx → Elt Ideal .f32)
    (L : List (View.Piece (Elt Ideal) ⟨2, ![A, D]⟩ .f32)) (r : Fin A) (k : Fin D) (p : Fin W) (h : r.val = o + p.val) :
    v.read (Elt Ideal) (v.writes (Elt Ideal) f (⟨Rect.unit (s := ⟨2, ![A, D]⟩) ![o, 0] ![W, D] inb, w⟩ :: L)) (ix2 r k)
      = w (ix2 p k) :=
  View.read_writes_cons_rows_of_mem v f inb w L (ix2 r k) (ix2 p k) rfl h rfl

theorem writes_row_skip {A D W o : Nat} {κ : Kind} {sp : Space} (v : View sig κ sp ⟨2, ![A, D]⟩ .f32) (f : v.ty.Contents (Elt Ideal))
    (inb : ∀ a, (![o, 0] : Fin 2 → Nat) a + (![W, D] : Fin 2 → Nat) a ≤ (⟨2, ![A, D]⟩ : Shape).size a)
    (w : (Rect.unit (s := ⟨2, ![A, D]⟩) ![o, 0] ![W, D] inb).shape.Idx → Elt Ideal .f32)
    (L : List (View.Piece (Elt Ideal) ⟨2, ![A, D]⟩ .f32)) (r : Fin A) (k : Fin D) (h : r.val < o ∨ o + W ≤ r.val) :
    v.read (Elt Ideal) (v.writes (Elt Ideal) f (⟨Rect.unit (s := ⟨2, ![A, D]⟩) ![o, 0] ![W, D] inb, w⟩ :: L)) (ix2 r k)
      = v.read (Elt Ideal) (v.writes (Elt Ideal) f L) (ix2 r k) :=
  View.read_writes_cons_rows_of_not_mem v f inb w L (ix2 r k) rfl rfl h

variable (m : (ℓ : Loc nD τ sig) → Buf (Elt Ideal) ℓ) (c : Dev nD) (t : Fin cfg0.N)

/-! ## The arguments as tables -/

/-- The projected columns' rows. -/
def X (r : ℕ) (k : Fin 1536) : EReal := m ((c : Thread nD τ).loc main_arg0) (ix2 ⟨r % 16384, by omega⟩ k)
/-- The gate's rows. -/
def Z (r : ℕ) (k : Fin 1024) : EReal := m ((c : Thread nD τ).loc main_arg1) (ix2 ⟨r % 16384, by omega⟩ k)
/-- The raw steps. -/
def raw (r : Fin 16384) (j : Fin 16) : EReal := m ((c : Thread nD τ).loc main_arg2) (ix2 r ⟨j.val, by omega⟩)
/-- The step biases. -/
def bias (j : Fin 16) : EReal := m ((c : Thread nD τ).loc main_arg5) (ix1 j)
/-- The step sizes of chunk `z`. -/
def dtT (z : ℕ) (s : Fin 128) (j : Fin 16) : EReal := softplus (raw m c ⟨(128 * z + s.val) % 16384, by omega⟩ j + bias m c j)
/-- The negated rates. -/
def naT (j : Fin 16) : EReal := -(Ideal.exp (m ((c : Thread nD τ).loc main_arg6) (ix1 j)))
/-- The convolved columns of chunk `z`. -/
def uT : ℕ → Fin 128 → Fin 1536 → EReal :=
  cols (X m c) (fun i k => m ((c : Thread nD τ).loc main_arg3) (ix2 i k)) (fun k => m ((c : Thread nD τ).loc main_arg4) (ix1 k))
/-- The state entering chunk `z`. -/
def hT : ℕ → Fin 1024 → Fin 128 → EReal := hIn (uT m c) (dtT m c) (naT m c)
/-- The state leaving chunk `z`. -/
def hOut (z : ℕ) : Fin 1024 → Fin 128 → EReal := hNext (uT m c z) (dtT m c z) (naT m c) (hT m c z)
/-- The output rows of chunk `z`. -/
def yT (z : ℕ) (l : Fin 128) : Fin 1024 → EReal :=
  normed (fun k => m ((c : Thread nD τ).loc main_arg8) (ix1 k))
    (gated (uT m c z) (dtT m c z) (naT m c) (hT m c z) (fun l k => Z m c (128 * z + l.val) k)
      (fun j => m ((c : Thread nD τ).loc main_arg7) (ix1 j)) l)

theorem b0X (r : Fin 128) (k : Fin 1536) : iblk m c 0 t (ix2 r k) = X m c (128 * t.val + r.val) k := by
  rw [b0, X]; refine congrArg _ (congrArg (fun i => ix2 i k) (Fin.ext ?_))
  have := t_lt t; dsimp only; omega

theorem b1Z (r : Fin 128) (k : Fin 1024) : iblk m c 1 t (ix2 r k) = Z m c (128 * t.val + r.val) k := by
  rw [b1, Z]; refine congrArg _ (congrArg (fun i => ix2 i k) (Fin.ext ?_))
  have := t_lt t; dsimp only; omega

theorem dtOf_eq : dtOf (iblk m c 2 t) (iblk m c 5 t) = dtT m c t.val := by
  funext s j
  rw [dtOf, dtT, b2, b5]
  refine congrArg (fun i => softplus (raw m c i j + bias m c j)) (Fin.ext ?_ : (⟨128 * t.val + s.val, _⟩ : Fin 16384) = _)
  have := t_lt t; dsimp only; omega

theorem naOf_eq : naOf (iblk m c 6 t) = naT m c := by
  funext j; rw [naOf, naT, b6]

/-! ## The extended buffer -/

/-- Row `r` of the extended buffer at point `t`. -/
def extRow (z : ℕ) (r : Fin 136) (k : Fin 1536) : EReal :=
  if 128 * (z % 16) + r.val < 8 then 0 else X m c (128 * z + r.val - 8) k

theorem pay6_row (r : Fin 128) (k : Fin 1536) : k0_pay6 (iblk m c 0 t) (ix2 r k) = X m c (128 * t.val + r.val) k := by
  rw [p6, b0X]

/-- What the stores leave in the first eight rows: the chunk's last eight. -/
theorem left_low (L) (r : Fin 136) (h : r.val < 8) (k : Fin 1536) :
    View.canon (extStores (iblk m c 0 t) L) (ix2 r k) = X m c (128 * t.val + 120 + r.val) k := by
  unfold extStores
  rw [canon_row _ _ _ r k (⟨r.val, h⟩ : Fin 8) (by simp), p8, ld_row _ _ ⟨128 + r.val, by omega⟩ k (⟨r.val, h⟩ : Fin 8) rfl,
    canon_row _ _ _ _ k (⟨120 + r.val, by omega⟩ : Fin 128) (by dsimp only; omega), pay6_row]
  refine congrArg (fun i => X m c i k) ?_
  dsimp only; omega

/-- What the stores leave in the other rows: the chunk. -/
theorem left_high (L) (r : Fin 136) (h : 8 ≤ r.val) (k : Fin 1536) :
    View.canon (extStores (iblk m c 0 t) L) (ix2 r k) = X m c (128 * t.val + r.val - 8) k := by
  unfold extStores
  rw [canon_row_skip _ _ _ r k (by omega),
    canon_row _ _ _ _ k (⟨r.val - 8, by omega⟩ : Fin 128) (by dsimp only; omega), pay6_row]
  refine congrArg (fun i => X m c i k) ?_
  dsimp only; omega

/-- The extended buffer a point leaves, as its stores. -/
theorem ext_left : ∃ L, (outsAt0 m c t.val t.isLt).2.2.2.1 = View.canon (extStores (iblk m c 0 t) L) := by
  by_cases h0 : t.val % 16 = 0
  · exact ⟨_, extA m c t h0 (by omega)⟩
  · by_cases h1 : t.val % 16 = 15
    · exact ⟨_, extC m c t h0 h1⟩
    · exact ⟨_, extB m c t h0 h1⟩

theorem extFirst_row (h0 : t.val % 16 = 0) (r : Fin 136) (k : Fin 1536) : extFirst m c t (ix2 r k) = extRow m c t.val r k := by
  unfold extFirst zeroTail extRow
  by_cases h : r.val < 8
  · rw [if_pos (by omega), canon_row_skip _ _ _ r k (by omega), canon_row _ _ _ r k (⟨r.val, h⟩ : Fin 8) (by simp), p4]
  · rw [if_neg (by omega), canon_row _ _ _ r k (⟨r.val - 8, by omega⟩ : Fin 128) (by dsimp only; omega), pay6_row]
    refine congrArg (fun i => X m c i k) ?_
    dsimp only; omega

theorem extIn_row (h0 : ¬t.val % 16 = 0) (r : Fin 136) (k : Fin 1536) : extIn m c t (ix2 r k) = extRow m c t.val r k := by
  unfold extIn extRow
  rw [if_neg (by omega)]
  by_cases h : r.val < 8
  · refine (writes_row_skip (View.whole cc0_scratch0) _ inb_S136x1536_S128x1536_8_0 (k0_pay6 (iblk m c 0 t)) [] r k (Or.inl h)).trans ?_
    obtain ⟨L, hL⟩ := ext_left m c ⟨t.val - 1, pred_lt t⟩
    show (View.whole cc0_scratch0).read _ ((Memref.isWhole_whole cc0_scratch0).unread _) (ix2 r k) = _
    rw [read_unread_whole]
    refine (congrFun hL (ix2 r k)).trans ?_
    rw [left_low _ _ _ _ r h]
    refine congrArg (fun i => X m c i k) ?_
    dsimp only; omega
  · refine (writes_row (View.whole cc0_scratch0) _ inb_S136x1536_S128x1536_8_0 (k0_pay6 (iblk m c 0 t)) [] r k (⟨r.val - 8, by omega⟩ : Fin 128) ?_).trans ?_
    · show r.val = 8 + (r.val - 8); omega
    rw [pay6_row]
    refine congrArg (fun i => X m c i k) ?_
    dsimp only; omega

/-! ## The convolution -/

theorem conv_comm (b x0 x1 x2 x3 w0 w1 w2 w3 : EReal) :
    b + w3 * x3 + w0 * x0 + w1 * x1 + w2 * x2 = x0 * w0 + x1 * w1 + x2 * w2 + x3 * w3 + b := by
  rw [mul_comm w3, mul_comm w2, mul_comm w1, mul_comm w0]; ac_rfl

theorem pre_eq (E : Vec Ideal S136x1536 .f32) (hE : ∀ r k, E (ix2 r k) = extRow m c t.val r k) :
    uOf (preAt m c t E) = uT m c t.val := by
  have row : ∀ (l : Fin 128) (k : Fin 1536) (o : Nat) (ho : o ≤ 8) (h5 : 5 ≤ o) (inb),
      View.ld E (Rect.unit (s := S136x1536) ![o, 0] ![128, 1536] inb) (ix2 l k) = tap (X m c) t.val l (o - 5) k := fun l k o ho h5 inb => by
    refine (ld_row inb E ⟨o + l.val, by omega⟩ k l rfl).trans ?_
    rw [hE, extRow, tap]
    dsimp only
    refine if_congr (by omega) rfl (congrArg (fun i => X m c i k) (by omega))
  funext l k
  rw [uOf, uT, cols, conv]
  unfold preAt KBody.pre
  rw [p7]
  refine congrArg silu ?_
  rw [row l k 5 (by omega) (by omega), row l k 6 (by omega) (by omega), row l k 7 (by omega) (by omega), pay6_row,
    b4, ld_row _ _ 3 k 0 rfl, ld_row _ _ 0 k 0 rfl, ld_row _ _ 1 k 0 rfl, ld_row _ _ 2 k 0 rfl, b3, b3, b3, b3]
  have e : X m c (128 * t.val + l.val) k = tap (X m c) t.val l 3 k := by
    rw [tap, if_neg (by omega)]; exact congrArg (fun i => X m c i k) (by omega)
  rw [e]
  exact conv_comm ..

/-! ## The state -/

variable (hfin : ∀ r j, raw m c r j + bias m c j ≠ ⊤)

include hfin in
theorem steps_fin (s : Fin 128) (j : Fin 16) :
    @HAdd.hAdd EReal EReal EReal _ (iblk m c 2 t (ix2 s ⟨j.val, by omega⟩)) (iblk m c 5 t (ix2 0 ⟨j.val, by omega⟩)) ≠ ⊤ := by
  rw [b2, b5]; exact hfin _ _

include hfin in
/-- The state's stores are the specification's step. -/
theorem stores_eq (E : Vec Ideal S136x1536 .f32) (H : Vec Ideal S1024x128 .f32) (L) (hE : ∀ r k, E (ix2 r k) = extRow m c t.val r k)
    (hH : hOf H = hT m c t.val) (k : Fin 1024) (n : Fin 128) :
    View.canon (hAt m c t E H ++ L) (ix2 k n) = hOut m c t.val k n := by
  have key : ∀ (b : FVec Ideal S128x128 .bf16) (g : Fin 2) (hb : ∀ s n, b (ix2 s n) = bm (uOf (preAt m c t E)) s g n) (q : Fin 8)
      (hq : q.val / 4 = g.val) (inb) (p : Fin 128) (hc : k.val = 128 * q.val + p.val),
      hPiece b (toEnd (iblk m c 2 t) (iblk m c 5 t) (iblk m c 6 t) (iblk m c 9 t))
        (scaled (iblk m c 2 t) (iblk m c 5 t) (iblk m c 9 t) (preAt m c t E))
        (decay (iblk m c 2 t) (iblk m c 5 t) (iblk m c 6 t) (iblk m c 10 t)) (rows H (128 * q.val) inb) q p n = hOut m c t.val k n :=
    fun b g hb q hq inb p hc => by
      rw [hPiece_apply (b9 m c t) (b10 m c t) (steps_fin m c t hfin) b g hb q hq inb p n k hc, pre_eq m c t E hE, dtOf_eq, naOf_eq, hH]
      rfl
  unfold hAt stores
  simp only [List.cons_append, List.nil_append]
  by_cases q7 : 896 ≤ k.val
  · rw [canon_row _ _ _ k n (⟨k.val - 896, by omega⟩ : Fin 128) (by dsimp only; omega), h7]
    exact key _ 1 (b_apply 1) 7 rfl _ _ (by show k.val = 128 * 7 + (k.val - 896); omega)
  rw [canon_row_skip _ _ _ k n (by omega)]
  by_cases q6 : 768 ≤ k.val
  · rw [canon_row _ _ _ k n (⟨k.val - 768, by omega⟩ : Fin 128) (by dsimp only; omega), h6]
    exact key _ 1 (b_apply 1) 6 rfl _ _ (by show k.val = 128 * 6 + (k.val - 768); omega)
  rw [canon_row_skip _ _ _ k n (by omega)]
  by_cases q5 : 640 ≤ k.val
  · rw [canon_row _ _ _ k n (⟨k.val - 640, by omega⟩ : Fin 128) (by dsimp only; omega), h5]
    exact key _ 1 (b_apply 1) 5 rfl _ _ (by show k.val = 128 * 5 + (k.val - 640); omega)
  rw [canon_row_skip _ _ _ k n (by omega)]
  by_cases q4 : 512 ≤ k.val
  · rw [canon_row _ _ _ k n (⟨k.val - 512, by omega⟩ : Fin 128) (by dsimp only; omega), h4]
    exact key _ 1 (b_apply 1) 4 rfl _ _ (by show k.val = 128 * 4 + (k.val - 512); omega)
  rw [canon_row_skip _ _ _ k n (by omega)]
  by_cases q3 : 384 ≤ k.val
  · rw [canon_row _ _ _ k n (⟨k.val - 384, by omega⟩ : Fin 128) (by dsimp only; omega), h3]
    exact key _ 0 (b_apply 0) 3 rfl _ _ (by show k.val = 128 * 3 + (k.val - 384); omega)
  rw [canon_row_skip _ _ _ k n (by omega)]
  by_cases q2 : 256 ≤ k.val
  · rw [canon_row _ _ _ k n (⟨k.val - 256, by omega⟩ : Fin 128) (by dsimp only; omega), h2]
    exact key _ 0 (b_apply 0) 2 rfl _ _ (by show k.val = 128 * 2 + (k.val - 256); omega)
  rw [canon_row_skip _ _ _ k n (by omega)]
  by_cases q1 : 128 ≤ k.val
  · rw [canon_row _ _ _ k n (⟨k.val - 128, by omega⟩ : Fin 128) (by dsimp only; omega), h1]
    exact key _ 0 (b_apply 0) 1 rfl _ _ (by show k.val = 128 * 1 + (k.val - 128); omega)
  rw [canon_row_skip _ _ _ k n (by omega), canon_row _ _ _ k n (⟨k.val, by omega⟩ : Fin 128) (by simp), h0]
  exact key _ 0 (b_apply 0) 0 rfl _ _ (by show k.val = 128 * 0 + k.val; omega)

include hfin in
/-- The output block is the specification's. -/
theorem out_eq (E : Vec Ideal S136x1536 .f32) (H : Vec Ideal S1024x128 .f32) (hE : ∀ r k, E (ix2 r k) = extRow m c t.val r k)
    (hH : hOf H = hT m c t.val) (l : Fin 128) (k : Fin 1024) : yAt m c t E H (ix2 l k) = yT m c t.val l k := by
  unfold yAt
  rw [outY_apply (b9 m c t) (steps_fin m c t hfin) (fun j => m ((c : Thread nD τ).loc main_arg7) (ix1 j)) (fun k => b7 m c t k) l k,
    pre_eq m c t E hE, dtOf_eq, naOf_eq, hH, yT]
  simp only [b8, b1Z]

theorem hOf_zero : hOf (k0_pay5 (F := Ideal)) = fun _ _ => 0 := by
  funext k n; exact p5 k n

include hfin in
/-- The state a point leaves. -/
theorem state (n : ℕ) : ∀ hn : n < cfg0.N, hOf (outsAt0 m c n hn).2.2.2.2 = hOut m c n := by
  induction n with
  | zero =>
    intro hn
    funext k j
    refine (congrFun (hA m c ⟨0, hn⟩ rfl (by dsimp only; omega)) (ix2 k j)).trans ?_
    exact stores_eq m c ⟨0, hn⟩ hfin _ _ _ (extFirst_row m c ⟨0, hn⟩ rfl) (by rw [hOf_zero, hT, hIn_first _ _ _ _ rfl]) k j
  | succ n ih =>
    intro hn
    funext k j
    by_cases h0 : (n + 1) % 16 = 0
    · refine (congrFun (hA m c ⟨n + 1, hn⟩ h0 (by dsimp only; omega)) (ix2 k j)).trans ?_
      exact stores_eq m c ⟨n + 1, hn⟩ hfin _ _ _ (extFirst_row m c ⟨n + 1, hn⟩ h0) (by rw [hOf_zero, hT, hIn_first _ _ _ _ h0]) k j
    · have hin : hOf (outsAt0 m c n (by omega)).2.2.2.2 = hT m c (n + 1) := by
        rw [ih (by omega), hT, hIn_next _ _ _ _ h0]; rfl
      by_cases h1 : (n + 1) % 16 = 15
      · refine (congrFun (hC m c ⟨n + 1, hn⟩ h0 h1) (ix2 k j)).trans ?_
        have := stores_eq m c ⟨n + 1, hn⟩ hfin _ _ [] (extIn_row m c ⟨n + 1, hn⟩ h0) hin k j
        rwa [List.append_nil] at this
      · refine (congrFun (hB m c ⟨n + 1, hn⟩ h0 h1) (ix2 k j)).trans ?_
        have := stores_eq m c ⟨n + 1, hn⟩ hfin _ _ [] (extIn_row m c ⟨n + 1, hn⟩ h0) hin k j
        rwa [List.append_nil] at this

include hfin in
theorem state_in (h0 : ¬t.val % 16 = 0) : hOf (outsAt0 m c (t.val - 1) (pred_lt t)).2.2.2.2 = hT m c t.val := by
  rw [state m c hfin, hT, hIn_next _ _ _ _ h0]; rfl

/-! ## The three outputs of a point -/

include hfin in
theorem out_y (l : Fin 128) (k : Fin 1024) : (outsAt0 m c t.val t.isLt).1 (ix2 l k) = yT m c t.val l k := by
  by_cases h0 : t.val % 16 = 0
  · rw [yA m c t h0 (by omega)]
    exact out_eq m c t hfin _ _ (extFirst_row m c t h0) (by rw [hOf_zero, hT, hIn_first _ _ _ _ h0]) l k
  · by_cases h1 : t.val % 16 = 15
    · rw [yC m c t h0 h1]; exact out_eq m c t hfin _ _ (extIn_row m c t h0) (state_in m c t hfin h0) l k
    · rw [yB m c t h0 h1]; exact out_eq m c t hfin _ _ (extIn_row m c t h0) (state_in m c t hfin h0) l k

theorem out_conv (h1 : t.val % 16 = 15) (i : Fin 3) (k : Fin 1536) :
    (outsAt0 m c t.val t.isLt).2.1 (ix3 0 i k) = X m c (128 * t.val + 125 + i.val) k := by
  rw [convC m c t (by omega) h1, p2, ld_row _ _ ⟨133 + i.val, by omega⟩ k i rfl]
  obtain ⟨L, hL⟩ := ext_left m c t
  rw [hL, left_high _ _ _ _ _ (by dsimp only; omega)]
  refine congrArg (fun i => X m c i k) ?_
  dsimp only; omega

include hfin in
theorem out_ssm (h1 : t.val % 16 = 15) (k : Fin 1024) (n : Fin 128) :
    (outsAt0 m c t.val t.isLt).2.2.1 (ix3 0 k n) = hOut m c t.val k n := by
  rw [ssmC m c t (by omega) h1, p3]
  exact congrFun (congrFun (state m c hfin t.val t.isLt) k) n

/-! ## The three arrays -/

include hfin in
theorem G11_eq (i : Fin 16384) (k : Fin 1024) :
    Value.G11 m c (ix2 i k) = yT m c (i.val / 128) ⟨i.val % 128, by omega⟩ k := by
  have hp : Value.pt11Of (ix2 i k) = i.val / 128 := by
    show 1 * (i.val / 128 - 0) + 1 * (k.val / 1024 - 0) = _; omega
  have hN : Value.pt11Of (ix2 i k) < cfg0.N := by rw [hp, show cfg0.N = 128 from N_0]; omega
  unfold Value.G11
  rw [dif_pos hN, ← Value.outsAt0_sweep]
  have hl : Value.loc11Of (ix2 i k) = ix2 (⟨i.val % 128, by omega⟩ : Fin 128) k := funext fun a => Fin.ext (by
    fin_cases a
    · rfl
    · exact Nat.mod_eq_of_lt k.isLt)
  rw [hl]
  refine (out_y m c ⟨_, hN⟩ hfin _ _).trans ?_
  dsimp only
  rw [hp]

theorem G12_eq (i : Fin 8) (r : Fin 3) (k : Fin 1536) :
    Value.G12 m c (ix3 i r k) = X m c (2048 * i.val + 2045 + r.val) k := by
  have hp : Value.pt12Of (ix3 i r k) = 16 * i.val + 15 := by
    show 16 * (1 * (i.val / 1 - 0) + 1 * (r.val / 3 - 0) + 1 * (k.val / 1536 - 0)) + 15 = _; omega
  have hN : Value.pt12Of (ix3 i r k) < cfg0.N := by rw [hp, show cfg0.N = 128 from N_0]; omega
  unfold Value.G12
  rw [dif_pos hN, ← Value.outsAt0_sweep]
  have hl : Value.loc12Of (ix3 i r k) = ix3 (0 : Fin 1) r k := funext fun a => Fin.ext (by
    fin_cases a
    · exact Nat.mod_one _
    · exact Nat.mod_eq_of_lt r.isLt
    · exact Nat.mod_eq_of_lt k.isLt)
  rw [hl]
  refine (out_conv m c ⟨_, hN⟩ (by dsimp only; omega) _ _).trans ?_
  dsimp only
  rw [hp]
  exact congrArg (fun j => X m c j k) (by omega)

include hfin in
theorem G13_eq (i : Fin 8) (r : Fin 1024) (k : Fin 128) :
    Value.G13 m c (ix3 i r k) = hOut m c (16 * i.val + 15) r k := by
  have hp : Value.pt13Of (ix3 i r k) = 16 * i.val + 15 := by
    show 16 * (1 * (i.val / 1 - 0) + 1 * (r.val / 1024 - 0) + 1 * (k.val / 128 - 0)) + 15 = _; omega
  have hN : Value.pt13Of (ix3 i r k) < cfg0.N := by rw [hp, show cfg0.N = 128 from N_0]; omega
  unfold Value.G13
  rw [dif_pos hN, ← Value.outsAt0_sweep]
  have hl : Value.loc13Of (ix3 i r k) = ix3 (0 : Fin 1) r k := funext fun a => Fin.ext (by
    fin_cases a
    · exact Nat.mod_one _
    · exact Nat.mod_eq_of_lt r.isLt
    · exact Nat.mod_eq_of_lt k.isLt)
  rw [hl]
  refine (out_ssm m c ⟨_, hN⟩ hfin (by dsimp only; omega) _ _).trans ?_
  dsimp only
  rw [hp]

end Cert.KFold

end
-- ==== Proof.Ssd.Ref.lean ====
/-
  THE REFERENCE'S THREE RESULTS read at an index, stage by stage, as the specification's terms over the arguments.
-/
module

public import proofs.«01_k».proof.Proof.Ssd.Spec
public import proofs.«01_k».proof.Proof.Gen.ReferenceIdeal.Read
public import Idealize.ShloMosaic.Lib.WordCmp

@[expose] public section

set_option maxRecDepth 16384

noncomputable section

namespace Cert.RVal

open Idealize.ShloMosaic Idealize.ShloMosaic.TcCoe Idealize.SL.Sem
open Cert.ReferenceIdeal Cert.ReferenceIdeal.Gen Cert.ReferenceIdeal.Read Cert.Ssd

/-! ## The running sum -/

/-- A left fold of additions is the initial value plus the sum. -/
theorem foldl_add {n : Nat} (f : Fin n → EReal) (v : EReal) :
    (List.finRange n).foldl (fun r i => r + f i) v = v + ∑ i : Fin n, f i := by
  have h : ∀ (L : List (Fin n)) (v : EReal), L.foldl (fun r i => r + f i) v = v + (L.map f).sum := by
    intro L
    induction L with
    | nil => intro v; simp
    | cons a L ih => intro v; rw [List.foldl_cons, ih, List.map_cons, List.sum_cons, add_assoc]
  rw [h, ← List.ofFn_eq_map, List.sum_ofFn]

/-- A window of 128 ending at `r` sums the entries up to `r`. -/
theorem window_sum (r : Fin 128) (f : Fin 128 → EReal) :
    (∑ w : Fin 128, if h : 127 ≤ r.val + w.val then f ⟨r.val + w.val - 127, by omega⟩ else 0)
      = ∑ s : Fin 128, if s ≤ r then f s else 0 := by
  refine Finset.sum_bij_ne_zero (fun w _ _ => ⟨(r.val + w.val - 127) % 128, by omega⟩) (fun _ _ _ => Finset.mem_univ _) ?_ ?_ ?_
  · intro a _ ha b _ hb e
    have h1 : 127 ≤ r.val + a.val := by by_contra h; exact ha (dif_neg h)
    have h2 : 127 ≤ r.val + b.val := by by_contra h; exact hb (dif_neg h)
    have := Fin.mk.inj e
    apply Fin.ext; omega
  · intro s _ hs
    have h1 : s ≤ r := by by_contra h; exact hs (if_neg h)
    have h1' : s.val ≤ r.val := h1
    refine ⟨⟨s.val + 127 - r.val, by omega⟩, Finset.mem_univ _, ?_, Fin.ext (by dsimp only; omega)⟩
    rw [dif_pos (by dsimp only; omega)]
    rw [if_pos h1] at hs
    refine fun h => hs (Eq.trans (congrArg f (Fin.ext ?_)) h)
    dsimp only; omega
  · intro w _ hw
    have h1 : 127 ≤ r.val + w.val := by by_contra h; exact hw (dif_neg h)
    rw [dif_pos h1, if_pos (by show (r.val + w.val - 127) % 128 ≤ r.val; omega)]
    exact congrArg f (Fin.ext (by dsimp only; omega))

variable (x0 : Vec Ideal S16384x1536 .f32) (x1 : Vec Ideal S16384x1024 .f32) (x2 : Vec Ideal S16384x128 .f32)
  (x3 : Vec Ideal S4x1536 .f32) (x4 : Vec Ideal S1536 .f32) (x5 x6 x7 : Vec Ideal S16 .f32) (x8 : Vec Ideal S1024 .f32)

theorem v70_raw (z r : Fin 128) (g : Fin 2) (j : Fin 8) :
    val_main_v70 (F := Ideal) x2 x5 x6 (ix4 z r g j) = ∑ s : Fin 128, if s ≤ r then val_main_v65 (F := Ideal) x2 x5 x6 (ix4 z s g j) else 0 := by
  unfold val_main_v70
  generalize val_main_v65 (F := Ideal) x2 x5 x6 = y
  have h0 : val_main_call0_call0_v0 (F := Ideal) (Shape.Idx.first h_S_) = (0 : EReal) := by
    rw [val_main_call0_call0_v0_apply, val_main_call0_call0_cst_apply]; exact Ideal.ofBits_zero _
  unfold Host.reduceWindowAdd
  rw [h0]
  show Host.reduceWindow (fun a b : EReal => a + b) ![1, 128, 1, 1] ![1, 1, 1, 1] ![0, 127, 0, 0] ![0, 0, 0, 0] y
    (fun _ : (⟨0, ![]⟩ : Shape).Idx => (0 : EReal)) reduceWindows_S128x128x2x8_S128x128x2x8_w1s1p0_0_w128s1p127_0_w1s1p0_0_w1s1p0_0
    (by decide) (ix4 z r g j) = _
  unfold Host.reduceWindow
  refine (foldl_add _ _).trans ?_
  rw [zero_add]
  refine Eq.trans ?_ (window_sum r fun s => y (ix4 z s g j))
  let e : Fin (⟨4, ![1, 128, 1, 1]⟩ : Shape).numel ≃ Fin 128 :=
    (⟨4, ![1, 128, 1, 1]⟩ : Shape).rowMajor.symm.trans ⟨fun i => i 1, fun w => ix4 (0 : Fin 1) w (0 : Fin 1) (0 : Fin 1), fun i => by
      funext a; apply Fin.ext
      match a with
      | ⟨0, _⟩ => have : (i 0).val < 1 := (i 0).isLt; show 0 = (i 0).val; omega
      | ⟨1, _⟩ => rfl
      | ⟨2, _⟩ => have : (i 2).val < 1 := (i 2).isLt; show 0 = (i 2).val; omega
      | ⟨3, _⟩ => have : (i 3).val < 1 := (i 3).isLt; show 0 = (i 3).val; omega, fun w => rfl⟩
  refine Fintype.sum_equiv e _ _ fun n => ?_
  have he : e n = (⟨4, ![1, 128, 1, 1]⟩ : Shape).rowMajor.symm n 1 := rfl
  have i0 : ((⟨4, ![1, 128, 1, 1]⟩ : Shape).rowMajor.symm n 0).val < 1 := ((⟨4, ![1, 128, 1, 1]⟩ : Shape).rowMajor.symm n 0).isLt
  have i1 : ((⟨4, ![1, 128, 1, 1]⟩ : Shape).rowMajor.symm n 1).val < 128 := ((⟨4, ![1, 128, 1, 1]⟩ : Shape).rowMajor.symm n 1).isLt
  have i2 : ((⟨4, ![1, 128, 1, 1]⟩ : Shape).rowMajor.symm n 2).val < 1 := ((⟨4, ![1, 128, 1, 1]⟩ : Shape).rowMajor.symm n 2).isLt
  have i3 : ((⟨4, ![1, 128, 1, 1]⟩ : Shape).rowMajor.symm n 3).val < 1 := ((⟨4, ![1, 128, 1, 1]⟩ : Shape).rowMajor.symm n 3).isLt
  rw [he]
  by_cases hh : 127 ≤ r.val + ((⟨4, ![1, 128, 1, 1]⟩ : Shape).rowMajor.symm n 1).val
  · rw [dif_pos hh, dif_pos]
    · refine congrArg y (funext fun a => Fin.ext ?_)
      match a with
      | ⟨0, _⟩ => show z.val * 1 + ((⟨4, ![1, 128, 1, 1]⟩ : Shape).rowMajor.symm n 0).val - 0 = z.val; omega
      | ⟨1, _⟩ => show r.val * 1 + ((⟨4, ![1, 128, 1, 1]⟩ : Shape).rowMajor.symm n 1).val - 127 = r.val + ((⟨4, ![1, 128, 1, 1]⟩ : Shape).rowMajor.symm n 1).val - 127; omega
      | ⟨2, _⟩ => show g.val * 1 + ((⟨4, ![1, 128, 1, 1]⟩ : Shape).rowMajor.symm n 2).val - 0 = g.val; omega
      | ⟨3, _⟩ => show j.val * 1 + ((⟨4, ![1, 128, 1, 1]⟩ : Shape).rowMajor.symm n 3).val - 0 = j.val; omega
    · intro a
      match a with
      | ⟨0, _⟩ => show 0 ≤ z.val * 1 + ((⟨4, ![1, 128, 1, 1]⟩ : Shape).rowMajor.symm n 0).val ∧ z.val * 1 + ((⟨4, ![1, 128, 1, 1]⟩ : Shape).rowMajor.symm n 0).val - 0 < 128; omega
      | ⟨1, _⟩ => show 127 ≤ r.val * 1 + ((⟨4, ![1, 128, 1, 1]⟩ : Shape).rowMajor.symm n 1).val ∧ r.val * 1 + ((⟨4, ![1, 128, 1, 1]⟩ : Shape).rowMajor.symm n 1).val - 127 < 128; omega
      | ⟨2, _⟩ => show 0 ≤ g.val * 1 + ((⟨4, ![1, 128, 1, 1]⟩ : Shape).rowMajor.symm n 2).val ∧ g.val * 1 + ((⟨4, ![1, 128, 1, 1]⟩ : Shape).rowMajor.symm n 2).val - 0 < 2; omega
      | ⟨3, _⟩ => show 0 ≤ j.val * 1 + ((⟨4, ![1, 128, 1, 1]⟩ : Shape).rowMajor.symm n 3).val ∧ j.val * 1 + ((⟨4, ![1, 128, 1, 1]⟩ : Shape).rowMajor.symm n 3).val - 0 < 8; omega
  · rw [dif_neg hh, dif_neg]
    intro h
    have : 127 ≤ r.val * 1 + ((⟨4, ![1, 128, 1, 1]⟩ : Shape).rowMajor.symm n 1).val ∧ _ := h 1
    omega

/-! ## The arguments as tables -/

/-- The projected columns' rows. -/
def X (r : ℕ) (k : Fin 1536) : EReal := x0 (ix2 ⟨r % 16384, by omega⟩ k)
/-- The gate's rows. -/
def Z (r : ℕ) (k : Fin 1024) : EReal := x1 (ix2 ⟨r % 16384, by omega⟩ k)
/-- The step sizes of chunk `z`. -/
def dtT (z : ℕ) (s : Fin 128) (j : Fin 16) : EReal :=
  softplus (x2 (ix2 ⟨(128 * z + s.val) % 16384, by omega⟩ ⟨j.val, by omega⟩) + x5 (ix1 j))
/-- The negated rates. -/
def naT (j : Fin 16) : EReal := -(Ideal.exp (x6 (ix1 j)))
/-- The convolved columns of chunk `z`. -/
def uT : ℕ → Fin 128 → Fin 1536 → EReal := cols (X x0) (fun i k => x3 (ix2 i k)) (fun k => x4 (ix1 k))
/-- The state entering chunk `z`. -/
def hT : ℕ → Fin 1024 → Fin 128 → EReal := hIn (uT x0 x3 x4) (dtT x2 x5) (naT x6)
/-- The state leaving chunk `z`. -/
def hOut (z : ℕ) : Fin 1024 → Fin 128 → EReal := hNext (uT x0 x3 x4 z) (dtT x2 x5 z) (naT x6) (hT x0 x2 x3 x4 x5 x6 z)
/-- The output rows of chunk `z`. -/
def yT (z : ℕ) (l : Fin 128) : Fin 1024 → EReal :=
  normed (fun k => x8 (ix1 k))
    (gated (uT x0 x3 x4 z) (dtT x2 x5 z) (naT x6) (hT x0 x2 x3 x4 x5 x6 z) (fun l k => Z x1 (128 * z + l.val) k)
      (fun j => x7 (ix1 j)) l)

/-- Head `j` of group `g`. -/
def hj (g : Fin 2) (j : Fin 8) : Fin 16 := ⟨g.val * 8 + j.val, by omega⟩
/-- Column `p` of head `j` of group `g`. -/
def col (g : Fin 2) (j : Fin 8) (p : Fin 64) : Fin 1024 := ⟨(g.val * 8 + j.val) * 64 + p.val, by omega⟩

theorem hd_col (g : Fin 2) (j : Fin 8) (p : Fin 64) : hd (col g j p) = hj g j := Fin.ext (by simp only [hd, col, hj]; omega)
theorem gr_hj (g : Fin 2) (j : Fin 8) : gr (hj g j) = g := Fin.ext (by simp only [gr, hj]; omega)

/-! ## The convolved columns -/

theorem v2_at (b : Fin 8) (p : Fin 2051) (k : Fin 1536) :
    val_main_v2 (F := Ideal) x0 (ix3 b p k) = if p.val < 3 then 0 else X x0 (2048 * b.val + p.val - 3) k := by
  pointwise [val_main_v2, val_main_v0, val_main_v1, val_main_cst]
  split
  · rfl
  · exact congrArg (fun i => x0 (ix2 i k)) (Fin.ext (by dsimp only; omega))

theorem v34_at (z l : Fin 128) (k : Fin 1536) (b : Fin 8) (r : Fin 2048) (h : 2048 * b.val + r.val = 128 * z.val + l.val) :
    val_main_v34 (F := Ideal) x0 x3 x4 (ix3 b r k) = conv (X x0) (fun i k => x3 (ix2 i k)) (fun k => x4 (ix1 k)) z.val l k := by
  pointwise [val_main_v34, val_main_v33, val_main_v32, val_main_v31, val_main_v30, val_main_v29, val_main_v28,
   val_main_v27, val_main_v26, val_main_v25, val_main_v24, val_main_v23, val_main_v22, val_main_v21, val_main_v20,
   val_main_v19, val_main_v18, val_main_v17, val_main_v16, val_main_v15, val_main_v14, val_main_v13, val_main_v12,
   val_main_v11, val_main_v10, val_main_v9, val_main_v8, val_main_v7, val_main_v6, val_main_v5, val_main_v4, val_main_v3, val_main_cst_0]
  simp only [v2_at]
  have t (i q : ℕ) (hq : q = r.val + i) : (if q < 3 then 0 else X x0 (2048 * b.val + q - 3) k) = tap (X x0) z.val l i k := by
    subst hq
    rw [tap]
    refine if_congr (by omega) rfl (congrArg (fun n => X x0 n k) (by omega))
  rw [t 0 r.val rfl, t 1 _ (Nat.add_comm _ _), t 2 _ (Nat.add_comm _ _), t 3 _ (Nat.add_comm _ _)]
  rfl

theorem v42_at (z l : Fin 128) (k : Fin 1536) (r : Fin 16384) (h : r.val = 128 * z.val + l.val) :
    val_main_v42 (F := Ideal) x0 x3 x4 (ix2 r k) = uT x0 x3 x4 z.val l k := by
  pointwise [val_main_v42, val_main_v41, val_main_v40, val_main_v39, val_main_v38, val_main_v37, val_main_v36, val_main_v35, val_main_cst_1, val_main_cst_2]
  rw [v34_at x0 x3 x4 z l k _ _ (by dsimp only; omega)]
  rfl

theorem v44_at (z l : Fin 128) (g : Fin 2) (j : Fin 8) (p : Fin 64) :
    val_main_v44 (F := Ideal) x0 x3 x4 (ix5 z l g j p) = xs (uT x0 x3 x4 z.val) l (col g j p) := by
  pointwise [val_main_v44, val_main_v43]
  rw [v42_at x0 x3 x4 z l _ _ (by dsimp only; omega)]
  exact congrArg (uT x0 x3 x4 z.val l) (Fin.ext (by simp only [col]; omega))

theorem v46_at (z l : Fin 128) (g : Fin 2) (n : Fin 128) :
    val_main_v46 (F := Ideal) x0 x3 x4 (ix4 z l g n) = bm (uT x0 x3 x4 z.val) l g n := by
  pointwise [val_main_v46, val_main_v45]
  rw [v42_at x0 x3 x4 z l _ _ (by dsimp only; omega)]
  exact congrArg (uT x0 x3 x4 z.val l) (Fin.ext (by dsimp only; omega))

theorem v48_at (z l : Fin 128) (g : Fin 2) (n : Fin 128) :
    val_main_v48 (F := Ideal) x0 x3 x4 (ix4 z l g n) = cm (uT x0 x3 x4 z.val) l g n := by
  pointwise [val_main_v48, val_main_v47]
  rw [v42_at x0 x3 x4 z l _ _ (by dsimp only; omega)]
  exact congrArg (uT x0 x3 x4 z.val l) (Fin.ext (by dsimp only; omega))

/-! ## The step sizes and their running sums -/

theorem v59_at (z s : Fin 128) (j : Fin 16) (r : Fin 16384) (h : r.val = 128 * z.val + s.val) :
    val_main_v59 (F := Ideal) x2 x5 (ix2 r j) = dtT x2 x5 z.val s j := by
  pointwise [val_main_v59, val_main_v58, val_main_v57, val_main_v56, val_main_v55, val_main_v54, val_main_v53, val_main_v52, val_main_v51, val_main_v50, val_main_v49, val_main_cst_3]
  rw [dtT]
  rw [show (⟨(128 * z.val + s.val) % 16384, by omega⟩ : Fin 16384) = r from Fin.ext (by dsimp only; omega)]
  rfl

theorem v65_at (z s : Fin 128) (g : Fin 2) (j : Fin 8) :
    val_main_v65 (F := Ideal) x2 x5 x6 (ix4 z s g j) = (dtT x2 x5 z.val s (hj g j) * naT x6 (hj g j) : EReal) := by
  pointwise [val_main_v65, val_main_v64, val_main_v63, val_main_v62, val_main_v61, val_main_v60]
  rw [v59_at x2 x5 z s _ _ (by dsimp only; omega)]
  rfl

theorem v70_at (z r : Fin 128) (g : Fin 2) (j : Fin 8) :
    val_main_v70 (F := Ideal) x2 x5 x6 (ix4 z r g j) = cs (dtT x2 x5 z.val) (naT x6) r (hj g j) := by
  rw [v70_raw]
  simp only [v65_at]
  rfl

theorem v69_at (z s : Fin 128) (g : Fin 2) (j : Fin 8) (p : Fin 64) :
    val_main_v69 (F := Ideal) x0 x2 x3 x4 x5 (ix5 z s g j p) = xdt (uT x0 x3 x4 z.val) (dtT x2 x5 z.val) s (col g j p) := by
  pointwise [val_main_v69, val_main_v68, val_main_v67, val_main_v66]
  rw [v44_at, v59_at x2 x5 z s _ _ (by dsimp only; omega), xdt]
  exact congrArg (fun q => (xs (uT x0 x3 x4 z.val) s (col g j p) * dtT x2 x5 z.val s q : EReal)) (Fin.ext (by simp only [hd, col]; omega))

theorem select_sle (k r : Nat) (hk : k < 128) (hr : r < 128) (a b : EReal) :
    Scalar.select (IntOp.cmpi CmpIPredicate.sle (BitVec.ofNat 32 k) (BitVec.ofNat 32 r)) a b = if k ≤ r then a else b := by
  rw [WordCmp.cmpi_sle_ofNat (by omega) (by omega)]; unfold Scalar.select; by_cases h : k ≤ r <;> simp [h]

theorem neg_inf : (id (constant (F := Ideal) S_ FTy.f32 4286578688#32) ix0 : EReal) = ⊥ := by
  show Ideal.ofBits .f32 0xFF800000#32 = ⊥
  simp [Ideal.ofBits, Ideal.ieee]

theorem v88_at (z l : Fin 128) (g : Fin 2) (j : Fin 8) (p : Fin 64) :
    val_main_v88 (F := Ideal) x0 x2 x3 x4 x5 x6 (ix5 z l g j p) = yDiag (uT x0 x3 x4 z.val) (dtT x2 x5 z.val) (naT x6) l (col g j p) := by
  pointwise [val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_call1_v0, val_main_call1_v1, val_main_call1_v2, val_main_cst_4]
  simp only [v69_at, v70_at, v46_at, v48_at]
  rw [yDiag]
  refine Finset.sum_congr rfl fun s _ => ?_
  rw [mul_comm, select_sle s.val l.val s.isLt l.isLt, neg_inf, hd_col, gr_hj, cb, lm]
  refine congrArg (fun q : EReal => q * _ * _) (Finset.sum_congr rfl fun n _ => mul_comm _ _)

/-- A column by its group, head and place. -/
theorem col_parts (k : Fin 1024) : col ⟨k.val / 512, by omega⟩ ⟨k.val / 64 % 8, by omega⟩ ⟨k.val % 64, by omega⟩ = k :=
  Fin.ext (by simp only [col]; omega)
theorem hj_parts (k : Fin 1024) : hj ⟨k.val / 512, by omega⟩ ⟨k.val / 64 % 8, by omega⟩ = hd k :=
  Fin.ext (by simp only [hj, hd]; omega)
theorem gr_parts (k : Fin 1024) : (⟨k.val / 512, by omega⟩ : Fin 2) = gr (hd k) := Fin.ext (by simp only [gr, hd]; omega)

/-! ## The states -/

theorem v100_at (b : Fin 8) (c : Fin 16) (k : Fin 1024) (n : Fin 128) :
    val_main_v100 (F := Ideal) x0 x2 x3 x4 x5 x6 (ix4 b c k n) = states (uT x0 x3 x4 (16 * b.val + c.val)) (dtT x2 x5 (16 * b.val + c.val)) (naT x6) k n := by
  pointwise [val_main_v100, val_main_v96, val_main_v95, val_main_v94, val_main_v93, val_main_v92, val_main_v91, val_main_v90, val_main_v89]
  simp only [v69_at, v70_at, v46_at, col_parts, hj_parts]
  rw [states, Nat.mul_comm b.val 16, gr_parts]
  exact Finset.sum_congr rfl fun s _ => congrArg (fun q : EReal => q * _) (mul_comm _ _)

theorem v103_at (b : Fin 8) (c : Fin 16) (k : Fin 1024) (o : Fin 1) :
    val_main_v103 (F := Ideal) x2 x5 x6 (ix4 b c k o) = Ideal.exp (cs (dtT x2 x5 (16 * b.val + c.val)) (naT x6) 127 (hd k)) := by
  pointwise [val_main_v103, val_main_v102, val_main_v101, val_main_v99, val_main_v98, val_main_v97]
  simp only [v70_at, hj_parts]
  rw [Nat.mul_comm b.val 16]

/-- The state of sequence `b` after its first `i` chunks. -/
def hAft (b : ℕ) : ℕ → Fin 1024 → Fin 128 → EReal
  | 0 => fun _ _ => 0
  | i + 1 => hNext (uT x0 x3 x4 (16 * b + i)) (dtT x2 x5 (16 * b + i)) (naT x6) (hAft b i)

theorem hAft_eq (b i : ℕ) (h : i < 16) : hAft x0 x2 x3 x4 x5 x6 b i = hT x0 x2 x3 x4 x5 x6 (16 * b + i) := by
  induction i with
  | zero => rw [hT, hIn_first _ _ _ _ (by omega)]; rfl
  | succ i ih => rw [hT, hIn_next _ _ _ _ (by omega), hAft, ih (by omega)]; rfl

/-- One chunk of the sequential loop. -/
theorem step_at (c : Fin 16) (h h' : Vec Ideal S8x1024x128 .f32)
    (e : ∀ b k n, h' (ix3 b k n) = (h (ix3 b k n) * val_main_v103 (F := Ideal) x2 x5 x6 (ix4 b c k 0)
      + val_main_v100 (F := Ideal) x0 x2 x3 x4 x5 x6 (ix4 b c k n) : EReal))
    (ih : ∀ b k n, h (ix3 b k n) = hAft x0 x2 x3 x4 x5 x6 b.val c.val k n) (b : Fin 8) (k : Fin 1024) (n : Fin 128) :
    h' (ix3 b k n) = hAft x0 x2 x3 x4 x5 x6 b.val (c.val + 1) k n := by
  rw [e, v103_at, v100_at, ih, hAft, hNext, mul_comm]

theorem h0_at (b : Fin 8) (k : Fin 1024) (n : Fin 128) :
    val_main_v104 (F := Ideal) (ix3 b k n) = hAft x0 x2 x3 x4 x5 x6 b.val 0 k n := by
  pointwise [val_main_v104, val_main_cst_5]
  rfl

theorem h1_at : ∀ b k n, val_main_v111 (F := Ideal) x0 x2 x3 x4 x5 x6 (ix3 b k n) = hAft x0 x2 x3 x4 x5 x6 b.val 1 k n :=
  step_at x0 x2 x3 x4 x5 x6 0 val_main_v104 _ (fun _ _ _ => by
    pointwise [val_main_v111, val_main_v110, val_main_v109, val_main_v108, val_main_v107, val_main_v106, val_main_v105]) (h0_at x0 x2 x3 x4 x5 x6)

theorem h2_at : ∀ b k n, val_main_v118 (F := Ideal) x0 x2 x3 x4 x5 x6 (ix3 b k n) = hAft x0 x2 x3 x4 x5 x6 b.val 2 k n :=
  step_at x0 x2 x3 x4 x5 x6 1 (val_main_v111 x0 x2 x3 x4 x5 x6) _ (fun _ _ _ => by
    pointwise [val_main_v118, val_main_v117, val_main_v116, val_main_v115, val_main_v114, val_main_v113, val_main_v112]) (h1_at x0 x2 x3 x4 x5 x6)

theorem h3_at : ∀ b k n, val_main_v125 (F := Ideal) x0 x2 x3 x4 x5 x6 (ix3 b k n) = hAft x0 x2 x3 x4 x5 x6 b.val 3 k n :=
  step_at x0 x2 x3 x4 x5 x6 2 (val_main_v118 x0 x2 x3 x4 x5 x6) _ (fun _ _ _ => by
    pointwise [val_main_v125, val_main_v124, val_main_v123, val_main_v122, val_main_v121, val_main_v120, val_main_v119]) (h2_at x0 x2 x3 x4 x5 x6)

theorem h4_at : ∀ b k n, val_main_v132 (F := Ideal) x0 x2 x3 x4 x5 x6 (ix3 b k n) = hAft x0 x2 x3 x4 x5 x6 b.val 4 k n :=
  step_at x0 x2 x3 x4 x5 x6 3 (val_main_v125 x0 x2 x3 x4 x5 x6) _ (fun _ _ _ => by
    pointwise [val_main_v132, val_main_v131, val_main_v130, val_main_v129, val_main_v128, val_main_v127, val_main_v126]) (h3_at x0 x2 x3 x4 x5 x6)

theorem h5_at : ∀ b k n, val_main_v139 (F := Ideal) x0 x2 x3 x4 x5 x6 (ix3 b k n) = hAft x0 x2 x3 x4 x5 x6 b.val 5 k n :=
  step_at x0 x2 x3 x4 x5 x6 4 (val_main_v132 x0 x2 x3 x4 x5 x6) _ (fun _ _ _ => by
    pointwise [val_main_v139, val_main_v138, val_main_v137, val_main_v136, val_main_v135, val_main_v134, val_main_v133]) (h4_at x0 x2 x3 x4 x5 x6)

theorem h6_at : ∀ b k n, val_main_v146 (F := Ideal) x0 x2 x3 x4 x5 x6 (ix3 b k n) = hAft x0 x2 x3 x4 x5 x6 b.val 6 k n :=
  step_at x0 x2 x3 x4 x5 x6 5 (val_main_v139 x0 x2 x3 x4 x5 x6) _ (fun _ _ _ => by
    pointwise [val_main_v146, val_main_v145, val_main_v144, val_main_v143, val_main_v142, val_main_v141, val_main_v140]) (h5_at x0 x2 x3 x4 x5 x6)

theorem h7_at : ∀ b k n, val_main_v153 (F := Ideal) x0 x2 x3 x4 x5 x6 (ix3 b k n) = hAft x0 x2 x3 x4 x5 x6 b.val 7 k n :=
  step_at x0 x2 x3 x4 x5 x6 6 (val_main_v146 x0 x2 x3 x4 x5 x6) _ (fun _ _ _ => by
    pointwise [val_main_v153, val_main_v152, val_main_v151, val_main_v150, val_main_v149, val_main_v148, val_main_v147]) (h6_at x0 x2 x3 x4 x5 x6)

theorem h8_at : ∀ b k n, val_main_v160 (F := Ideal) x0 x2 x3 x4 x5 x6 (ix3 b k n) = hAft x0 x2 x3 x4 x5 x6 b.val 8 k n :=
  step_at x0 x2 x3 x4 x5 x6 7 (val_main_v153 x0 x2 x3 x4 x5 x6) _ (fun _ _ _ => by
    pointwise [val_main_v160, val_main_v159, val_main_v158, val_main_v157, val_main_v156, val_main_v155, val_main_v154]) (h7_at x0 x2 x3 x4 x5 x6)

theorem h9_at : ∀ b k n, val_main_v167 (F := Ideal) x0 x2 x3 x4 x5 x6 (ix3 b k n) = hAft x0 x2 x3 x4 x5 x6 b.val 9 k n :=
  step_at x0 x2 x3 x4 x5 x6 8 (val_main_v160 x0 x2 x3 x4 x5 x6) _ (fun _ _ _ => by
    pointwise [val_main_v167, val_main_v166, val_main_v165, val_main_v164, val_main_v163, val_main_v162, val_main_v161]) (h8_at x0 x2 x3 x4 x5 x6)

theorem h10_at : ∀ b k n, val_main_v174 (F := Ideal) x0 x2 x3 x4 x5 x6 (ix3 b k n) = hAft x0 x2 x3 x4 x5 x6 b.val 10 k n :=
  step_at x0 x2 x3 x4 x5 x6 9 (val_main_v167 x0 x2 x3 x4 x5 x6) _ (fun _ _ _ => by
    pointwise [val_main_v174, val_main_v173, val_main_v172, val_main_v171, val_main_v170, val_main_v169, val_main_v168]) (h9_at x0 x2 x3 x4 x5 x6)

theorem h11_at : ∀ b k n, val_main_v181 (F := Ideal) x0 x2 x3 x4 x5 x6 (ix3 b k n) = hAft x0 x2 x3 x4 x5 x6 b.val 11 k n :=
  step_at x0 x2 x3 x4 x5 x6 10 (val_main_v174 x0 x2 x3 x4 x5 x6) _ (fun _ _ _ => by
    pointwise [val_main_v181, val_main_v180, val_main_v179, val_main_v178, val_main_v177, val_main_v176, val_main_v175]) (h10_at x0 x2 x3 x4 x5 x6)

theorem h12_at : ∀ b k n, val_main_v188 (F := Ideal) x0 x2 x3 x4 x5 x6 (ix3 b k n) = hAft x0 x2 x3 x4 x5 x6 b.val 12 k n :=
  step_at x0 x2 x3 x4 x5 x6 11 (val_main_v181 x0 x2 x3 x4 x5 x6) _ (fun _ _ _ => by
    pointwise [val_main_v188, val_main_v187, val_main_v186, val_main_v185, val_main_v184, val_main_v183, val_main_v182]) (h11_at x0 x2 x3 x4 x5 x6)

theorem h13_at : ∀ b k n, val_main_v195 (F := Ideal) x0 x2 x3 x4 x5 x6 (ix3 b k n) = hAft x0 x2 x3 x4 x5 x6 b.val 13 k n :=
  step_at x0 x2 x3 x4 x5 x6 12 (val_main_v188 x0 x2 x3 x4 x5 x6) _ (fun _ _ _ => by
    pointwise [val_main_v195, val_main_v194, val_main_v193, val_main_v192, val_main_v191, val_main_v190, val_main_v189]) (h12_at x0 x2 x3 x4 x5 x6)

theorem h14_at : ∀ b k n, val_main_v202 (F := Ideal) x0 x2 x3 x4 x5 x6 (ix3 b k n) = hAft x0 x2 x3 x4 x5 x6 b.val 14 k n :=
  step_at x0 x2 x3 x4 x5 x6 13 (val_main_v195 x0 x2 x3 x4 x5 x6) _ (fun _ _ _ => by
    pointwise [val_main_v202, val_main_v201, val_main_v200, val_main_v199, val_main_v198, val_main_v197, val_main_v196]) (h13_at x0 x2 x3 x4 x5 x6)

theorem h15_at : ∀ b k n, val_main_v209 (F := Ideal) x0 x2 x3 x4 x5 x6 (ix3 b k n) = hAft x0 x2 x3 x4 x5 x6 b.val 15 k n :=
  step_at x0 x2 x3 x4 x5 x6 14 (val_main_v202 x0 x2 x3 x4 x5 x6) _ (fun _ _ _ => by
    pointwise [val_main_v209, val_main_v208, val_main_v207, val_main_v206, val_main_v205, val_main_v204, val_main_v203]) (h14_at x0 x2 x3 x4 x5 x6)

theorem h16_at : ∀ b k n, val_main_v216 (F := Ideal) x0 x2 x3 x4 x5 x6 (ix3 b k n) = hAft x0 x2 x3 x4 x5 x6 b.val 16 k n :=
  step_at x0 x2 x3 x4 x5 x6 15 (val_main_v209 x0 x2 x3 x4 x5 x6) _ (fun _ _ _ => by
    pointwise [val_main_v216, val_main_v215, val_main_v214, val_main_v213, val_main_v212, val_main_v211, val_main_v210]) (h15_at x0 x2 x3 x4 x5 x6)

/-- The entering states, stacked. -/
theorem v233_at (b : Fin 8) (c : Fin 16) (k : Fin 1024) (n : Fin 128) :
    val_main_v233 (F := Ideal) x0 x2 x3 x4 x5 x6 (ix4 b c k n) = hT x0 x2 x3 x4 x5 x6 (16 * b.val + c.val) k n := by
  rw [← hAft_eq _ _ _ _ _ _ _ _ c.isLt]
  pointwise [val_main_v233, val_main_v217, val_main_v218, val_main_v219, val_main_v220, val_main_v221, val_main_v222, val_main_v223, val_main_v224, val_main_v225, val_main_v226, val_main_v227, val_main_v228, val_main_v229, val_main_v230, val_main_v231, val_main_v232]
  fin_vals c with hc
  all_goals simp only [hc, Nat.reduceSub, Nat.reduceLT, ↓reduceDIte, h1_at, h2_at, h3_at, h4_at, h5_at, h6_at, h7_at, h8_at, h9_at, h10_at, h11_at, h12_at, h13_at, h14_at, h15_at, h0_at x0 x2 x3 x4 x5 x6]

theorem v216_at (b : Fin 8) (k : Fin 1024) (n : Fin 128) :
    val_main_v216 (F := Ideal) x0 x2 x3 x4 x5 x6 (ix3 b k n) = hOut x0 x2 x3 x4 x5 x6 (16 * b.val + 15) k n := by
  rw [h16_at, hAft, hAft_eq _ _ _ _ _ _ _ _ (by omega)]; rfl

/-! ## The output -/

theorem v240_at (z l : Fin 128) (g : Fin 2) (j : Fin 8) (p : Fin 64) :
    val_main_v240 (F := Ideal) x0 x2 x3 x4 x5 x6 (ix5 z l g j p)
      = yOff (uT x0 x3 x4 z.val) (dtT x2 x5 z.val) (naT x6) (hT x0 x2 x3 x4 x5 x6 z.val) l (col g j p) := by
  pointwise [val_main_v240, val_main_v239, val_main_v238, val_main_v237, val_main_v236, val_main_v235, val_main_v234]
  simp only [v233_at, v48_at, v70_at]
  rw [yOff, hd_col, gr_hj, show 16 * (z.val / 16) + z.val % 16 = z.val by omega]
  exact congrArg (fun q : EReal => q * _) (Finset.sum_congr rfl fun n _ => (mul_comm _ _).trans
    (congrArg (fun q => (cm (uT x0 x3 x4 z.val) l g n * hT x0 x2 x3 x4 x5 x6 z.val q n : EReal)) (Fin.ext (by simp only [col]; omega))))

theorem v246_at (z l : Fin 128) (g : Fin 2) (j : Fin 8) (p : Fin 64) :
    val_main_v246 (F := Ideal) x0 x2 x3 x4 x5 x6 x7 (ix5 z l g j p)
      = (yDiag (uT x0 x3 x4 z.val) (dtT x2 x5 z.val) (naT x6) l (col g j p)
        + yOff (uT x0 x3 x4 z.val) (dtT x2 x5 z.val) (naT x6) (hT x0 x2 x3 x4 x5 x6 z.val) l (col g j p)
        + x7 (ix1 (hj g j)) * xs (uT x0 x3 x4 z.val) l (col g j p) : EReal) := by
  pointwise [val_main_v246, val_main_v245, val_main_v244, val_main_v243, val_main_v242, val_main_v241]
  rw [v88_at, v240_at, v44_at]
  rfl

theorem v255_at (z l : Fin 128) (k : Fin 1024) (r : Fin 16384) (h : r.val = 128 * z.val + l.val) :
    val_main_v255 (F := Ideal) x0 x1 x2 x3 x4 x5 x6 x7 (ix2 r k)
      = gated (uT x0 x3 x4 z.val) (dtT x2 x5 z.val) (naT x6) (hT x0 x2 x3 x4 x5 x6 z.val) (fun l k => Z x1 (128 * z.val + l.val) k)
      (fun j => x7 (ix1 j)) l k := by
  pointwise [val_main_v255, val_main_v254, val_main_v253, val_main_v252, val_main_v251, val_main_v250, val_main_v249, val_main_v248, val_main_v247, val_main_cst_6, val_main_cst_7]
  rw [v246_at, col_parts, hj_parts, show (⟨r.val / 128, by omega⟩ : Fin 128) = z from Fin.ext (by dsimp only; omega),
    show (⟨r.val % 128, by omega⟩ : Fin 128) = l from Fin.ext (by dsimp only; omega), gated, Z,
    show (⟨(128 * z.val + l.val) % 16384, by omega⟩ : Fin 16384) = r from Fin.ext (by dsimp only; omega)]
  rfl

theorem v271_at (z l : Fin 128) (k : Fin 1024) (r : Fin 16384) (h : r.val = 128 * z.val + l.val) :
    val_main_v271 (F := Ideal) x0 x1 x2 x3 x4 x5 x6 x7 x8 (ix2 r k) = yT x0 x1 x2 x3 x4 x5 x6 x7 x8 z.val l k := by
  pointwise [val_main_v271, val_main_v270, val_main_v269, val_main_v268, val_main_v267, val_main_v266, val_main_v265, val_main_v264, val_main_v263, val_main_v262, val_main_v261, val_main_v260, val_main_v259, val_main_v258, val_main_v257, val_main_v256, val_main_cst_8, val_main_cst_9, val_main_cst_10]
  simp only [v255_at x0 x1 x2 x3 x4 x5 x6 x7 z l _ _ h, Nat.mul_comm (k.val / 512) 512]
  rfl

/-! ## The convolution's tail -/

theorem v272_at (b : Fin 8) (r : Fin 3) (k : Fin 1536) :
    val_main_v272 (F := Ideal) x0 (ix3 b r k) = X x0 (2048 * b.val + 2045 + r.val) k := by
  pointwise [val_main_v272]
  rw [v2_at, if_neg (by dsimp only; omega)]
  exact congrArg (fun i => X x0 i k) (by dsimp only; omega)

end Cert.RVal
end
-- ==== Proof.Ssd.Claim.lean ====
/-
  THE CLAIMS of the fused scan kernel: the frames are the generated ones, the idealization replaced one mask constant, and the
  kernel's three results are the reference's where every raw step with its bias is below plus infinity.
-/
module

public import proofs.«01_k».proof.Defs
public import proofs.«01_k».proof.Proof.Gen.Kernel.Frame
public import proofs.«01_k».proof.Proof.Gen.KernelIdeal.Frame
public import proofs.«01_k».proof.Proof.Ssd.Fold
public import proofs.«01_k».proof.Proof.Ssd.Ref
public import Idealize.ShloMosaic.Lib.ReduceAll
public import Idealize.ShloMosaic.Adequacy
public import Idealize.ShloMosaic.Init

@[expose] public section

set_option maxRecDepth 16384

noncomputable section

namespace Cert.SsdClaims

open Idealize.ShloMosaic Idealize.ShloMosaic.TcCoe Idealize.SL.Sem Idealize.ShloMosaic.StableHlo

/-- The side conditions that the precondition's operations state. -/
instance preFacts : Cert.Pre_finite_steps.Facts where
  slices_S16384x128_S16384x16_0_0 := by decide
  bcast_S16_S1x16_1 := by decide
  bcast_S1x16_S16384x16_0_1 := by decide
  bcast_S_S16384x16 := by decide
  reducesTo_S16384x16_S_d0_1 := by decide
  h_S_ := by decide

/-- The device's frame, as generated. -/
theorem frame_p : Cert.quiescent_Kernel := fun m ρ _ => Cert.Kernel.Gen.frame m ρ
/-- The idealized kernel's frame, as generated. -/
theorem frame_pi : Cert.quiescent_KernelIdeal := fun m ρ _ => Cert.KernelIdeal.Gen.frame m ρ
/-- The same under the precondition. -/
theorem frame_pi_pre : Cert.quiescent_KernelIdeal_pre_finite_steps := fun m ρ _ => Cert.KernelIdeal.Gen.frame m ρ
/-- The reference's frame: its generated run keeps the arguments, and it has no semaphore. -/
theorem frame_ri : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)
/-- The same under the precondition. -/
theorem frame_ri_pre : Cert.quiescent_ReferenceIdeal_pre_finite_steps := fun m ρ _ => frame_ri m ρ trivial

/-- The mask constant was the only change. -/
theorem preserves : Cert.preserves_Kernel_KernelIdeal :=
  IdealRules.named_const.statement Cert.KernelIdeal.κ "mask" .f32 0xF149F2CA#32 ⊥ rfl

/-- Where the precondition holds, every raw step with its bias is below plus infinity. -/
theorem finite_of_pre (x0 : Vec Ideal ⟨2, ![16384, 1536]⟩ .f32) (x1 : Vec Ideal ⟨2, ![16384, 1024]⟩ .f32) (x2 : Vec Ideal ⟨2, ![16384, 128]⟩ .f32)
    (x3 : Vec Ideal ⟨2, ![4, 1536]⟩ .f32) (x4 : Vec Ideal ⟨1, ![1536]⟩ .f32) (x5 x6 x7 : Vec Ideal ⟨1, ![16]⟩ .f32)
    (x8 : Vec Ideal ⟨1, ![1024]⟩ .f32)
    (h : Cert.Pre_finite_steps.fn (F := Ideal) x0 x1 x2 x3 x4 x5 x6 x7 x8 = fun _ => 1#1) (r : Fin 16384) (j : Fin 16) :
    (x2 (ix2 r ⟨j.val, by omega⟩) + x5 (ix1 j) : EReal) ≠ ⊤ := by
  have h0 := congrFun h ix0
  dsimp only [Cert.Pre_finite_steps.fn] at h0
  haveI : Subsingleton Cert.Pre_finite_steps.S_.Idx := ⟨fun a b => funext fun q => q.elim0⟩
  have h1 := Host.reduce_andi_all _ _ _ _ _ h0 (ix2 r j)
  pointwise [] at h1
  have h2 : (x2 (ix2 r ⟨j.val, by omega⟩) + x5 (ix1 j) : EReal) < Ideal.ofBits FTy.f32 2139095040#32 := by
    by_contra hc; rw [decide_eq_false hc] at h1; exact absurd h1 (by decide)
  exact ne_top_of_lt h2

section Results

variable (m : (ℓ : Loc Cert.KernelIdeal.nD Cert.KernelIdeal.τ Cert.KernelIdeal.sig) → Buf (Elt Ideal) ℓ) (c : Dev Cert.KernelIdeal.nD)
  (hfin : ∀ r j, Cert.KFold.raw m c r j + Cert.KFold.bias m c j ≠ ⊤)
  (x0 : Vec Ideal ⟨2, ![16384, 1536]⟩ .f32) (x1 : Vec Ideal ⟨2, ![16384, 1024]⟩ .f32) (x2 : Vec Ideal ⟨2, ![16384, 128]⟩ .f32)
  (x3 : Vec Ideal ⟨2, ![4, 1536]⟩ .f32) (x4 : Vec Ideal ⟨1, ![1536]⟩ .f32) (x5 x6 x7 : Vec Ideal ⟨1, ![16]⟩ .f32)
  (x8 : Vec Ideal ⟨1, ![1024]⟩ .f32)
  (e0 : x0 = m ((c.tc : Thread Cert.KernelIdeal.nD Cert.KernelIdeal.τ).loc Cert.KernelIdeal.main_arg0))
  (e1 : x1 = m ((c.tc : Thread Cert.KernelIdeal.nD Cert.KernelIdeal.τ).loc Cert.KernelIdeal.main_arg1))
  (e2 : x2 = m ((c.tc : Thread Cert.KernelIdeal.nD Cert.KernelIdeal.τ).loc Cert.KernelIdeal.main_arg2))
  (e3 : x3 = m ((c.tc : Thread Cert.KernelIdeal.nD Cert.KernelIdeal.τ).loc Cert.KernelIdeal.main_arg3))
  (e4 : x4 = m ((c.tc : Thread Cert.KernelIdeal.nD Cert.KernelIdeal.τ).loc Cert.KernelIdeal.main_arg4))
  (e5 : x5 = m ((c.tc : Thread Cert.KernelIdeal.nD Cert.KernelIdeal.τ).loc Cert.KernelIdeal.main_arg5))
  (e6 : x6 = m ((c.tc : Thread Cert.KernelIdeal.nD Cert.KernelIdeal.τ).loc Cert.KernelIdeal.main_arg6))
  (e7 : x7 = m ((c.tc : Thread Cert.KernelIdeal.nD Cert.KernelIdeal.τ).loc Cert.KernelIdeal.main_arg7))
  (e8 : x8 = m ((c.tc : Thread Cert.KernelIdeal.nD Cert.KernelIdeal.τ).loc Cert.KernelIdeal.main_arg8))

include hfin e0 e1 e2 e3 e4 e5 e6 e7 e8 in
/-- The first results agree, element by element. -/
theorem res0 : Cert.ReferenceIdeal.Read.val_main_v271 (F := Ideal) x0 x1 x2 x3 x4 x5 x6 x7 x8 = Cert.KernelIdeal.Value.G11 m c := by
  subst e0 e1 e2 e3 e4 e5 e6 e7 e8
  funext i
  obtain ⟨r, k, rfl⟩ : ∃ (r : Fin 16384) (k : Fin 1024), i = ix2 r k := ⟨i 0, i 1, by funext a; fin_cases a <;> rfl⟩
  refine (Cert.RVal.v271_at _ _ _ _ _ _ _ _ _ ⟨r.val / 128, by omega⟩ ⟨r.val % 128, by omega⟩ k r (by dsimp only; omega)).trans ?_
  exact (Cert.KFold.G11_eq m c hfin r k).symm

include e0 in
/-- The convolution's tails agree. -/
theorem res1 : Cert.ReferenceIdeal.Read.val_main_v272 (F := Ideal) x0 = Cert.KernelIdeal.Value.G12 m c := by
  subst e0
  funext i
  obtain ⟨b, r, k, rfl⟩ : ∃ (b : Fin 8) (r : Fin 3) (k : Fin 1536), i = ix3 b r k := ⟨i 0, i 1, i 2, by funext a; fin_cases a <;> rfl⟩
  exact (Cert.RVal.v272_at _ b r k).trans (Cert.KFold.G12_eq m c b r k).symm

include hfin e0 e2 e3 e4 e5 e6 in
/-- The last states agree. -/
theorem res2 : Cert.ReferenceIdeal.Read.val_main_v216 (F := Ideal) x0 x2 x3 x4 x5 x6 = Cert.KernelIdeal.Value.G13 m c := by
  subst e0 e2 e3 e4 e5 e6
  funext i
  obtain ⟨b, k, n, rfl⟩ : ∃ (b : Fin 8) (k : Fin 1024) (n : Fin 128), i = ix3 b k n := ⟨i 0, i 1, i 2, by funext a; fin_cases a <;> rfl⟩
  exact (Cert.RVal.v216_at _ _ _ _ _ _ b k n).trans (Cert.KFold.G13_eq m c hfin b k n).symm

end Results

/-- The results agree: both sides are the specification's terms of the same arguments. -/
theorem algebraic : Cert.algebraic_KernelIdeal_ReferenceIdeal_pre_finite_steps := by
  intro m ρ m' ρ' hpre hag
  have hfin (c : Dev Cert.KernelIdeal.nD) : ∀ r j, Cert.KFold.raw m c r j + Cert.KFold.bias m c j ≠ ⊤ :=
    fun r j => finite_of_pre _ _ _ _ _ _ _ _ _ (hpre c) r j
  refine ⟨fun c => Cert.KernelIdeal.Value.G11 m c, fun c => Cert.KernelIdeal.Value.G12 m c, fun c => Cert.KernelIdeal.Value.G13 m c,
    (θ_run Cert.KernelIdeal.defs _ _).mono (fun _ h c => h c) (Cert.KernelIdeal.Value.run (F := Ideal) m ρ), ?_⟩
  refine (θ_run Cert.ReferenceIdeal.defs _ _).mono (fun r h c => ?_) (Cert.ReferenceIdeal.Value.run (F := Ideal) m' ρ')
  obtain ⟨h0, h1, h2, hk⟩ := h c
  obtain ⟨e0, e1, e2, e3, e4, e5, e6, e7, e8⟩ := hag c
  refine ⟨h0.trans ((Cert.ReferenceIdeal.Read.val_main_v271_eq (launchContents m' c)).trans ?_),
    h1.trans ((Cert.ReferenceIdeal.Read.val_main_v272_eq (launchContents m' c)).trans ?_),
    h2.trans ((Cert.ReferenceIdeal.Read.val_main_v216_eq (launchContents m' c)).trans ?_), hk⟩
  · exact res0 m c (hfin c) _ _ _ _ _ _ _ _ _ e0 e1 e2 e3 e4 e5 e6 e7 e8
  · exact res1 m c _ e0
  · exact res2 m c (hfin c) _ _ _ _ _ _ e0 e2 e3 e4 e5 e6

end Cert.SsdClaims

end
-- ==== Proof.Proj.RunA.lean ====
/-
  ONE RUN OF THE INPUT PROJECTION'S BODY at a sequence's first tile: the pieces its stores leave. The text follows the generated one, with more time.
-/
module

public import proofs.«01_k».proof.Proof.Gen.Kernel2Ideal.Frame.Runs

@[expose] public section

-- the long axes of the rectangles need deep recursion
set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run is long
set_option maxHeartbeats 8000000 in
/-- What the body's stores leave in each output's staging memref, as pieces (last first) IN CASE A (`scf.if` 0 taken: points 0, 8, … 56: 8 of 64), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x6912 .bf16) (harg3 : arg3.IsWhole) (arg4 : Memref sig .tc .vmem S1x1x3200 .f32) (harg4 : arg4.IsWhole) (arg5 : Memref sig .tc .vmem S1x3200 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S256x256 .bf16) (harg12 : arg12.IsWhole) (arg13 : Memref sig .tc .vmem S256x256 .bf16) (harg13 : arg13.IsWhole) (arg14 : Memref sig .tc .vmem S256x1024 .f32) (harg14 : arg14.IsWhole) (arg15 : Memref sig .tc .vmem S256x1024 .f32) (harg15 : arg15.IsWhole) (arg16 : Memref sig .tc .vmem S256x1024 .f32) (harg16 : arg16.IsWhole) (arg17 : Memref sig .tc .vmem S256x1024 .f32) (harg17 : arg17.IsWhole) (arg18 : Memref sig .tc .vmem S256x1024 .f32) (harg18 : arg18.IsWhole) (arg19 : Memref sig .tc .vmem S4x1x1024 .f32) (harg19 : arg19.IsWhole) (arg20 : Memref sig .tc .vmem S256x1024 .f32) (harg20 : arg20.IsWhole) (arg21 : Memref sig .tc .vmem S256x1024 .f32) (harg21 : arg21.IsWhole) (arg22 : Memref sig .tc .vmem S256x1536 .f32) (harg22 : arg22.IsWhole) (arg23 : Memref sig .tc .vmem S256x128 .f32) (harg23 : arg23.IsWhole) (arg24 : Memref sig .tc .vmem S8x3200 .f32) (harg24 : arg24.IsWhole) (hc0 : cond0_0 i)
    (x0 : Vec F S256x1024 .f32) (x1 : Vec F S1x1024 .f32) (x2 : Vec F S1024x6912 .bf16) (x3 : Vec F S1x1x3200 .f32) (x4 : Vec F S1x3200 .f32) (x5 : Vec F S1x1024 .f32) (x6 : Vec F S1x1024 .f32) (x7 : Vec F S1x1024 .f32) (x8 : Vec F S1x1024 .f32) (x9 : Vec F S128x1024 .bf16) (x10 : Vec F S128x1024 .bf16) (x11 : Vec F S256x256 .bf16) (x12 : Vec F S256x256 .bf16) :
    Σ' (L13 : List (View.Piece (Elt F) S256x1024 .f32)), Σ' (L14 : List (View.Piece (Elt F) S256x1024 .f32)), Σ' (L15 : List (View.Piece (Elt F) S256x1024 .f32)), Σ' (L16 : List (View.Piece (Elt F) S256x1024 .f32)), Σ' (L17 : List (View.Piece (Elt F) S256x1024 .f32)), Σ' (L18 : List (View.Piece (Elt F) S4x1x1024 .f32)), Σ' (L19 : List (View.Piece (Elt F) S256x1024 .f32)), Σ' (L20 : List (View.Piece (Elt F) S256x1024 .f32)), Σ' (L21 : List (View.Piece (Elt F) S256x1536 .f32)), Σ' (L22 : List (View.Piece (Elt F) S256x128 .f32)), { LS0 : List (View.Piece (Elt F) S8x3200 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f LS0)) -∗ K ⟨⟩))
          ⊢ wp frame (wpE (defs₀ (F := F)) Variants.none c none) E (cc0_proj_prep i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, ?_, ?_, ?_, ?_, ?_, ?_, ?_, ?_, fun E K => ?run⟩
  case run =>
    simp only [cc0_proj_prep_eq_skeleton]; unfold cc0_proj_prep_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    iexists _; iexact HS0

end Cert.Kernel2Ideal.Gen

end
-- ==== Proof.Proj.RunB.lean ====
/-
  ONE RUN OF THE INPUT PROJECTION'S BODY at a later tile: the pieces its stores leave. The text follows the generated one, with more time.
-/
module

public import proofs.«01_k».proof.Proof.Proj.RunA

@[expose] public section

-- the long axes of the rectangles need deep recursion
set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run is long
set_option maxHeartbeats 8000000 in
/-- What the body's stores leave in each output's staging memref, as pieces (last first) IN CASE B (`scf.if` 0 not taken: points 1, 2, … 63: 56 of 64), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x6912 .bf16) (harg3 : arg3.IsWhole) (arg4 : Memref sig .tc .vmem S1x1x3200 .f32) (harg4 : arg4.IsWhole) (arg5 : Memref sig .tc .vmem S1x3200 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S256x256 .bf16) (harg12 : arg12.IsWhole) (arg13 : Memref sig .tc .vmem S256x256 .bf16) (harg13 : arg13.IsWhole) (arg14 : Memref sig .tc .vmem S256x1024 .f32) (harg14 : arg14.IsWhole) (arg15 : Memref sig .tc .vmem S256x1024 .f32) (harg15 : arg15.IsWhole) (arg16 : Memref sig .tc .vmem S256x1024 .f32) (harg16 : arg16.IsWhole) (arg17 : Memref sig .tc .vmem S256x1024 .f32) (harg17 : arg17.IsWhole) (arg18 : Memref sig .tc .vmem S256x1024 .f32) (harg18 : arg18.IsWhole) (arg19 : Memref sig .tc .vmem S4x1x1024 .f32) (harg19 : arg19.IsWhole) (arg20 : Memref sig .tc .vmem S256x1024 .f32) (harg20 : arg20.IsWhole) (arg21 : Memref sig .tc .vmem S256x1024 .f32) (harg21 : arg21.IsWhole) (arg22 : Memref sig .tc .vmem S256x1536 .f32) (harg22 : arg22.IsWhole) (arg23 : Memref sig .tc .vmem S256x128 .f32) (harg23 : arg23.IsWhole) (arg24 : Memref sig .tc .vmem S8x3200 .f32) (harg24 : arg24.IsWhole) (hc0 : ¬cond0_0 i)
    (x0 : Vec F S256x1024 .f32) (x1 : Vec F S1x1024 .f32) (x2 : Vec F S1024x6912 .bf16) (x3 : Vec F S1x1x3200 .f32) (x4 : Vec F S1x3200 .f32) (x5 : Vec F S1x1024 .f32) (x6 : Vec F S1x1024 .f32) (x7 : Vec F S1x1024 .f32) (x8 : Vec F S1x1024 .f32) (x9 : Vec F S128x1024 .bf16) (x10 : Vec F S128x1024 .bf16) (x11 : Vec F S256x256 .bf16) (x12 : Vec F S256x256 .bf16) (xs0 : Vec F S8x3200 .f32) :
    Σ' (L13 : List (View.Piece (Elt F) S256x1024 .f32)), Σ' (L14 : List (View.Piece (Elt F) S256x1024 .f32)), Σ' (L15 : List (View.Piece (Elt F) S256x1024 .f32)), Σ' (L16 : List (View.Piece (Elt F) S256x1024 .f32)), Σ' (L17 : List (View.Piece (Elt F) S256x1024 .f32)), Σ' (L18 : List (View.Piece (Elt F) S4x1x1024 .f32)), Σ' (L19 : List (View.Piece (Elt F) S256x1024 .f32)), Σ' (L20 : List (View.Piece (Elt F) S256x1024 .f32)), Σ' (L21 : List (View.Piece (Elt F) S256x1536 .f32)), Σ' (L22 : List (View.Piece (Elt F) S256x128 .f32)), { LS0 : List (View.Piece (Elt F) S8x3200 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) arg24 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f LS0)) -∗ K ⟨⟩))
          ⊢ wp frame (wpE (defs₀ (F := F)) Variants.none c none) E (cc0_proj_prep i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, ?_, ?_, ?_, ?_, ?_, ?_, ?_, ?_, fun E K => ?run⟩
  case run =>
    simp only [cc0_proj_prep_eq_skeleton]; unfold cc0_proj_prep_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg24.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    iexists _; iexact HS0

end Cert.Kernel2Ideal.Gen

end
-- ==== Proof.Proj.Frame.lean ====
/-
  FRAME OF THE IDEALIZED INPUT PROJECTION: what each grid point leaves in its ten output blocks and in the carried rows, and the
  run that follows from it. The text follows the generated frame, with the binders shared.
-/
module

public import proofs.«01_k».proof.Proof.Proj.RunB
public import Idealize.ShloMosaic.Lib.Claim

@[expose] public section

-- the long axes of the rectangles need deep recursion
set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a point leaves: the ten output blocks and the carried rows. -/
abbrev Outs0 (F : FTy → Type) : Type := Vec F S256x1024 .f32 × Vec F S256x1024 .f32 × Vec F S256x1024 .f32 × Vec F S256x1024 .f32 × Vec F S256x1024 .f32 × Vec F S4x1x1024 .f32 × Vec F S256x1024 .f32 × Vec F S256x1024 .f32 × Vec F S256x1536 .f32 × Vec F S256x128 .f32 × Vec F S8x3200 .f32

section CaseA

variable (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x6912 .bf16) (harg3 : arg3.IsWhole) (arg4 : Memref sig .tc .vmem S1x1x3200 .f32) (harg4 : arg4.IsWhole) (arg5 : Memref sig .tc .vmem S1x3200 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S256x256 .bf16) (harg12 : arg12.IsWhole) (arg13 : Memref sig .tc .vmem S256x256 .bf16) (harg13 : arg13.IsWhole) (arg14 : Memref sig .tc .vmem S256x1024 .f32) (harg14 : arg14.IsWhole) (arg15 : Memref sig .tc .vmem S256x1024 .f32) (harg15 : arg15.IsWhole) (arg16 : Memref sig .tc .vmem S256x1024 .f32) (harg16 : arg16.IsWhole) (arg17 : Memref sig .tc .vmem S256x1024 .f32) (harg17 : arg17.IsWhole) (arg18 : Memref sig .tc .vmem S256x1024 .f32) (harg18 : arg18.IsWhole) (arg19 : Memref sig .tc .vmem S4x1x1024 .f32) (harg19 : arg19.IsWhole) (arg20 : Memref sig .tc .vmem S256x1024 .f32) (harg20 : arg20.IsWhole) (arg21 : Memref sig .tc .vmem S256x1024 .f32) (harg21 : arg21.IsWhole) (arg22 : Memref sig .tc .vmem S256x1536 .f32) (harg22 : arg22.IsWhole) (arg23 : Memref sig .tc .vmem S256x128 .f32) (harg23 : arg23.IsWhole) (arg24 : Memref sig .tc .vmem S8x3200 .f32) (harg24 : arg24.IsWhole) (hc0 : cond0_0 i)
  (x0 : Vec F S256x1024 .f32) (x1 : Vec F S1x1024 .f32) (x2 : Vec F S1024x6912 .bf16) (x3 : Vec F S1x1x3200 .f32) (x4 : Vec F S1x3200 .f32) (x5 : Vec F S1x1024 .f32) (x6 : Vec F S1x1024 .f32) (x7 : Vec F S1x1024 .f32) (x8 : Vec F S1x1024 .f32) (x9 : Vec F S128x1024 .bf16) (x10 : Vec F S128x1024 .bf16) (x11 : Vec F S256x256 .bf16) (x12 : Vec F S256x256 .bf16)

/-! Each output of a sequence's first tile: its stores tile the block, and what they leave is their read over anything. -/

theorem cover0_A_13 (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12).1 S256x1024.size (by sl_kernel_rfl) y

def out0_A_13 : Vec F S256x1024 .f32 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12).1)

theorem cover0_A_14 (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12).2.1 S256x1024.size (by sl_kernel_rfl) y

def out0_A_14 : Vec F S256x1024 .f32 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12).2.1)

theorem cover0_A_15 (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12).2.2.1 S256x1024.size (by sl_kernel_rfl) y

def out0_A_15 : Vec F S256x1024 .f32 :=
  VO0_15.read (Elt F) (VO0_15.writes (Elt F) VO0_15.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12).2.2.1)

theorem cover0_A_16 (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12).2.2.2.1 S256x1024.size (by sl_kernel_rfl) y

def out0_A_16 : Vec F S256x1024 .f32 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12).2.2.2.1)

theorem cover0_A_17 (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12).2.2.2.2.1 S256x1024.size (by sl_kernel_rfl) y

def out0_A_17 : Vec F S256x1024 .f32 :=
  VO0_17.read (Elt F) (VO0_17.writes (Elt F) VO0_17.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12).2.2.2.2.1)

theorem cover0_A_18 (y : S4x1x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12).2.2.2.2.2.1 S1x1x1024.size (by sl_kernel_rfl) y

def out0_A_18 : Vec F S4x1x1024 .f32 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12).2.2.2.2.2.1)

theorem cover0_A_19 (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12).2.2.2.2.2.2.1 S256x1024.size (by sl_kernel_rfl) y

def out0_A_19 : Vec F S256x1024 .f32 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12).2.2.2.2.2.2.1)

theorem cover0_A_20 (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12).2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12).2.2.2.2.2.2.2.1 S256x1024.size (by sl_kernel_rfl) y

def out0_A_20 : Vec F S256x1024 .f32 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12).2.2.2.2.2.2.2.1)

theorem cover0_A_21 (y : S256x1536.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12).2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12).2.2.2.2.2.2.2.2.1 S256x1536.size (by sl_kernel_rfl) y

def out0_A_21 : Vec F S256x1536 .f32 :=
  VO0_21.read (Elt F) (VO0_21.writes (Elt F) VO0_21.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12).2.2.2.2.2.2.2.2.1)

theorem cover0_A_22 (y : S256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12).2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12).2.2.2.2.2.2.2.2.2.1 S256x128.size (by sl_kernel_rfl) y

def out0_A_22 : Vec F S256x128 .f32 :=
  VO0_22.read (Elt F) (VO0_22.writes (Elt F) VO0_22.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12).2.2.2.2.2.2.2.2.2.1)

theorem scover0_A_0 (y : S8x3200.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12).2.2.2.2.2.2.2.2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12).2.2.2.2.2.2.2.2.2.2.1 (by sl_whole_mem) y

def sout0_A_0 : Vec F S8x3200 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12).2.2.2.2.2.2.2.2.2.2.1)

/-- All that a sequence's first tile leaves. -/
def all0_A : Outs0 F :=
  (out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12,
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12,
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12,
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12,
    out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12,
    out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12,
    out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12,
    out0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12,
    out0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12,
    out0_A_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12,
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12)

end CaseA

/-- The same at a point. -/
def pt0_A (c : Dev nD) (t : Fin cfg0.N) (h0 : t.val % 8 = 0) : Outs0 F :=
  all0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)

section CaseB

variable (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x6912 .bf16) (harg3 : arg3.IsWhole) (arg4 : Memref sig .tc .vmem S1x1x3200 .f32) (harg4 : arg4.IsWhole) (arg5 : Memref sig .tc .vmem S1x3200 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S256x256 .bf16) (harg12 : arg12.IsWhole) (arg13 : Memref sig .tc .vmem S256x256 .bf16) (harg13 : arg13.IsWhole) (arg14 : Memref sig .tc .vmem S256x1024 .f32) (harg14 : arg14.IsWhole) (arg15 : Memref sig .tc .vmem S256x1024 .f32) (harg15 : arg15.IsWhole) (arg16 : Memref sig .tc .vmem S256x1024 .f32) (harg16 : arg16.IsWhole) (arg17 : Memref sig .tc .vmem S256x1024 .f32) (harg17 : arg17.IsWhole) (arg18 : Memref sig .tc .vmem S256x1024 .f32) (harg18 : arg18.IsWhole) (arg19 : Memref sig .tc .vmem S4x1x1024 .f32) (harg19 : arg19.IsWhole) (arg20 : Memref sig .tc .vmem S256x1024 .f32) (harg20 : arg20.IsWhole) (arg21 : Memref sig .tc .vmem S256x1024 .f32) (harg21 : arg21.IsWhole) (arg22 : Memref sig .tc .vmem S256x1536 .f32) (harg22 : arg22.IsWhole) (arg23 : Memref sig .tc .vmem S256x128 .f32) (harg23 : arg23.IsWhole) (arg24 : Memref sig .tc .vmem S8x3200 .f32) (harg24 : arg24.IsWhole) (hc0 : ¬cond0_0 i)
  (x0 : Vec F S256x1024 .f32) (x1 : Vec F S1x1024 .f32) (x2 : Vec F S1024x6912 .bf16) (x3 : Vec F S1x1x3200 .f32) (x4 : Vec F S1x3200 .f32) (x5 : Vec F S1x1024 .f32) (x6 : Vec F S1x1024 .f32) (x7 : Vec F S1x1024 .f32) (x8 : Vec F S1x1024 .f32) (x9 : Vec F S128x1024 .bf16) (x10 : Vec F S128x1024 .bf16) (x11 : Vec F S256x256 .bf16) (x12 : Vec F S256x256 .bf16) (xs0 : Vec F S8x3200 .f32)

/-! Each output of a later tile: its stores tile the block, and what they leave is their read over anything. -/

theorem cover0_B_13 (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 xs0).1 S256x1024.size (by sl_kernel_rfl) y

def out0_B_13 : Vec F S256x1024 .f32 :=
  VO0_13.read (Elt F) (VO0_13.writes (Elt F) VO0_13.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 xs0).1)

theorem cover0_B_14 (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 xs0).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 xs0).2.1 S256x1024.size (by sl_kernel_rfl) y

def out0_B_14 : Vec F S256x1024 .f32 :=
  VO0_14.read (Elt F) (VO0_14.writes (Elt F) VO0_14.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 xs0).2.1)

theorem cover0_B_15 (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 xs0).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 xs0).2.2.1 S256x1024.size (by sl_kernel_rfl) y

def out0_B_15 : Vec F S256x1024 .f32 :=
  VO0_15.read (Elt F) (VO0_15.writes (Elt F) VO0_15.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 xs0).2.2.1)

theorem cover0_B_16 (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 xs0).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 xs0).2.2.2.1 S256x1024.size (by sl_kernel_rfl) y

def out0_B_16 : Vec F S256x1024 .f32 :=
  VO0_16.read (Elt F) (VO0_16.writes (Elt F) VO0_16.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 xs0).2.2.2.1)

theorem cover0_B_17 (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 xs0).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 xs0).2.2.2.2.1 S256x1024.size (by sl_kernel_rfl) y

def out0_B_17 : Vec F S256x1024 .f32 :=
  VO0_17.read (Elt F) (VO0_17.writes (Elt F) VO0_17.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 xs0).2.2.2.2.1)

theorem cover0_B_18 (y : S4x1x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 xs0).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 xs0).2.2.2.2.2.1 S1x1x1024.size (by sl_kernel_rfl) y

def out0_B_18 : Vec F S4x1x1024 .f32 :=
  VO0_18.read (Elt F) (VO0_18.writes (Elt F) VO0_18.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 xs0).2.2.2.2.2.1)

theorem cover0_B_19 (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 xs0).2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 xs0).2.2.2.2.2.2.1 S256x1024.size (by sl_kernel_rfl) y

def out0_B_19 : Vec F S256x1024 .f32 :=
  VO0_19.read (Elt F) (VO0_19.writes (Elt F) VO0_19.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 xs0).2.2.2.2.2.2.1)

theorem cover0_B_20 (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 xs0).2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 xs0).2.2.2.2.2.2.2.1 S256x1024.size (by sl_kernel_rfl) y

def out0_B_20 : Vec F S256x1024 .f32 :=
  VO0_20.read (Elt F) (VO0_20.writes (Elt F) VO0_20.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 xs0).2.2.2.2.2.2.2.1)

theorem cover0_B_21 (y : S256x1536.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 xs0).2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 xs0).2.2.2.2.2.2.2.2.1 S256x1536.size (by sl_kernel_rfl) y

def out0_B_21 : Vec F S256x1536 .f32 :=
  VO0_21.read (Elt F) (VO0_21.writes (Elt F) VO0_21.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 xs0).2.2.2.2.2.2.2.2.1)

theorem cover0_B_22 (y : S256x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 xs0).2.2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 xs0).2.2.2.2.2.2.2.2.2.1 S256x128.size (by sl_kernel_rfl) y

def out0_B_22 : Vec F S256x128 .f32 :=
  VO0_22.read (Elt F) (VO0_22.writes (Elt F) VO0_22.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 xs0).2.2.2.2.2.2.2.2.2.1)

theorem scover0_B_0 (y : S8x3200.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 xs0).2.2.2.2.2.2.2.2.2.2.1, y ∈ pc.1.set :=
  View.cover_of_tiledBy (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 xs0).2.2.2.2.2.2.2.2.2.2.1 ![8, 128] (by sl_kernel_rfl) y

def sout0_B_0 : Vec F S8x3200 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 xs0).2.2.2.2.2.2.2.2.2.2.1)

/-- All that a later tile leaves. -/
def all0_B : Outs0 F :=
  (out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 xs0,
    out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 xs0,
    out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 xs0,
    out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 xs0,
    out0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 xs0,
    out0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 xs0,
    out0_B_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 xs0,
    out0_B_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 xs0,
    out0_B_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 xs0,
    out0_B_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 xs0,
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 xs0)

end CaseB

/-- The same at a point, over the rows the point before left. -/
def pt0_B (c : Dev nD) (t : Fin cfg0.N) (h0 : ¬t.val % 8 = 0) (xs0 : Vec F S8x3200 .f32) : Outs0 F :=
  all0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) xs0

/-! ## What the outputs hold after each point -/

/-- What the staging buffers and the carried rows hold after each point. -/
def outsAt0 (c : Dev nD) : (n : ℕ) → n < cfg0.N → Outs0 F
  | 0, hn => pt0_A m c ⟨0, hn⟩ (Nat.zero_mod _)
  | n + 1, hn =>
    if h0 : (n + 1) % 8 = 0 then pt0_A m c ⟨n + 1, hn⟩ h0
    else pt0_B m c ⟨n + 1, hn⟩ h0 (outsAt0 c n (Nat.lt_of_succ_lt hn)).2.2.2.2.2.2.2.2.2.2

/-- At a sequence's first tile. -/
theorem outsAt0_A (c : Dev nD) (t : Fin cfg0.N) (h0 : t.val % 8 = 0) : outsAt0 m c t.val t.isLt = pt0_A m c t h0 := by
  obtain ⟨n, hn⟩ := t
  cases n with
  | zero => exact rfl
  | succ n => exact (dif_pos h0).trans rfl

/-- At a later tile. -/
theorem outsAt0_B (c : Dev nD) (t : Fin cfg0.N) (h0 : ¬t.val % 8 = 0) : outsAt0 m c t.val t.isLt
    = pt0_B m c t h0 (outsAt0 m c (t.val - 1) (Nat.lt_of_le_of_lt (Nat.sub_le _ _) t.isLt)).2.2.2.2.2.2.2.2.2.2 := by
  obtain ⟨n, hn⟩ := t
  cases n with
  | zero => exact absurd (Nat.zero_mod _) h0
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (outsAt0 m c t.val t.isLt).1
    | ⟨14, _⟩ => (outsAt0 m c t.val t.isLt).2.1
    | ⟨15, _⟩ => (outsAt0 m c t.val t.isLt).2.2.1
    | ⟨16, _⟩ => (outsAt0 m c t.val t.isLt).2.2.2.1
    | ⟨17, _⟩ => (outsAt0 m c t.val t.isLt).2.2.2.2.1
    | ⟨18, _⟩ => (outsAt0 m c t.val t.isLt).2.2.2.2.2.1
    | ⟨19, _⟩ => (outsAt0 m c t.val t.isLt).2.2.2.2.2.2.1
    | ⟨20, _⟩ => (outsAt0 m c t.val t.isLt).2.2.2.2.2.2.2.1
    | ⟨21, _⟩ => (outsAt0 m c t.val t.isLt).2.2.2.2.2.2.2.2.1
    | ⟨22, _⟩ => (outsAt0 m c t.val t.isLt).2.2.2.2.2.2.2.2.2.1
    | ⟨_ + 23, h⟩ => absurd h (Nat.not_lt.2 (Nat.le_add_left _ _))
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = (outsAt0 m c t.val t.isLt).1 := by dsimp only [dats]
theorem after0_14 (c : Dev nD) (t : Fin cfg0.N) : (dats m 0 c).after 14 t = (outsAt0 m c t.val t.isLt).2.1 := by dsimp only [dats]
theorem after0_15 (c : Dev nD) (t : Fin cfg0.N) : (dats m 0 c).after 15 t = (outsAt0 m c t.val t.isLt).2.2.1 := by dsimp only [dats]
theorem after0_16 (c : Dev nD) (t : Fin cfg0.N) : (dats m 0 c).after 16 t = (outsAt0 m c t.val t.isLt).2.2.2.1 := by dsimp only [dats]
theorem after0_17 (c : Dev nD) (t : Fin cfg0.N) : (dats m 0 c).after 17 t = (outsAt0 m c t.val t.isLt).2.2.2.2.1 := by dsimp only [dats]
theorem after0_18 (c : Dev nD) (t : Fin cfg0.N) : (dats m 0 c).after 18 t = (outsAt0 m c t.val t.isLt).2.2.2.2.2.1 := by dsimp only [dats]
theorem after0_19 (c : Dev nD) (t : Fin cfg0.N) : (dats m 0 c).after 19 t = (outsAt0 m c t.val t.isLt).2.2.2.2.2.2.1 := by dsimp only [dats]
theorem after0_20 (c : Dev nD) (t : Fin cfg0.N) : (dats m 0 c).after 20 t = (outsAt0 m c t.val t.isLt).2.2.2.2.2.2.2.1 := by dsimp only [dats]
theorem after0_21 (c : Dev nD) (t : Fin cfg0.N) : (dats m 0 c).after 21 t = (outsAt0 m c t.val t.isLt).2.2.2.2.2.2.2.2.1 := by dsimp only [dats]
theorem after0_22 (c : Dev nD) (t : Fin cfg0.N) : (dats m 0 c).after 22 t = (outsAt0 m c t.val t.isLt).2.2.2.2.2.2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t))

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  rw [show (dats m 0 c).Φ t.succ = PhiS m c (t.val + 1) t.isLt from rfl, PhiS_succ]
  have hN : t.val < 64 := lt_of_lt_of_eq t.isLt (show cfg0.N = 64 from N_0)
  by_cases h0 : t.val % 8 = 0
  · by_cases hz : t.val = 0
    · rw [PhiS_castSucc m c t, PhiS_zero m c _ _ hz, PhiA0_eq]
      rw [outsAt0_A m c t h0]
      unfold pt0_A all0_A out0_A_13 out0_A_14 out0_A_15 out0_A_16 out0_A_17 out0_A_18 out0_A_19 out0_A_20 out0_A_21 out0_A_22 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
      iapply ((kernelRun0_A c (grid0.coords t) _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [HS0]; · iexact HS0
      iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]
      · unfold owns; iexists _; isplitr
        swap; · iexact H13
        ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H14]
      · unfold owns; iexists _; isplitr
        swap; · iexact H14
        ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H15]
      · unfold owns; iexists _; isplitr
        swap; · iexact H15
        ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H16]
      · unfold owns; iexists _; isplitr
        swap; · iexact H16
        ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H17]
      · unfold owns; iexists _; isplitr
        swap; · iexact H17
        ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H18]
      · unfold owns; iexists _; isplitr
        swap; · iexact H18
        ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H19]
      · unfold owns; iexists _; isplitr
        swap; · iexact H19
        ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H20]
      · unfold owns; iexists _; isplitr
        swap; · iexact H20
        ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H21]
      · unfold owns; iexists _; isplitr
        swap; · iexact H21
        ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H22
      ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · rw [PhiS_castSucc m c t, PhiS_pos m c _ _ hz]
      rw [outsAt0_A m c t h0]
      unfold pt0_A all0_A out0_A_13 out0_A_14 out0_A_15 out0_A_16 out0_A_17 out0_A_18 out0_A_19 out0_A_20 out0_A_21 out0_A_22 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
      iapply ((kernelRun0_A c (grid0.coords t) _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [HS0]; · iexists _; iexact HS0
      iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]
      · unfold owns; iexists _; isplitr
        swap; · iexact H13
        ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H14]
      · unfold owns; iexists _; isplitr
        swap; · iexact H14
        ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H15]
      · unfold owns; iexists _; isplitr
        swap; · iexact H15
        ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H16]
      · unfold owns; iexists _; isplitr
        swap; · iexact H16
        ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H17]
      · unfold owns; iexists _; isplitr
        swap; · iexact H17
        ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H18]
      · unfold owns; iexists _; isplitr
        swap; · iexact H18
        ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H19]
      · unfold owns; iexists _; isplitr
        swap; · iexact H19
        ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H20]
      · unfold owns; iexists _; isplitr
        swap; · iexact H20
        ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H21]
      · unfold owns; iexists _; isplitr
        swap; · iexact H21
        ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H22
      ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  · by_cases hz : t.val = 0
    · exfalso; have hN : t.val < 64 := lt_of_lt_of_eq t.isLt (show cfg0.N = 64 from N_0); omega
    · rw [PhiS_castSucc m c t, PhiS_pos m c _ _ hz]
      rw [outsAt0_B m c t h0]
      unfold pt0_B all0_B out0_B_13 out0_B_14 out0_B_15 out0_B_16 out0_B_17 out0_B_18 out0_B_19 out0_B_20 out0_B_21 out0_B_22 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
      iapply ((kernelRun0_B c (grid0.coords t) _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _).2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [HS0]; · iexact HS0
      iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]
      · unfold owns; iexists _; isplitr
        swap; · iexact H13
        ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H14]
      · unfold owns; iexists _; isplitr
        swap; · iexact H14
        ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H15]
      · unfold owns; iexists _; isplitr
        swap; · iexact H15
        ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H16]
      · unfold owns; iexists _; isplitr
        swap; · iexact H16
        ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H17]
      · unfold owns; iexists _; isplitr
        swap; · iexact H17
        ipureintro; exact View.read_writes_of_cover _ _ _ _ _ (cover0_B_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H18]
      · unfold owns; iexists _; isplitr
        swap; · iexact H18
        ipureintro; exact View.read_writes_of_cover _ _ _ _ _ (cover0_B_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H19]
      · unfold owns; iexists _; isplitr
        swap; · iexact H19
        ipureintro; exact View.read_writes_of_cover _ _ _ _ _ (cover0_B_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H20]
      · unfold owns; iexists _; isplitr
        swap; · iexact H20
        ipureintro; exact View.read_writes_of_cover _ _ _ _ _ (cover0_B_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H21]
      · unfold owns; iexists _; isplitr
        swap; · iexact H21
        ipureintro; exact View.read_writes_of_cover _ _ _ _ _ (cover0_B_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H22
      ipureintro; exact View.read_writes_of_cover _ _ _ _ _ (cover0_B_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- the statement below is matched with the launch's after unfolding plain definitions
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- THE FRAME: every weakly fair execution ends, the arguments and the semaphore counters as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.Kernel2Ideal.Gen

end
-- ==== Proof.Proj.Arr.lean ====
/-
  THE RESULT ARRAYS OF THE INPUT PROJECTION AFTER THE RUN, block by block: what each grid point wrote back.
-/
module

public import proofs.«01_k».proof.Proof.Proj.Frame
public import Idealize.ShloMosaic.Lib.Pipeline.Value

@[expose] public section

noncomputable section

namespace Cert.Kernel2Ideal.Value

open Cert.Kernel2Ideal Cert.Kernel2Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- What a point writes back to output window 13: what the run leaves for it, read through the window. -/
theorem flushed13 (c : Dev nD) (t : Fin cfg0.N) :
    (dats m 0 c).flushed 13 t = (cfg0.win 13).cut (grid0.coords t) ((outsAt0 m c t.val t.isLt).1) := by
  show (cfg0.win 13).cut (grid0.coords t) ((dats m 0 c).after 13 t) = _
  rw [after0_13]

/-- Distinct points have distinct blocks of window 13. -/
theorem idx_inj13 : ∀ t t' : Fin cfg0.N, win0_13.index t = win0_13.index t' → t = t' :=
  (by decide +kernel : ∀ t t' : Fin grid0.N, win0_13.index t = win0_13.index t' → t = t')

/-- So two blocks of window 13 share no index. -/
theorem disjoint13 : ∀ t t' : Fin cfg0.N, (cfg0.win 13).flush t = true → (cfg0.win 13).flush t' = true → t ≠ t' →
    Disjoint ((cfg0.win 13).blk t).view.set ((cfg0.win 13).blk t').view.set :=
  fun t t' _ _ hne => (cfg0.win 13).disjoint_blk fun h => hne (idx_inj13 t t' h)

/-- A block of window 13's final array is what its point wrote back. -/
theorem blocks13 (c : Dev nD) (t : Fin cfg0.N) (hf : (cfg0.win 13).flush t = true) :
    ((cfg0.win 13).blk t).view.read (Elt F) ((dats m 0 c).arrAt 13 cfg0.N) = (dats m 0 c).flushed 13 t :=
  (dats m 0 c).read_blk_arrAt_eq_flushed 13 disjoint13 cfg0.N t t.isLt hf

/-- What a point writes back to output window 14: what the run leaves for it, read through the window. -/
theorem flushed14 (c : Dev nD) (t : Fin cfg0.N) :
    (dats m 0 c).flushed 14 t = (cfg0.win 14).cut (grid0.coords t) ((outsAt0 m c t.val t.isLt).2.1) := by
  show (cfg0.win 14).cut (grid0.coords t) ((dats m 0 c).after 14 t) = _
  rw [after0_14]

/-- Distinct points have distinct blocks of window 14. -/
theorem idx_inj14 : ∀ t t' : Fin cfg0.N, win0_14.index t = win0_14.index t' → t = t' :=
  (by decide +kernel : ∀ t t' : Fin grid0.N, win0_14.index t = win0_14.index t' → t = t')

/-- So two blocks of window 14 share no index. -/
theorem disjoint14 : ∀ t t' : Fin cfg0.N, (cfg0.win 14).flush t = true → (cfg0.win 14).flush t' = true → t ≠ t' →
    Disjoint ((cfg0.win 14).blk t).view.set ((cfg0.win 14).blk t').view.set :=
  fun t t' _ _ hne => (cfg0.win 14).disjoint_blk fun h => hne (idx_inj14 t t' h)

/-- A block of window 14's final array is what its point wrote back. -/
theorem blocks14 (c : Dev nD) (t : Fin cfg0.N) (hf : (cfg0.win 14).flush t = true) :
    ((cfg0.win 14).blk t).view.read (Elt F) ((dats m 0 c).arrAt 14 cfg0.N) = (dats m 0 c).flushed 14 t :=
  (dats m 0 c).read_blk_arrAt_eq_flushed 14 disjoint14 cfg0.N t t.isLt hf

/-- What a point writes back to output window 15: what the run leaves for it, read through the window. -/
theorem flushed15 (c : Dev nD) (t : Fin cfg0.N) :
    (dats m 0 c).flushed 15 t = (cfg0.win 15).cut (grid0.coords t) ((outsAt0 m c t.val t.isLt).2.2.1) := by
  show (cfg0.win 15).cut (grid0.coords t) ((dats m 0 c).after 15 t) = _
  rw [after0_15]

/-- Distinct points have distinct blocks of window 15. -/
theorem idx_inj15 : ∀ t t' : Fin cfg0.N, win0_15.index t = win0_15.index t' → t = t' :=
  (by decide +kernel : ∀ t t' : Fin grid0.N, win0_15.index t = win0_15.index t' → t = t')

/-- So two blocks of window 15 share no index. -/
theorem disjoint15 : ∀ t t' : Fin cfg0.N, (cfg0.win 15).flush t = true → (cfg0.win 15).flush t' = true → t ≠ t' →
    Disjoint ((cfg0.win 15).blk t).view.set ((cfg0.win 15).blk t').view.set :=
  fun t t' _ _ hne => (cfg0.win 15).disjoint_blk fun h => hne (idx_inj15 t t' h)

/-- A block of window 15's final array is what its point wrote back. -/
theorem blocks15 (c : Dev nD) (t : Fin cfg0.N) (hf : (cfg0.win 15).flush t = true) :
    ((cfg0.win 15).blk t).view.read (Elt F) ((dats m 0 c).arrAt 15 cfg0.N) = (dats m 0 c).flushed 15 t :=
  (dats m 0 c).read_blk_arrAt_eq_flushed 15 disjoint15 cfg0.N t t.isLt hf

/-- What a point writes back to output window 16: what the run leaves for it, read through the window. -/
theorem flushed16 (c : Dev nD) (t : Fin cfg0.N) :
    (dats m 0 c).flushed 16 t = (cfg0.win 16).cut (grid0.coords t) ((outsAt0 m c t.val t.isLt).2.2.2.1) := by
  show (cfg0.win 16).cut (grid0.coords t) ((dats m 0 c).after 16 t) = _
  rw [after0_16]

/-- Distinct points have distinct blocks of window 16. -/
theorem idx_inj16 : ∀ t t' : Fin cfg0.N, win0_16.index t = win0_16.index t' → t = t' :=
  (by decide +kernel : ∀ t t' : Fin grid0.N, win0_16.index t = win0_16.index t' → t = t')

/-- So two blocks of window 16 share no index. -/
theorem disjoint16 : ∀ t t' : Fin cfg0.N, (cfg0.win 16).flush t = true → (cfg0.win 16).flush t' = true → t ≠ t' →
    Disjoint ((cfg0.win 16).blk t).view.set ((cfg0.win 16).blk t').view.set :=
  fun t t' _ _ hne => (cfg0.win 16).disjoint_blk fun h => hne (idx_inj16 t t' h)

/-- A block of window 16's final array is what its point wrote back. -/
theorem blocks16 (c : Dev nD) (t : Fin cfg0.N) (hf : (cfg0.win 16).flush t = true) :
    ((cfg0.win 16).blk t).view.read (Elt F) ((dats m 0 c).arrAt 16 cfg0.N) = (dats m 0 c).flushed 16 t :=
  (dats m 0 c).read_blk_arrAt_eq_flushed 16 disjoint16 cfg0.N t t.isLt hf

/-- What a point writes back to output window 17: what the run leaves for it, read through the window. -/
theorem flushed17 (c : Dev nD) (t : Fin cfg0.N) :
    (dats m 0 c).flushed 17 t = (cfg0.win 17).cut (grid0.coords t) ((outsAt0 m c t.val t.isLt).2.2.2.2.1) := by
  show (cfg0.win 17).cut (grid0.coords t) ((dats m 0 c).after 17 t) = _
  rw [after0_17]

/-- Distinct points have distinct blocks of window 17. -/
theorem idx_inj17 : ∀ t t' : Fin cfg0.N, win0_17.index t = win0_17.index t' → t = t' :=
  (by decide +kernel : ∀ t t' : Fin grid0.N, win0_17.index t = win0_17.index t' → t = t')

/-- So two blocks of window 17 share no index. -/
theorem disjoint17 : ∀ t t' : Fin cfg0.N, (cfg0.win 17).flush t = true → (cfg0.win 17).flush t' = true → t ≠ t' →
    Disjoint ((cfg0.win 17).blk t).view.set ((cfg0.win 17).blk t').view.set :=
  fun t t' _ _ hne => (cfg0.win 17).disjoint_blk fun h => hne (idx_inj17 t t' h)

/-- A block of window 17's final array is what its point wrote back. -/
theorem blocks17 (c : Dev nD) (t : Fin cfg0.N) (hf : (cfg0.win 17).flush t = true) :
    ((cfg0.win 17).blk t).view.read (Elt F) ((dats m 0 c).arrAt 17 cfg0.N) = (dats m 0 c).flushed 17 t :=
  (dats m 0 c).read_blk_arrAt_eq_flushed 17 disjoint17 cfg0.N t t.isLt hf

/-- What a point writes back to output window 18: what the run leaves for it, read through the window. -/
theorem flushed18 (c : Dev nD) (t : Fin cfg0.N) :
    (dats m 0 c).flushed 18 t = (cfg0.win 18).cut (grid0.coords t) ((outsAt0 m c t.val t.isLt).2.2.2.2.2.1) := by
  show (cfg0.win 18).cut (grid0.coords t) ((dats m 0 c).after 18 t) = _
  rw [after0_18]

/-- Distinct points have distinct blocks of window 18. -/
theorem idx_inj18 : ∀ t t' : Fin cfg0.N, win0_18.index t = win0_18.index t' → t = t' :=
  (by decide +kernel : ∀ t t' : Fin grid0.N, win0_18.index t = win0_18.index t' → t = t')

/-- So two blocks of window 18 share no index. -/
theorem disjoint18 : ∀ t t' : Fin cfg0.N, (cfg0.win 18).flush t = true → (cfg0.win 18).flush t' = true → t ≠ t' →
    Disjoint ((cfg0.win 18).blk t).view.set ((cfg0.win 18).blk t').view.set :=
  fun t t' _ _ hne => (cfg0.win 18).disjoint_blk fun h => hne (idx_inj18 t t' h)

/-- A block of window 18's final array is what its point wrote back. -/
theorem blocks18 (c : Dev nD) (t : Fin cfg0.N) (hf : (cfg0.win 18).flush t = true) :
    ((cfg0.win 18).blk t).view.read (Elt F) ((dats m 0 c).arrAt 18 cfg0.N) = (dats m 0 c).flushed 18 t :=
  (dats m 0 c).read_blk_arrAt_eq_flushed 18 disjoint18 cfg0.N t t.isLt hf

/-- What a point writes back to output window 19: what the run leaves for it, read through the window. -/
theorem flushed19 (c : Dev nD) (t : Fin cfg0.N) :
    (dats m 0 c).flushed 19 t = (cfg0.win 19).cut (grid0.coords t) ((outsAt0 m c t.val t.isLt).2.2.2.2.2.2.1) := by
  show (cfg0.win 19).cut (grid0.coords t) ((dats m 0 c).after 19 t) = _
  rw [after0_19]

/-- Distinct points have distinct blocks of window 19. -/
theorem idx_inj19 : ∀ t t' : Fin cfg0.N, win0_19.index t = win0_19.index t' → t = t' :=
  (by decide +kernel : ∀ t t' : Fin grid0.N, win0_19.index t = win0_19.index t' → t = t')

/-- So two blocks of window 19 share no index. -/
theorem disjoint19 : ∀ t t' : Fin cfg0.N, (cfg0.win 19).flush t = true → (cfg0.win 19).flush t' = true → t ≠ t' →
    Disjoint ((cfg0.win 19).blk t).view.set ((cfg0.win 19).blk t').view.set :=
  fun t t' _ _ hne => (cfg0.win 19).disjoint_blk fun h => hne (idx_inj19 t t' h)

/-- A block of window 19's final array is what its point wrote back. -/
theorem blocks19 (c : Dev nD) (t : Fin cfg0.N) (hf : (cfg0.win 19).flush t = true) :
    ((cfg0.win 19).blk t).view.read (Elt F) ((dats m 0 c).arrAt 19 cfg0.N) = (dats m 0 c).flushed 19 t :=
  (dats m 0 c).read_blk_arrAt_eq_flushed 19 disjoint19 cfg0.N t t.isLt hf

/-- What a point writes back to output window 20: what the run leaves for it, read through the window. -/
theorem flushed20 (c : Dev nD) (t : Fin cfg0.N) :
    (dats m 0 c).flushed 20 t = (cfg0.win 20).cut (grid0.coords t) ((outsAt0 m c t.val t.isLt).2.2.2.2.2.2.2.1) := by
  show (cfg0.win 20).cut (grid0.coords t) ((dats m 0 c).after 20 t) = _
  rw [after0_20]

/-- Distinct points have distinct blocks of window 20. -/
theorem idx_inj20 : ∀ t t' : Fin cfg0.N, win0_20.index t = win0_20.index t' → t = t' :=
  (by decide +kernel : ∀ t t' : Fin grid0.N, win0_20.index t = win0_20.index t' → t = t')

/-- So two blocks of window 20 share no index. -/
theorem disjoint20 : ∀ t t' : Fin cfg0.N, (cfg0.win 20).flush t = true → (cfg0.win 20).flush t' = true → t ≠ t' →
    Disjoint ((cfg0.win 20).blk t).view.set ((cfg0.win 20).blk t').view.set :=
  fun t t' _ _ hne => (cfg0.win 20).disjoint_blk fun h => hne (idx_inj20 t t' h)

/-- A block of window 20's final array is what its point wrote back. -/
theorem blocks20 (c : Dev nD) (t : Fin cfg0.N) (hf : (cfg0.win 20).flush t = true) :
    ((cfg0.win 20).blk t).view.read (Elt F) ((dats m 0 c).arrAt 20 cfg0.N) = (dats m 0 c).flushed 20 t :=
  (dats m 0 c).read_blk_arrAt_eq_flushed 20 disjoint20 cfg0.N t t.isLt hf

/-- What a point writes back to output window 21: what the run leaves for it, read through the window. -/
theorem flushed21 (c : Dev nD) (t : Fin cfg0.N) :
    (dats m 0 c).flushed 21 t = (cfg0.win 21).cut (grid0.coords t) ((outsAt0 m c t.val t.isLt).2.2.2.2.2.2.2.2.1) := by
  show (cfg0.win 21).cut (grid0.coords t) ((dats m 0 c).after 21 t) = _
  rw [after0_21]

/-- Distinct points have distinct blocks of window 21. -/
theorem idx_inj21 : ∀ t t' : Fin cfg0.N, win0_21.index t = win0_21.index t' → t = t' :=
  (by decide +kernel : ∀ t t' : Fin grid0.N, win0_21.index t = win0_21.index t' → t = t')

/-- So two blocks of window 21 share no index. -/
theorem disjoint21 : ∀ t t' : Fin cfg0.N, (cfg0.win 21).flush t = true → (cfg0.win 21).flush t' = true → t ≠ t' →
    Disjoint ((cfg0.win 21).blk t).view.set ((cfg0.win 21).blk t').view.set :=
  fun t t' _ _ hne => (cfg0.win 21).disjoint_blk fun h => hne (idx_inj21 t t' h)

/-- A block of window 21's final array is what its point wrote back. -/
theorem blocks21 (c : Dev nD) (t : Fin cfg0.N) (hf : (cfg0.win 21).flush t = true) :
    ((cfg0.win 21).blk t).view.read (Elt F) ((dats m 0 c).arrAt 21 cfg0.N) = (dats m 0 c).flushed 21 t :=
  (dats m 0 c).read_blk_arrAt_eq_flushed 21 disjoint21 cfg0.N t t.isLt hf

/-- What a point writes back to output window 22: what the run leaves for it, read through the window. -/
theorem flushed22 (c : Dev nD) (t : Fin cfg0.N) :
    (dats m 0 c).flushed 22 t = (cfg0.win 22).cut (grid0.coords t) ((outsAt0 m c t.val t.isLt).2.2.2.2.2.2.2.2.2.1) := by
  show (cfg0.win 22).cut (grid0.coords t) ((dats m 0 c).after 22 t) = _
  rw [after0_22]

/-- Distinct points have distinct blocks of window 22. -/
theorem idx_inj22 : ∀ t t' : Fin cfg0.N, win0_22.index t = win0_22.index t' → t = t' :=
  (by decide +kernel : ∀ t t' : Fin grid0.N, win0_22.index t = win0_22.index t' → t = t')

/-- So two blocks of window 22 share no index. -/
theorem disjoint22 : ∀ t t' : Fin cfg0.N, (cfg0.win 22).flush t = true → (cfg0.win 22).flush t' = true → t ≠ t' →
    Disjoint ((cfg0.win 22).blk t).view.set ((cfg0.win 22).blk t').view.set :=
  fun t t' _ _ hne => (cfg0.win 22).disjoint_blk fun h => hne (idx_inj22 t t' h)

/-- A block of window 22's final array is what its point wrote back. -/
theorem blocks22 (c : Dev nD) (t : Fin cfg0.N) (hf : (cfg0.win 22).flush t = true) :
    ((cfg0.win 22).blk t).view.read (Elt F) ((dats m 0 c).arrAt 22 cfg0.N) = (dats m 0 c).flushed 22 t :=
  (dats m 0 c).read_blk_arrAt_eq_flushed 22 disjoint22 cfg0.N t t.isLt hf

/-- Window 13's array after the run. -/
theorem post13 (r : PUnit × MemSt nD τ sig (Elt F)) (h : Pipeline.FramePost cfgs (dats m) 0 (V m) r) (c : Dev nD) :
    r.2.mem ((c : Thread nD τ).loc main_v36_0) = (dats m 0 c).arrAt 13 cfg0.N :=
  (h c).1 13

/-- Window 14's array after the run. -/
theorem post14 (r : PUnit × MemSt nD τ sig (Elt F)) (h : Pipeline.FramePost cfgs (dats m) 0 (V m) r) (c : Dev nD) :
    r.2.mem ((c : Thread nD τ).loc main_v36_1) = (dats m 0 c).arrAt 14 cfg0.N :=
  (h c).1 14

/-- Window 15's array after the run. -/
theorem post15 (r : PUnit × MemSt nD τ sig (Elt F)) (h : Pipeline.FramePost cfgs (dats m) 0 (V m) r) (c : Dev nD) :
    r.2.mem ((c : Thread nD τ).loc main_v36_2) = (dats m 0 c).arrAt 15 cfg0.N :=
  (h c).1 15

/-- Window 16's array after the run. -/
theorem post16 (r : PUnit × MemSt nD τ sig (Elt F)) (h : Pipeline.FramePost cfgs (dats m) 0 (V m) r) (c : Dev nD) :
    r.2.mem ((c : Thread nD τ).loc main_v36_3) = (dats m 0 c).arrAt 16 cfg0.N :=
  (h c).1 16

/-- Window 17's array after the run. -/
theorem post17 (r : PUnit × MemSt nD τ sig (Elt F)) (h : Pipeline.FramePost cfgs (dats m) 0 (V m) r) (c : Dev nD) :
    r.2.mem ((c : Thread nD τ).loc main_v36_4) = (dats m 0 c).arrAt 17 cfg0.N :=
  (h c).1 17

/-- Window 18's array after the run. -/
theorem post18 (r : PUnit × MemSt nD τ sig (Elt F)) (h : Pipeline.FramePost cfgs (dats m) 0 (V m) r) (c : Dev nD) :
    r.2.mem ((c : Thread nD τ).loc main_v36_5) = (dats m 0 c).arrAt 18 cfg0.N :=
  (h c).1 18

/-- Window 19's array after the run. -/
theorem post19 (r : PUnit × MemSt nD τ sig (Elt F)) (h : Pipeline.FramePost cfgs (dats m) 0 (V m) r) (c : Dev nD) :
    r.2.mem ((c : Thread nD τ).loc main_v36_6) = (dats m 0 c).arrAt 19 cfg0.N :=
  (h c).1 19

/-- Window 20's array after the run. -/
theorem post20 (r : PUnit × MemSt nD τ sig (Elt F)) (h : Pipeline.FramePost cfgs (dats m) 0 (V m) r) (c : Dev nD) :
    r.2.mem ((c : Thread nD τ).loc main_v36_7) = (dats m 0 c).arrAt 20 cfg0.N :=
  (h c).1 20

/-- Window 21's array after the run. -/
theorem post21 (r : PUnit × MemSt nD τ sig (Elt F)) (h : Pipeline.FramePost cfgs (dats m) 0 (V m) r) (c : Dev nD) :
    r.2.mem ((c : Thread nD τ).loc main_v36_8) = (dats m 0 c).arrAt 21 cfg0.N :=
  (h c).1 21

/-- Window 22's array after the run. -/
theorem post22 (r : PUnit × MemSt nD τ sig (Elt F)) (h : Pipeline.FramePost cfgs (dats m) 0 (V m) r) (c : Dev nD) :
    r.2.mem ((c : Thread nD τ).loc main_v36_9) = (dats m 0 c).arrAt 22 cfg0.N :=
  (h c).1 22

/-- An argument array after the run. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- An argument array after the run. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- An argument array after the run. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- An argument array after the run. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- An argument array after the run. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- An argument array after the run. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- An argument array after the run. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- An argument array after the run. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- An argument array after the run. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- An argument array after the run. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- An argument array after the run. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v36_0) = (dats m 0 c).arrAt 13 cfg0.N
      ∧ r.2.mem ((c : Thread nD τ).loc main_v36_1) = (dats m 0 c).arrAt 14 cfg0.N
      ∧ r.2.mem ((c : Thread nD τ).loc main_v36_2) = (dats m 0 c).arrAt 15 cfg0.N
      ∧ r.2.mem ((c : Thread nD τ).loc main_v36_3) = (dats m 0 c).arrAt 16 cfg0.N
      ∧ r.2.mem ((c : Thread nD τ).loc main_v36_4) = (dats m 0 c).arrAt 17 cfg0.N
      ∧ r.2.mem ((c : Thread nD τ).loc main_v36_5) = (dats m 0 c).arrAt 18 cfg0.N
      ∧ r.2.mem ((c : Thread nD τ).loc main_v36_6) = (dats m 0 c).arrAt 19 cfg0.N
      ∧ r.2.mem ((c : Thread nD τ).loc main_v36_7) = (dats m 0 c).arrAt 20 cfg0.N
      ∧ r.2.mem ((c : Thread nD τ).loc main_v36_8) = (dats m 0 c).arrAt 21 cfg0.N
      ∧ r.2.mem ((c : Thread nD τ).loc main_v36_9) = (dats m 0 c).arrAt 22 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨post13 m r h c,
      post14 m r h c,
      post15 m r h c,
      post16 m r h c,
      post17 m r h c,
      post18 m r h c,
      post19 m r h c,
      post20 m r h c,
      post21 m r h c,
      post22 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c⟩)
    (run_main m ρ)

end Cert.Kernel2Ideal.Value

end
-- ==== Proof.Proj.Spec.lean ====
/-
  THE PROJECTION'S MATHEMATICS, over the extended reals: the normalised rows, their projection, the token shift, and the operands of
  the RWKV-7 recurrence, each scaled by the decay since its chunk of 64 tokens began. A row is numbered over all 8 sequences of 2048
  tokens; head `k / 64` owns column `k` of the 1024.
-/
module

public import proofs.«01_k».proof.Proof.Ssd.Chunk
public import proofs.«01_k».proof.Proof.Ssd.Ref

@[expose] public section

noncomputable section

namespace Cert.Proj

open Idealize.ShloMosaic Cert.Ssd

section Spec

variable (x : ℕ → Fin 1024 → EReal) (nw : Fin 1024 → EReal) (w : Fin 1024 → Fin 6912 → EReal)
variable (pv : ℕ → Fin 3200 → EReal) (mu : Fin 3200 → EReal)

/-- A row divided by its root mean square, times the norm's weight. -/
def xn (r : ℕ) (d : Fin 1024) : EReal :=
  x r d * Ideal.rsqrt (Ideal.div (∑ j : Fin 1024, x r j * x r j) (Ideal.ofBits .f32 0x44800000#32) + Ideal.ofBits .f32 0x3727C5AC#32) * nw d

/-- The projected row. -/
def proj (r : ℕ) (c : Fin 6912) : EReal := ∑ d : Fin 1024, xn x nw r d * w d c

/-- The projected row of the token before, given for a sequence's first token. -/
def before (r : ℕ) (c : Fin 3200) : EReal :=
  if r % 2048 = 0 then pv (r / 2048) c else proj x nw w (r - 1) ⟨c.val, by omega⟩

/-- The row mixed with the row before it. -/
def mix (r : ℕ) (c : Fin 3200) : EReal :=
  proj x nw w r ⟨c.val, by omega⟩ + (before x nw w pv r c - proj x nw w r ⟨c.val, by omega⟩) * mu c

end Spec

/-- The log decay of its low-rank input. -/
def logDecay (u : EReal) : EReal := -(Ideal.exp (-(softplus (-u))) * Ideal.ofBits .f32 0x3F1B4598#32)

/-- The logistic function. -/
def sigm (u : EReal) : EReal := Ideal.div 1 (1 + Ideal.exp (-u))

section Ops

variable (mx : ℕ → Fin 3200 → EReal)
variable (w0 : Fin 1024 → EReal) (w2 : Fin 64 → Fin 1024 → EReal) (a0 : Fin 1024 → EReal) (a2 : Fin 64 → Fin 1024 → EReal)
variable (k_k k_a : Fin 1024 → EReal)

/-- The log decay of a token's column. -/
def ld (r : ℕ) (k : Fin 1024) : EReal :=
  logDecay (w0 k + ∑ q : Fin 64, Ideal.tanh (mx r ⟨3072 + q.val, by omega⟩) * w2 q k)

/-- The log decays since the token's chunk of 64 began, the token's own included. -/
def since (r : ℕ) (k : Fin 1024) : EReal :=
  ∑ q : Fin 64, if q.val ≤ r % 64 then ld mx w0 w2 (64 * (r / 64) + q.val) k else 0

/-- The in-context learning rate. -/
def rate (r : ℕ) (k : Fin 1024) : EReal :=
  sigm (a0 k + ∑ q : Fin 64, mx r ⟨3136 + q.val, by omega⟩ * a2 q k)

/-- The key of the removal, before it is normalised. -/
def kk (r : ℕ) (k : Fin 1024) : EReal := mx r ⟨1024 + k.val, by omega⟩ * k_k k

/-- The sum of squares over the head that owns a column. -/
def headSq (f : Fin 1024 → EReal) (k : Fin 1024) : EReal :=
  ∑ q : Fin 64, f ⟨64 * (k.val / 64) + q.val, by omega⟩ * f ⟨64 * (k.val / 64) + q.val, by omega⟩

/-- The normalised key of the removal. -/
def kap (r : ℕ) (k : Fin 1024) : EReal :=
  Ideal.div (kk mx k_k r k) (max (Ideal.sqrt (headSq (kk mx k_k r) k)) (Ideal.ofBits .f32 0x2B8CBCCC#32))

/-- The key, with its share of the learning rate. -/
def key (r : ℕ) (k : Fin 1024) : EReal := mx r ⟨1024 + k.val, by omega⟩ * (1 + (rate mx a0 a2 r k - 1) * k_a k)

/-- The removal key, decayed from the chunk's start to the token before. -/
def oA (r : ℕ) (k : Fin 1024) : EReal := kap mx k_k r k * Ideal.exp (since mx w0 w2 r k - ld mx w0 w2 r k)
/-- The removal's write key, with the decay undone. -/
def oB (r : ℕ) (k : Fin 1024) : EReal := kap mx k_k r k * rate mx a0 a2 r k * Ideal.exp (-(since mx w0 w2 r k))
/-- The key, with the decay undone. -/
def oC (r : ℕ) (k : Fin 1024) : EReal := key mx a0 a2 k_a r k * Ideal.exp (-(since mx w0 w2 r k))
/-- The receptance, decayed from the chunk's start. -/
def oD (r : ℕ) (k : Fin 1024) : EReal := mx r ⟨k.val, by omega⟩ * Ideal.exp (since mx w0 w2 r k)

end Ops

/-! ## The logistic function as a softplus -/

theorem div_one_top : Ideal.div 1 (1 + ⊤) = 0 := by
  have e : (1 : EReal) + ⊤ = ⊤ := by rw [show (1 : EReal) = ((1 : ℝ) : EReal) from rfl, EReal.coe_add_top]
  rw [e, Ideal.div, if_neg EReal.top_ne_zero, EReal.inv_top, mul_zero]

theorem sigm_coe (r : ℝ) : sigm (r : EReal) = ((1 / (1 + Real.exp (-r)) : ℝ) : EReal) := by
  have h : (1 + Real.exp (-r)) ≠ 0 := by have := Real.exp_pos (-r); positivity
  have e : (1 : EReal) + ((Real.exp (-r) : ℝ) : EReal) = ((1 + Real.exp (-r) : ℝ) : EReal) := by norm_cast
  rw [sigm, ← EReal.coe_neg, Ideal.exp_coe, e, Ideal.div_coe h, one_mul]

theorem exp_neg_softplus_coe (t : ℝ) :
    Real.exp (-(max t 0 + Real.log (1 + Real.exp (-(max t (-t)))))) = 1 / (1 + Real.exp t) := by
  have hp : (0 : ℝ) < 1 + Real.exp (-(max t (-t))) := by positivity
  rw [neg_add, Real.exp_add, Real.exp_neg (Real.log _), Real.exp_log hp]
  rcases le_total 0 t with h | h
  · rw [max_eq_left h, max_eq_left (by linarith : -t ≤ t)]
    have e : Real.exp t * Real.exp (-t) = 1 := by rw [← Real.exp_add]; simp
    have hp := Real.exp_pos t
    have hq := Real.exp_pos (-t)
    rw [Real.exp_neg] at *
    field_simp
    ring
  · rw [max_eq_right h, max_eq_right (by linarith : t ≤ -t)]
    simp

theorem exp_neg_softplus (u : EReal) : Ideal.exp (-(softplus (-u))) = sigm u := by
  induction u with
  | bot =>
    have e : softplus (-⊥) = ⊤ := top_le_iff.mp (by
      have := softplus_nonneg (⊤ : EReal)
      rw [EReal.neg_bot, softplus, max_eq_left le_top, max_eq_left le_top, EReal.neg_top, Ideal.exp_bot, add_zero]
      rw [show (1 : EReal) = ((1 : ℝ) : EReal) from rfl, Ideal.log_coe, if_neg (by norm_num), EReal.top_add_coe])
    rw [e, EReal.neg_top, Ideal.exp_bot, sigm, EReal.neg_bot, Ideal.exp_top, div_one_top]
  | top =>
    rw [EReal.neg_top, softplus_bot, sigm, EReal.neg_top, Ideal.exp_bot, neg_zero, add_zero]
    rw [show (0 : EReal) = ((0 : ℝ) : EReal) from rfl, Ideal.exp_coe, show (1 : EReal) = ((1 : ℝ) : EReal) from rfl,
      Ideal.div_coe one_ne_zero]
    norm_num
  | coe r =>
    rw [sigm_coe, ← EReal.coe_neg, softplus_coe, ← EReal.coe_neg, Ideal.exp_coe, exp_neg_softplus_coe]

theorem sigm_real (u : EReal) : ∃ r : ℝ, sigm u = r := by
  induction u with
  | bot => exact ⟨0, by rw [sigm, EReal.neg_bot, Ideal.exp_top, div_one_top]; rfl⟩
  | top => exact ⟨1, by
      rw [sigm, EReal.neg_top, Ideal.exp_bot, add_zero, show (1 : EReal) = ((1 : ℝ) : EReal) from rfl, Ideal.div_coe one_ne_zero]
      norm_num⟩
  | coe r => exact ⟨_, sigm_coe r⟩

/-- The decay's constant, the float of `e^(-1/2)`. -/
theorem rate_const : Ideal.ofBits .f32 0x3F1B4598#32 = ((10175896 / 16777216 : ℝ) : EReal) := by
  simp [Ideal.ofBits, Ideal.ieee, -EReal.coe_mul]; norm_num

/-- Its negation. -/
theorem rate_const_neg : Ideal.ofBits .f32 0xBF1B4598#32 = ((-(10175896 / 16777216) : ℝ) : EReal) := by
  simp [Ideal.ofBits, Ideal.ieee, -EReal.coe_mul, -EReal.coe_neg]; norm_num

/-- The norm's small constant is a positive real. -/
theorem eps_const : Ideal.ofBits .f32 0x3727C5AC#32 = ((10995116 / 1099511627776 : ℝ) : EReal) := by
  simp [Ideal.ofBits, Ideal.ieee, -EReal.coe_mul]; norm_num

/-- The number of columns. -/
theorem width_const : Ideal.ofBits .f32 0x44800000#32 = ((1024 : ℝ) : EReal) := by
  simp [Ideal.ofBits, Ideal.ieee, -EReal.coe_mul]; norm_num

/-- The kernel's form of the log decay. -/
theorem logDecay_eq (u : EReal) : logDecay u = Ideal.ofBits .f32 0xBF1B4598#32 * sigm u := by
  rw [logDecay, exp_neg_softplus, rate_const, rate_const_neg, EReal.coe_neg, EReal.neg_mul, mul_comm]

theorem logDecay_real (u : EReal) : ∃ r : ℝ, logDecay u = r := by
  obtain ⟨r, hr⟩ := sigm_real u
  exact ⟨_ * r, by rw [logDecay_eq, hr, rate_const_neg, EReal.coe_mul]⟩

/-! ## Real arguments give a real key -/

/-- A value is a real number. -/
def IsReal (x : EReal) : Prop := ∃ r : ℝ, x = r

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem coe_sum {n : ℕ} (g : Fin n → ℝ) : ∑ i, ((g i : ℝ) : EReal) = ((∑ i, g i : ℝ) : EReal) := by
  suffices h : ∀ s : Finset (Fin n), ∑ i ∈ s, ((g i : ℝ) : EReal) = ((∑ i ∈ s, g i : ℝ) : EReal) from h _
  intro s
  induction s using Finset.induction_on with
  | empty => simp
  | insert a s ha ih => rw [Finset.sum_insert ha, Finset.sum_insert ha, ih, EReal.coe_add]

theorem IsReal.sum {n : ℕ} {f : Fin n → EReal} (h : ∀ i, IsReal (f i)) : IsReal (∑ i, f i) := by
  choose g hg using h
  exact ⟨∑ i, g i, by simp only [hg]; exact coe_sum g⟩

theorem IsReal.ne_top {x : EReal} (h : IsReal x) : x ≠ ⊤ := by
  obtain ⟨a, rfl⟩ := h; exact EReal.coe_ne_top a

theorem isReal_of_abs {x : EReal} (h : max x (-x) < ⊤) : IsReal x := by
  induction x with
  | bot => simp at h
  | coe r => exact ⟨r, rfl⟩
  | top => simp at h

/-- A row's scale is real where the row is. -/
theorem scale_real {f : Fin 1024 → EReal} (h : ∀ i, IsReal (f i)) :
    IsReal (Ideal.rsqrt (Ideal.div (∑ j, f j * f j) (Ideal.ofBits .f32 0x44800000#32) + Ideal.ofBits .f32 0x3727C5AC#32)) := by
  choose g hg using h
  have e : ∑ j, f j * f j = ((∑ j, g j * g j : ℝ) : EReal) := by
    rw [← coe_sum]; exact Finset.sum_congr rfl fun j _ => by rw [hg, EReal.coe_mul]
  have hp : 0 < (∑ j, g j * g j) * (1 / 1024) + (10995116 / 1099511627776 : ℝ) := by
    have : 0 ≤ ∑ j, g j * g j := Finset.sum_nonneg fun j _ => mul_self_nonneg _
    positivity
  rw [e, width_const, eps_const, Ideal.div_coe (by norm_num), ← EReal.coe_mul, ← EReal.coe_add, Ideal.rsqrt_coe,
    if_neg (not_lt.mpr hp.le), if_neg hp.ne']
  exact ⟨_, rfl⟩

/-- An infinite entry makes the sum of squares infinite. -/
theorem sum_sq_top {f : Fin 1024 → EReal} (j : Fin 1024) (h : ¬IsReal (f j)) : ∑ i, f i * f i = ⊤ := by
  have hs : f j * f j = ⊤ := by
    induction hv : f j with
    | bot => rfl
    | coe r => exact absurd ⟨r, hv⟩ h
    | top => rfl
  have h0 (x : EReal) : 0 ≤ x * x := by
    induction x with
    | bot => exact le_top
    | coe r => rw [← EReal.coe_mul]; exact EReal.coe_nonneg.mpr (mul_self_nonneg r)
    | top => exact le_top
  exact top_le_iff.mp (hs ▸ Finset.single_le_sum (f := fun i => f i * f i) (fun i _ => h0 (f i)) (Finset.mem_univ j))

/-- A scaled entry is real for every row: an infinite row is scaled by zero. -/
theorem scaled_real (f : Fin 1024 → EReal) (d : Fin 1024) :
    IsReal (f d * Ideal.rsqrt (Ideal.div (∑ j, f j * f j) (Ideal.ofBits .f32 0x44800000#32) + Ideal.ofBits .f32 0x3727C5AC#32)) := by
  by_cases h : ∀ i, IsReal (f i)
  · exact (h d).mul (scale_real h)
  · obtain ⟨j, hj⟩ := not_forall.mp h
    rw [sum_sq_top j hj, width_const, eps_const, Ideal.div_coe (by norm_num),
      EReal.top_mul_coe_of_pos (by norm_num), EReal.top_add_coe, Ideal.rsqrt_top, mul_zero]
    exact ⟨0, rfl⟩

section Real

variable {x : ℕ → Fin 1024 → EReal} {nw : Fin 1024 → EReal} {w : Fin 1024 → Fin 6912 → EReal}
variable {pv : ℕ → Fin 3200 → EReal} {mu : Fin 3200 → EReal}
variable (hn : ∀ d, IsReal (nw d))

include hn in
theorem proj_real (c : Fin 6912) (hw : ∀ d, IsReal (w d c)) (r : ℕ) : IsReal (proj x nw w r c) :=
  IsReal.sum fun d => ((scaled_real (x r) d).mul (hn d)).mul (hw d)

include hn in
theorem mix_real (c : Fin 3200) (hw : ∀ d, IsReal (w d ⟨c.val, by omega⟩)) (hp : ∀ r, IsReal (pv r c)) (hm : IsReal (mu c)) (r : ℕ) :
    IsReal (mix x nw w pv mu r c) := by
  refine (proj_real hn _ hw r).add (IsReal.mul (IsReal.sub ?_ (proj_real hn _ hw r)) hm)
  unfold before
  split
  · exact hp _
  · exact proj_real hn _ hw _

end Real

/-! ## Products with 0/1 matrices -/

/-- A sum over 256 entries that keeps the 64 of one block. -/
theorem sum_block (k : Fin 256) (f : Fin 256 → EReal) :
    (∑ x : Fin 256, if x.val / 64 = k.val / 64 then f x else 0) = ∑ q : Fin 64, f ⟨64 * (k.val / 64) + q.val, by omega⟩ := by
  rw [← Finset.sum_filter]
  refine (Finset.sum_bij (fun (q : Fin 64) _ => (⟨64 * (k.val / 64) + q.val, by omega⟩ : Fin 256)) ?_ ?_ ?_ ?_).symm
  · intro q _; simp only [Finset.mem_filter, Finset.mem_univ, true_and]; omega
  · intro a _ b _ e; have := Fin.mk.inj e; apply Fin.ext; omega
  · intro x hx
    simp only [Finset.mem_filter, Finset.mem_univ, true_and] at hx
    exact ⟨⟨x.val % 64, by omega⟩, Finset.mem_univ _, Fin.ext (by dsimp only; omega)⟩
  · intro q _; rfl

/-- The columns of a head of 64 inside a block of 256. -/
theorem sum_head (f e : Fin 256 → EReal) (k : Fin 256) (he : ∀ x, e x = if x.val / 64 = k.val / 64 then 1 else 0) :
    ∑ x, f x * e x = ∑ q : Fin 64, f ⟨64 * (k.val / 64) + q.val, by omega⟩ := by
  simp only [he, mul_ite, mul_one, mul_zero]
  exact sum_block k (fun x => f x)

/-- The rows of a chunk of 64 inside a tile of 256, up to a row. -/
theorem sum_chunk (f e : Fin 256 → EReal) (l : Fin 256)
    (he : ∀ s, e s = if s.val / 64 = l.val / 64 ∧ s.val ≤ l.val then 1 else 0) :
    ∑ s, e s * f s = ∑ q : Fin 64, if q.val ≤ l.val % 64 then f ⟨64 * (l.val / 64) + q.val, by omega⟩ else 0 := by
  refine Eq.trans (Finset.sum_congr rfl fun s _ => ?_) (sum_block l fun s => if s.val ≤ l.val then f s else 0) |>.trans
    (Finset.sum_congr rfl fun q _ => if_congr (by dsimp only; omega) rfl rfl)
  rw [he]
  by_cases h1 : s.val / 64 = l.val / 64 <;> by_cases h2 : s.val ≤ l.val <;> simp [h1, h2]

end Cert.Proj

end
-- ==== Proof.Proj.Pay.lean ====
/-
  THE PROJECTION KERNEL'S ARITHMETIC, PAYLOAD BY PAYLOAD: each value the body computes, read at an index over the extended reals. The
  products with the two 0/1 matrices are opened here; no claim about memory is made in this file.
-/
module

public import proofs.«01_k».proof.Proof.Gen.Kernel2Ideal.Skeleton
public import proofs.«01_k».proof.Proof.Proj.Spec
public import Idealize.ShloMosaic.Lib.WordCmp
public import Idealize.ShloMosaic.Lib.KernelVsHost

@[expose] public section

set_option maxRecDepth 16384

noncomputable section

namespace Cert.PPay

open Idealize.ShloMosaic Idealize.SL.Sem
open Cert.Kernel2Ideal Cert.Kernel2Ideal.Gen Cert.Proj

/-! ## The rows, the projection and the token shift -/

/-- A normalised row of a block. -/
def bxn (x : Vec Ideal S256x1024 .f32) (nw : Vec Ideal S1x1024 .f32) (l : Fin 256) (d : Fin 1024) : EReal :=
  x (ix2 l d) * Ideal.rsqrt (Ideal.div (∑ j : Fin 1024, x (ix2 l j) * x (ix2 l j)) (Ideal.ofBits .f32 0x44800000#32)
    + Ideal.ofBits .f32 0x3727C5AC#32) * nw (ix2 0 d)

theorem p4 (x : Vec Ideal S256x1024 .f32) (nw : Vec Ideal S1x1024 .f32) (l : Fin 256) (d : Fin 1024) :
    k0_pay4 x nw (ix2 l d) = bxn x nw l d := by
  pointwise [k0_pay4]
  rfl

theorem p5 (v : Vec Ideal S1x1x3200 .f32) (l : Fin 8) (c : Fin 3200) : k0_pay5 v (ix2 l c) = v (ix3 0 0 c) := by
  pointwise [k0_pay5]

theorem p6 (x : Vec Ideal S256x1024 .f32) (nw : Vec Ideal S1x1024 .f32) (w : Vec Ideal S1024x128 .bf16) (l : Fin 256) (q : Fin 128) :
    k0_pay6 x nw w (ix2 l q) = ∑ d : Fin 1024, bxn x nw l d * w (ix2 d q) := by
  pointwise [k0_pay6]
  simp only [p4]

/-- The row before, with the given one before the first. -/
def shift {n : ℕ} (z : Fin 256 → Fin n → EReal) (b : Fin n → EReal) (l : Fin 256) (q : Fin n) : EReal :=
  if h : l.val = 0 then b q else z ⟨l.val - 1, by omega⟩ q

/-- A row mixed with the row before. -/
def bmix {n : ℕ} (z : Fin 256 → Fin n → EReal) (b mu : Fin n → EReal) (l : Fin 256) (q : Fin n) : EReal :=
  z l q + (shift z b l q - z l q) * mu q

theorem row_zero (l : Fin 256) (a b : EReal) :
    Scalar.select (IntOp.cmpi CmpIPredicate.eq (BitVec.ofNat 32 l.val) 0#32) a b = if l.val = 0 then a else b := by
  rw [show (0#32 : BitVec 32) = BitVec.ofNat 32 0 from rfl, WordCmp.cmpi_eq_ofNat (by omega) (by omega)]
  unfold Scalar.select; by_cases h : l.val = 0 <;> simp [h]

theorem rot128 (z : FVec Ideal S256x128 .f32) (l : Fin 256) (q : Fin 128) (h : l.val ≠ 0) :
    dynamicRotate 0 1#32 none z rotates_S256x128_d0 (ix2 l q) = z (ix2 ⟨l.val - 1, by omega⟩ q) :=
  dynamicRotate_apply _ _ _ _ _ _ fun b => match b with
    | ⟨0, _⟩ => by show l.val - 1 = (l.val + 256 - 1 % 256) % 256; omega
    | ⟨1, _⟩ => rfl

theorem rot1024 (z : FVec Ideal S256x1024 .f32) (l : Fin 256) (q : Fin 1024) (h : l.val ≠ 0) :
    dynamicRotate 0 1#32 none z rotates_S256x1024_d0 (ix2 l q) = z (ix2 ⟨l.val - 1, by omega⟩ q) :=
  dynamicRotate_apply _ _ _ _ _ _ fun b => match b with
    | ⟨0, _⟩ => by show l.val - 1 = (l.val + 256 - 1 % 256) % 256; omega
    | ⟨1, _⟩ => rfl

theorem p10 (z : FVec Ideal S256x128 .f32) (b mu : Vec Ideal S1x128 .f32) (l : Fin 256) (q : Fin 128) :
    k0_pay10 z k0_pay7 b (dynamicRotate 0 1#32 none z rotates_S256x128_d0) mu (ix2 l q)
      = bmix (fun l q => z (ix2 l q)) (fun q => b (ix2 0 q)) (fun q => mu (ix2 0 q)) l q := by
  have e : select k0_pay7 (broadcastTo S256x128 (shapeCast S1x128 b shapeCasts_S1x128_S1x128) broadcasts_S1x128_S256x128)
      (dynamicRotate 0 1#32 none z rotates_S256x128_d0) (ix2 l q)
      = shift (fun l q => z (ix2 l q)) (fun q => b (ix2 0 q)) l q := by
    unfold shift
    by_cases h : l.val = 0
    · rw [dif_pos h]
      trans Scalar.select (IntOp.cmpi CmpIPredicate.eq (BitVec.ofNat 32 l.val) 0#32) (b (ix2 0 q))
        (dynamicRotate 0 1#32 none z rotates_S256x128_d0 (ix2 l q))
      · pointwise [k0_pay7]
      · rw [row_zero, if_pos h]
    · rw [dif_neg h]
      trans Scalar.select (IntOp.cmpi CmpIPredicate.eq (BitVec.ofNat 32 l.val) 0#32) (b (ix2 0 q))
        (dynamicRotate 0 1#32 none z rotates_S256x128_d0 (ix2 l q))
      · pointwise [k0_pay7]
      · rw [row_zero, if_neg h, rot128 z l q h]
  unfold bmix
  rw [← e]
  pointwise [k0_pay10]

theorem p9 (z : FVec Ideal S256x128 .f32) (l : Fin 8) (q : Fin 128) : k0_pay9 z (ix2 l q) = z (ix2 255 q) := by
  pointwise [k0_pay9]
  try rfl

/-- The 1024-column products are the projected block. -/
def bproj {n : ℕ} (X : Fin 256 → Fin 1024 → EReal) (w : Fin 1024 → Fin n → EReal) (l : Fin 256) (q : Fin n) : EReal :=
  ∑ d : Fin 1024, X l d * w d q

theorem p11 (X : FVec Ideal S256x1024 .bf16) (w : Vec Ideal S1024x1024 .bf16) (l : Fin 256) (q : Fin 1024) :
    k0_pay11 X w (ix2 l q) = bproj (fun l d => X (ix2 l d)) (fun d q => w (ix2 d q)) l q := by
  pointwise [k0_pay11]
  rfl

theorem p14 (X : FVec Ideal S256x1024 .bf16) (w : Vec Ideal S1024x1024 .bf16) (l : Fin 256) (q : Fin 1024) :
    k0_pay14 X w (ix2 l q) = bproj (fun l d => X (ix2 l d)) (fun d q => w (ix2 d q)) l q := p11 X w l q

theorem p15 (X : FVec Ideal S256x1024 .bf16) (w : Vec Ideal S1024x1024 .bf16) (l : Fin 256) (q : Fin 1024) :
    k0_pay15 X w (ix2 l q) = bproj (fun l d => X (ix2 l d)) (fun d q => w (ix2 d q)) l q := p11 X w l q

theorem p29 (X : FVec Ideal S256x1024 .bf16) (w : Vec Ideal S1024x1024 .bf16) (l : Fin 256) (q : Fin 1024) :
    k0_pay29 X w (ix2 l q) = bproj (fun l d => X (ix2 l d)) (fun d q => w (ix2 d q)) l q := p11 X w l q

theorem p34 (X : FVec Ideal S256x1024 .bf16) (w : Vec Ideal S1024x1024 .bf16) (l : Fin 256) (q : Fin 1024) :
    k0_pay34 X w (ix2 l q) = bproj (fun l d => X (ix2 l d)) (fun d q => w (ix2 d q)) l q := p11 X w l q

theorem p37 (X : FVec Ideal S256x1024 .bf16) (w : Vec Ideal S1024x1536 .bf16) (l : Fin 256) (q : Fin 1536) :
    k0_pay37 X w (ix2 l q) = bproj (fun l d => X (ix2 l d)) (fun d q => w (ix2 d q)) l q := by
  pointwise [k0_pay37]
  rfl

theorem p38 (X : FVec Ideal S256x1024 .bf16) (w : Vec Ideal S1024x128 .bf16) (l : Fin 256) (q : Fin 128) :
    k0_pay38 X w (constant S256x128 .f32 0x00000000#32) (ix2 l q) = bproj (fun l d => X (ix2 l d)) (fun d q => w (ix2 d q)) l q := by
  pointwise [k0_pay38]
  rfl

theorem p12 (X : FVec Ideal S256x1024 .bf16) (w : Vec Ideal S1024x1024 .bf16) (l : Fin 8) (q : Fin 1024) :
    k0_pay12 X w (ix2 l q) = bproj (fun l d => X (ix2 l d)) (fun d q => w (ix2 d q)) 255 q := by
  pointwise [k0_pay12]
  exact p11 X w 255 q

theorem p32 (X : FVec Ideal S256x1024 .bf16) (w : Vec Ideal S1024x1024 .bf16) (l : Fin 8) (q : Fin 1024) :
    k0_pay32 (k0_pay31 X w) (ix2 l q) = bproj (fun l d => X (ix2 l d)) (fun d q => w (ix2 d q)) 255 q := by
  pointwise [k0_pay32, k0_pay31]
  exact p29 X w 255 q

theorem p35 (X : FVec Ideal S256x1024 .bf16) (w : Vec Ideal S1024x1024 .bf16) (l : Fin 8) (q : Fin 1024) :
    k0_pay35 X w (ix2 l q) = bproj (fun l d => X (ix2 l d)) (fun d q => w (ix2 d q)) 255 q := by
  pointwise [k0_pay35]
  exact p34 X w 255 q

theorem sel1024 (z : FVec Ideal S256x1024 .f32) (b : Vec Ideal S1x1024 .f32) (l : Fin 256) (q : Fin 1024) :
    select (cmpi .eq (iota .tc S256x1024 32 [0] iota_S256x1024_d0_w32) (broadcast S256x1024 0#32))
      (broadcastTo S256x1024 (shapeCast S1x1024 b shapeCasts_S1x1024_S1x1024) broadcasts_S1x1024_S256x1024)
      (dynamicRotate 0 1#32 none z rotates_S256x1024_d0) (ix2 l q)
      = shift (fun l q => z (ix2 l q)) (fun q => b (ix2 0 q)) l q := by
  trans Scalar.select (IntOp.cmpi CmpIPredicate.eq (BitVec.ofNat 32 l.val) 0#32) (b (ix2 0 q))
    (dynamicRotate 0 1#32 none z rotates_S256x1024_d0 (ix2 l q))
  · pointwise []
  · unfold shift
    by_cases h : l.val = 0
    · rw [row_zero, if_pos h, dif_pos h]
    · rw [row_zero, if_neg h, dif_neg h, rot1024 z l q h]

theorem p13 (X : FVec Ideal S256x1024 .bf16) (w : Vec Ideal S1024x1024 .bf16) (b mu : Vec Ideal S1x1024 .f32) (l : Fin 256) (q : Fin 1024) :
    k0_pay13 X w b mu (ix2 l q)
      = bmix (bproj (fun l d => X (ix2 l d)) (fun d q => w (ix2 d q))) (fun q => b (ix2 0 q)) (fun q => mu (ix2 0 q)) l q := by
  have e := sel1024 (k0_pay11 X w) b l q
  simp only [p11] at e
  unfold bmix
  rw [← e, ← p11]
  pointwise [k0_pay13]

theorem p36 (X : FVec Ideal S256x1024 .bf16) (w : Vec Ideal S1024x1024 .bf16) (b mu : Vec Ideal S1x1024 .f32) (l : Fin 256) (q : Fin 1024) :
    k0_pay36 X w b mu (ix2 l q)
      = bmix (bproj (fun l d => X (ix2 l d)) (fun d q => w (ix2 d q))) (fun q => b (ix2 0 q)) (fun q => mu (ix2 0 q)) l q :=
  p13 X w b mu l q

theorem p33 (X : FVec Ideal S256x1024 .bf16) (w : Vec Ideal S1024x1024 .bf16) (b mu : Vec Ideal S1x1024 .f32) (l : Fin 256) (q : Fin 1024) :
    k0_pay33 (k0_pay29 X w) (k0_pay30 X w b) mu (ix2 l q)
      = bmix (bproj (fun l d => X (ix2 l d)) (fun d q => w (ix2 d q))) (fun q => b (ix2 0 q)) (fun q => mu (ix2 0 q)) l q :=
  p13 X w b mu l q

/-! ## The decay and the learning rate -/

theorem p16 (z : FVec Ideal S256x128 .f32) (w : Vec Ideal S128x1024 .bf16) (b : Vec Ideal S1x1024 .f32) (l : Fin 256) (k : Fin 1024) :
    k0_pay16 z w b (ix2 l k) = logDecay (b (ix2 0 k) + ∑ q : Fin 128, Ideal.tanh (z (ix2 l q)) * w (ix2 q k)) := by
  rw [logDecay_eq, sigm]
  pointwise [k0_pay16]
  rw [zero_sub]

theorem p18 (z : FVec Ideal S256x128 .f32) (w : Vec Ideal S128x1024 .bf16) (b : Vec Ideal S1x1024 .f32) (l : Fin 256) (k : Fin 1024) :
    k0_pay18 (k0_pay17 z w b) (Scalar.ofBits .f32 0x3F800000#32) (ix2 l k) = sigm (b (ix2 0 k) + ∑ q : Fin 128, z (ix2 l q) * w (ix2 q k)) := by
  rw [sigm]
  pointwise [k0_pay18, k0_pay17]
  rw [zero_sub]

theorem p19 (z : FVec Ideal S256x1024 .f32) (b : Vec Ideal S1x1024 .f32) (l : Fin 256) (k : Fin 1024) :
    k0_pay19 z b (ix2 l k) = z (ix2 l k) * b (ix2 0 k) := by
  pointwise [k0_pay19]

/-! ## The two 0/1 products -/

/-- A value other than `⊤` in its two pieces. -/
theorem two_pieces {x : EReal} (hx : x ≠ ⊤) : x + (x - x) = x := Cert.Ssd.add_sub_self_of_ne_top hx

theorem p20 (z : FVec Ideal S256x1024 .f32) (w : Vec Ideal S256x256 .bf16) (l : Fin 256) (k : Fin 1024)
    (hz : ∀ l k, IsReal (z (ix2 l k)))
    (hw : ∀ l s, w (ix2 l s) = if s.val / 64 = l.val / 64 ∧ s.val ≤ l.val then 1 else 0) :
    k0_pay20 z w w (ix2 l k) = ∑ q : Fin 64, if q.val ≤ l.val % 64 then z (ix2 ⟨64 * (l.val / 64) + q.val, by omega⟩ k) else 0 := by
  have e : k0_pay20 z w w (ix2 l k) = (∑ s : Fin 256, w (ix2 l s) * z (ix2 s k)) + ∑ s : Fin 256, w (ix2 l s) * (z (ix2 s k) - z (ix2 s k)) := by
    pointwise [k0_pay20]
  have e2 : ∑ s : Fin 256, w (ix2 l s) * (z (ix2 s k) - z (ix2 s k)) = 0 := Finset.sum_eq_zero fun s _ => by
    obtain ⟨r, hr⟩ := hz s k
    rw [hr, ← EReal.coe_sub, sub_self]; exact mul_zero _
  rw [e, e2, add_zero]
  exact sum_chunk (fun s => z (ix2 s k)) (fun s => w (ix2 l s)) l (fun s => hw l s)

theorem p21 (z : FVec Ideal S256x1024 .f32) (b : Vec Ideal S1x1024 .f32) (l : Fin 256) (k : Fin 1024) :
    k0_pay21 z b (ix2 l k) = (z (ix2 l k) * b (ix2 0 k)) * (z (ix2 l k) * b (ix2 0 k)) := by
  pointwise [k0_pay21]
  rw [p19]

/-! ## The normalised key -/

/-- The head's sum of squares of a block of 256 columns, from the two pieces of the squares. -/
theorem head_block (g e : Fin 256 → EReal) (j : Fin 256) (hg : ∀ x, IsReal (g x)) (he : ∀ x, e x = if x.val / 64 = j.val / 64 then 1 else 0) :
    (∑ x, g x * e x) + ∑ x, (g x - g x) * e x = ∑ q : Fin 64, g ⟨64 * (j.val / 64) + q.val, by omega⟩ := by
  have e2 : ∑ x, (g x - g x) * e x = 0 := Finset.sum_eq_zero fun x _ => by
    obtain ⟨r, hr⟩ := hg x
    rw [hr, ← EReal.coe_sub, sub_self]; exact zero_mul _
  rw [e2, add_zero, sum_head g e j he]

section Key

variable (z : FVec Ideal S256x1024 .f32) (b : Vec Ideal S1x1024 .f32) (w : Vec Ideal S256x256 .bf16)

/-- A key's square. -/
def sq (l : Fin 256) (k : Fin 1024) : EReal := (z (ix2 l k) * b (ix2 0 k)) * (z (ix2 l k) * b (ix2 0 k))

theorem p22 (l : Fin 256) (k : Fin 1024) : k0_pay22 z b (ix2 l k) = sq z b l k := by
  pointwise [k0_pay22]
  exact p21 z b l k

theorem p23 (l : Fin 256) (k : Fin 1024) : k0_pay23 z b (ix2 l k) = sq z b l k - sq z b l k := by
  pointwise [k0_pay23]
  rw [p22, p21]
  rfl

/-- The normalised key, as the kernel computes it. -/
abbrev kapPay : FVec Ideal S256x1024 .f32 :=
  k0_pay28 (k0_pay19 z b) (k0_pay22 z b) (k0_pay23 z b) (k0_pay24 z b w w) (k0_pay25 z b w) (k0_pay26 z b) (k0_pay27 w) w w w w

theorem p28 (hz : ∀ l k, IsReal (z (ix2 l k) * b (ix2 0 k)))
    (hw : ∀ x j, w (ix2 x j) = if x.val / 64 = j.val / 64 then 1 else 0) (l : Fin 256) (k : Fin 1024) :
    kapPay z b w (ix2 l k) = Ideal.div (z (ix2 l k) * b (ix2 0 k))
      (max (Ideal.sqrt (headSq (fun k => z (ix2 l k) * b (ix2 0 k)) k)) (Ideal.ofBits .f32 0x2B8CBCCC#32)) := by
  have hq : ∀ k, IsReal (sq z b l k) := fun k => (hz l k).mul (hz l k)
  have hb : ∀ (o : ℕ) (ho : o + 256 ≤ 1024) (j : Fin 256) (hk : k.val = o + j.val) (h64 : o % 64 = 0),
      (∑ x : Fin 256, k0_pay22 z b (ix2 l ⟨o + x.val, by omega⟩) * w (ix2 x j))
        + ∑ x : Fin 256, k0_pay23 z b (ix2 l ⟨o + x.val, by omega⟩) * w (ix2 x j)
        = headSq (fun k => z (ix2 l k) * b (ix2 0 k)) k := by
    intro o ho j hk h64
    simp only [p22, p23]
    rw [head_block (fun x => sq z b l ⟨o + x.val, by omega⟩) (fun x => w (ix2 x j)) j (fun x => hq _) (fun x => hw x j)]
    unfold headSq sq
    refine Finset.sum_congr rfl fun q _ => ?_
    have e : (⟨o + (64 * (j.val / 64) + q.val), by omega⟩ : Fin 1024) = ⟨64 * (k.val / 64) + q.val, by omega⟩ := Fin.ext (by dsimp only; omega)
    dsimp only
    rw [e]
  pointwise [kapPay, k0_pay28, k0_pay24, k0_pay25, k0_pay26, k0_pay27]
  rw [p19]
  refine congrArg (fun t => Ideal.div _ (max (Ideal.sqrt t) _)) ?_
  by_cases h1 : k.val < 256
  · rw [dif_pos h1]
    simpa using hb 0 (by omega) ⟨k.val, h1⟩ (by simp) rfl
  rw [dif_neg h1]
  by_cases h2 : k.val - 256 < 256
  · rw [dif_pos h2]
    exact hb 256 (by omega) ⟨k.val - 256, h2⟩ (by dsimp only; omega) rfl
  rw [dif_neg h2]
  by_cases h3 : k.val - 256 - 256 < 256
  · rw [dif_pos h3]
    exact hb 512 (by omega) ⟨k.val - 256 - 256, h3⟩ (by dsimp only; omega) rfl
  rw [dif_neg h3]
  exact hb 768 (by omega) ⟨k.val - 256 - 256 - 256, by omega⟩ (by dsimp only; omega) rfl

end Key

/-! ## The operands of the recurrence -/

section Operands

variable (ld cum kap a k r : FVec Ideal S256x1024 .f32)

theorem p41 (l : Fin 256) (q : Fin 1024) :
    k0_pay41 ld cum kap (ix2 l q) = kap (ix2 l q) * Ideal.exp (cum (ix2 l q) - ld (ix2 l q)) := by
  pointwise [k0_pay41]

theorem p42 (l : Fin 256) (q : Fin 1024) :
    k0_pay42 a cum kap (ix2 l q) = kap (ix2 l q) * a (ix2 l q) * Ideal.exp (-(cum (ix2 l q))) := by
  pointwise [k0_pay42, k0_pay39]
  rw [zero_sub]

theorem p43 (b : Vec Ideal S1x1024 .f32) (l : Fin 256) (q : Fin 1024) :
    k0_pay43 k a cum b (ix2 l q)
      = k (ix2 l q) * (1 + (a (ix2 l q) - 1) * b (ix2 0 q)) * Ideal.exp (-(cum (ix2 l q))) := by
  pointwise [k0_pay43, k0_pay39]
  rw [zero_sub]

theorem p44 (l : Fin 256) (q : Fin 1024) : k0_pay44 cum r (ix2 l q) = r (ix2 l q) * Ideal.exp (cum (ix2 l q)) := by
  pointwise [k0_pay44, k0_pay40]

theorem p45 (q : Fin 1024) : k0_pay45 cum (ix3 0 0 q) = Ideal.exp (cum (ix2 63 q)) := by
  pointwise [k0_pay45, k0_pay40]

theorem p1 (q : Fin 1024) : k0_pay1 (k0_pay46 cum) (ix3 0 0 q) = Ideal.exp (cum (ix2 127 q)) := by
  pointwise [k0_pay1, k0_pay46, k0_pay40]

theorem p2 (q : Fin 1024) : k0_pay2 (k0_pay40 cum) (ix3 0 0 q) = Ideal.exp (cum (ix2 191 q)) := by
  pointwise [k0_pay2, k0_pay40]

theorem p3 (q : Fin 1024) : k0_pay3 (k0_pay40 cum) (ix3 0 0 q) = Ideal.exp (cum (ix2 255 q)) := by
  pointwise [k0_pay3, k0_pay40]

end Operands

end Cert.PPay

end
-- ==== Proof.Out.Rect.lean ====
/-
  RECTANGLES OF A MATRIX: what a load of one reads and what a store to one leaves, entry by entry.
-/
module

public import Idealize.ShloMosaic.Lib.Pipeline.ValueKit
public import Idealize.ShloMosaic.Lib.Pipeline.FrameBody

@[expose] public section

noncomputable section

namespace Cert.MatRect

open Idealize.ShloMosaic Idealize.SL.Sem

variable {A D W E o q : Nat} {e : EltTy}
  (inb : ∀ a, (![o, q] : Fin 2 → Nat) a + (![W, E] : Fin 2 → Nat) a ≤ (⟨2, ![A, D]⟩ : Shape).size a)

theorem emb_at (r : Fin A) (k : Fin D) (p : Fin W) (l : Fin E) (hr : r.val = o + p.val) (hk : k.val = q + l.val) :
    (ix2 r k : (⟨2, ![A, D]⟩ : Shape).Idx) = (Rect.unit (s := ⟨2, ![A, D]⟩) ![o, q] ![W, E] inb).emb (ix2 p l) :=
  funext fun a => Fin.ext (by fin_cases a <;> simp [Rect.unit, Rect.emb, ix2, hr, hk])

/-- An entry inside the rectangle stored last. -/
theorem canon_hit (w : (Rect.unit (s := ⟨2, ![A, D]⟩) ![o, q] ![W, E] inb).shape.Idx → Elt Ideal e)
    (L : List (View.Piece (Elt Ideal) ⟨2, ![A, D]⟩ e)) (r : Fin A) (k : Fin D) (p : Fin W) (l : Fin E)
    (hr : r.val = o + p.val) (hk : k.val = q + l.val) :
    View.canon (⟨Rect.unit (s := ⟨2, ![A, D]⟩) ![o, q] ![W, E] inb, w⟩ :: L) (ix2 r k) = w (ix2 p l) := by
  rw [emb_at inb r k p l hr hk]; exact View.canon_cons_emb _ _ _ _

/-- An entry outside it. -/
theorem canon_skip (w : (Rect.unit (s := ⟨2, ![A, D]⟩) ![o, q] ![W, E] inb).shape.Idx → Elt Ideal e)
    (L : List (View.Piece (Elt Ideal) ⟨2, ![A, D]⟩ e)) (r : Fin A) (k : Fin D) (h : k.val < q ∨ q + E ≤ k.val) :
    View.canon (⟨Rect.unit (s := ⟨2, ![A, D]⟩) ![o, q] ![W, E] inb, w⟩ :: L) (ix2 r k) = View.canon L (ix2 r k) := by
  refine View.canon_cons_of_not_mem _ _ fun hm => ?_
  have := (Rect.mem_set_unit (inb := inb)).mp hm 1
  obtain ⟨h1, h2⟩ : q ≤ k.val ∧ k.val < q + E := this
  omega

/-- An entry of a load. -/
theorem ld_at (v : Vec Ideal ⟨2, ![A, D]⟩ e) (r : Fin A) (k : Fin D) (p : Fin W) (l : Fin E)
    (hr : r.val = o + p.val) (hk : k.val = q + l.val) :
    View.ld v (Rect.unit (s := ⟨2, ![A, D]⟩) ![o, q] ![W, E] inb) (ix2 p l) = v (ix2 r k) :=
  congrArg v (emb_at inb r k p l hr hk).symm

end Cert.MatRect

end
-- ==== Proof.Proj.Body.lean ====
/-
  THE PROJECTION KERNEL'S BODY as functions of its blocks and of the carried rows it starts from, and each of them at an index: the
  token shift's mixed columns, the decays, the normalised key and the operands of the recurrence.
-/
module

public import proofs.«01_k».proof.Proof.Proj.Pay
public import Idealize.ShloMosaic.Lib.Pipeline.ReadBack
public import Idealize.ShloMosaic.Lib.Pipeline.ValueKit
public import proofs.«01_k».proof.Proof.Out.Rect

@[expose] public section

set_option maxRecDepth 16384

noncomputable section

namespace Cert.PBody

open Idealize.ShloMosaic Idealize.SL.Sem
open Cert.Kernel2Ideal Cert.Kernel2Ideal.Gen Cert.PPay Cert.Proj

variable (x : Vec Ideal S256x1024 .f32) (nw : Vec Ideal S1x1024 .f32) (W : Vec Ideal S1024x6912 .bf16) (R : Vec Ideal S8x3200 .f32)
variable (mu : Vec Ideal S1x3200 .f32) (w0 a0 kk ka : Vec Ideal S1x1024 .f32) (w2 a2 : Vec Ideal S128x1024 .bf16)
variable (bd tri : Vec Ideal S256x256 .bf16)

/-! ## The column slices -/

abbrev wL : Vec Ideal S1024x128 .bf16 := View.ld W (Rect.unit (s := S1024x6912) ![0, 3072] S1024x128.size inb_S1024x6912_S1024x128_0_3072)
abbrev wK : Vec Ideal S1024x1024 .bf16 := View.ld W (Rect.unit (s := S1024x6912) ![0, 1024] S1024x1024.size inb_S1024x6912_S1024x1024_0_1024)
abbrev wR : Vec Ideal S1024x1024 .bf16 := View.ld W (Rect.unit (s := S1024x6912) ![0, 0] S1024x1024.size inb_S1024x6912_S1024x1024_0_0)
abbrev wV : Vec Ideal S1024x1024 .bf16 := View.ld W (Rect.unit (s := S1024x6912) ![0, 2048] S1024x1024.size inb_S1024x6912_S1024x1024_0_2048)
abbrev wZr : Vec Ideal S1024x1024 .bf16 := View.ld W (Rect.unit (s := S1024x6912) ![0, 3200] S1024x1024.size inb_S1024x6912_S1024x1024_0_3200)
abbrev wZm : Vec Ideal S1024x1024 .bf16 := View.ld W (Rect.unit (s := S1024x6912) ![0, 4224] S1024x1024.size inb_S1024x6912_S1024x1024_0_4224)
abbrev wX : Vec Ideal S1024x1536 .bf16 := View.ld W (Rect.unit (s := S1024x6912) ![0, 5248] S1024x1536.size inb_S1024x6912_S1024x1536_0_5248)
abbrev wD : Vec Ideal S1024x128 .bf16 := View.ld W (Rect.unit (s := S1024x6912) ![0, 6784] S1024x128.size inb_S1024x6912_S1024x128_0_6784)

abbrev rL : Vec Ideal S1x128 .f32 := View.ld R (Rect.unit (s := S8x3200) ![0, 3072] S1x128.size inb_S8x3200_S1x128_0_3072)
abbrev rK : Vec Ideal S1x1024 .f32 := View.ld R (Rect.unit (s := S8x3200) ![0, 1024] S1x1024.size inb_S8x3200_S1x1024_0_1024)
abbrev rR : Vec Ideal S1x1024 .f32 := View.ld R (Rect.unit (s := S8x3200) ![0, 0] S1x1024.size inb_S8x3200_S1x1024_0_0)
abbrev rV : Vec Ideal S1x1024 .f32 := View.ld R (Rect.unit (s := S8x3200) ![0, 2048] S1x1024.size inb_S8x3200_S1x1024_0_2048)

abbrev mL : Vec Ideal S1x128 .f32 := View.ld mu (Rect.unit (s := S1x3200) ![0, 3072] S1x128.size inb_S1x3200_S1x128_0_3072)
abbrev mK : Vec Ideal S1x1024 .f32 := View.ld mu (Rect.unit (s := S1x3200) ![0, 1024] S1x1024.size inb_S1x3200_S1x1024_0_1024)
abbrev mR : Vec Ideal S1x1024 .f32 := View.ld mu (Rect.unit (s := S1x3200) ![0, 0] S1x1024.size inb_S1x3200_S1x1024_0_0)
abbrev mV : Vec Ideal S1x1024 .f32 := View.ld mu (Rect.unit (s := S1x3200) ![0, 2048] S1x1024.size inb_S1x3200_S1x1024_0_2048)

/-! ## The values the body computes -/

/-- The normalised rows. -/
abbrev X : FVec Ideal S256x1024 .bf16 := k0_pay4 x nw
/-- The low-rank columns, mixed. -/
abbrev low : FVec Ideal S256x128 .f32 :=
  k0_pay10 (k0_pay6 x nw (wL W)) k0_pay7 (rL R) (k0_pay8 x nw (wL W)) (mL mu)
/-- The key columns, mixed. -/
abbrev keyB : FVec Ideal S256x1024 .f32 := k0_pay13 (X x nw) (wK W) (rK R) (mK mu)
/-- The log decays. -/
abbrev ldB : FVec Ideal S256x1024 .f32 := k0_pay16 (low x nw W R mu) w2 w0
/-- The learning rates. -/
abbrev rateB : FVec Ideal S256x1024 .f32 :=
  k0_pay18 (k0_pay17 (low x nw W R mu) a2 a0) (Scalar.ofBits .f32 0x3F800000#32)
/-- The log decays summed over a chunk. -/
abbrev cumB : FVec Ideal S256x1024 .f32 := k0_pay20 (ldB x nw W R mu w0 w2) tri tri
/-- The normalised key. -/
abbrev kapB : FVec Ideal S256x1024 .f32 := kapPay (keyB x nw W R mu) kk bd
/-- The receptance columns, mixed. -/
abbrev recB : FVec Ideal S256x1024 .f32 := k0_pay33 (k0_pay29 (X x nw) (wR W)) (k0_pay30 (X x nw) (wR W) (rR R)) (mR mu)
/-- The value columns, mixed. -/
abbrev valB : FVec Ideal S256x1024 .f32 := k0_pay36 (X x nw) (wV W) (rV R) (mV mu)

/-- The rows a tile carries to the next. -/
abbrev carryL : List (View.Piece (Elt Ideal) S8x3200 .f32) :=
  [⟨Rect.unit ![0, 2048] ![8, 1024] inb_S8x3200_S8x1024_0_2048, k0_pay35 (X x nw) (wV W)⟩,
   ⟨Rect.unit ![0, 0] ![8, 1024] inb_S8x3200_S8x1024_0_0, k0_pay32 (k0_pay31 (X x nw) (wR W))⟩,
   ⟨Rect.unit ![0, 1024] ![8, 1024] inb_S8x3200_S8x1024_0_1024, k0_pay12 (X x nw) (wK W)⟩,
   ⟨Rect.unit ![0, 3072] ![8, 128] inb_S8x3200_S8x128_0_3072, k0_pay9 (k0_pay6 x nw (wL W))⟩]

/-- The chunk decays a tile stores. -/
abbrev gcL : List (View.Piece (Elt Ideal) S4x1x1024 .f32) :=
  [⟨Rect.unit ![3, 0, 0] S1x1x1024.size inb_S4x1x1024_S1x1x1024_3_0_0, k0_pay3 (k0_pay40 (cumB x nw W R mu w0 w2 tri))⟩,
   ⟨Rect.unit ![2, 0, 0] S1x1x1024.size inb_S4x1x1024_S1x1x1024_2_0_0, k0_pay2 (k0_pay40 (cumB x nw W R mu w0 w2 tri))⟩,
   ⟨Rect.unit ![1, 0, 0] S1x1x1024.size inb_S4x1x1024_S1x1x1024_1_0_0, k0_pay1 (k0_pay46 (cumB x nw W R mu w0 w2 tri))⟩,
   ⟨Rect.unit ![0, 0, 0] S1x1x1024.size inb_S4x1x1024_S1x1x1024_0_0_0, k0_pay45 (cumB x nw W R mu w0 w2 tri)⟩]

end Cert.PBody

end
-- ==== Proof.Proj.Outs.lean ====
/-
  WHAT A GRID POINT OF THE PROJECTION LEAVES, as the body's functions of its blocks and of the carried rows: a sequence's first tile
  starts from the given row, a later one from what the tile before left.
-/
module

public import proofs.«01_k».proof.Proof.Proj.Arr
public import proofs.«01_k».proof.Proof.Proj.Body

@[expose] public section

set_option maxRecDepth 16384

noncomputable section

namespace Cert.POuts

open Idealize.ShloMosaic Idealize.SL.Sem
open Cert.Kernel2Ideal Cert.Kernel2Ideal.Gen Cert.PBody Cert.PPay

variable (m : (ℓ : Loc nD τ sig) → Buf (Elt Ideal) ℓ) (c : Dev nD) (t : Fin cfg0.N)

/-- A load back out of a buffer that stores have filled reads the stores' canonical content. -/
theorem readCov_eq_ld {sig : RefSig} {κ : Kind} {sp : Space} {s : Shape} {e : EltTy} (v : View sig κ sp s e)
    (L : List (View.Piece (Elt Ideal) s e)) (r : Rect s) : v.readCov L r.toLoadRect = View.ld (View.canon L) r :=
  View.readCov_eq_canon' v L r

/-- The carried rows, read whole. -/
theorem read_unread_whole (v : Vec Ideal S8x3200 .f32) :
    (View.whole cc0_scratch0).read (Elt Ideal) ((Memref.isWhole_whole cc0_scratch0).unread v) = v :=
  (Memref.isWhole_whole cc0_scratch0).read_unread v

/-- The carried rows after a point. -/
abbrev left (n : ℕ) (hn : n < cfg0.N) : Vec Ideal S8x3200 .f32 := (outsAt0 m c n hn).2.2.2.2.2.2.2.2.2.2

/-- The carried rows a point starts from. -/
def carry : Vec Ideal S8x3200 .f32 :=
  if t.val % 8 = 0 then k0_pay5 (iblk m c 3 t) else left m c (t.val - 1) (Nat.lt_of_le_of_lt (Nat.sub_le _ _) t.isLt)

/-- After a point: the removal key. -/
theorem o13 : (outsAt0 m c t.val t.isLt).1
    = k0_pay41 (ldB (iblk m c 0 t) (iblk m c 1 t) (iblk m c 2 t) (carry m c t) (iblk m c 4 t) (iblk m c 5 t) (iblk m c 9 t)) (cumB (iblk m c 0 t) (iblk m c 1 t) (iblk m c 2 t) (carry m c t) (iblk m c 4 t) (iblk m c 5 t) (iblk m c 9 t) (iblk m c 12 t)) (kapB (iblk m c 0 t) (iblk m c 1 t) (iblk m c 2 t) (carry m c t) (iblk m c 4 t) (iblk m c 7 t) (iblk m c 11 t)) := by
  by_cases h0 : t.val % 8 = 0
  · rw [Gen.outsAt0_A m c t h0, carry, if_pos h0]
    unfold pt0_A all0_A out0_A_13
    frame_out
    try simp (disch := decide) only [↓ View.readCov_skip, ↓ View.readCov_cons_toLoadRect, ↓ View.readCov_fill, readCov_eq_ld, read_unread_whole]
    try rfl
  · rw [Gen.outsAt0_B m c t h0, carry, if_neg h0]
    unfold pt0_B all0_B out0_B_13
    frame_out
    try simp (disch := decide) only [↓ View.readCov_skip, ↓ View.readCov_cons_toLoadRect, ↓ View.readCov_fill, readCov_eq_ld, read_unread_whole]
    try rfl

/-- After a point: the removal's write key. -/
theorem o14 : (outsAt0 m c t.val t.isLt).2.1
    = k0_pay42 (rateB (iblk m c 0 t) (iblk m c 1 t) (iblk m c 2 t) (carry m c t) (iblk m c 4 t) (iblk m c 6 t) (iblk m c 10 t)) (cumB (iblk m c 0 t) (iblk m c 1 t) (iblk m c 2 t) (carry m c t) (iblk m c 4 t) (iblk m c 5 t) (iblk m c 9 t) (iblk m c 12 t)) (kapB (iblk m c 0 t) (iblk m c 1 t) (iblk m c 2 t) (carry m c t) (iblk m c 4 t) (iblk m c 7 t) (iblk m c 11 t)) := by
  by_cases h0 : t.val % 8 = 0
  · rw [Gen.outsAt0_A m c t h0, carry, if_pos h0]
    unfold pt0_A all0_A out0_A_14
    frame_out
    try simp (disch := decide) only [↓ View.readCov_skip, ↓ View.readCov_cons_toLoadRect, ↓ View.readCov_fill, readCov_eq_ld, read_unread_whole]
    try rfl
  · rw [Gen.outsAt0_B m c t h0, carry, if_neg h0]
    unfold pt0_B all0_B out0_B_14
    frame_out
    try simp (disch := decide) only [↓ View.readCov_skip, ↓ View.readCov_cons_toLoadRect, ↓ View.readCov_fill, readCov_eq_ld, read_unread_whole]
    try rfl

/-- After a point: the key. -/
theorem o15 : (outsAt0 m c t.val t.isLt).2.2.1
    = k0_pay43 (keyB (iblk m c 0 t) (iblk m c 1 t) (iblk m c 2 t) (carry m c t) (iblk m c 4 t)) (rateB (iblk m c 0 t) (iblk m c 1 t) (iblk m c 2 t) (carry m c t) (iblk m c 4 t) (iblk m c 6 t) (iblk m c 10 t)) (cumB (iblk m c 0 t) (iblk m c 1 t) (iblk m c 2 t) (carry m c t) (iblk m c 4 t) (iblk m c 5 t) (iblk m c 9 t) (iblk m c 12 t)) (iblk m c 8 t) := by
  by_cases h0 : t.val % 8 = 0
  · rw [Gen.outsAt0_A m c t h0, carry, if_pos h0]
    unfold pt0_A all0_A out0_A_15
    frame_out
    try simp (disch := decide) only [↓ View.readCov_skip, ↓ View.readCov_cons_toLoadRect, ↓ View.readCov_fill, readCov_eq_ld, read_unread_whole]
    try rfl
  · rw [Gen.outsAt0_B m c t h0, carry, if_neg h0]
    unfold pt0_B all0_B out0_B_15
    frame_out
    try simp (disch := decide) only [↓ View.readCov_skip, ↓ View.readCov_cons_toLoadRect, ↓ View.readCov_fill, readCov_eq_ld, read_unread_whole]
    try rfl

/-- After a point: the receptance. -/
theorem o16 : (outsAt0 m c t.val t.isLt).2.2.2.1
    = k0_pay44 (cumB (iblk m c 0 t) (iblk m c 1 t) (iblk m c 2 t) (carry m c t) (iblk m c 4 t) (iblk m c 5 t) (iblk m c 9 t) (iblk m c 12 t)) (recB (iblk m c 0 t) (iblk m c 1 t) (iblk m c 2 t) (carry m c t) (iblk m c 4 t)) := by
  by_cases h0 : t.val % 8 = 0
  · rw [Gen.outsAt0_A m c t h0, carry, if_pos h0]
    unfold pt0_A all0_A out0_A_16
    frame_out
    try simp (disch := decide) only [↓ View.readCov_skip, ↓ View.readCov_cons_toLoadRect, ↓ View.readCov_fill, readCov_eq_ld, read_unread_whole]
    try rfl
  · rw [Gen.outsAt0_B m c t h0, carry, if_neg h0]
    unfold pt0_B all0_B out0_B_16
    frame_out
    try simp (disch := decide) only [↓ View.readCov_skip, ↓ View.readCov_cons_toLoadRect, ↓ View.readCov_fill, readCov_eq_ld, read_unread_whole]
    try rfl

/-- After a point: the value. -/
theorem o17 : (outsAt0 m c t.val t.isLt).2.2.2.2.1
    = valB (iblk m c 0 t) (iblk m c 1 t) (iblk m c 2 t) (carry m c t) (iblk m c 4 t) := by
  by_cases h0 : t.val % 8 = 0
  · rw [Gen.outsAt0_A m c t h0, carry, if_pos h0]
    unfold pt0_A all0_A out0_A_17
    frame_out
    try simp (disch := decide) only [↓ View.readCov_skip, ↓ View.readCov_cons_toLoadRect, ↓ View.readCov_fill, readCov_eq_ld, read_unread_whole]
    try rfl
  · rw [Gen.outsAt0_B m c t h0, carry, if_neg h0]
    unfold pt0_B all0_B out0_B_17
    frame_out
    try simp (disch := decide) only [↓ View.readCov_skip, ↓ View.readCov_cons_toLoadRect, ↓ View.readCov_fill, readCov_eq_ld, read_unread_whole]
    try rfl

/-- After a point: the chunks' decays. -/
theorem o18 : (outsAt0 m c t.val t.isLt).2.2.2.2.2.1
    = View.canon (gcL (iblk m c 0 t) (iblk m c 1 t) (iblk m c 2 t) (carry m c t) (iblk m c 4 t) (iblk m c 5 t) (iblk m c 9 t) (iblk m c 12 t)) := by
  by_cases h0 : t.val % 8 = 0
  · rw [Gen.outsAt0_A m c t h0, carry, if_pos h0]
    unfold pt0_A all0_A out0_A_18
    frame_out
    try simp (disch := decide) only [↓ View.readCov_skip, ↓ View.readCov_cons_toLoadRect, ↓ View.readCov_fill, readCov_eq_ld, read_unread_whole]
    try rfl
  · rw [Gen.outsAt0_B m c t h0, carry, if_neg h0]
    unfold pt0_B all0_B out0_B_18
    frame_out
    try simp (disch := decide) only [↓ View.readCov_skip, ↓ View.readCov_cons_toLoadRect, ↓ View.readCov_fill, readCov_eq_ld, read_unread_whole]
    try rfl

/-- After a point: the first gate. -/
theorem o19 : (outsAt0 m c t.val t.isLt).2.2.2.2.2.2.1
    = k0_pay14 (X (iblk m c 0 t) (iblk m c 1 t)) (wZr (iblk m c 2 t)) := by
  by_cases h0 : t.val % 8 = 0
  · rw [Gen.outsAt0_A m c t h0]
    unfold pt0_A all0_A out0_A_19
    frame_out
    try simp (disch := decide) only [↓ View.readCov_skip, ↓ View.readCov_cons_toLoadRect, ↓ View.readCov_fill, readCov_eq_ld, read_unread_whole]
    try rfl
  · rw [Gen.outsAt0_B m c t h0]
    unfold pt0_B all0_B out0_B_19
    frame_out
    try simp (disch := decide) only [↓ View.readCov_skip, ↓ View.readCov_cons_toLoadRect, ↓ View.readCov_fill, readCov_eq_ld, read_unread_whole]
    try rfl

/-- After a point: the second gate. -/
theorem o20 : (outsAt0 m c t.val t.isLt).2.2.2.2.2.2.2.1
    = k0_pay15 (X (iblk m c 0 t) (iblk m c 1 t)) (wZm (iblk m c 2 t)) := by
  by_cases h0 : t.val % 8 = 0
  · rw [Gen.outsAt0_A m c t h0]
    unfold pt0_A all0_A out0_A_20
    frame_out
    try simp (disch := decide) only [↓ View.readCov_skip, ↓ View.readCov_cons_toLoadRect, ↓ View.readCov_fill, readCov_eq_ld, read_unread_whole]
    try rfl
  · rw [Gen.outsAt0_B m c t h0]
    unfold pt0_B all0_B out0_B_20
    frame_out
    try simp (disch := decide) only [↓ View.readCov_skip, ↓ View.readCov_cons_toLoadRect, ↓ View.readCov_fill, readCov_eq_ld, read_unread_whole]
    try rfl

/-- After a point: the scan's columns. -/
theorem o21 : (outsAt0 m c t.val t.isLt).2.2.2.2.2.2.2.2.1
    = k0_pay37 (X (iblk m c 0 t) (iblk m c 1 t)) (wX (iblk m c 2 t)) := by
  by_cases h0 : t.val % 8 = 0
  · rw [Gen.outsAt0_A m c t h0]
    unfold pt0_A all0_A out0_A_21
    frame_out
    try simp (disch := decide) only [↓ View.readCov_skip, ↓ View.readCov_cons_toLoadRect, ↓ View.readCov_fill, readCov_eq_ld, read_unread_whole]
    try rfl
  · rw [Gen.outsAt0_B m c t h0]
    unfold pt0_B all0_B out0_B_21
    frame_out
    try simp (disch := decide) only [↓ View.readCov_skip, ↓ View.readCov_cons_toLoadRect, ↓ View.readCov_fill, readCov_eq_ld, read_unread_whole]
    try rfl

/-- After a point: the scan's steps. -/
theorem o22 : (outsAt0 m c t.val t.isLt).2.2.2.2.2.2.2.2.2.1
    = k0_pay38 (X (iblk m c 0 t) (iblk m c 1 t)) (wD (iblk m c 2 t)) (constant S256x128 .f32 0x00000000#32) := by
  by_cases h0 : t.val % 8 = 0
  · rw [Gen.outsAt0_A m c t h0]
    unfold pt0_A all0_A out0_A_22
    frame_out
    try simp (disch := decide) only [↓ View.readCov_skip, ↓ View.readCov_cons_toLoadRect, ↓ View.readCov_fill, readCov_eq_ld, read_unread_whole]
    try rfl
  · rw [Gen.outsAt0_B m c t h0]
    unfold pt0_B all0_B out0_B_22
    frame_out
    try simp (disch := decide) only [↓ View.readCov_skip, ↓ View.readCov_cons_toLoadRect, ↓ View.readCov_fill, readCov_eq_ld, read_unread_whole]
    try rfl

/-- After a sequence's first tile: the carried rows. -/
theorem leftA (h0 : t.val % 8 = 0) : left m c t.val t.isLt
    = View.canon (carryL (iblk m c 0 t) (iblk m c 1 t) (iblk m c 2 t) ++ [⟨Rect.unit ![0, 0] ![8, 3200] inb_S8x3200_S8x3200_0_0, k0_pay5 (iblk m c 3 t)⟩]) := by
  unfold left
  rw [Gen.outsAt0_A m c t h0]
  unfold pt0_A all0_A sout0_A_0
  frame_out
  try rfl

/-- After a later tile: the carried rows. -/
theorem leftB (h0 : ¬t.val % 8 = 0) : left m c t.val t.isLt
    = View.canon (carryL (iblk m c 0 t) (iblk m c 1 t) (iblk m c 2 t)) := by
  unfold left
  rw [Gen.outsAt0_B m c t h0]
  unfold pt0_B all0_B sout0_B_0
  frame_out
  try rfl

end Cert.POuts

end
-- ==== Proof.Proj.Blk.lean ====
/-
  THE BLOCKS A GRID POINT OF THE PROJECTION READS, as the arguments' elements: point `t` reads rows `256 t … 256 t + 255` of the
  residual stream and the row before its sequence `t / 8`; the other arguments are read whole. The two low-rank output matrices stand
  in 128 rows with zeros in the other half, and the head and chunk matrices are 0/1.
-/
module

public import proofs.«01_k».proof.Proof.Gen.Kernel2Ideal.Frame.Runs
public import Idealize.ShloMosaic.Lib.Claim
public import Idealize.ShloMosaic.Lib.Pipeline.ValueKit
public import Idealize.ShloMosaic.Lib.StableHlo.ReadAt
public import Idealize.ShloMosaic.Lib.WordCmp
public import Idealize.ShloMosaic.Lib.KernelVsHost

@[expose] public section

set_option maxRecDepth 16384

noncomputable section

namespace Cert.PBlk

open Idealize.ShloMosaic Idealize.ShloMosaic.TcCoe Idealize.SL.Sem
open Cert.Kernel2Ideal Cert.Kernel2Ideal.Gen

variable (m : (ℓ : Loc nD τ sig) → Buf (Elt Ideal) ℓ) (c : Dev nD) (t : Fin cfg0.N)

theorem t_lt : t.val < 64 := lt_of_lt_of_eq t.isLt N_0

theorem idx0 : ∀ t : Fin cfg0.N, win0_0.index t (0 : Fin 2) = t.val ∧ win0_0.index t (1 : Fin 2) = 0 :=
  (by decide +kernel : ∀ t : Fin grid0.N, _)
theorem idx3 : ∀ t : Fin cfg0.N, win0_3.index t (0 : Fin 3) = t.val / 8 ∧ win0_3.index t (1 : Fin 3) = 0 ∧ win0_3.index t (2 : Fin 3) = 0 :=
  (by decide +kernel : ∀ t : Fin grid0.N, _)

theorem z1 (a : Fin 2) : win0_1.index t a = 0 := by fin_cases a <;> rfl
theorem z2 (a : Fin 2) : win0_2.index t a = 0 := by fin_cases a <;> rfl
theorem z4 (a : Fin 2) : win0_4.index t a = 0 := by fin_cases a <;> rfl
theorem z5 (a : Fin 2) : win0_5.index t a = 0 := by fin_cases a <;> rfl
theorem z6 (a : Fin 2) : win0_6.index t a = 0 := by fin_cases a <;> rfl
theorem z7 (a : Fin 2) : win0_7.index t a = 0 := by fin_cases a <;> rfl
theorem z8 (a : Fin 2) : win0_8.index t a = 0 := by fin_cases a <;> rfl
theorem z9 (a : Fin 2) : win0_9.index t a = 0 := by fin_cases a <;> rfl
theorem z10 (a : Fin 2) : win0_10.index t a = 0 := by fin_cases a <;> rfl
theorem z11 (a : Fin 2) : win0_11.index t a = 0 := by fin_cases a <;> rfl
theorem z12 (a : Fin 2) : win0_12.index t a = 0 := by fin_cases a <;> rfl

theorem b0 (l : Fin 256) (d : Fin 1024) : iblk m c 0 t (ix2 l d)
    = m ((c : Thread nD τ).loc main_arg0) (ix2 ⟨256 * t.val + l.val, by have := t_lt t; omega⟩ d) := by
  obtain ⟨e0, e1⟩ := idx0 t
  blk_ext [iblk, V_main_arg0, e0, e1]

theorem b1 (d : Fin 1024) : iblk m c 1 t (ix2 0 d) = m ((c : Thread nD τ).loc main_arg1) (ix1 d) := by
  trans V m c main_v15 (ix2 0 d)
  · blk_ext [iblk, z1 t]
  · unfold V; after_reads_at

theorem b2 (d : Fin 1024) (q : Fin 6912) : iblk m c 2 t (ix2 d q) = m ((c : Thread nD τ).loc main_arg2) (ix2 d q) := by
  blk_ext [iblk, V_main_arg2, z2 t]

theorem b3 (q : Fin 3200) : iblk m c 3 t (ix3 0 0 q)
    = m ((c : Thread nD τ).loc main_arg3) (ix3 ⟨t.val / 8, by have := t_lt t; omega⟩ 0 q) := by
  obtain ⟨e0, e1, e2⟩ := idx3 t
  blk_ext [iblk, V_main_arg3, e0, e1, e2]

theorem b4 (q : Fin 3200) : iblk m c 4 t (ix2 0 q) = m ((c : Thread nD τ).loc main_arg4) (ix1 q) := by
  trans V m c main_v16 (ix2 0 q)
  · blk_ext [iblk, z4 t]
  · unfold V; after_reads_at

theorem b5 (k : Fin 1024) : iblk m c 5 t (ix2 0 k) = m ((c : Thread nD τ).loc main_arg5) (ix1 k) := by
  trans V m c main_v17 (ix2 0 k)
  · blk_ext [iblk, z5 t]
  · unfold V; after_reads_at

theorem b6 (k : Fin 1024) : iblk m c 6 t (ix2 0 k) = m ((c : Thread nD τ).loc main_arg7) (ix1 k) := by
  trans V m c main_v18 (ix2 0 k)
  · blk_ext [iblk, z6 t]
  · unfold V; after_reads_at

theorem b7 (k : Fin 1024) : iblk m c 7 t (ix2 0 k) = m ((c : Thread nD τ).loc main_arg9) (ix1 k) := by
  trans V m c main_v19 (ix2 0 k)
  · blk_ext [iblk, z7 t]
  · unfold V; after_reads_at

theorem b8 (k : Fin 1024) : iblk m c 8 t (ix2 0 k) = m ((c : Thread nD τ).loc main_arg10) (ix1 k) := by
  trans V m c main_v20 (ix2 0 k)
  · blk_ext [iblk, z8 t]
  · unfold V; after_reads_at

theorem b9 (q : Fin 128) (k : Fin 1024) : iblk m c 9 t (ix2 q k)
    = if h : q.val < 64 then m ((c : Thread nD τ).loc main_arg6) (ix2 ⟨q.val, h⟩ k) else (0 : EReal) := by
  trans V m c main_v2 (ix2 q k)
  · blk_ext [iblk, z9 t]
  · by_cases h : q.val < 64
    · rw [dif_pos h]
      unfold V; after_reads_at
      rw [dif_pos h]
      after_reads_at
    · rw [dif_neg h]
      unfold V; after_reads_at
      rw [dif_neg h]
      after_reads_at

theorem b10 (q : Fin 128) (k : Fin 1024) : iblk m c 10 t (ix2 q k)
    = if h : q.val < 64 then (0 : EReal) else m ((c : Thread nD τ).loc main_arg8) (ix2 ⟨q.val - 64, by omega⟩ k) := by
  trans V m c main_v4 (ix2 q k)
  · blk_ext [iblk, z10 t]
  · by_cases h : q.val < 64
    · rw [dif_pos h]
      unfold V; after_reads_at
      rw [dif_pos h]
      after_reads_at
    · rw [dif_neg h]
      unfold V; after_reads_at
      rw [dif_neg h]
      after_reads_at

/-- The row's block of 64, as the words of the printed floor division. -/
theorem block_word : ∀ j : Fin 256, Scalar.select
          (IntOp.andi
            (IntOp.cmpi CmpIPredicate.ne
              (if BitVec.ofNat 32 j.val = 0 then 0 else if (BitVec.ofNat 32 j.val).msb = true then -1 else 1)
              (if (64#32 : BitVec 32) = 0 then 0 else if BitVec.msb (64#32 : BitVec 32) = true then -1 else (1 : BitVec 32)))
            (IntOp.cmpi CmpIPredicate.ne (IntOp.remsi ArithUnit.host (BitVec.ofNat 32 j.val) 64#32) 0#32))
          (IntOp.subi (IntOp.divsi ArithUnit.host (BitVec.ofNat 32 j.val) 64#32) 1#32)
          (IntOp.divsi ArithUnit.host (BitVec.ofNat 32 j.val) 64#32) = BitVec.ofNat 32 (j.val / 64) := by
  decide +kernel

theorem same_val (x j : Fin 256) :
    (FloatOps.uitofp FTy.bf16 (IntOp.cmpi CmpIPredicate.eq (BitVec.ofNat 32 (x.val / 64)) (BitVec.ofNat 32 (j.val / 64))) :
      Idealize.ShloMosaic.Ideal .bf16) = if x.val / 64 = j.val / 64 then (1 : EReal) else 0 := by
  rw [WordCmp.cmpi_eq_ofNat (by omega) (by omega)]
  by_cases h : x.val / 64 = j.val / 64
  · simp only [h, if_true]; show (((1 : Nat) : ℝ) : EReal) = 1; norm_num
  · simp only [h, if_false]; show (((0 : Nat) : ℝ) : EReal) = 0; norm_num

set_option maxHeartbeats 4000000 in
theorem b11 (x j : Fin 256) : iblk m c 11 t (ix2 x j) = if x.val / 64 = j.val / 64 then (1 : EReal) else 0 := by
  trans V m c main_v14 (ix2 x j)
  · blk_ext [iblk, z11 t]
  · unfold V; after_reads_at
    exact (congrArg₂ (fun u w => FloatOps.uitofp (F := Idealize.ShloMosaic.Ideal) FTy.bf16 (IntOp.cmpi CmpIPredicate.eq u w))
      (block_word x) (block_word j)).trans (same_val x j)

/-- The chunk matrix's entry as its comparisons. -/
theorem chunk_val (l s : Fin 256) :
    (FloatOps.uitofp FTy.bf16 (IntOp.andi
      (IntOp.cmpi CmpIPredicate.eq (BitVec.ofNat 32 (l.val / 64)) (BitVec.ofNat 32 (s.val / 64)))
      (IntOp.cmpi CmpIPredicate.sle (BitVec.ofNat 32 s.val) (BitVec.ofNat 32 l.val))) :
      Idealize.ShloMosaic.Ideal .bf16) = if s.val / 64 = l.val / 64 ∧ s.val ≤ l.val then (1 : EReal) else 0 := by
  rw [WordCmp.cmpi_eq_ofNat (by omega) (by omega), WordCmp.cmpi_sle_ofNat (by omega) (by omega)]
  by_cases h : s.val / 64 = l.val / 64 <;> by_cases h2 : s.val ≤ l.val
  · simp only [h, h2, if_true, and_self]; show (((1 : Nat) : ℝ) : EReal) = 1; norm_num
  · simp only [h, h2, if_true, if_false, and_false]; show (((0 : Nat) : ℝ) : EReal) = 0; norm_num
  · simp only [h, Ne.symm h, h2, if_true, if_false, false_and]; show (((0 : Nat) : ℝ) : EReal) = 0; norm_num
  · simp only [h, Ne.symm h, h2, if_false, false_and]; show (((0 : Nat) : ℝ) : EReal) = 0; norm_num

set_option maxHeartbeats 4000000 in
theorem b12 (l s : Fin 256) : iblk m c 12 t (ix2 l s) = if s.val / 64 = l.val / 64 ∧ s.val ≤ l.val then (1 : EReal) else 0 := by
  trans V m c main_v35 (ix2 l s)
  · blk_ext [iblk, z12 t]
  · unfold V; after_reads_at
    exact (congrArg₂ (fun u w => FloatOps.uitofp (F := Idealize.ShloMosaic.Ideal) FTy.bf16 (IntOp.andi (IntOp.cmpi CmpIPredicate.eq u w)
      (IntOp.cmpi CmpIPredicate.sle (BitVec.ofNat 32 s.val) (BitVec.ofNat 32 l.val))))
      (block_word l) (block_word s)).trans (chunk_val l s)

end Cert.PBlk

end
-- ==== Proof.Proj.Args.lean ====
/-
  THE PROJECTION'S ARGUMENTS as functions of a row and a column, and the specification of each result over them.
-/
module

public import proofs.«01_k».proof.Proof.Proj.Spec

@[expose] public section

noncomputable section

namespace Cert.Proj

open Idealize.ShloMosaic

/-- A matrix of rows, by the row's number. -/
def rowsA (x : (⟨2, ![16384, 1024]⟩ : Shape).Idx → EReal) (r : ℕ) (d : Fin 1024) : EReal :=
  if h : r < 16384 then x (ix2 ⟨r, h⟩ d) else 0

/-- The row before each sequence. -/
def prevA (p : (⟨3, ![8, 1, 3200]⟩ : Shape).Idx → EReal) (s : ℕ) (q : Fin 3200) : EReal :=
  if h : s < 8 then p (ix3 ⟨s, h⟩ 0 q) else 0

abbrev vecA {n : ℕ} (v : (⟨1, ![n]⟩ : Shape).Idx → EReal) (k : Fin n) : EReal := v (ix1 k)
abbrev matA {a b : ℕ} (v : (⟨2, ![a, b]⟩ : Shape).Idx → EReal) (i : Fin a) (k : Fin b) : EReal := v (ix2 i k)

section Args

variable (x0 : (⟨2, ![16384, 1024]⟩ : Shape).Idx → EReal) (x1 : (⟨1, ![1024]⟩ : Shape).Idx → EReal)
variable (x2 : (⟨2, ![1024, 6912]⟩ : Shape).Idx → EReal) (x3 : (⟨3, ![8, 1, 3200]⟩ : Shape).Idx → EReal)
variable (x4 : (⟨1, ![3200]⟩ : Shape).Idx → EReal)

/-- The projected rows. -/
def prj (r : ℕ) (q : Fin 6912) : EReal := proj (rowsA x0) (vecA x1) (matA x2) r q
/-- The projected row before a token's. -/
def bef (r : ℕ) (q : Fin 3200) : EReal := before (rowsA x0) (vecA x1) (matA x2) (prevA x3) r q
/-- The mixed rows. -/
def mxd (r : ℕ) (q : Fin 3200) : EReal := mix (rowsA x0) (vecA x1) (matA x2) (prevA x3) (vecA x4) r q

theorem bef_first (r : ℕ) (q : Fin 3200) (h : r % 2048 = 0) : bef x0 x1 x2 x3 r q = prevA x3 (r / 2048) q := if_pos h
theorem bef_later (r : ℕ) (q : Fin 3200) (h : ¬r % 2048 = 0) : bef x0 x1 x2 x3 r q = prj x0 x1 x2 (r - 1) ⟨q.val, by omega⟩ := if_neg h
theorem mxd_eq (r : ℕ) (q : Fin 3200) : mxd x0 x1 x2 x3 x4 r q
    = prj x0 x1 x2 r ⟨q.val, by omega⟩ + (bef x0 x1 x2 x3 r q - prj x0 x1 x2 r ⟨q.val, by omega⟩) * x4 (ix1 q) := rfl

end Args

/-- The key columns are finite. -/
def KeysReal (x1 : (⟨1, ![1024]⟩ : Shape).Idx → EReal)
    (x2 : (⟨2, ![1024, 6912]⟩ : Shape).Idx → EReal) (x3 : (⟨3, ![8, 1, 3200]⟩ : Shape).Idx → EReal)
    (x4 : (⟨1, ![3200]⟩ : Shape).Idx → EReal) (x9 : (⟨1, ![1024]⟩ : Shape).Idx → EReal) : Prop :=
  (∀ i, IsReal (x1 i)) ∧ (∀ (d k : Fin 1024), IsReal (x2 (ix2 d ⟨1024 + k.val, by omega⟩)))
    ∧ (∀ (s : Fin 8) (k : Fin 1024), IsReal (x3 (ix3 s 0 ⟨1024 + k.val, by omega⟩)))
    ∧ (∀ k : Fin 1024, IsReal (x4 (ix1 ⟨1024 + k.val, by omega⟩))) ∧ ∀ i, IsReal (x9 i)

theorem isReal_zero : IsReal 0 := ⟨0, rfl⟩

/-- Then so is every key. -/
theorem kk_real {x0 : (⟨2, ![16384, 1024]⟩ : Shape).Idx → EReal} {x1 : (⟨1, ![1024]⟩ : Shape).Idx → EReal}
    {x2 : (⟨2, ![1024, 6912]⟩ : Shape).Idx → EReal} {x3 : (⟨3, ![8, 1, 3200]⟩ : Shape).Idx → EReal}
    {x4 : (⟨1, ![3200]⟩ : Shape).Idx → EReal} {x9 : (⟨1, ![1024]⟩ : Shape).Idx → EReal}
    (h : KeysReal x1 x2 x3 x4 x9) (r : ℕ) (k : Fin 1024) :
    IsReal (mxd x0 x1 x2 x3 x4 r ⟨1024 + k.val, by omega⟩ * x9 (ix1 k)) := by
  obtain ⟨h1, h2, h3, h4, h9⟩ := h
  refine (mix_real (fun d => h1 _) _ (fun d => h2 d k) (fun s => ?_) (h4 k) r).mul (h9 _)
  unfold prevA; split
  · exact h3 _ k
  · exact isReal_zero

end Cert.Proj

end
-- ==== Proof.Proj.Tile.lean ====
/-
  A TILE OF THE PROJECTION: the body's values at grid point `t`, row `l` of the tile, are the specification's at row `256 t + l`. The
  carried rows a tile leaves are its last projected row, so the token shift reaches back over the tile's edge.
-/
module

public import proofs.«01_k».proof.Proof.Proj.Outs
public import proofs.«01_k».proof.Proof.Proj.Blk
public import proofs.«01_k».proof.Proof.Proj.Args

@[expose] public section

set_option maxRecDepth 16384

noncomputable section

namespace Cert.PTile

open Idealize.ShloMosaic Idealize.ShloMosaic.TcCoe Idealize.SL.Sem
open Cert.Kernel2Ideal Cert.Kernel2Ideal.Gen Cert.PBody Cert.PPay Cert.POuts Cert.PBlk Cert.Proj

variable (m : (ℓ : Loc nD τ sig) → Buf (Elt Ideal) ℓ) (c : Dev nD) (t : Fin cfg0.N)

/-- The projected rows, over the kernel's arguments. -/
abbrev prjK : ℕ → Fin 6912 → EReal :=
  prj (m ((c : Thread nD τ).loc main_arg0)) (m ((c : Thread nD τ).loc main_arg1)) (m ((c : Thread nD τ).loc main_arg2))
/-- The projected rows before. -/
abbrev befK : ℕ → Fin 3200 → EReal :=
  bef (m ((c : Thread nD τ).loc main_arg0)) (m ((c : Thread nD τ).loc main_arg1)) (m ((c : Thread nD τ).loc main_arg2))
    (m ((c : Thread nD τ).loc main_arg3))
/-- The mixed rows. -/
abbrev mxK : ℕ → Fin 3200 → EReal :=
  mxd (m ((c : Thread nD τ).loc main_arg0)) (m ((c : Thread nD τ).loc main_arg1)) (m ((c : Thread nD τ).loc main_arg2))
    (m ((c : Thread nD τ).loc main_arg3)) (m ((c : Thread nD τ).loc main_arg4))

/-! ## The rows and their projection -/

theorem xn_at (l : Fin 256) (d : Fin 1024) : X (iblk m c 0 t) (iblk m c 1 t) (ix2 l d)
    = xn (rowsA (m ((c : Thread nD τ).loc main_arg0))) (vecA (m ((c : Thread nD τ).loc main_arg1))) (256 * t.val + l.val) d := by
  have h : 256 * t.val + l.val < 16384 := by have := t_lt t; omega
  refine (p4 _ _ l d).trans ?_
  unfold bxn xn rowsA
  simp only [b0, b1, dif_pos h]

theorem prj_at {n : ℕ} (w : Fin 1024 → Fin n → EReal) (col : Fin n → Fin 6912)
    (hw : ∀ d q, w d q = m ((c : Thread nD τ).loc main_arg2) (ix2 d (col q))) (l : Fin 256) (q : Fin n) :
    bproj (fun l d => X (iblk m c 0 t) (iblk m c 1 t) (ix2 l d)) w l q = prjK m c (256 * t.val + l.val) (col q) := by
  unfold bproj prjK prj proj
  exact Finset.sum_congr rfl fun d _ => congrArg₂ (· * ·) (xn_at m c t l d) (hw d q)

theorem wL_at (d : Fin 1024) (q : Fin 128) : wL (iblk m c 2 t) (ix2 d q)
    = m ((c : Thread nD τ).loc main_arg2) (ix2 d ⟨3072 + q.val, by omega⟩) :=
  (Cert.MatRect.ld_at _ _ d ⟨3072 + q.val, by omega⟩ d q (by simp) rfl).trans (b2 m c t d _)
theorem wK_at (d : Fin 1024) (q : Fin 1024) : wK (iblk m c 2 t) (ix2 d q)
    = m ((c : Thread nD τ).loc main_arg2) (ix2 d ⟨1024 + q.val, by omega⟩) :=
  (Cert.MatRect.ld_at _ _ d ⟨1024 + q.val, by omega⟩ d q (by simp) rfl).trans (b2 m c t d _)
theorem wR_at (d : Fin 1024) (q : Fin 1024) : wR (iblk m c 2 t) (ix2 d q)
    = m ((c : Thread nD τ).loc main_arg2) (ix2 d ⟨q.val, by omega⟩) :=
  (Cert.MatRect.ld_at _ _ d ⟨q.val, by omega⟩ d q (by simp) (by simp)).trans (b2 m c t d _)
theorem wV_at (d : Fin 1024) (q : Fin 1024) : wV (iblk m c 2 t) (ix2 d q)
    = m ((c : Thread nD τ).loc main_arg2) (ix2 d ⟨2048 + q.val, by omega⟩) :=
  (Cert.MatRect.ld_at _ _ d ⟨2048 + q.val, by omega⟩ d q (by simp) rfl).trans (b2 m c t d _)
theorem wZr_at (d : Fin 1024) (q : Fin 1024) : wZr (iblk m c 2 t) (ix2 d q)
    = m ((c : Thread nD τ).loc main_arg2) (ix2 d ⟨3200 + q.val, by omega⟩) :=
  (Cert.MatRect.ld_at _ _ d ⟨3200 + q.val, by omega⟩ d q (by simp) rfl).trans (b2 m c t d _)
theorem wZm_at (d : Fin 1024) (q : Fin 1024) : wZm (iblk m c 2 t) (ix2 d q)
    = m ((c : Thread nD τ).loc main_arg2) (ix2 d ⟨4224 + q.val, by omega⟩) :=
  (Cert.MatRect.ld_at _ _ d ⟨4224 + q.val, by omega⟩ d q (by simp) rfl).trans (b2 m c t d _)
theorem wX_at (d : Fin 1024) (q : Fin 1536) : wX (iblk m c 2 t) (ix2 d q)
    = m ((c : Thread nD τ).loc main_arg2) (ix2 d ⟨5248 + q.val, by omega⟩) :=
  (Cert.MatRect.ld_at _ _ d ⟨5248 + q.val, by omega⟩ d q (by simp) rfl).trans (b2 m c t d _)
theorem wD_at (d : Fin 1024) (q : Fin 128) : wD (iblk m c 2 t) (ix2 d q)
    = m ((c : Thread nD τ).loc main_arg2) (ix2 d ⟨6784 + q.val, by omega⟩) :=
  (Cert.MatRect.ld_at _ _ d ⟨6784 + q.val, by omega⟩ d q (by simp) rfl).trans (b2 m c t d _)

/-- The low-rank columns, projected. -/
theorem low_prj (l : Fin 256) (q : Fin 128) : k0_pay6 (iblk m c 0 t) (iblk m c 1 t) (wL (iblk m c 2 t)) (ix2 l q)
    = prjK m c (256 * t.val + l.val) ⟨3072 + q.val, by omega⟩ := by
  refine (p6 _ _ _ l q).trans (Eq.trans ?_ (prj_at m c t _ (fun q : Fin 128 => ⟨3072 + q.val, by omega⟩) (wL_at m c t) l q))
  unfold bproj
  exact Finset.sum_congr rfl fun d _ => congrArg (· * _) (p4 _ _ l d).symm

theorem mL_at (q : Fin 128) : mL (iblk m c 4 t) (ix2 0 q) = m ((c : Thread nD τ).loc main_arg4) (ix1 ⟨3072 + q.val, by omega⟩) :=
  (Cert.MatRect.ld_at _ _ 0 ⟨3072 + q.val, by omega⟩ 0 q (by simp) rfl).trans (b4 m c t _)
theorem mK_at (q : Fin 1024) : mK (iblk m c 4 t) (ix2 0 q) = m ((c : Thread nD τ).loc main_arg4) (ix1 ⟨1024 + q.val, by omega⟩) :=
  (Cert.MatRect.ld_at _ _ 0 ⟨1024 + q.val, by omega⟩ 0 q (by simp) rfl).trans (b4 m c t _)
theorem mR_at (q : Fin 1024) : mR (iblk m c 4 t) (ix2 0 q) = m ((c : Thread nD τ).loc main_arg4) (ix1 ⟨q.val, by omega⟩) :=
  (Cert.MatRect.ld_at _ _ 0 ⟨q.val, by omega⟩ 0 q (by simp) (by simp)).trans (b4 m c t _)
theorem mV_at (q : Fin 1024) : mV (iblk m c 4 t) (ix2 0 q) = m ((c : Thread nD τ).loc main_arg4) (ix1 ⟨2048 + q.val, by omega⟩) :=
  (Cert.MatRect.ld_at _ _ 0 ⟨2048 + q.val, by omega⟩ 0 q (by simp) rfl).trans (b4 m c t _)

/-! ## The carried rows -/

theorem carryL_at (L : List (View.Piece (Elt Ideal) S8x3200 .f32)) (a : Fin 8) (q : Fin 3200) :
    View.canon (carryL (iblk m c 0 t) (iblk m c 1 t) (iblk m c 2 t) ++ L) (ix2 a q) = prjK m c (256 * t.val + 255) ⟨q.val, by omega⟩ := by
  show View.canon (_ :: _ :: _ :: _ :: L) (ix2 a q) = _
  by_cases h1 : q.val < 1024
  · rw [Cert.MatRect.canon_skip _ _ _ _ _ (by omega)]
    refine (Cert.MatRect.canon_hit _ _ _ a q a ⟨q.val, h1⟩ (by simp) (by simp)).trans ?_
    exact (p32 _ _ a _).trans ((prj_at m c t _ (fun q : Fin 1024 => ⟨q.val, by omega⟩) (wR_at m c t) 255 _).trans rfl)
  by_cases h2 : q.val < 2048
  · rw [Cert.MatRect.canon_skip _ _ _ _ _ (by omega), Cert.MatRect.canon_skip _ _ _ _ _ (by omega)]
    refine (Cert.MatRect.canon_hit _ _ _ a q a ⟨q.val - 1024, by omega⟩ (by simp) (by dsimp only; omega)).trans ?_
    refine (p12 _ _ a _).trans ((prj_at m c t _ (fun q : Fin 1024 => ⟨1024 + q.val, by omega⟩) (wK_at m c t) 255 _).trans ?_)
    exact congrArg (prjK m c _) (Fin.ext (by dsimp only; omega))
  by_cases h3 : q.val < 3072
  · refine (Cert.MatRect.canon_hit _ _ _ a q a ⟨q.val - 2048, by omega⟩ (by simp) (by dsimp only; omega)).trans ?_
    refine (p35 _ _ a _).trans ((prj_at m c t _ (fun q : Fin 1024 => ⟨2048 + q.val, by omega⟩) (wV_at m c t) 255 _).trans ?_)
    exact congrArg (prjK m c _) (Fin.ext (by dsimp only; omega))
  · rw [Cert.MatRect.canon_skip _ _ _ _ _ (by omega), Cert.MatRect.canon_skip _ _ _ _ _ (by omega),
      Cert.MatRect.canon_skip _ _ _ _ _ (by omega)]
    refine (Cert.MatRect.canon_hit _ _ _ a q a ⟨q.val - 3072, by omega⟩ (by simp) (by dsimp only; omega)).trans ?_
    refine (p9 _ a _).trans ((low_prj m c t 255 _).trans ?_)
    exact congrArg (prjK m c _) (Fin.ext (by dsimp only; omega))

theorem left_at (a : Fin 8) (q : Fin 3200) : left m c t.val t.isLt (ix2 a q) = prjK m c (256 * t.val + 255) ⟨q.val, by omega⟩ := by
  by_cases h0 : t.val % 8 = 0
  · rw [leftA m c t h0]; exact carryL_at m c t _ a q
  · rw [leftB m c t h0]; exact carryL_at m c t [] a q

theorem carry_at (q : Fin 3200) : carry m c t (ix2 0 q) = befK m c (256 * t.val) q := by
  have ht := t_lt t
  unfold carry
  by_cases h0 : t.val % 8 = 0
  · rw [if_pos h0, p5, b3]
    refine Eq.trans ?_ (bef_first _ _ _ _ _ _ (by omega)).symm
    unfold prevA
    rw [dif_pos (by omega)]
    exact congrArg (fun s => m ((c : Thread nD τ).loc main_arg3) (ix3 s 0 q)) (Fin.ext (by dsimp only; omega))
  · rw [if_neg h0]
    refine (left_at m c ⟨t.val - 1, Nat.lt_of_le_of_lt (Nat.sub_le _ _) t.isLt⟩ 0 q).trans ?_
    refine Eq.trans ?_ (bef_later _ _ _ _ _ _ (by omega)).symm
    exact congrArg (fun r => prjK m c r ⟨q.val, by omega⟩) (by dsimp only; omega)

theorem rL_at (q : Fin 128) : rL (carry m c t) (ix2 0 q) = befK m c (256 * t.val) ⟨3072 + q.val, by omega⟩ :=
  (Cert.MatRect.ld_at _ _ 0 ⟨3072 + q.val, by omega⟩ 0 q (by simp) rfl).trans (carry_at m c t _)
theorem rK_at (q : Fin 1024) : rK (carry m c t) (ix2 0 q) = befK m c (256 * t.val) ⟨1024 + q.val, by omega⟩ :=
  (Cert.MatRect.ld_at _ _ 0 ⟨1024 + q.val, by omega⟩ 0 q (by simp) rfl).trans (carry_at m c t _)
theorem rR_at (q : Fin 1024) : rR (carry m c t) (ix2 0 q) = befK m c (256 * t.val) ⟨q.val, by omega⟩ :=
  (Cert.MatRect.ld_at _ _ 0 ⟨q.val, by omega⟩ 0 q (by simp) (by simp)).trans (carry_at m c t _)
theorem rV_at (q : Fin 1024) : rV (carry m c t) (ix2 0 q) = befK m c (256 * t.val) ⟨2048 + q.val, by omega⟩ :=
  (Cert.MatRect.ld_at _ _ 0 ⟨2048 + q.val, by omega⟩ 0 q (by simp) rfl).trans (carry_at m c t _)

/-! ## The token shift -/

theorem mix_at {n : ℕ} (z : Fin 256 → Fin n → EReal) (b mu : Fin n → EReal) (col : Fin n → Fin 3200)
    (hz : ∀ l q, z l q = prjK m c (256 * t.val + l.val) ⟨(col q).val, by omega⟩) (hb : ∀ q, b q = befK m c (256 * t.val) (col q))
    (hm : ∀ q, mu q = m ((c : Thread nD τ).loc main_arg4) (ix1 (col q))) (l : Fin 256) (q : Fin n) :
    bmix z b mu l q = mxK m c (256 * t.val + l.val) (col q) := by
  have e : shift z b l q = befK m c (256 * t.val + l.val) (col q) := by
    unfold shift
    by_cases h : l.val = 0
    · rw [dif_pos h, hb, h]; rfl
    · rw [dif_neg h, hz]
      refine Eq.trans ?_ (bef_later _ _ _ _ _ _ (by omega)).symm
      exact congrArg (fun r => prjK m c r ⟨(col q).val, by omega⟩) (by dsimp only; omega)
  unfold bmix
  rw [e, hz, hm]
  exact (mxd_eq _ _ _ _ _ _ _).symm

theorem low_at (l : Fin 256) (q : Fin 128) :
    low (iblk m c 0 t) (iblk m c 1 t) (iblk m c 2 t) (carry m c t) (iblk m c 4 t) (ix2 l q)
      = mxK m c (256 * t.val + l.val) ⟨3072 + q.val, by omega⟩ := by
  refine (p10 _ _ _ l q).trans (mix_at m c t _ _ _ (fun q : Fin 128 => ⟨3072 + q.val, by omega⟩) (fun l q => ?_) (rL_at m c t) (mL_at m c t) l q)
  exact low_prj m c t l q

theorem key_at (l : Fin 256) (q : Fin 1024) :
    keyB (iblk m c 0 t) (iblk m c 1 t) (iblk m c 2 t) (carry m c t) (iblk m c 4 t) (ix2 l q)
      = mxK m c (256 * t.val + l.val) ⟨1024 + q.val, by omega⟩ :=
  (p13 _ _ _ _ l q).trans (mix_at m c t _ _ _ (fun q : Fin 1024 => ⟨1024 + q.val, by omega⟩)
    (fun l q => prj_at m c t _ (fun q : Fin 1024 => ⟨1024 + q.val, by omega⟩) (wK_at m c t) l q) (rK_at m c t) (mK_at m c t) l q)

theorem rec_at (l : Fin 256) (q : Fin 1024) :
    recB (iblk m c 0 t) (iblk m c 1 t) (iblk m c 2 t) (carry m c t) (iblk m c 4 t) (ix2 l q)
      = mxK m c (256 * t.val + l.val) ⟨q.val, by omega⟩ :=
  (p33 _ _ _ _ l q).trans (mix_at m c t _ _ _ (fun q : Fin 1024 => ⟨q.val, by omega⟩)
    (fun l q => prj_at m c t _ (fun q : Fin 1024 => ⟨q.val, by omega⟩) (wR_at m c t) l q) (rR_at m c t) (mR_at m c t) l q)

theorem val_at (l : Fin 256) (q : Fin 1024) :
    valB (iblk m c 0 t) (iblk m c 1 t) (iblk m c 2 t) (carry m c t) (iblk m c 4 t) (ix2 l q)
      = mxK m c (256 * t.val + l.val) ⟨2048 + q.val, by omega⟩ :=
  (p36 _ _ _ _ l q).trans (mix_at m c t _ _ _ (fun q : Fin 1024 => ⟨2048 + q.val, by omega⟩)
    (fun l q => prj_at m c t _ (fun q : Fin 1024 => ⟨2048 + q.val, by omega⟩) (wV_at m c t) l q) (rV_at m c t) (mV_at m c t) l q)

/-! ## The decays, the rates and the keys -/

/-- A matrix with its 64 rows above 64 zero rows. -/
theorem sum_upper (f : Fin 128 → EReal) (g : Fin 64 → EReal) :
    ∑ q : Fin 128, f q * (if h : q.val < 64 then g ⟨q.val, h⟩ else 0) = ∑ q : Fin 64, f ⟨q.val, by omega⟩ * g q := by
  rw [Fin.sum_univ_add (a := 64) (b := 64)]
  have e : ∑ i : Fin 64, f (Fin.natAdd 64 i) * (if h : (Fin.natAdd 64 i).val < 64 then g ⟨(Fin.natAdd 64 i).val, h⟩ else 0) = 0 :=
    Finset.sum_eq_zero fun i _ => by rw [dif_neg (by simp), mul_zero]
  rw [e, add_zero]
  exact Finset.sum_congr rfl fun i _ => by rw [dif_pos (show (Fin.castAdd 64 i).val < 64 from i.isLt)]; rfl

/-- A matrix with its 64 rows below 64 zero rows. -/
theorem sum_lower (f : Fin 128 → EReal) (g : Fin 64 → EReal) :
    ∑ q : Fin 128, f q * (if h : q.val < 64 then 0 else g ⟨q.val - 64, by omega⟩) = ∑ q : Fin 64, f ⟨64 + q.val, by omega⟩ * g q := by
  rw [Fin.sum_univ_add (a := 64) (b := 64)]
  have e : ∑ i : Fin 64, f (Fin.castAdd 64 i) * (if h : (Fin.castAdd 64 i).val < 64 then 0 else g ⟨(Fin.castAdd 64 i).val - 64, by omega⟩) = 0 :=
    Finset.sum_eq_zero fun i _ => by rw [dif_pos (show (Fin.castAdd 64 i).val < 64 from i.isLt), mul_zero]
  rw [e, zero_add]
  refine Finset.sum_congr rfl fun i _ => ?_
  rw [dif_neg (by simp)]
  exact congrArg₂ (fun a b => f a * g b) rfl (Fin.ext (by simp))

abbrev ldK : ℕ → Fin 1024 → EReal :=
  ld (mxK m c) (vecA (m ((c : Thread nD τ).loc main_arg5))) (matA (m ((c : Thread nD τ).loc main_arg6)))
abbrev sinceK : ℕ → Fin 1024 → EReal :=
  since (mxK m c) (vecA (m ((c : Thread nD τ).loc main_arg5))) (matA (m ((c : Thread nD τ).loc main_arg6)))
abbrev rateK : ℕ → Fin 1024 → EReal :=
  rate (mxK m c) (vecA (m ((c : Thread nD τ).loc main_arg7))) (matA (m ((c : Thread nD τ).loc main_arg8)))
abbrev kapK : ℕ → Fin 1024 → EReal := kap (mxK m c) (vecA (m ((c : Thread nD τ).loc main_arg9)))

theorem ld_at (l : Fin 256) (k : Fin 1024) :
    ldB (iblk m c 0 t) (iblk m c 1 t) (iblk m c 2 t) (carry m c t) (iblk m c 4 t) (iblk m c 5 t) (iblk m c 9 t) (ix2 l k)
      = ldK m c (256 * t.val + l.val) k := by
  refine (p16 _ _ _ l k).trans ?_
  unfold ldK ld
  simp only [b5, b9, low_at]
  refine congrArg (fun s => logDecay (_ + s)) ?_
  exact sum_upper (fun q => Ideal.tanh (mxK m c (256 * t.val + l.val) ⟨3072 + q.val, by omega⟩))
    (fun q => m ((c : Thread nD τ).loc main_arg6) (ix2 q k))

theorem rate_at (l : Fin 256) (k : Fin 1024) :
    rateB (iblk m c 0 t) (iblk m c 1 t) (iblk m c 2 t) (carry m c t) (iblk m c 4 t) (iblk m c 6 t) (iblk m c 10 t) (ix2 l k)
      = rateK m c (256 * t.val + l.val) k := by
  refine (p18 _ _ _ l k).trans ?_
  unfold rateK rate
  simp only [b6, b10, low_at]
  refine congrArg (fun s => sigm (_ + s)) ?_
  refine (sum_lower (fun q => mxK m c (256 * t.val + l.val) ⟨3072 + q.val, by omega⟩)
    (fun q => m ((c : Thread nD τ).loc main_arg8) (ix2 q k))).trans (Finset.sum_congr rfl fun q _ => ?_)
  exact congrArg (fun a => mxK m c (256 * t.val + l.val) a * _) (Fin.ext (by dsimp only; omega))

theorem since_at (l : Fin 256) (k : Fin 1024) :
    cumB (iblk m c 0 t) (iblk m c 1 t) (iblk m c 2 t) (carry m c t) (iblk m c 4 t) (iblk m c 5 t) (iblk m c 9 t) (iblk m c 12 t) (ix2 l k)
      = sinceK m c (256 * t.val + l.val) k := by
  refine (p20 _ _ l k (fun l k => ?_) (fun l s => b12 m c t l s)).trans ?_
  · rw [ld_at]; exact logDecay_real _
  unfold sinceK since
  refine Finset.sum_congr rfl fun q _ => if_congr (by omega) ?_ rfl
  rw [ld_at]
  exact congrArg (fun r => ldK m c r k) (by dsimp only; omega)

/-- The keys are finite, over the kernel's arguments. -/
abbrev KeysRealK : Prop :=
  KeysReal (m ((c : Thread nD τ).loc main_arg1)) (m ((c : Thread nD τ).loc main_arg2))
    (m ((c : Thread nD τ).loc main_arg3)) (m ((c : Thread nD τ).loc main_arg4)) (m ((c : Thread nD τ).loc main_arg9))

theorem kap_at (h : KeysRealK m c) (l : Fin 256) (k : Fin 1024) :
    kapB (iblk m c 0 t) (iblk m c 1 t) (iblk m c 2 t) (carry m c t) (iblk m c 4 t) (iblk m c 7 t) (iblk m c 11 t) (ix2 l k)
      = kapK m c (256 * t.val + l.val) k := by
  refine (p28 _ _ _ (fun l k => ?_) (fun x j => b11 m c t x j) l k).trans ?_
  · rw [key_at, b7]; exact kk_real h _ k
  unfold kapK kap kk
  simp only [key_at, b7]

end Cert.PTile

end
-- ==== Proof.Proj.Final.lean ====
/-
  THE PROJECTION'S RESULT ARRAYS, entry by entry: each is the specification of its row and column over the kernel's arguments.
-/
module

public import proofs.«01_k».proof.Proof.Proj.Tile

@[expose] public section

set_option maxRecDepth 16384

noncomputable section

namespace Cert.PFinal

open Idealize.ShloMosaic Idealize.ShloMosaic.TcCoe Idealize.SL.Sem
open Cert.Kernel2Ideal Cert.Kernel2Ideal.Gen Cert.PBody Cert.PPay Cert.POuts Cert.PBlk Cert.Proj Cert.PTile

variable (m : (ℓ : Loc nD τ sig) → Buf (Elt Ideal) ℓ) (c : Dev nD)

/-! ## A tile's stored blocks -/

theorem t13 (h : KeysRealK m c) (t : Fin cfg0.N) (l : Fin 256) (k : Fin 1024) :
    (outsAt0 m c t.val t.isLt).1 (ix2 l k) = oA (mxK m c) (vecA (m ((c : Thread nD τ).loc main_arg5))) (matA (m ((c : Thread nD τ).loc main_arg6))) (vecA (m ((c : Thread nD τ).loc main_arg9))) (256 * t.val + l.val) k :=
  (congrFun (o13 m c t) _).trans ((p41 _ _ _ l k).trans (by rw [kap_at m c t h, since_at, ld_at]; rfl))

theorem t14 (h : KeysRealK m c) (t : Fin cfg0.N) (l : Fin 256) (k : Fin 1024) :
    (outsAt0 m c t.val t.isLt).2.1 (ix2 l k) = oB (mxK m c) (vecA (m ((c : Thread nD τ).loc main_arg5))) (matA (m ((c : Thread nD τ).loc main_arg6))) (vecA (m ((c : Thread nD τ).loc main_arg7))) (matA (m ((c : Thread nD τ).loc main_arg8))) (vecA (m ((c : Thread nD τ).loc main_arg9))) (256 * t.val + l.val) k :=
  (congrFun (o14 m c t) _).trans ((p42 _ _ _ l k).trans (by rw [kap_at m c t h, since_at, rate_at]; rfl))

theorem t15 (t : Fin cfg0.N) (l : Fin 256) (k : Fin 1024) :
    (outsAt0 m c t.val t.isLt).2.2.1 (ix2 l k) = oC (mxK m c) (vecA (m ((c : Thread nD τ).loc main_arg5))) (matA (m ((c : Thread nD τ).loc main_arg6))) (vecA (m ((c : Thread nD τ).loc main_arg7))) (matA (m ((c : Thread nD τ).loc main_arg8))) (vecA (m ((c : Thread nD τ).loc main_arg10))) (256 * t.val + l.val) k :=
  (congrFun (o15 m c t) _).trans ((p43 _ _ _ _ l k).trans (by rw [key_at, since_at, rate_at, b8]; rfl))

theorem t16 (t : Fin cfg0.N) (l : Fin 256) (k : Fin 1024) :
    (outsAt0 m c t.val t.isLt).2.2.2.1 (ix2 l k) = oD (mxK m c) (vecA (m ((c : Thread nD τ).loc main_arg5))) (matA (m ((c : Thread nD τ).loc main_arg6))) (256 * t.val + l.val) k :=
  (congrFun (o16 m c t) _).trans ((p44 _ _ l k).trans (by rw [rec_at, since_at]; rfl))

theorem t17 (t : Fin cfg0.N) (l : Fin 256) (k : Fin 1024) :
    (outsAt0 m c t.val t.isLt).2.2.2.2.1 (ix2 l k) = mxK m c (256 * t.val + l.val) ⟨2048 + k.val, by omega⟩ :=
  (congrFun (o17 m c t) _).trans (val_at m c t l k)

theorem t19 (t : Fin cfg0.N) (l : Fin 256) (k : Fin 1024) :
    (outsAt0 m c t.val t.isLt).2.2.2.2.2.2.1 (ix2 l k) = prjK m c (256 * t.val + l.val) ⟨3200 + k.val, by omega⟩ :=
  (congrFun (o19 m c t) _).trans ((p14 _ _ l k).trans (prj_at m c t _ (fun q : Fin 1024 => ⟨3200 + q.val, by omega⟩) (wZr_at m c t) l k))

theorem t20 (t : Fin cfg0.N) (l : Fin 256) (k : Fin 1024) :
    (outsAt0 m c t.val t.isLt).2.2.2.2.2.2.2.1 (ix2 l k) = prjK m c (256 * t.val + l.val) ⟨4224 + k.val, by omega⟩ :=
  (congrFun (o20 m c t) _).trans ((p15 _ _ l k).trans (prj_at m c t _ (fun q : Fin 1024 => ⟨4224 + q.val, by omega⟩) (wZm_at m c t) l k))

theorem t21 (t : Fin cfg0.N) (l : Fin 256) (k : Fin 1536) :
    (outsAt0 m c t.val t.isLt).2.2.2.2.2.2.2.2.1 (ix2 l k) = prjK m c (256 * t.val + l.val) ⟨5248 + k.val, by omega⟩ :=
  (congrFun (o21 m c t) _).trans ((p37 _ _ l k).trans (prj_at m c t _ (fun q : Fin 1536 => ⟨5248 + q.val, by omega⟩) (wX_at m c t) l k))

theorem t22 (t : Fin cfg0.N) (l : Fin 256) (k : Fin 128) :
    (outsAt0 m c t.val t.isLt).2.2.2.2.2.2.2.2.2.1 (ix2 l k) = prjK m c (256 * t.val + l.val) ⟨6784 + k.val, by omega⟩ :=
  (congrFun (o22 m c t) _).trans ((p38 _ _ l k).trans (prj_at m c t _ (fun q : Fin 128 => ⟨6784 + q.val, by omega⟩) (wD_at m c t) l k))

/-! The stored decays of a tile's four chunks. -/

section Row

variable {o : Nat} (inb : ∀ a, (![o, 0, 0] : Fin 3 → Nat) a + (![1, 1, 1024] : Fin 3 → Nat) a ≤ S4x1x1024.size a)
  (w : (Rect.unit (s := S4x1x1024) ![o, 0, 0] ![1, 1, 1024] inb).shape.Idx → Elt Ideal .f32)
  (L : List (View.Piece (Elt Ideal) S4x1x1024 .f32)) (r : Fin 4) (k : Fin 1024)

theorem row_hit (h : r.val = o) :
    View.canon (⟨Rect.unit (s := S4x1x1024) ![o, 0, 0] ![1, 1, 1024] inb, w⟩ :: L) (ix3 r 0 k) = w (ix3 0 0 k) := by
  have e : (ix3 r 0 k : S4x1x1024.Idx) = (Rect.unit (s := S4x1x1024) ![o, 0, 0] ![1, 1, 1024] inb).emb (ix3 0 0 k) :=
    funext fun a => Fin.ext (by fin_cases a <;> simp [Rect.unit, Rect.emb, ix3, h])
  rw [e]; exact View.canon_cons_emb _ _ _ _

theorem row_skip (h : r.val ≠ o) :
    View.canon (⟨Rect.unit (s := S4x1x1024) ![o, 0, 0] ![1, 1, 1024] inb, w⟩ :: L) (ix3 r 0 k) = View.canon L (ix3 r 0 k) := by
  refine View.canon_cons_of_not_mem _ _ fun hm => h ?_
  have := (Rect.mem_set_unit (inb := inb)).mp hm 0
  obtain ⟨h1, h2⟩ : o ≤ r.val ∧ r.val < o + 1 := this
  omega

end Row

/-- The four stores of a tile. -/
abbrev four (w3 w2 w1 w0 : Vec Ideal S1x1x1024 .f32) : List (View.Piece (Elt Ideal) S4x1x1024 .f32) :=
  [⟨Rect.unit ![3, 0, 0] S1x1x1024.size inb_S4x1x1024_S1x1x1024_3_0_0, w3⟩, ⟨Rect.unit ![2, 0, 0] S1x1x1024.size inb_S4x1x1024_S1x1x1024_2_0_0, w2⟩,
   ⟨Rect.unit ![1, 0, 0] S1x1x1024.size inb_S4x1x1024_S1x1x1024_1_0_0, w1⟩, ⟨Rect.unit ![0, 0, 0] S1x1x1024.size inb_S4x1x1024_S1x1x1024_0_0_0, w0⟩]

section Four

variable (w3 w2 w1 w0 : Vec Ideal S1x1x1024 .f32) (k : Fin 1024)

theorem four3 : View.canon (four w3 w2 w1 w0) (ix3 3 0 k) = w3 (ix3 0 0 k) := row_hit _ _ _ _ _ rfl
theorem four2 : View.canon (four w3 w2 w1 w0) (ix3 2 0 k) = w2 (ix3 0 0 k) :=
  (row_skip _ _ _ _ _ (by decide)).trans (row_hit _ _ _ _ _ rfl)
theorem four1 : View.canon (four w3 w2 w1 w0) (ix3 1 0 k) = w1 (ix3 0 0 k) :=
  (row_skip _ _ _ _ _ (by decide)).trans ((row_skip _ _ _ _ _ (by decide)).trans (row_hit _ _ _ _ _ rfl))
theorem four0 : View.canon (four w3 w2 w1 w0) (ix3 0 0 k) = w0 (ix3 0 0 k) :=
  (row_skip _ _ _ _ _ (by decide)).trans ((row_skip _ _ _ _ _ (by decide)).trans ((row_skip _ _ _ _ _ (by decide)).trans (row_hit _ _ _ _ _ rfl)))

end Four

/-- What the four stores hold: the exponential of the sums at the chunks' last tokens. -/
theorem four_at (C : FVec Ideal S256x1024 .f32) (s : ℕ → Fin 1024 → EReal) (b : ℕ) (hs : ∀ (l : Fin 256) (k : Fin 1024), C (ix2 l k) = s (b + l.val) k)
    (j : Fin 4) (k : Fin 1024) : View.canon (four (k0_pay3 (k0_pay40 C)) (k0_pay2 (k0_pay40 C)) (k0_pay1 (k0_pay46 C)) (k0_pay45 C)) (ix3 j 0 k)
      = Ideal.exp (s (b + (64 * j.val + 63)) k) := by
  have hj : j = 0 ∨ j = 1 ∨ j = 2 ∨ j = 3 := by omega
  rcases hj with h | h | h | h <;> subst h
  · exact (four0 _ _ _ _ k).trans ((p45 C k).trans (congrArg Ideal.exp (hs _ k)))
  · exact (four1 _ _ _ _ k).trans ((p1 C k).trans (congrArg Ideal.exp (hs _ k)))
  · exact (four2 _ _ _ _ k).trans ((p2 C k).trans (congrArg Ideal.exp (hs _ k)))
  · exact (four3 _ _ _ _ k).trans ((p3 C k).trans (congrArg Ideal.exp (hs _ k)))

theorem t18 (t : Fin cfg0.N) (j : Fin 4) (k : Fin 1024) :
    (outsAt0 m c t.val t.isLt).2.2.2.2.2.1 (ix3 j 0 k) = Ideal.exp (sinceK m c (256 * t.val + (64 * j.val + 63)) k) :=
  (congrFun (o18 m c t) _).trans (four_at _ (sinceK m c) (256 * t.val) (fun l k => since_at m c t l k) j k)

/-! ## The whole arrays -/

theorem idx13 : ∀ t : Fin cfg0.N, win0_13.index t (0 : Fin 2) = t.val ∧ win0_13.index t (1 : Fin 2) = 0 :=
  (by decide +kernel : ∀ t : Fin grid0.N, _)
theorem flush13 : ∀ t : Fin cfg0.N, (cfg0.win 13).flush t = true :=
  (by decide +kernel : ∀ t : Fin grid0.N, _)

/-- The result: the removal key. -/
theorem f13 (h : KeysRealK m c) (i : Fin 16384) (k : Fin 1024) : (dats m 0 c).arrAt 13 cfg0.N (ix2 i k) = oA (mxK m c) (vecA (m ((c : Thread nD τ).loc main_arg5))) (matA (m ((c : Thread nD τ).loc main_arg6))) (vecA (m ((c : Thread nD τ).loc main_arg9))) i.val k := by
  have ht : i.val / 256 < cfg0.N := by rw [show cfg0.N = 64 from N_0]; omega
  have hb := congrFun (Value.blocks13 m c ⟨i.val / 256, ht⟩ (flush13 _)) (ix2 ⟨i.val % 256, by omega⟩ k)
  rw [Value.flushed13] at hb
  obtain ⟨e0, e1⟩ := idx13 ⟨i.val / 256, ht⟩
  have hi : ((cfg0.win 13).blk ⟨i.val / 256, ht⟩).view.emb (ix2 ⟨i.val % 256, by omega⟩ k) = ix2 i k := by
    funext a; apply Fin.ext
    match a with
    | ⟨0, _⟩ => show win0_13.index ⟨i.val / 256, ht⟩ (0 : Fin 2) * 256 + 1 * (i.val % 256) = i.val; rw [e0]; dsimp only; omega
    | ⟨1, _⟩ => show win0_13.index ⟨i.val / 256, ht⟩ (1 : Fin 2) * 1024 + 1 * k.val = k.val; rw [e1]; omega
  have hx : (cfg0.win 13).xinj (grid0.coords ⟨i.val / 256, ht⟩) (ix2 ⟨i.val % 256, by omega⟩ k) = ix2 ⟨i.val % 256, by omega⟩ k := by
    funext a; apply Fin.ext
    match a with
    | ⟨0, _⟩ => rfl
    | ⟨1, _⟩ => rfl
  have hl : (dats m 0 c).arrAt 13 cfg0.N (((cfg0.win 13).blk ⟨i.val / 256, ht⟩).view.emb (ix2 ⟨i.val % 256, by omega⟩ k))
      = (outsAt0 m c (i.val / 256) ht).1 ((cfg0.win 13).xinj (grid0.coords ⟨i.val / 256, ht⟩) (ix2 ⟨i.val % 256, by omega⟩ k)) := hb
  rw [hi, hx] at hl
  refine hl.trans ((t13 m c h ⟨i.val / 256, ht⟩ _ k).trans (congrArg (fun r => oA (mxK m c) (vecA (m ((c : Thread nD τ).loc main_arg5))) (matA (m ((c : Thread nD τ).loc main_arg6))) (vecA (m ((c : Thread nD τ).loc main_arg9))) r k) ?_))
  dsimp only; omega

theorem idx14 : ∀ t : Fin cfg0.N, win0_14.index t (0 : Fin 2) = t.val ∧ win0_14.index t (1 : Fin 2) = 0 :=
  (by decide +kernel : ∀ t : Fin grid0.N, _)
theorem flush14 : ∀ t : Fin cfg0.N, (cfg0.win 14).flush t = true :=
  (by decide +kernel : ∀ t : Fin grid0.N, _)

/-- The result: the removal's write key. -/
theorem f14 (h : KeysRealK m c) (i : Fin 16384) (k : Fin 1024) : (dats m 0 c).arrAt 14 cfg0.N (ix2 i k) = oB (mxK m c) (vecA (m ((c : Thread nD τ).loc main_arg5))) (matA (m ((c : Thread nD τ).loc main_arg6))) (vecA (m ((c : Thread nD τ).loc main_arg7))) (matA (m ((c : Thread nD τ).loc main_arg8))) (vecA (m ((c : Thread nD τ).loc main_arg9))) i.val k := by
  have ht : i.val / 256 < cfg0.N := by rw [show cfg0.N = 64 from N_0]; omega
  have hb := congrFun (Value.blocks14 m c ⟨i.val / 256, ht⟩ (flush14 _)) (ix2 ⟨i.val % 256, by omega⟩ k)
  rw [Value.flushed14] at hb
  obtain ⟨e0, e1⟩ := idx14 ⟨i.val / 256, ht⟩
  have hi : ((cfg0.win 14).blk ⟨i.val / 256, ht⟩).view.emb (ix2 ⟨i.val % 256, by omega⟩ k) = ix2 i k := by
    funext a; apply Fin.ext
    match a with
    | ⟨0, _⟩ => show win0_14.index ⟨i.val / 256, ht⟩ (0 : Fin 2) * 256 + 1 * (i.val % 256) = i.val; rw [e0]; dsimp only; omega
    | ⟨1, _⟩ => show win0_14.index ⟨i.val / 256, ht⟩ (1 : Fin 2) * 1024 + 1 * k.val = k.val; rw [e1]; omega
  have hx : (cfg0.win 14).xinj (grid0.coords ⟨i.val / 256, ht⟩) (ix2 ⟨i.val % 256, by omega⟩ k) = ix2 ⟨i.val % 256, by omega⟩ k := by
    funext a; apply Fin.ext
    match a with
    | ⟨0, _⟩ => rfl
    | ⟨1, _⟩ => rfl
  have hl : (dats m 0 c).arrAt 14 cfg0.N (((cfg0.win 14).blk ⟨i.val / 256, ht⟩).view.emb (ix2 ⟨i.val % 256, by omega⟩ k))
      = (outsAt0 m c (i.val / 256) ht).2.1 ((cfg0.win 14).xinj (grid0.coords ⟨i.val / 256, ht⟩) (ix2 ⟨i.val % 256, by omega⟩ k)) := hb
  rw [hi, hx] at hl
  refine hl.trans ((t14 m c h ⟨i.val / 256, ht⟩ _ k).trans (congrArg (fun r => oB (mxK m c) (vecA (m ((c : Thread nD τ).loc main_arg5))) (matA (m ((c : Thread nD τ).loc main_arg6))) (vecA (m ((c : Thread nD τ).loc main_arg7))) (matA (m ((c : Thread nD τ).loc main_arg8))) (vecA (m ((c : Thread nD τ).loc main_arg9))) r k) ?_))
  dsimp only; omega

theorem idx15 : ∀ t : Fin cfg0.N, win0_15.index t (0 : Fin 2) = t.val ∧ win0_15.index t (1 : Fin 2) = 0 :=
  (by decide +kernel : ∀ t : Fin grid0.N, _)
theorem flush15 : ∀ t : Fin cfg0.N, (cfg0.win 15).flush t = true :=
  (by decide +kernel : ∀ t : Fin grid0.N, _)

/-- The result: the key. -/
theorem f15 (i : Fin 16384) (k : Fin 1024) : (dats m 0 c).arrAt 15 cfg0.N (ix2 i k) = oC (mxK m c) (vecA (m ((c : Thread nD τ).loc main_arg5))) (matA (m ((c : Thread nD τ).loc main_arg6))) (vecA (m ((c : Thread nD τ).loc main_arg7))) (matA (m ((c : Thread nD τ).loc main_arg8))) (vecA (m ((c : Thread nD τ).loc main_arg10))) i.val k := by
  have ht : i.val / 256 < cfg0.N := by rw [show cfg0.N = 64 from N_0]; omega
  have hb := congrFun (Value.blocks15 m c ⟨i.val / 256, ht⟩ (flush15 _)) (ix2 ⟨i.val % 256, by omega⟩ k)
  rw [Value.flushed15] at hb
  obtain ⟨e0, e1⟩ := idx15 ⟨i.val / 256, ht⟩
  have hi : ((cfg0.win 15).blk ⟨i.val / 256, ht⟩).view.emb (ix2 ⟨i.val % 256, by omega⟩ k) = ix2 i k := by
    funext a; apply Fin.ext
    match a with
    | ⟨0, _⟩ => show win0_15.index ⟨i.val / 256, ht⟩ (0 : Fin 2) * 256 + 1 * (i.val % 256) = i.val; rw [e0]; dsimp only; omega
    | ⟨1, _⟩ => show win0_15.index ⟨i.val / 256, ht⟩ (1 : Fin 2) * 1024 + 1 * k.val = k.val; rw [e1]; omega
  have hx : (cfg0.win 15).xinj (grid0.coords ⟨i.val / 256, ht⟩) (ix2 ⟨i.val % 256, by omega⟩ k) = ix2 ⟨i.val % 256, by omega⟩ k := by
    funext a; apply Fin.ext
    match a with
    | ⟨0, _⟩ => rfl
    | ⟨1, _⟩ => rfl
  have hl : (dats m 0 c).arrAt 15 cfg0.N (((cfg0.win 15).blk ⟨i.val / 256, ht⟩).view.emb (ix2 ⟨i.val % 256, by omega⟩ k))
      = (outsAt0 m c (i.val / 256) ht).2.2.1 ((cfg0.win 15).xinj (grid0.coords ⟨i.val / 256, ht⟩) (ix2 ⟨i.val % 256, by omega⟩ k)) := hb
  rw [hi, hx] at hl
  refine hl.trans ((t15 m c ⟨i.val / 256, ht⟩ _ k).trans (congrArg (fun r => oC (mxK m c) (vecA (m ((c : Thread nD τ).loc main_arg5))) (matA (m ((c : Thread nD τ).loc main_arg6))) (vecA (m ((c : Thread nD τ).loc main_arg7))) (matA (m ((c : Thread nD τ).loc main_arg8))) (vecA (m ((c : Thread nD τ).loc main_arg10))) r k) ?_))
  dsimp only; omega

theorem idx16 : ∀ t : Fin cfg0.N, win0_16.index t (0 : Fin 2) = t.val ∧ win0_16.index t (1 : Fin 2) = 0 :=
  (by decide +kernel : ∀ t : Fin grid0.N, _)
theorem flush16 : ∀ t : Fin cfg0.N, (cfg0.win 16).flush t = true :=
  (by decide +kernel : ∀ t : Fin grid0.N, _)

/-- The result: the receptance. -/
theorem f16 (i : Fin 16384) (k : Fin 1024) : (dats m 0 c).arrAt 16 cfg0.N (ix2 i k) = oD (mxK m c) (vecA (m ((c : Thread nD τ).loc main_arg5))) (matA (m ((c : Thread nD τ).loc main_arg6))) i.val k := by
  have ht : i.val / 256 < cfg0.N := by rw [show cfg0.N = 64 from N_0]; omega
  have hb := congrFun (Value.blocks16 m c ⟨i.val / 256, ht⟩ (flush16 _)) (ix2 ⟨i.val % 256, by omega⟩ k)
  rw [Value.flushed16] at hb
  obtain ⟨e0, e1⟩ := idx16 ⟨i.val / 256, ht⟩
  have hi : ((cfg0.win 16).blk ⟨i.val / 256, ht⟩).view.emb (ix2 ⟨i.val % 256, by omega⟩ k) = ix2 i k := by
    funext a; apply Fin.ext
    match a with
    | ⟨0, _⟩ => show win0_16.index ⟨i.val / 256, ht⟩ (0 : Fin 2) * 256 + 1 * (i.val % 256) = i.val; rw [e0]; dsimp only; omega
    | ⟨1, _⟩ => show win0_16.index ⟨i.val / 256, ht⟩ (1 : Fin 2) * 1024 + 1 * k.val = k.val; rw [e1]; omega
  have hx : (cfg0.win 16).xinj (grid0.coords ⟨i.val / 256, ht⟩) (ix2 ⟨i.val % 256, by omega⟩ k) = ix2 ⟨i.val % 256, by omega⟩ k := by
    funext a; apply Fin.ext
    match a with
    | ⟨0, _⟩ => rfl
    | ⟨1, _⟩ => rfl
  have hl : (dats m 0 c).arrAt 16 cfg0.N (((cfg0.win 16).blk ⟨i.val / 256, ht⟩).view.emb (ix2 ⟨i.val % 256, by omega⟩ k))
      = (outsAt0 m c (i.val / 256) ht).2.2.2.1 ((cfg0.win 16).xinj (grid0.coords ⟨i.val / 256, ht⟩) (ix2 ⟨i.val % 256, by omega⟩ k)) := hb
  rw [hi, hx] at hl
  refine hl.trans ((t16 m c ⟨i.val / 256, ht⟩ _ k).trans (congrArg (fun r => oD (mxK m c) (vecA (m ((c : Thread nD τ).loc main_arg5))) (matA (m ((c : Thread nD τ).loc main_arg6))) r k) ?_))
  dsimp only; omega

theorem idx17 : ∀ t : Fin cfg0.N, win0_17.index t (0 : Fin 2) = t.val ∧ win0_17.index t (1 : Fin 2) = 0 :=
  (by decide +kernel : ∀ t : Fin grid0.N, _)
theorem flush17 : ∀ t : Fin cfg0.N, (cfg0.win 17).flush t = true :=
  (by decide +kernel : ∀ t : Fin grid0.N, _)

/-- The result: the value. -/
theorem f17 (i : Fin 16384) (k : Fin 1024) : (dats m 0 c).arrAt 17 cfg0.N (ix2 i k) = mxK m c i.val ⟨2048 + k.val, by omega⟩ := by
  have ht : i.val / 256 < cfg0.N := by rw [show cfg0.N = 64 from N_0]; omega
  have hb := congrFun (Value.blocks17 m c ⟨i.val / 256, ht⟩ (flush17 _)) (ix2 ⟨i.val % 256, by omega⟩ k)
  rw [Value.flushed17] at hb
  obtain ⟨e0, e1⟩ := idx17 ⟨i.val / 256, ht⟩
  have hi : ((cfg0.win 17).blk ⟨i.val / 256, ht⟩).view.emb (ix2 ⟨i.val % 256, by omega⟩ k) = ix2 i k := by
    funext a; apply Fin.ext
    match a with
    | ⟨0, _⟩ => show win0_17.index ⟨i.val / 256, ht⟩ (0 : Fin 2) * 256 + 1 * (i.val % 256) = i.val; rw [e0]; dsimp only; omega
    | ⟨1, _⟩ => show win0_17.index ⟨i.val / 256, ht⟩ (1 : Fin 2) * 1024 + 1 * k.val = k.val; rw [e1]; omega
  have hx : (cfg0.win 17).xinj (grid0.coords ⟨i.val / 256, ht⟩) (ix2 ⟨i.val % 256, by omega⟩ k) = ix2 ⟨i.val % 256, by omega⟩ k := by
    funext a; apply Fin.ext
    match a with
    | ⟨0, _⟩ => rfl
    | ⟨1, _⟩ => rfl
  have hl : (dats m 0 c).arrAt 17 cfg0.N (((cfg0.win 17).blk ⟨i.val / 256, ht⟩).view.emb (ix2 ⟨i.val % 256, by omega⟩ k))
      = (outsAt0 m c (i.val / 256) ht).2.2.2.2.1 ((cfg0.win 17).xinj (grid0.coords ⟨i.val / 256, ht⟩) (ix2 ⟨i.val % 256, by omega⟩ k)) := hb
  rw [hi, hx] at hl
  refine hl.trans ((t17 m c ⟨i.val / 256, ht⟩ _ k).trans (congrArg (fun r => mxK m c r ⟨2048 + k.val, by omega⟩) ?_))
  dsimp only; omega

theorem idx18 : ∀ t : Fin cfg0.N, win0_18.index t (0 : Fin 3) = t.val ∧ win0_18.index t (1 : Fin 3) = 0 ∧ win0_18.index t (2 : Fin 3) = 0 :=
  (by decide +kernel : ∀ t : Fin grid0.N, _)
theorem flush18 : ∀ t : Fin cfg0.N, (cfg0.win 18).flush t = true :=
  (by decide +kernel : ∀ t : Fin grid0.N, _)

/-- The result: the chunks' decays. -/
theorem f18 (i : Fin 256) (k : Fin 1024) : (dats m 0 c).arrAt 18 cfg0.N (ix3 i 0 k) = Ideal.exp (sinceK m c (64 * i.val + 63) k) := by
  have ht : i.val / 4 < cfg0.N := by rw [show cfg0.N = 64 from N_0]; omega
  have h := congrFun (Value.blocks18 m c ⟨i.val / 4, ht⟩ (flush18 _)) (ix3 ⟨i.val % 4, by omega⟩ 0 k)
  rw [Value.flushed18] at h
  obtain ⟨e0, e1, e2⟩ := idx18 ⟨i.val / 4, ht⟩
  have hi : ((cfg0.win 18).blk ⟨i.val / 4, ht⟩).view.emb (ix3 ⟨i.val % 4, by omega⟩ 0 k) = ix3 i 0 k := by
    funext a; apply Fin.ext
    match a with
    | ⟨0, _⟩ => show win0_18.index ⟨i.val / 4, ht⟩ (0 : Fin 3) * 4 + 1 * (i.val % 4) = i.val; rw [e0]; dsimp only; omega
    | ⟨1, _⟩ => show win0_18.index ⟨i.val / 4, ht⟩ (1 : Fin 3) * 1 + 1 * 0 = 0; rw [e1]
    | ⟨2, _⟩ => show win0_18.index ⟨i.val / 4, ht⟩ (2 : Fin 3) * 1024 + 1 * k.val = k.val; rw [e2]; omega
  have hx : (cfg0.win 18).xinj (grid0.coords ⟨i.val / 4, ht⟩) (ix3 ⟨i.val % 4, by omega⟩ 0 k) = ix3 ⟨i.val % 4, by omega⟩ 0 k := by
    funext a; apply Fin.ext
    match a with
    | ⟨0, _⟩ => rfl
    | ⟨1, _⟩ => rfl
    | ⟨2, _⟩ => rfl
  have hl : (dats m 0 c).arrAt 18 cfg0.N (((cfg0.win 18).blk ⟨i.val / 4, ht⟩).view.emb (ix3 ⟨i.val % 4, by omega⟩ 0 k))
      = (outsAt0 m c (i.val / 4) ht).2.2.2.2.2.1 ((cfg0.win 18).xinj (grid0.coords ⟨i.val / 4, ht⟩) (ix3 ⟨i.val % 4, by omega⟩ 0 k)) := h
  rw [hi, hx] at hl
  refine hl.trans ((t18 m c ⟨i.val / 4, ht⟩ _ k).trans (congrArg (fun r => Ideal.exp (sinceK m c r k)) ?_))
  dsimp only; omega

theorem idx19 : ∀ t : Fin cfg0.N, win0_19.index t (0 : Fin 2) = t.val ∧ win0_19.index t (1 : Fin 2) = 0 :=
  (by decide +kernel : ∀ t : Fin grid0.N, _)
theorem flush19 : ∀ t : Fin cfg0.N, (cfg0.win 19).flush t = true :=
  (by decide +kernel : ∀ t : Fin grid0.N, _)

/-- The result: the first gate. -/
theorem f19 (i : Fin 16384) (k : Fin 1024) : (dats m 0 c).arrAt 19 cfg0.N (ix2 i k) = prjK m c i.val ⟨3200 + k.val, by omega⟩ := by
  have ht : i.val / 256 < cfg0.N := by rw [show cfg0.N = 64 from N_0]; omega
  have hb := congrFun (Value.blocks19 m c ⟨i.val / 256, ht⟩ (flush19 _)) (ix2 ⟨i.val % 256, by omega⟩ k)
  rw [Value.flushed19] at hb
  obtain ⟨e0, e1⟩ := idx19 ⟨i.val / 256, ht⟩
  have hi : ((cfg0.win 19).blk ⟨i.val / 256, ht⟩).view.emb (ix2 ⟨i.val % 256, by omega⟩ k) = ix2 i k := by
    funext a; apply Fin.ext
    match a with
    | ⟨0, _⟩ => show win0_19.index ⟨i.val / 256, ht⟩ (0 : Fin 2) * 256 + 1 * (i.val % 256) = i.val; rw [e0]; dsimp only; omega
    | ⟨1, _⟩ => show win0_19.index ⟨i.val / 256, ht⟩ (1 : Fin 2) * 1024 + 1 * k.val = k.val; rw [e1]; omega
  have hx : (cfg0.win 19).xinj (grid0.coords ⟨i.val / 256, ht⟩) (ix2 ⟨i.val % 256, by omega⟩ k) = ix2 ⟨i.val % 256, by omega⟩ k := by
    funext a; apply Fin.ext
    match a with
    | ⟨0, _⟩ => rfl
    | ⟨1, _⟩ => rfl
  have hl : (dats m 0 c).arrAt 19 cfg0.N (((cfg0.win 19).blk ⟨i.val / 256, ht⟩).view.emb (ix2 ⟨i.val % 256, by omega⟩ k))
      = (outsAt0 m c (i.val / 256) ht).2.2.2.2.2.2.1 ((cfg0.win 19).xinj (grid0.coords ⟨i.val / 256, ht⟩) (ix2 ⟨i.val % 256, by omega⟩ k)) := hb
  rw [hi, hx] at hl
  refine hl.trans ((t19 m c ⟨i.val / 256, ht⟩ _ k).trans (congrArg (fun r => prjK m c r ⟨3200 + k.val, by omega⟩) ?_))
  dsimp only; omega

theorem idx20 : ∀ t : Fin cfg0.N, win0_20.index t (0 : Fin 2) = t.val ∧ win0_20.index t (1 : Fin 2) = 0 :=
  (by decide +kernel : ∀ t : Fin grid0.N, _)
theorem flush20 : ∀ t : Fin cfg0.N, (cfg0.win 20).flush t = true :=
  (by decide +kernel : ∀ t : Fin grid0.N, _)

/-- The result: the second gate. -/
theorem f20 (i : Fin 16384) (k : Fin 1024) : (dats m 0 c).arrAt 20 cfg0.N (ix2 i k) = prjK m c i.val ⟨4224 + k.val, by omega⟩ := by
  have ht : i.val / 256 < cfg0.N := by rw [show cfg0.N = 64 from N_0]; omega
  have hb := congrFun (Value.blocks20 m c ⟨i.val / 256, ht⟩ (flush20 _)) (ix2 ⟨i.val % 256, by omega⟩ k)
  rw [Value.flushed20] at hb
  obtain ⟨e0, e1⟩ := idx20 ⟨i.val / 256, ht⟩
  have hi : ((cfg0.win 20).blk ⟨i.val / 256, ht⟩).view.emb (ix2 ⟨i.val % 256, by omega⟩ k) = ix2 i k := by
    funext a; apply Fin.ext
    match a with
    | ⟨0, _⟩ => show win0_20.index ⟨i.val / 256, ht⟩ (0 : Fin 2) * 256 + 1 * (i.val % 256) = i.val; rw [e0]; dsimp only; omega
    | ⟨1, _⟩ => show win0_20.index ⟨i.val / 256, ht⟩ (1 : Fin 2) * 1024 + 1 * k.val = k.val; rw [e1]; omega
  have hx : (cfg0.win 20).xinj (grid0.coords ⟨i.val / 256, ht⟩) (ix2 ⟨i.val % 256, by omega⟩ k) = ix2 ⟨i.val % 256, by omega⟩ k := by
    funext a; apply Fin.ext
    match a with
    | ⟨0, _⟩ => rfl
    | ⟨1, _⟩ => rfl
  have hl : (dats m 0 c).arrAt 20 cfg0.N (((cfg0.win 20).blk ⟨i.val / 256, ht⟩).view.emb (ix2 ⟨i.val % 256, by omega⟩ k))
      = (outsAt0 m c (i.val / 256) ht).2.2.2.2.2.2.2.1 ((cfg0.win 20).xinj (grid0.coords ⟨i.val / 256, ht⟩) (ix2 ⟨i.val % 256, by omega⟩ k)) := hb
  rw [hi, hx] at hl
  refine hl.trans ((t20 m c ⟨i.val / 256, ht⟩ _ k).trans (congrArg (fun r => prjK m c r ⟨4224 + k.val, by omega⟩) ?_))
  dsimp only; omega

theorem idx21 : ∀ t : Fin cfg0.N, win0_21.index t (0 : Fin 2) = t.val ∧ win0_21.index t (1 : Fin 2) = 0 :=
  (by decide +kernel : ∀ t : Fin grid0.N, _)
theorem flush21 : ∀ t : Fin cfg0.N, (cfg0.win 21).flush t = true :=
  (by decide +kernel : ∀ t : Fin grid0.N, _)

/-- The result: the scan's columns. -/
theorem f21 (i : Fin 16384) (k : Fin 1536) : (dats m 0 c).arrAt 21 cfg0.N (ix2 i k) = prjK m c i.val ⟨5248 + k.val, by omega⟩ := by
  have ht : i.val / 256 < cfg0.N := by rw [show cfg0.N = 64 from N_0]; omega
  have hb := congrFun (Value.blocks21 m c ⟨i.val / 256, ht⟩ (flush21 _)) (ix2 ⟨i.val % 256, by omega⟩ k)
  rw [Value.flushed21] at hb
  obtain ⟨e0, e1⟩ := idx21 ⟨i.val / 256, ht⟩
  have hi : ((cfg0.win 21).blk ⟨i.val / 256, ht⟩).view.emb (ix2 ⟨i.val % 256, by omega⟩ k) = ix2 i k := by
    funext a; apply Fin.ext
    match a with
    | ⟨0, _⟩ => show win0_21.index ⟨i.val / 256, ht⟩ (0 : Fin 2) * 256 + 1 * (i.val % 256) = i.val; rw [e0]; dsimp only; omega
    | ⟨1, _⟩ => show win0_21.index ⟨i.val / 256, ht⟩ (1 : Fin 2) * 1536 + 1 * k.val = k.val; rw [e1]; omega
  have hx : (cfg0.win 21).xinj (grid0.coords ⟨i.val / 256, ht⟩) (ix2 ⟨i.val % 256, by omega⟩ k) = ix2 ⟨i.val % 256, by omega⟩ k := by
    funext a; apply Fin.ext
    match a with
    | ⟨0, _⟩ => rfl
    | ⟨1, _⟩ => rfl
  have hl : (dats m 0 c).arrAt 21 cfg0.N (((cfg0.win 21).blk ⟨i.val / 256, ht⟩).view.emb (ix2 ⟨i.val % 256, by omega⟩ k))
      = (outsAt0 m c (i.val / 256) ht).2.2.2.2.2.2.2.2.1 ((cfg0.win 21).xinj (grid0.coords ⟨i.val / 256, ht⟩) (ix2 ⟨i.val % 256, by omega⟩ k)) := hb
  rw [hi, hx] at hl
  refine hl.trans ((t21 m c ⟨i.val / 256, ht⟩ _ k).trans (congrArg (fun r => prjK m c r ⟨5248 + k.val, by omega⟩) ?_))
  dsimp only; omega

theorem idx22 : ∀ t : Fin cfg0.N, win0_22.index t (0 : Fin 2) = t.val ∧ win0_22.index t (1 : Fin 2) = 0 :=
  (by decide +kernel : ∀ t : Fin grid0.N, _)
theorem flush22 : ∀ t : Fin cfg0.N, (cfg0.win 22).flush t = true :=
  (by decide +kernel : ∀ t : Fin grid0.N, _)

/-- The result: the scan's steps. -/
theorem f22 (i : Fin 16384) (k : Fin 128) : (dats m 0 c).arrAt 22 cfg0.N (ix2 i k) = prjK m c i.val ⟨6784 + k.val, by omega⟩ := by
  have ht : i.val / 256 < cfg0.N := by rw [show cfg0.N = 64 from N_0]; omega
  have hb := congrFun (Value.blocks22 m c ⟨i.val / 256, ht⟩ (flush22 _)) (ix2 ⟨i.val % 256, by omega⟩ k)
  rw [Value.flushed22] at hb
  obtain ⟨e0, e1⟩ := idx22 ⟨i.val / 256, ht⟩
  have hi : ((cfg0.win 22).blk ⟨i.val / 256, ht⟩).view.emb (ix2 ⟨i.val % 256, by omega⟩ k) = ix2 i k := by
    funext a; apply Fin.ext
    match a with
    | ⟨0, _⟩ => show win0_22.index ⟨i.val / 256, ht⟩ (0 : Fin 2) * 256 + 1 * (i.val % 256) = i.val; rw [e0]; dsimp only; omega
    | ⟨1, _⟩ => show win0_22.index ⟨i.val / 256, ht⟩ (1 : Fin 2) * 128 + 1 * k.val = k.val; rw [e1]; omega
  have hx : (cfg0.win 22).xinj (grid0.coords ⟨i.val / 256, ht⟩) (ix2 ⟨i.val % 256, by omega⟩ k) = ix2 ⟨i.val % 256, by omega⟩ k := by
    funext a; apply Fin.ext
    match a with
    | ⟨0, _⟩ => rfl
    | ⟨1, _⟩ => rfl
  have hl : (dats m 0 c).arrAt 22 cfg0.N (((cfg0.win 22).blk ⟨i.val / 256, ht⟩).view.emb (ix2 ⟨i.val % 256, by omega⟩ k))
      = (outsAt0 m c (i.val / 256) ht).2.2.2.2.2.2.2.2.2.1 ((cfg0.win 22).xinj (grid0.coords ⟨i.val / 256, ht⟩) (ix2 ⟨i.val % 256, by omega⟩ k)) := hb
  rw [hi, hx] at hl
  refine hl.trans ((t22 m c ⟨i.val / 256, ht⟩ _ k).trans (congrArg (fun r => prjK m c r ⟨6784 + k.val, by omega⟩) ?_))
  dsimp only; omega

end Cert.PFinal

end
-- ==== Proof.Proj.Ref.lean ====
/-
  THE PROJECTION'S REFERENCE, read at an index: each result is the specification's function of the arguments.
-/
module

public import proofs.«01_k».proof.Proof.Gen.Reference2Ideal.Read
public import proofs.«01_k».proof.Proof.Proj.Args

@[expose] public section

set_option maxRecDepth 16384

noncomputable section

namespace Cert.PRef

open Idealize.ShloMosaic Idealize.SL.Sem
open Cert.Reference2Ideal Cert.Reference2Ideal.Gen Cert.Reference2Ideal.Read Cert.Proj Cert.Ssd

variable (x0 : Vec Ideal S16384x1024 .f32) (x1 : Vec Ideal S1024 .f32) (x2 : Vec Ideal S1024x6912 .bf16) (x3 : Vec Ideal S8x1x3200 .f32)
  (x4 : Vec Ideal S3200 .f32) (x5 : Vec Ideal S1024 .f32) (x6 : Vec Ideal S64x1024 .f32) (x7 : Vec Ideal S1024 .f32)
  (x8 : Vec Ideal S64x1024 .f32) (x9 x10 : Vec Ideal S1024 .f32)

/-! ## The normalised rows, their projection, and the mix with the row before -/

theorem rowsA_at (i : Fin 16384) (d : Fin 1024) : rowsA x0 i.val d = x0 (ix2 i d) := dif_pos i.isLt

theorem v12_at (i : Fin 16384) (d : Fin 1024) : val_main_v12 (F := Ideal) x0 x1 (ix2 i d) = xn (rowsA x0) (vecA x1) i.val d := by
  unfold xn
  simp only [rowsA_at]
  pointwise [val_main_v12, val_main_v11, val_main_v10, val_main_v9, val_main_v8, val_main_v7, val_main_v6, val_main_v5, val_main_v4, val_main_v3, val_main_v2, val_main_v1, val_main_v0, val_main_cst, val_main_cst_0, val_main_cst_1]

theorem v14_at (i : Fin 16384) (q : Fin 6912) : val_main_v14 (F := Ideal) x0 x1 x2 (ix2 i q) = prj x0 x1 x2 i.val q := by
  show _ = ∑ d : Fin 1024, xn (rowsA x0) (vecA x1) i.val d * x2 (ix2 d q)
  refine (val_main_v14_apply _ _ _ _).trans (Finset.sum_congr rfl fun d _ => congrArg₂ (fun a b : EReal => a * b) ?_ ?_)
  · exact (congrArg (val_main_v12 (F := Ideal) x0 x1) (funext fun a => by fin_cases a <;> rfl)).trans (v12_at x0 x1 i d)
  · pointwise [val_main_v13]
    exact congrArg x2 (funext fun a => by fin_cases a <;> rfl)

theorem v16_at (b : Fin 8) (r : Fin 2048) (q : Fin 3200) :
    val_main_v16 (F := Ideal) x0 x1 x2 (ix3 b r q) = prj x0 x1 x2 (2048 * b.val + r.val) ⟨q.val, by omega⟩ := by
  pointwise [val_main_v16, val_main_v15]
  rw [v14_at]
  exact congrArg₂ (prj x0 x1 x2) (by dsimp only; omega) (Fin.ext rfl)

theorem v18_at (b : Fin 8) (r : Fin 2048) (q : Fin 3200) :
    val_main_v18 (F := Ideal) x0 x1 x2 x3 (ix3 b r q) = bef x0 x1 x2 x3 (2048 * b.val + r.val) q := by
  pointwise [val_main_v18, val_main_v17]
  by_cases h : r.val < 1
  · rw [dif_pos h, bef_first _ _ _ _ _ _ (by omega)]
    refine Eq.trans ?_ (dif_pos (show (2048 * b.val + r.val) / 2048 < 8 by omega)).symm
    exact congrArg x3 (funext fun a => Fin.ext (by match a with
      | ⟨0, _⟩ => show b.val = (2048 * b.val + r.val) / 2048; omega
      | ⟨1, _⟩ => show r.val = 0; omega
      | ⟨2, _⟩ => rfl))
  · rw [dif_neg h, bef_later _ _ _ _ _ _ (by omega)]
    refine (congrArg (val_main_v16 (F := Ideal) x0 x1 x2) ?_).trans ((v16_at x0 x1 x2 b ⟨r.val - 1, by omega⟩ q).trans ?_)
    · funext a; apply Fin.ext
      match a with
      | ⟨0, _⟩ => rfl
      | ⟨1, _⟩ => rfl
      | ⟨2, _⟩ => rfl
    · exact congrArg (fun n => prj x0 x1 x2 n ⟨q.val, by omega⟩) (by dsimp only; omega)

/-- The mixed rows. -/
theorem v24_at (i : Fin 16384) (q : Fin 3200) : val_main_v24 (F := Ideal) x0 x1 x2 x3 x4 (ix2 i q) = mxd x0 x1 x2 x3 x4 i.val q := by
  rw [mxd_eq]
  pointwise [val_main_v24, val_main_v23, val_main_v22, val_main_v21, val_main_v20, val_main_v19]
  have e : 2048 * (i.val / 2048) + i.val % 2048 = i.val := by omega
  simp only [v16_at, v18_at, e]

/-! ## The operands of the recurrence -/

theorem v31_at (i : Fin 16384) (k : Fin 1024) : val_main_v31 (F := Ideal) x0 x1 x2 x3 x4 x6 (ix2 i k)
    = ∑ q : Fin 64, Ideal.tanh (mxd x0 x1 x2 x3 x4 i.val ⟨3072 + q.val, by omega⟩) * x6 (ix2 q k) := by
  refine (val_main_v31_apply _ _ _ _ _ _ _).trans (Finset.sum_congr rfl fun q _ => congrArg₂ (fun a b : EReal => a * b) ?_ ?_)
  · pointwise [val_main_v30, val_main_v28]
    rw [← v24_at]
  · exact congrArg x6 (funext fun a => by fin_cases a <;> rfl)

theorem v48_at (i : Fin 16384) (k : Fin 1024) : val_main_v48 (F := Ideal) x0 x1 x2 x3 x4 x8 (ix2 i k)
    = ∑ q : Fin 64, mxd x0 x1 x2 x3 x4 i.val ⟨3136 + q.val, by omega⟩ * x8 (ix2 q k) := by
  refine (val_main_v48_apply _ _ _ _ _ _ _).trans (Finset.sum_congr rfl fun q _ => congrArg₂ (fun a b : EReal => a * b) ?_ ?_)
  · pointwise [val_main_v29]
    rw [← v24_at]
  · exact congrArg x8 (funext fun a => by fin_cases a <;> rfl)

/-- The log decays. -/
theorem v47_at (i : Fin 16384) (k : Fin 1024) : val_main_v47 (F := Ideal) x0 x1 x2 x3 x4 x5 x6 (ix2 i k)
    = ld (mxd x0 x1 x2 x3 x4) (vecA x5) (matA x6) i.val k := by
  unfold ld logDecay softplus
  simp only [vecA, matA, ← v31_at]
  pointwise [val_main_v47, val_main_v46, val_main_v45, val_main_v44, val_main_v43, val_main_v42, val_main_v41, val_main_v40, val_main_v39, val_main_v38, val_main_v37, val_main_v36, val_main_v35, val_main_v34, val_main_v33, val_main_v32, val_main_cst_2, val_main_cst_3]
  rfl

/-- The learning rates. -/
theorem v57_at (i : Fin 16384) (k : Fin 1024) : val_main_v57 (F := Ideal) x0 x1 x2 x3 x4 x7 x8 (ix2 i k)
    = rate (mxd x0 x1 x2 x3 x4) (vecA x7) (matA x8) i.val k := by
  unfold rate sigm
  simp only [vecA, matA, ← v48_at]
  pointwise [val_main_v57, val_main_v56, val_main_v55, val_main_v54, val_main_v53, val_main_v52, val_main_v51, val_main_v50, val_main_v49, val_main_cst_4, val_main_cst_5]

theorem v60_at (i : Fin 16384) (k : Fin 1024) : val_main_v60 (F := Ideal) x0 x1 x2 x3 x4 x9 (ix2 i k)
    = kk (mxd x0 x1 x2 x3 x4) (vecA x9) i.val k := by
  unfold kk
  rw [← v24_at]
  pointwise [val_main_v60, val_main_v59, val_main_v58, val_main_v26]

theorem v61_at (i : Fin 16384) (h : Fin 16) (p : Fin 64) (k : Fin 1024) (e : k.val = h.val * 64 + p.val) :
    val_main_v61 (F := Ideal) x0 x1 x2 x3 x4 x9 (ix3 i h p) = kk (mxd x0 x1 x2 x3 x4) (vecA x9) i.val k := by
  pointwise [val_main_v61]
  rw [v60_at]
  exact congrArg₂ (kk (mxd x0 x1 x2 x3 x4) (vecA x9)) rfl (Fin.ext e.symm)

/-- The normalised removal keys. -/
theorem v70_at (i : Fin 16384) (k : Fin 1024) : val_main_v70 (F := Ideal) x0 x1 x2 x3 x4 x9 (ix2 i k)
    = kap (mxd x0 x1 x2 x3 x4) (vecA x9) i.val k := by
  unfold kap headSq
  pointwise [val_main_v70, val_main_v69, val_main_v68, val_main_v67, val_main_v66, val_main_v65, val_main_v64, val_main_v63, val_main_v62, val_main_cst_6, val_main_cst_7]
  have e1 : val_main_v61 (F := Ideal) x0 x1 x2 x3 x4 x9 (ix3 i ⟨k.val / 64, by omega⟩ ⟨k.val % 64, by omega⟩)
      = kk (mxd x0 x1 x2 x3 x4) (vecA x9) i.val k := v61_at _ _ _ _ _ _ _ _ _ _ (by dsimp only; omega)
  have e2 (q : Fin 64) : val_main_v61 (F := Ideal) x0 x1 x2 x3 x4 x9 (ix3 i ⟨k.val / 64, by omega⟩ q)
      = kk (mxd x0 x1 x2 x3 x4) (vecA x9) i.val ⟨64 * (k.val / 64) + q.val, by omega⟩ := v61_at _ _ _ _ _ _ _ _ _ _ (by dsimp only; omega)
  rw [e1]
  simp only [e2]

/-- The keys. -/
theorem v78_at (i : Fin 16384) (k : Fin 1024) : val_main_v78 (F := Ideal) x0 x1 x2 x3 x4 x7 x8 x10 (ix2 i k)
    = key (mxd x0 x1 x2 x3 x4) (vecA x7) (matA x8) (vecA x10) i.val k := by
  unfold key
  rw [← v24_at, ← v57_at]
  pointwise [val_main_v78, val_main_v77, val_main_v76, val_main_v75, val_main_v74, val_main_v73, val_main_v72, val_main_v71, val_main_v26, val_main_cst_8, val_main_cst_9]

/-! ## The sums since a chunk began -/

/-- A window of 64 ending at `r` sums the entries up to `r`. -/
theorem window_sum64 (r : Fin 64) (f : Fin 64 → EReal) :
    (∑ w : Fin 64, if h : 63 ≤ r.val + w.val then f ⟨r.val + w.val - 63, by omega⟩ else 0)
      = ∑ s : Fin 64, if s.val ≤ r.val then f s else 0 := by
  refine Finset.sum_bij_ne_zero (fun w _ _ => ⟨(r.val + w.val - 63) % 64, by omega⟩) (fun _ _ _ => Finset.mem_univ _) ?_ ?_ ?_
  · intro a _ ha b _ hb e
    have h1 : 63 ≤ r.val + a.val := by by_contra h; exact ha (dif_neg h)
    have h2 : 63 ≤ r.val + b.val := by by_contra h; exact hb (dif_neg h)
    have := Fin.mk.inj e
    apply Fin.ext; omega
  · intro s _ hs
    have h1 : s.val ≤ r.val := by by_contra h; exact hs (if_neg h)
    refine ⟨⟨s.val + 63 - r.val, by omega⟩, Finset.mem_univ _, ?_, Fin.ext (by dsimp only; omega)⟩
    rw [dif_pos (by dsimp only; omega)]
    rw [if_pos h1] at hs
    refine fun h => hs (Eq.trans (congrArg f (Fin.ext ?_)) h)
    dsimp only; omega
  · intro w _ hw
    have h1 : 63 ≤ r.val + w.val := by by_contra h; exact hw (dif_neg h)
    rw [dif_pos h1, if_pos (by show (r.val + w.val - 63) % 64 ≤ r.val; omega)]
    exact congrArg f (Fin.ext (by dsimp only; omega))

theorem v80_raw (z : Fin 256) (r : Fin 64) (k : Fin 1024) : val_main_v80 (F := Ideal) x0 x1 x2 x3 x4 x5 x6 (ix3 z r k)
    = ∑ s : Fin 64, if s.val ≤ r.val then val_main_v79 (F := Ideal) x0 x1 x2 x3 x4 x5 x6 (ix3 z s k) else 0 := by
  unfold val_main_v80
  generalize val_main_v79 (F := Ideal) x0 x1 x2 x3 x4 x5 x6 = y
  have h0 : val_main_call0_call0_v0 (F := Ideal) (Shape.Idx.first h_S_) = (0 : EReal) := by
    rw [val_main_call0_call0_v0_apply, val_main_call0_call0_cst_apply]; exact Ideal.ofBits_zero _
  unfold Host.reduceWindowAdd
  rw [h0]
  show Host.reduceWindow (fun a b : EReal => a + b) ![1, 64, 1] ![1, 1, 1] ![0, 63, 0] ![0, 0, 0] y
    (fun _ : (⟨0, ![]⟩ : Shape).Idx => (0 : EReal)) reduceWindows_S256x64x1024_S256x64x1024_w1s1p0_0_w64s1p63_0_w1s1p0_0
    (by decide) (ix3 z r k) = _
  unfold Host.reduceWindow
  refine (Cert.RVal.foldl_add _ _).trans ?_
  rw [zero_add]
  refine Eq.trans ?_ (window_sum64 r fun s => y (ix3 z s k))
  let e : Fin (⟨3, ![1, 64, 1]⟩ : Shape).numel ≃ Fin 64 :=
    (⟨3, ![1, 64, 1]⟩ : Shape).rowMajor.symm.trans ⟨fun i => i 1, fun w => ix3 (0 : Fin 1) w (0 : Fin 1), fun i => by
      funext a; apply Fin.ext
      match a with
      | ⟨0, _⟩ => have : (i 0).val < 1 := (i 0).isLt; show 0 = (i 0).val; omega
      | ⟨1, _⟩ => rfl
      | ⟨2, _⟩ => have : (i 2).val < 1 := (i 2).isLt; show 0 = (i 2).val; omega, fun w => rfl⟩
  refine Fintype.sum_equiv e _ _ fun n => ?_
  have he : e n = (⟨3, ![1, 64, 1]⟩ : Shape).rowMajor.symm n 1 := rfl
  have i0 : ((⟨3, ![1, 64, 1]⟩ : Shape).rowMajor.symm n 0).val < 1 := ((⟨3, ![1, 64, 1]⟩ : Shape).rowMajor.symm n 0).isLt
  have i1 : ((⟨3, ![1, 64, 1]⟩ : Shape).rowMajor.symm n 1).val < 64 := ((⟨3, ![1, 64, 1]⟩ : Shape).rowMajor.symm n 1).isLt
  have i2 : ((⟨3, ![1, 64, 1]⟩ : Shape).rowMajor.symm n 2).val < 1 := ((⟨3, ![1, 64, 1]⟩ : Shape).rowMajor.symm n 2).isLt
  rw [he]
  by_cases hh : 63 ≤ r.val + ((⟨3, ![1, 64, 1]⟩ : Shape).rowMajor.symm n 1).val
  · rw [dif_pos hh, dif_pos]
    · refine congrArg y (funext fun a => Fin.ext ?_)
      match a with
      | ⟨0, _⟩ => show z.val * 1 + ((⟨3, ![1, 64, 1]⟩ : Shape).rowMajor.symm n 0).val - 0 = z.val; omega
      | ⟨1, _⟩ => show r.val * 1 + ((⟨3, ![1, 64, 1]⟩ : Shape).rowMajor.symm n 1).val - 63 = r.val + ((⟨3, ![1, 64, 1]⟩ : Shape).rowMajor.symm n 1).val - 63; omega
      | ⟨2, _⟩ => show k.val * 1 + ((⟨3, ![1, 64, 1]⟩ : Shape).rowMajor.symm n 2).val - 0 = k.val; omega
    · intro a
      match a with
      | ⟨0, _⟩ => show 0 ≤ z.val * 1 + ((⟨3, ![1, 64, 1]⟩ : Shape).rowMajor.symm n 0).val ∧ z.val * 1 + ((⟨3, ![1, 64, 1]⟩ : Shape).rowMajor.symm n 0).val - 0 < 256; omega
      | ⟨1, _⟩ => show 63 ≤ r.val * 1 + ((⟨3, ![1, 64, 1]⟩ : Shape).rowMajor.symm n 1).val ∧ r.val * 1 + ((⟨3, ![1, 64, 1]⟩ : Shape).rowMajor.symm n 1).val - 63 < 64; omega
      | ⟨2, _⟩ => show 0 ≤ k.val * 1 + ((⟨3, ![1, 64, 1]⟩ : Shape).rowMajor.symm n 2).val ∧ k.val * 1 + ((⟨3, ![1, 64, 1]⟩ : Shape).rowMajor.symm n 2).val - 0 < 1024; omega
  · rw [dif_neg hh, dif_neg]
    intro h
    have : 63 ≤ r.val * 1 + ((⟨3, ![1, 64, 1]⟩ : Shape).rowMajor.symm n 1).val ∧ _ := h 1
    omega

theorem v79_at (z : Fin 256) (r : Fin 64) (k : Fin 1024) : val_main_v79 (F := Ideal) x0 x1 x2 x3 x4 x5 x6 (ix3 z r k)
    = ld (mxd x0 x1 x2 x3 x4) (vecA x5) (matA x6) (64 * z.val + r.val) k := by
  pointwise [val_main_v79]
  rw [v47_at]
  exact congrArg (fun n => ld (mxd x0 x1 x2 x3 x4) (vecA x5) (matA x6) n k) (by dsimp only; omega)

theorem v80_at (z : Fin 256) (r : Fin 64) (k : Fin 1024) : val_main_v80 (F := Ideal) x0 x1 x2 x3 x4 x5 x6 (ix3 z r k)
    = since (mxd x0 x1 x2 x3 x4) (vecA x5) (matA x6) (64 * z.val + r.val) k := by
  rw [v80_raw]
  unfold since
  refine Finset.sum_congr rfl fun s _ => if_congr (by omega) ((v79_at x0 x1 x2 x3 x4 x5 x6 z s k).trans ?_) rfl
  exact congrArg (fun n => ld (mxd x0 x1 x2 x3 x4) (vecA x5) (matA x6) n k) (by omega)

/-- The log decays since the chunk began. -/
theorem v81_at (i : Fin 16384) (k : Fin 1024) : val_main_v81 (F := Ideal) x0 x1 x2 x3 x4 x5 x6 (ix2 i k)
    = since (mxd x0 x1 x2 x3 x4) (vecA x5) (matA x6) i.val k := by
  pointwise [val_main_v81]
  rw [v80_at]
  exact congrArg (fun n => since (mxd x0 x1 x2 x3 x4) (vecA x5) (matA x6) n k) (by dsimp only; omega)

/-! ## The results -/

/-- The removal keys. -/
theorem r84_at (i : Fin 16384) (k : Fin 1024) : val_main_v84 (F := Ideal) x0 x1 x2 x3 x4 x5 x6 x9 (ix2 i k)
    = oA (mxd x0 x1 x2 x3 x4) (vecA x5) (matA x6) (vecA x9) i.val k := by
  unfold oA
  rw [← v70_at, ← v81_at, ← v47_at]
  pointwise [val_main_v84, val_main_v83, val_main_v82]

/-- The removal's write keys. -/
theorem r88_at (i : Fin 16384) (k : Fin 1024) : val_main_v88 (F := Ideal) x0 x1 x2 x3 x4 x5 x6 x7 x8 x9 (ix2 i k)
    = oB (mxd x0 x1 x2 x3 x4) (vecA x5) (matA x6) (vecA x7) (matA x8) (vecA x9) i.val k := by
  unfold oB
  rw [← v70_at, ← v81_at, ← v57_at]
  pointwise [val_main_v88, val_main_v87, val_main_v86, val_main_v85]

/-- The keys. -/
theorem r91_at (i : Fin 16384) (k : Fin 1024) : val_main_v91 (F := Ideal) x0 x1 x2 x3 x4 x5 x6 x7 x8 x10 (ix2 i k)
    = oC (mxd x0 x1 x2 x3 x4) (vecA x5) (matA x6) (vecA x7) (matA x8) (vecA x10) i.val k := by
  unfold oC
  rw [← v78_at, ← v81_at]
  pointwise [val_main_v91, val_main_v90, val_main_v89]

/-- The receptances. -/
theorem r93_at (i : Fin 16384) (k : Fin 1024) : val_main_v93 (F := Ideal) x0 x1 x2 x3 x4 x5 x6 (ix2 i k)
    = oD (mxd x0 x1 x2 x3 x4) (vecA x5) (matA x6) i.val k := by
  unfold oD
  rw [← v24_at, ← v81_at]
  pointwise [val_main_v93, val_main_v92, val_main_v25]

/-- The values. -/
theorem r27_at (i : Fin 16384) (k : Fin 1024) : val_main_v27 (F := Ideal) x0 x1 x2 x3 x4 (ix2 i k)
    = mxd x0 x1 x2 x3 x4 i.val ⟨2048 + k.val, by omega⟩ := by
  rw [← v24_at]
  pointwise [val_main_v27]

/-- The chunks' decays. -/
theorem r95_at (i : Fin 256) (k : Fin 1024) : val_main_v95 (F := Ideal) x0 x1 x2 x3 x4 x5 x6 (ix3 i 0 k)
    = Ideal.exp (since (mxd x0 x1 x2 x3 x4) (vecA x5) (matA x6) (64 * i.val + 63) k) := by
  refine Eq.trans ?_ (congrArg Ideal.exp (v80_at x0 x1 x2 x3 x4 x5 x6 i 63 k))
  pointwise [val_main_v95, val_main_v94]

/-- The first gate's columns. -/
theorem r96_at (i : Fin 16384) (k : Fin 1024) : val_main_v96 (F := Ideal) x0 x1 x2 (ix2 i k) = prj x0 x1 x2 i.val ⟨3200 + k.val, by omega⟩ := by
  rw [← v14_at]
  pointwise [val_main_v96]

/-- The second gate's columns. -/
theorem r97_at (i : Fin 16384) (k : Fin 1024) : val_main_v97 (F := Ideal) x0 x1 x2 (ix2 i k) = prj x0 x1 x2 i.val ⟨4224 + k.val, by omega⟩ := by
  rw [← v14_at]
  pointwise [val_main_v97]

/-- The scan's columns. -/
theorem r98_at (i : Fin 16384) (k : Fin 1536) : val_main_v98 (F := Ideal) x0 x1 x2 (ix2 i k) = prj x0 x1 x2 i.val ⟨5248 + k.val, by omega⟩ := by
  rw [← v14_at]
  pointwise [val_main_v98]

/-- The scan's steps. -/
theorem r99_at (i : Fin 16384) (k : Fin 128) : val_main_v99 (F := Ideal) x0 x1 x2 (ix2 i k) = prj x0 x1 x2 i.val ⟨6784 + k.val, by omega⟩ := by
  rw [← v14_at]
  pointwise [val_main_v99]

end Cert.PRef

end
-- ==== Proof.Proj.Claim.lean ====
/-
  THE CLAIMS of the input projection: the frames, and the equality of the kernel's ten results with the reference's where the
  arguments the removal key is made of are finite.
-/
module

public import proofs.«01_k».proof.Defs
public import proofs.«01_k».proof.Proof.Proj.DevFrame
public import proofs.«01_k».proof.Proof.Gen.Reference2Ideal.Run
public import proofs.«01_k».proof.Proof.Proj.Final
public import proofs.«01_k».proof.Proof.Proj.Ref
public import Idealize.ShloMosaic.Lib.ReduceAll
public import Idealize.ShloMosaic.Adequacy
public import Idealize.ShloMosaic.Init

@[expose] public section

set_option maxRecDepth 16384

noncomputable section

namespace Cert.ProjClaims

open Idealize.ShloMosaic Idealize.ShloMosaic.TcCoe Idealize.SL.Sem Idealize.ShloMosaic.StableHlo Cert.Proj

/-- The side conditions that the precondition's operations state. -/
instance preFacts : Cert.Pre_finite_keys.Facts where
  h_S_ := by decide
  bcast_S_S1024 := by decide
  reducesTo_S1024_S_d0 := by decide
  bitsLt_bf16_f32 := by decide
  slices_S1024x6912_S1024x1024_0_1024 := by decide
  bcast_S_S1024x1024 := by decide
  reducesTo_S1024x1024_S_d0_1 := by decide
  slices_S8x1x3200_S8x1x1024_0_0_1024 := by decide
  bcast_S_S8x1x1024 := by decide
  reducesTo_S8x1x1024_S_d0_1_2 := by decide
  slices_S3200_S1024_1024 := by decide

/-- The device's frame. -/
theorem frame_p : Cert.quiescent_Kernel2 := fun m ρ _ => Cert.Kernel2.Gen.frame m ρ
/-- The idealized kernel's frame. -/
theorem frame_pi : Cert.quiescent_Kernel2Ideal := fun m ρ _ => Cert.Kernel2Ideal.Gen.frame m ρ
/-- The same under the precondition. -/
theorem frame_pi_pre : Cert.quiescent_Kernel2Ideal_pre_finite_keys := fun m ρ _ => Cert.Kernel2Ideal.Gen.frame m ρ
/-- The reference's frame: its generated run keeps the arguments, and it has no semaphore. -/
theorem frame_ri : Cert.quiescent_Reference2Ideal := fun m ρ _ =>
  (θ_run Cert.Reference2Ideal.defs _ _).mono (fun r h => ⟨fun c => (h c).2.2.2.2.2.2.2.2.2.2,
      Idealize.ShloMosaic.sem_eq_zero_of_no_sems (by decide) r.2⟩)
    (Cert.Reference2Ideal.Value.run (F := Ideal) m ρ)
/-- The same under the precondition. -/
theorem frame_ri_pre : Cert.quiescent_Reference2Ideal_pre_finite_keys := fun m ρ _ => frame_ri m ρ trivial

/-- No operation was replaced. -/
theorem preserves : Cert.preserves_Kernel2_Kernel2Ideal := trivial

/-- Two bits whose conjunction is one are one. -/
theorem both_one {s : Shape} (a b : IVec s 1) (i : s.Idx) (h : andi a b i = 1#1) : a i = 1#1 ∧ b i = 1#1 :=
  (by decide : ∀ a b : BitVec 1, IntOp.andi a b = 1#1 → a = 1#1 ∧ b = 1#1) (a i) (b i) h

/-- A value whose magnitude is below a bound is real. -/
theorem real_of_lt {x y : EReal} (h : BitVec.ofBool (decide (max x (-x) < y)) = 1#1) : IsReal x := by
  have h2 : max x (-x) < y := by
    by_contra hc; rw [decide_eq_false hc] at h; exact absurd h (by decide)
  exact isReal_of_abs (lt_of_lt_of_le h2 le_top)

/-- Where the precondition holds, what the removal key is made of is finite. -/
theorem real_of_pre (x0 : Vec Ideal ⟨2, ![16384, 1024]⟩ .f32) (x1 : Vec Ideal ⟨1, ![1024]⟩ .f32) (x2 : Vec Ideal ⟨2, ![1024, 6912]⟩ .bf16) (x3 : Vec Ideal ⟨3, ![8, 1, 3200]⟩ .f32) (x4 : Vec Ideal ⟨1, ![3200]⟩ .f32) (x5 : Vec Ideal ⟨1, ![1024]⟩ .f32) (x6 : Vec Ideal ⟨2, ![64, 1024]⟩ .f32) (x7 : Vec Ideal ⟨1, ![1024]⟩ .f32) (x8 : Vec Ideal ⟨2, ![64, 1024]⟩ .f32) (x9 : Vec Ideal ⟨1, ![1024]⟩ .f32) (x10 : Vec Ideal ⟨1, ![1024]⟩ .f32)
    (h : Cert.Pre_finite_keys.fn (F := Ideal) x0 x1 x2 x3 x4 x5 x6 x7 x8 x9 x10 = fun _ => 1#1) : KeysReal x1 x2 x3 x4 x9 := by
  have h0 := congrFun h ix0
  dsimp only [Cert.Pre_finite_keys.fn, Cert.Pre_finite_keys.fn_part1] at h0
  haveI : Subsingleton Cert.Pre_finite_keys.S_.Idx := ⟨fun a b => funext fun q => q.elim0⟩
  obtain ⟨h0, g9⟩ := both_one _ _ _ h0
  obtain ⟨h0, g4⟩ := both_one _ _ _ h0
  obtain ⟨h0, g3⟩ := both_one _ _ _ h0
  obtain ⟨g1, g2⟩ := both_one _ _ _ h0
  refine ⟨fun i => ?_, fun d k => ?_, fun s k => ?_, fun k => ?_, fun i => ?_⟩
  · obtain ⟨k, rfl⟩ : ∃ k : Fin 1024, i = ix1 k := ⟨i 0, by funext a; fin_cases a; rfl⟩
    have h1 := Host.reduce_andi_all _ _ _ _ _ g1 (ix1 k)
    pointwise [] at h1
    exact real_of_lt h1
  · have h1 := Host.reduce_andi_all _ _ _ _ _ g2 (ix2 d k)
    pointwise [] at h1
    exact real_of_lt h1
  · have h1 := Host.reduce_andi_all _ _ _ _ _ g3 (ix3 s 0 k)
    pointwise [] at h1
    exact real_of_lt h1
  · have h1 := Host.reduce_andi_all _ _ _ _ _ g4 (ix1 k)
    pointwise [] at h1
    exact real_of_lt h1
  · obtain ⟨k, rfl⟩ : ∃ k : Fin 1024, i = ix1 k := ⟨i 0, by funext a; fin_cases a; rfl⟩
    have h1 := Host.reduce_andi_all _ _ _ _ _ g9 (ix1 k)
    pointwise [] at h1
    exact real_of_lt h1

section Results

variable (m : (ℓ : Loc Cert.Kernel2Ideal.nD Cert.Kernel2Ideal.τ Cert.Kernel2Ideal.sig) → Buf (Elt Ideal) ℓ) (c : Dev Cert.Kernel2Ideal.nD)
  (hK : Cert.PTile.KeysRealK m c)
  (x0 : Vec Ideal ⟨2, ![16384, 1024]⟩ .f32)
  (x1 : Vec Ideal ⟨1, ![1024]⟩ .f32)
  (x2 : Vec Ideal ⟨2, ![1024, 6912]⟩ .bf16)
  (x3 : Vec Ideal ⟨3, ![8, 1, 3200]⟩ .f32)
  (x4 : Vec Ideal ⟨1, ![3200]⟩ .f32)
  (x5 : Vec Ideal ⟨1, ![1024]⟩ .f32)
  (x6 : Vec Ideal ⟨2, ![64, 1024]⟩ .f32)
  (x7 : Vec Ideal ⟨1, ![1024]⟩ .f32)
  (x8 : Vec Ideal ⟨2, ![64, 1024]⟩ .f32)
  (x9 : Vec Ideal ⟨1, ![1024]⟩ .f32)
  (x10 : Vec Ideal ⟨1, ![1024]⟩ .f32)
  (e0 : x0 = m ((c.tc : Thread Cert.Kernel2Ideal.nD Cert.Kernel2Ideal.τ).loc Cert.Kernel2Ideal.main_arg0))
  (e1 : x1 = m ((c.tc : Thread Cert.Kernel2Ideal.nD Cert.Kernel2Ideal.τ).loc Cert.Kernel2Ideal.main_arg1))
  (e2 : x2 = m ((c.tc : Thread Cert.Kernel2Ideal.nD Cert.Kernel2Ideal.τ).loc Cert.Kernel2Ideal.main_arg2))
  (e3 : x3 = m ((c.tc : Thread Cert.Kernel2Ideal.nD Cert.Kernel2Ideal.τ).loc Cert.Kernel2Ideal.main_arg3))
  (e4 : x4 = m ((c.tc : Thread Cert.Kernel2Ideal.nD Cert.Kernel2Ideal.τ).loc Cert.Kernel2Ideal.main_arg4))
  (e5 : x5 = m ((c.tc : Thread Cert.Kernel2Ideal.nD Cert.Kernel2Ideal.τ).loc Cert.Kernel2Ideal.main_arg5))
  (e6 : x6 = m ((c.tc : Thread Cert.Kernel2Ideal.nD Cert.Kernel2Ideal.τ).loc Cert.Kernel2Ideal.main_arg6))
  (e7 : x7 = m ((c.tc : Thread Cert.Kernel2Ideal.nD Cert.Kernel2Ideal.τ).loc Cert.Kernel2Ideal.main_arg7))
  (e8 : x8 = m ((c.tc : Thread Cert.Kernel2Ideal.nD Cert.Kernel2Ideal.τ).loc Cert.Kernel2Ideal.main_arg8))
  (e9 : x9 = m ((c.tc : Thread Cert.Kernel2Ideal.nD Cert.Kernel2Ideal.τ).loc Cert.Kernel2Ideal.main_arg9))
  (e10 : x10 = m ((c.tc : Thread Cert.Kernel2Ideal.nD Cert.Kernel2Ideal.τ).loc Cert.Kernel2Ideal.main_arg10))

include hK e0 e1 e2 e3 e4 e5 e6 e9 in
/-- The removal keys agree. -/
theorem res13 : Cert.Reference2Ideal.Read.val_main_v84 (F := Ideal) x0 x1 x2 x3 x4 x5 x6 x9
    = (Cert.Kernel2Ideal.Gen.dats m 0 c).arrAt 13 Cert.Kernel2Ideal.cfg0.N := by
  subst e0 e1 e2 e3 e4 e5 e6 e9
  funext i
  obtain ⟨r, k, rfl⟩ : ∃ (r : Fin 16384) (k : Fin 1024), i = ix2 r k := ⟨i 0, i 1, by funext a; fin_cases a <;> rfl⟩
  exact (Cert.PRef.r84_at _ _ _ _ _ _ _ _ r k).trans (Cert.PFinal.f13 m c hK r k).symm

include hK e0 e1 e2 e3 e4 e5 e6 e7 e8 e9 in
/-- The removal's write keys agree. -/
theorem res14 : Cert.Reference2Ideal.Read.val_main_v88 (F := Ideal) x0 x1 x2 x3 x4 x5 x6 x7 x8 x9
    = (Cert.Kernel2Ideal.Gen.dats m 0 c).arrAt 14 Cert.Kernel2Ideal.cfg0.N := by
  subst e0 e1 e2 e3 e4 e5 e6 e7 e8 e9
  funext i
  obtain ⟨r, k, rfl⟩ : ∃ (r : Fin 16384) (k : Fin 1024), i = ix2 r k := ⟨i 0, i 1, by funext a; fin_cases a <;> rfl⟩
  exact (Cert.PRef.r88_at _ _ _ _ _ _ _ _ _ _ r k).trans (Cert.PFinal.f14 m c hK r k).symm

include e0 e1 e2 e3 e4 e5 e6 e7 e8 e10 in
/-- The keys agree. -/
theorem res15 : Cert.Reference2Ideal.Read.val_main_v91 (F := Ideal) x0 x1 x2 x3 x4 x5 x6 x7 x8 x10
    = (Cert.Kernel2Ideal.Gen.dats m 0 c).arrAt 15 Cert.Kernel2Ideal.cfg0.N := by
  subst e0 e1 e2 e3 e4 e5 e6 e7 e8 e10
  funext i
  obtain ⟨r, k, rfl⟩ : ∃ (r : Fin 16384) (k : Fin 1024), i = ix2 r k := ⟨i 0, i 1, by funext a; fin_cases a <;> rfl⟩
  exact (Cert.PRef.r91_at _ _ _ _ _ _ _ _ _ _ r k).trans (Cert.PFinal.f15 m c r k).symm

include e0 e1 e2 e3 e4 e5 e6 in
/-- The receptances agree. -/
theorem res16 : Cert.Reference2Ideal.Read.val_main_v93 (F := Ideal) x0 x1 x2 x3 x4 x5 x6
    = (Cert.Kernel2Ideal.Gen.dats m 0 c).arrAt 16 Cert.Kernel2Ideal.cfg0.N := by
  subst e0 e1 e2 e3 e4 e5 e6
  funext i
  obtain ⟨r, k, rfl⟩ : ∃ (r : Fin 16384) (k : Fin 1024), i = ix2 r k := ⟨i 0, i 1, by funext a; fin_cases a <;> rfl⟩
  exact (Cert.PRef.r93_at _ _ _ _ _ _ _ r k).trans (Cert.PFinal.f16 m c r k).symm

include e0 e1 e2 e3 e4 in
/-- The values agree. -/
theorem res17 : Cert.Reference2Ideal.Read.val_main_v27 (F := Ideal) x0 x1 x2 x3 x4
    = (Cert.Kernel2Ideal.Gen.dats m 0 c).arrAt 17 Cert.Kernel2Ideal.cfg0.N := by
  subst e0 e1 e2 e3 e4
  funext i
  obtain ⟨r, k, rfl⟩ : ∃ (r : Fin 16384) (k : Fin 1024), i = ix2 r k := ⟨i 0, i 1, by funext a; fin_cases a <;> rfl⟩
  exact (Cert.PRef.r27_at _ _ _ _ _ r k).trans (Cert.PFinal.f17 m c r k).symm

include e0 e1 e2 e3 e4 e5 e6 in
/-- The chunks' decays agree. -/
theorem res18 : Cert.Reference2Ideal.Read.val_main_v95 (F := Ideal) x0 x1 x2 x3 x4 x5 x6
    = (Cert.Kernel2Ideal.Gen.dats m 0 c).arrAt 18 Cert.Kernel2Ideal.cfg0.N := by
  subst e0 e1 e2 e3 e4 e5 e6
  funext i
  obtain ⟨r, u, k, rfl⟩ : ∃ (r : Fin 256) (u : Fin 1) (k : Fin 1024), i = ix3 r u k := ⟨i 0, i 1, i 2, by funext a; fin_cases a <;> rfl⟩
  obtain rfl : u = 0 := Subsingleton.elim _ _
  exact (Cert.PRef.r95_at _ _ _ _ _ _ _ r k).trans (Cert.PFinal.f18 m c r k).symm

include e0 e1 e2 in
/-- The first gate's columns agree. -/
theorem res19 : Cert.Reference2Ideal.Read.val_main_v96 (F := Ideal) x0 x1 x2
    = (Cert.Kernel2Ideal.Gen.dats m 0 c).arrAt 19 Cert.Kernel2Ideal.cfg0.N := by
  subst e0 e1 e2
  funext i
  obtain ⟨r, k, rfl⟩ : ∃ (r : Fin 16384) (k : Fin 1024), i = ix2 r k := ⟨i 0, i 1, by funext a; fin_cases a <;> rfl⟩
  exact (Cert.PRef.r96_at _ _ _ r k).trans (Cert.PFinal.f19 m c r k).symm

include e0 e1 e2 in
/-- The second gate's columns agree. -/
theorem res20 : Cert.Reference2Ideal.Read.val_main_v97 (F := Ideal) x0 x1 x2
    = (Cert.Kernel2Ideal.Gen.dats m 0 c).arrAt 20 Cert.Kernel2Ideal.cfg0.N := by
  subst e0 e1 e2
  funext i
  obtain ⟨r, k, rfl⟩ : ∃ (r : Fin 16384) (k : Fin 1024), i = ix2 r k := ⟨i 0, i 1, by funext a; fin_cases a <;> rfl⟩
  exact (Cert.PRef.r97_at _ _ _ r k).trans (Cert.PFinal.f20 m c r k).symm

include e0 e1 e2 in
/-- The scan's columns agree. -/
theorem res21 : Cert.Reference2Ideal.Read.val_main_v98 (F := Ideal) x0 x1 x2
    = (Cert.Kernel2Ideal.Gen.dats m 0 c).arrAt 21 Cert.Kernel2Ideal.cfg0.N := by
  subst e0 e1 e2
  funext i
  obtain ⟨r, k, rfl⟩ : ∃ (r : Fin 16384) (k : Fin 1536), i = ix2 r k := ⟨i 0, i 1, by funext a; fin_cases a <;> rfl⟩
  exact (Cert.PRef.r98_at _ _ _ r k).trans (Cert.PFinal.f21 m c r k).symm

include e0 e1 e2 in
/-- The scan's steps agree. -/
theorem res22 : Cert.Reference2Ideal.Read.val_main_v99 (F := Ideal) x0 x1 x2
    = (Cert.Kernel2Ideal.Gen.dats m 0 c).arrAt 22 Cert.Kernel2Ideal.cfg0.N := by
  subst e0 e1 e2
  funext i
  obtain ⟨r, k, rfl⟩ : ∃ (r : Fin 16384) (k : Fin 128), i = ix2 r k := ⟨i 0, i 1, by funext a; fin_cases a <;> rfl⟩
  exact (Cert.PRef.r99_at _ _ _ r k).trans (Cert.PFinal.f22 m c r k).symm

end Results

set_option maxHeartbeats 4000000 in
/-- The results agree: both sides are the specification's terms of the same arguments. -/
theorem algebraic : Cert.algebraic_Kernel2Ideal_Reference2Ideal_pre_finite_keys := by
  intro m ρ m' ρ' hpre hag
  have hK (c : Dev Cert.Kernel2Ideal.nD) : Cert.PTile.KeysRealK m c := real_of_pre _ _ _ _ _ _ _ _ _ _ _ (hpre c)
  refine ⟨fun c => (Cert.Kernel2Ideal.Gen.dats m 0 c).arrAt 13 Cert.Kernel2Ideal.cfg0.N,
    fun c => (Cert.Kernel2Ideal.Gen.dats m 0 c).arrAt 14 Cert.Kernel2Ideal.cfg0.N,
    fun c => (Cert.Kernel2Ideal.Gen.dats m 0 c).arrAt 15 Cert.Kernel2Ideal.cfg0.N,
    fun c => (Cert.Kernel2Ideal.Gen.dats m 0 c).arrAt 16 Cert.Kernel2Ideal.cfg0.N,
    fun c => (Cert.Kernel2Ideal.Gen.dats m 0 c).arrAt 17 Cert.Kernel2Ideal.cfg0.N,
    fun c => (Cert.Kernel2Ideal.Gen.dats m 0 c).arrAt 18 Cert.Kernel2Ideal.cfg0.N,
    fun c => (Cert.Kernel2Ideal.Gen.dats m 0 c).arrAt 19 Cert.Kernel2Ideal.cfg0.N,
    fun c => (Cert.Kernel2Ideal.Gen.dats m 0 c).arrAt 20 Cert.Kernel2Ideal.cfg0.N,
    fun c => (Cert.Kernel2Ideal.Gen.dats m 0 c).arrAt 21 Cert.Kernel2Ideal.cfg0.N,
    fun c => (Cert.Kernel2Ideal.Gen.dats m 0 c).arrAt 22 Cert.Kernel2Ideal.cfg0.N,
    (θ_run Cert.Kernel2Ideal.defs _ _).mono (fun _ h c => h c) (Cert.Kernel2Ideal.Value.run_blocks (F := Ideal) m ρ), ?_⟩
  refine (θ_run Cert.Reference2Ideal.defs _ _).mono (fun r h c => ?_) (Cert.Reference2Ideal.Value.run (F := Ideal) m' ρ')
  obtain ⟨h0, h1, h2, h3, h4, h5, h6, h7, h8, h9, hk⟩ := h c
  obtain ⟨e0, e1, e2, e3, e4, e5, e6, e7, e8, e9, e10⟩ := hag c
  refine ⟨h0.trans ((Cert.Reference2Ideal.Read.val_main_v84_eq m' c).trans ?_),
    h1.trans ((Cert.Reference2Ideal.Read.val_main_v88_eq m' c).trans ?_),
    h2.trans ((Cert.Reference2Ideal.Read.val_main_v91_eq m' c).trans ?_),
    h3.trans ((Cert.Reference2Ideal.Read.val_main_v93_eq m' c).trans ?_),
    h4.trans ((Cert.Reference2Ideal.Read.val_main_v27_eq _ _ _ _ _).trans ?_),
    h5.trans ((Cert.Reference2Ideal.Read.val_main_v95_eq m' c).trans ?_),
    h6.trans ((Cert.Reference2Ideal.Read.val_main_v96_eq _ _ _).trans ?_),
    h7.trans ((Cert.Reference2Ideal.Read.val_main_v97_eq _ _ _).trans ?_),
    h8.trans ((Cert.Reference2Ideal.Read.val_main_v98_eq _ _ _).trans ?_),
    h9.trans ((Cert.Reference2Ideal.Read.val_main_v99_eq _ _ _).trans ?_), hk⟩
  · exact res13 m c (hK c) _ _ _ _ _ _ _ _ e0 e1 e2 e3 e4 e5 e6 e9
  · exact res14 m c (hK c) _ _ _ _ _ _ _ _ _ _ e0 e1 e2 e3 e4 e5 e6 e7 e8 e9
  · exact res15 m c _ _ _ _ _ _ _ _ _ _ e0 e1 e2 e3 e4 e5 e6 e7 e8 e10
  · exact res16 m c _ _ _ _ _ _ _ e0 e1 e2 e3 e4 e5 e6
  · exact res17 m c _ _ _ _ _ e0 e1 e2 e3 e4
  · exact res18 m c _ _ _ _ _ _ _ e0 e1 e2 e3 e4 e5 e6
  · exact res19 m c _ _ _ e0 e1 e2
  · exact res20 m c _ _ _ e0 e1 e2
  · exact res21 m c _ _ _ e0 e1 e2
  · exact res22 m c _ _ _ e0 e1 e2

end Cert.ProjClaims

end
-- ==== Proof.Out.Spec.lean ====
/-
  THE OUTPUT PROJECTION'S MATHEMATICS, over the extended reals: a row plus its two mixers' rows projected, then divided by its root
  mean square and weighted.
-/
module

public import Idealize.ShloMosaic.Lib.Pointwise

@[expose] public section

noncomputable section

namespace Cert.Out

open Idealize.ShloMosaic

variable (x yr ym : Fin 1024 → EReal) (w : Fin 2048 → Fin 1024 → EReal) (fw : Fin 1024 → EReal)

/-- The row with its two projections added, in the kernel's order. -/
def row (k : Fin 1024) : EReal :=
  x k + (∑ j : Fin 1024, yr j * w ⟨j.val, by omega⟩ k) + ∑ j : Fin 1024, ym j * w ⟨1024 + j.val, by omega⟩ k

/-- A row divided by its root mean square, times the norm's weight. -/
def scaled (s : Fin 1024 → EReal) (k : Fin 1024) : EReal :=
  s k * Ideal.rsqrt (Ideal.div (∑ j : Fin 1024, s j * s j) (Ideal.ofBits .f32 0x44800000#32) + Ideal.ofBits .f32 0x3727C5AC#32) * fw k

end Cert.Out

end
-- ==== Proof.Out.Body.lean ====
/-
  THE OUTPUT PROJECTION'S RESULT ARRAY: a grid point's payload read at an index, the blocks it reads as the arguments' elements, and
  the array the points' blocks tile.
-/
module

public import proofs.«01_k».proof.Proof.Gen.Kernel3Ideal.Value
public import Idealize.ShloMosaic.Lib.Claim
public import Idealize.ShloMosaic.Lib.Pipeline.ValueKit
public import Idealize.ShloMosaic.Lib.StableHlo.ReadAt
public import proofs.«01_k».proof.Proof.Out.Spec
public import proofs.«01_k».proof.Proof.Out.Rect

@[expose] public section

set_option maxRecDepth 16384

noncomputable section

namespace Cert.OutBody

open Idealize.ShloMosaic Idealize.ShloMosaic.TcCoe Idealize.SL.Sem
open Cert.Kernel3Ideal Cert.Kernel3Ideal.Gen Cert.Out

/-- The payload, read at an index. -/
theorem pay_at (v0 : Vec Ideal S512x1024 .f32) (v1 : Vec Ideal S512x1024 .bf16) (v2 : Vec Ideal S1024x1024 .bf16)
    (v6 : Vec Ideal S512x1024 .bf16) (v7 : Vec Ideal S1024x1024 .bf16) (v21 : Vec Ideal S1x1024 .f32) (r : Fin 512) (k : Fin 1024) :
    k0_pay1 (F := Idealize.ShloMosaic.Ideal) v0 v1 v2 v6 v7 v21 (ix2 r k)
      = scaled (fun k => v21 (ix2 0 k)) (fun k => (v0 (ix2 r k) + ∑ j : Fin 1024, (v1 (ix2 r j) * v2 (ix2 j k) : EReal))
          + ∑ j : Fin 1024, (v6 (ix2 r j) * v7 (ix2 j k) : EReal)) k := by
  pointwise [k0_pay1]
  rfl

variable (m : (ℓ : Loc nD τ sig) → Buf (Elt Ideal) ℓ) (c : Dev nD) (t : Fin cfg0.N)

theorem t_lt : t.val < 32 := lt_of_lt_of_eq t.isLt N_0

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem flush5 : ∀ t : Fin cfg0.N, (cfg0.win 5).flush t = true :=
  (by decide +kernel : ∀ t : Fin grid0.N, _)
theorem z3 (a : Fin 2) : win0_3.index t a = 0 := by fin_cases a <;> rfl
theorem z4 (a : Fin 2) : win0_4.index t a = 0 := by fin_cases a <;> rfl

theorem b0 (r : Fin 512) (k : Fin 1024) : iblk m c 0 t (ix2 r k)
    = m ((c : Thread nD τ).loc main_arg0) (ix2 ⟨512 * t.val + r.val, by have := t_lt t; omega⟩ k) := by
  obtain ⟨e0, e1⟩ := idx0 t
  blk_ext [iblk, V_main_arg0, e0, e1]

theorem b1 (r : Fin 512) (k : Fin 1024) : iblk m c 1 t (ix2 r k)
    = m ((c : Thread nD τ).loc main_arg1) (ix2 ⟨512 * t.val + r.val, by have := t_lt t; omega⟩ k) := by
  obtain ⟨e0, e1⟩ := idx1 t
  blk_ext [iblk, V_main_arg1, e0, e1]

theorem b2 (r : Fin 512) (k : Fin 1024) : iblk m c 2 t (ix2 r k)
    = m ((c : Thread nD τ).loc main_arg2) (ix2 ⟨512 * t.val + r.val, by have := t_lt t; omega⟩ k) := by
  obtain ⟨e0, e1⟩ := idx2 t
  blk_ext [iblk, V_main_arg2, e0, e1]

theorem b3 (r : Fin 2048) (k : Fin 1024) : iblk m c 3 t (ix2 r k) = m ((c : Thread nD τ).loc main_arg3) (ix2 r k) := by
  trans V m c main_v0 (ix2 r k)
  · blk_ext [iblk, z3 t]
  · unfold V; after_reads_at

theorem b4 (k : Fin 1024) : iblk m c 4 t (ix2 0 k) = m ((c : Thread nD τ).loc main_arg4) (ix1 k) := by
  trans V m c main_v1 (ix2 0 k)
  · blk_ext [iblk, z4 t]
  · unfold V; after_reads_at

/-- Row `i` of the result, with the kernel's five arguments. -/
def outRow (i : Fin 16384) (k : Fin 1024) : EReal :=
  scaled (fun k => m ((c : Thread nD τ).loc main_arg4) (ix1 k))
    (row (fun k => m ((c : Thread nD τ).loc main_arg0) (ix2 i k)) (fun k => m ((c : Thread nD τ).loc main_arg1) (ix2 i k))
      (fun k => m ((c : Thread nD τ).loc main_arg2) (ix2 i k)) (fun j k => m ((c : Thread nD τ).loc main_arg3) (ix2 j k))) k

/-- A point's output block. -/
theorem block_at (r : Fin 512) (k : Fin 1024) :
    out0_5 (iblk m c 0 t) (iblk m c 1 t) (iblk m c 2 t) (iblk m c 3 t) (iblk m c 4 t) (ix2 r k)
      = outRow m c ⟨512 * t.val + r.val, by have := t_lt t; omega⟩ k := by
  unfold out0_5
  refine (MatRect.canon_hit _ _ _ r k r k (by omega) (by omega)).trans ?_
  rw [pay_at]
  have h0 (k : Fin 1024) := (MatRect.ld_at inb_S512x1024_S512x1024_0_0 (iblk m c 0 t) r k r k (by omega) (by omega)).trans (b0 m c t r k)
  have h1 (k : Fin 1024) := (MatRect.ld_at inb_S512x1024_S512x1024_0_0 (iblk m c 1 t) r k r k (by omega) (by omega)).trans (b1 m c t r k)
  have h2 (k : Fin 1024) := (MatRect.ld_at inb_S512x1024_S512x1024_0_0 (iblk m c 2 t) r k r k (by omega) (by omega)).trans (b2 m c t r k)
  have h3 (j k : Fin 1024) := (MatRect.ld_at inb_S2048x1024_S1024x1024_0_0 (iblk m c 3 t) ⟨j.val, by omega⟩ k j k (by dsimp only; omega) (by omega)).trans (b3 m c t ⟨j.val, by omega⟩ k)
  have h3' (j k : Fin 1024) := (MatRect.ld_at inb_S2048x1024_S1024x1024_1024_0 (iblk m c 3 t) ⟨1024 + j.val, by omega⟩ k j k (by dsimp only) (by omega)).trans (b3 m c t ⟨1024 + j.val, by omega⟩ k)
  have h4 (k : Fin 1024) := (MatRect.ld_at inb_S1x1024_S1x1024_0_0 (iblk m c 4 t) 0 k 0 k (by rfl) (by omega)).trans (b4 m c t k)
  unfold outRow row
  refine congrArg₂ (fun f g => scaled f g k) (funext fun k => h4 k) (funext fun k => ?_)
  refine congrArg₂ (fun a b : EReal => a + b) (congrArg₂ (fun a b : EReal => a + b) (h0 k) ?_) ?_
  · exact Finset.sum_congr rfl fun j _ => congrArg₂ (fun a b : EReal => a * b) (h1 j) (h3 j k)
  · exact Finset.sum_congr rfl fun j _ => congrArg₂ (fun a b : EReal => a * b) (h2 j) (h3' j k)

/-- The result array, entry by entry. -/
theorem final_at (i : Fin 16384) (k : Fin 1024) : (dats m 0 c).arrAt 5 cfg0.N (ix2 i k) = outRow m c i k := by
  have ht : i.val / 512 < cfg0.N := by rw [show cfg0.N = 32 from N_0]; omega
  have h := congrFun (Value.blocks5 m c ⟨i.val / 512, ht⟩ (flush5 _)) (ix2 ⟨i.val % 512, by omega⟩ k)
  rw [Value.flushed5] at h
  obtain ⟨e0, e1⟩ := idx5 ⟨i.val / 512, ht⟩
  have hi : ((cfg0.win 5).blk ⟨i.val / 512, ht⟩).view.emb (ix2 ⟨i.val % 512, by omega⟩ k) = ix2 i k := by
    funext a; apply Fin.ext
    match a with
    | ⟨0, _⟩ => show win0_5.index ⟨i.val / 512, ht⟩ (0 : Fin 2) * 512 + 1 * (i.val % 512) = i.val; rw [e0]; dsimp only; omega
    | ⟨1, _⟩ => show win0_5.index ⟨i.val / 512, ht⟩ (1 : Fin 2) * 1024 + 1 * k.val = k.val; rw [e1]; omega
  have hx : (cfg0.win 5).xinj (grid0.coords ⟨i.val / 512, ht⟩) (ix2 ⟨i.val % 512, by omega⟩ k) = ix2 ⟨i.val % 512, by omega⟩ k := by
    funext a; apply Fin.ext
    match a with
    | ⟨0, _⟩ => rfl
    | ⟨1, _⟩ => rfl
  have hl : (dats m 0 c).arrAt 5 cfg0.N (((cfg0.win 5).blk ⟨i.val / 512, ht⟩).view.emb (ix2 ⟨i.val % 512, by omega⟩ k))
      = out0_5 (iblk m c 0 ⟨i.val / 512, ht⟩) (iblk m c 1 ⟨i.val / 512, ht⟩) (iblk m c 2 ⟨i.val / 512, ht⟩) (iblk m c 3 ⟨i.val / 512, ht⟩)
          (iblk m c 4 ⟨i.val / 512, ht⟩) ((cfg0.win 5).xinj (grid0.coords ⟨i.val / 512, ht⟩) (ix2 ⟨i.val % 512, by omega⟩ k)) := h
  rw [hi, hx, block_at] at hl
  exact hl.trans (congrArg (fun i => outRow m c i k) (Fin.ext (by dsimp only; omega)))

end Cert.OutBody

end
-- ==== Proof.Out.Ref.lean ====
/-
  THE OUTPUT PROJECTION'S REFERENCE, read at an index: one product with the two mixers' rows side by side, which is the sum of two.
-/
module

public import proofs.«01_k».proof.Proof.Gen.Reference3Ideal.Read
public import Idealize.ShloMosaic.Lib.Claim
public import proofs.«01_k».proof.Proof.Out.Spec

@[expose] public section

set_option maxRecDepth 16384

noncomputable section

namespace Cert.OutRef

open Idealize.ShloMosaic Idealize.SL.Sem
open Cert.Reference3Ideal Cert.Reference3Ideal.Gen Cert.Reference3Ideal.Read Cert.Out

variable (x0 : Vec Ideal S16384x1024 .f32) (x1 x2 : Vec Ideal S16384x1024 .bf16) (x3 : Vec Ideal S2048x1024 .f32) (x4 : Vec Ideal S1024 .f32)

/-- The row before its norm. -/
theorem v4_at (i : Fin 16384) (k : Fin 1024) : val_main_v4 (F := Idealize.ShloMosaic.Ideal) x0 x1 x2 x3 (ix2 i k)
    = row (fun k => x0 (ix2 i k)) (fun k => x1 (ix2 i k)) (fun k => x2 (ix2 i k)) (fun j k => x3 (ix2 j k)) k := by
  unfold row
  rw [add_assoc]
  refine (val_main_v4_apply _ _ _ _ _).trans (congrArg (fun z : EReal => x0 (ix2 i k) + z) ?_)
  rw [val_main_v3_apply]
  refine (Fin.sum_univ_add (a := 1024) (b := 1024) _).trans (congrArg₂ (fun a b : EReal => a + b) ?_ ?_)
  · refine Finset.sum_congr rfl fun j _ => ?_
    pointwise [val_main_v2, val_main_v0]
    rw [dif_pos (show (Fin.castAdd 1024 j).val < 1024 from j.isLt)]
    refine congrArg₂ (fun a b : EReal => a * b) rfl (congrArg x3 (funext fun a => ?_))
    fin_cases a <;> rfl
  · refine Finset.sum_congr rfl fun j _ => ?_
    pointwise [val_main_v2, val_main_v1]
    rw [dif_neg (show ¬(Fin.natAdd 1024 j).val < 1024 by rw [Fin.val_natAdd]; omega)]
    refine congrArg₂ (fun a b : EReal => a * b) (congrArg x2 (funext fun a => Fin.ext ?_)) (congrArg x3 (funext fun a => ?_))
    · match a with
      | ⟨0, _⟩ => rfl
      | ⟨1, _⟩ => exact (congrArg (· - 1024) (Fin.val_natAdd 1024 j)).trans (Nat.add_sub_cancel_left 1024 j.val)
    · fin_cases a <;> rfl

/-- The result. -/
theorem v17_at (i : Fin 16384) (k : Fin 1024) : val_main_v17 (F := Idealize.ShloMosaic.Ideal) x0 x1 x2 x3 x4 (ix2 i k)
    = scaled (fun k => x4 (ix1 k)) (row (fun k => x0 (ix2 i k)) (fun k => x1 (ix2 i k)) (fun k => x2 (ix2 i k)) (fun j k => x3 (ix2 j k))) k := by
  have h (k : Fin 1024) := v4_at x0 x1 x2 x3 i k
  unfold scaled
  simp only [← h]
  pointwise [val_main_v17, val_main_v16, val_main_v15, val_main_v14, val_main_v13, val_main_v12, val_main_v11, val_main_v10, val_main_v9, val_main_v8, val_main_v7, val_main_v6, val_main_v5, val_main_cst, val_main_cst_0, val_main_cst_1]

end Cert.OutRef

end
-- ==== Proof.Out.Claim.lean ====
/-
  THE CLAIMS of the output projection: the frames are the generated ones, the idealization replaced nothing, and the kernel's result
  is the reference's at every input.
-/
module

public import proofs.«01_k».proof.Defs
public import proofs.«01_k».proof.Proof.Gen.Kernel3.Frame
public import proofs.«01_k».proof.Proof.Gen.Kernel3Ideal.Frame
public import proofs.«01_k».proof.Proof.Gen.Reference3Ideal.Run
public import proofs.«01_k».proof.Proof.Out.Body
public import proofs.«01_k».proof.Proof.Out.Ref
public import Idealize.ShloMosaic.Adequacy
public import Idealize.ShloMosaic.Init

@[expose] public section

set_option maxRecDepth 16384

noncomputable section

namespace Cert.OutClaims

open Idealize.ShloMosaic Idealize.ShloMosaic.TcCoe Idealize.SL.Sem Idealize.ShloMosaic.StableHlo

/-- The device's frame, as generated. -/
theorem frame_p : Cert.quiescent_Kernel3 := fun m ρ _ => Cert.Kernel3.Gen.frame m ρ
/-- The idealized kernel's frame, as generated. -/
theorem frame_pi : Cert.quiescent_Kernel3Ideal := fun m ρ _ => Cert.Kernel3Ideal.Gen.frame m ρ
/-- The reference's frame: its generated run keeps the arguments, and it has no semaphore. -/
theorem frame_ri : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- No operation was replaced. -/
theorem preserves : Cert.preserves_Kernel3_Kernel3Ideal := trivial

/-- The result, element by element. -/
theorem res0 (m : (ℓ : Loc Cert.Kernel3Ideal.nD Cert.Kernel3Ideal.τ Cert.Kernel3Ideal.sig) → Buf (Elt Ideal) ℓ) (c : Dev Cert.Kernel3Ideal.nD)
    (x0 : Vec Ideal ⟨2, ![16384, 1024]⟩ .f32) (x1 x2 : Vec Ideal ⟨2, ![16384, 1024]⟩ .bf16) (x3 : Vec Ideal ⟨2, ![2048, 1024]⟩ .f32)
    (x4 : Vec Ideal ⟨1, ![1024]⟩ .f32)
    (e0 : x0 = m ((c.tc : Thread Cert.Kernel3Ideal.nD Cert.Kernel3Ideal.τ).loc Cert.Kernel3Ideal.main_arg0))
    (e1 : x1 = m ((c.tc : Thread Cert.Kernel3Ideal.nD Cert.Kernel3Ideal.τ).loc Cert.Kernel3Ideal.main_arg1))
    (e2 : x2 = m ((c.tc : Thread Cert.Kernel3Ideal.nD Cert.Kernel3Ideal.τ).loc Cert.Kernel3Ideal.main_arg2))
    (e3 : x3 = m ((c.tc : Thread Cert.Kernel3Ideal.nD Cert.Kernel3Ideal.τ).loc Cert.Kernel3Ideal.main_arg3))
    (e4 : x4 = m ((c.tc : Thread Cert.Kernel3Ideal.nD Cert.Kernel3Ideal.τ).loc Cert.Kernel3Ideal.main_arg4)) :
    Cert.Reference3Ideal.Read.val_main_v17 (F := Ideal) x0 x1 x2 x3 x4
      = (Cert.Kernel3Ideal.Gen.dats m 0 c).arrAt 5 Cert.Kernel3Ideal.cfg0.N := by
  subst e0 e1 e2 e3 e4
  funext i
  obtain ⟨r, k, rfl⟩ : ∃ (r : Fin 16384) (k : Fin 1024), i = ix2 r k := ⟨i 0, i 1, by funext a; fin_cases a <;> rfl⟩
  exact (Cert.OutRef.v17_at _ _ _ _ _ r k).trans (Cert.OutBody.final_at m c r k).symm

/-- The results agree: both sides are the specification's terms of the same arguments. -/
theorem algebraic : Cert.algebraic_Kernel3Ideal_Reference3Ideal := by
  intro m ρ m' ρ' _ hag
  refine ⟨fun c => (Cert.Kernel3Ideal.Gen.dats m 0 c).arrAt 5 Cert.Kernel3Ideal.cfg0.N,
    (θ_run Cert.Kernel3Ideal.defs _ _).mono (fun _ h c => h c) (Cert.Kernel3Ideal.Value.run_blocks (F := Ideal) m ρ), ?_⟩
  refine (θ_run Cert.Reference3Ideal.defs _ _).mono (fun r h c => ?_) (Cert.Reference3Ideal.Value.run (F := Ideal) m' ρ')
  obtain ⟨h0, hk⟩ := h c
  obtain ⟨e0, e1, e2, e3, e4⟩ := hag c
  refine ⟨h0.trans ((Cert.Reference3Ideal.Read.val_main_v17_eq _ _ _ _ _).trans ?_), hk⟩
  exact res0 m c _ _ _ _ _ e0 e1 e2 e3 e4

end Cert.OutClaims

end
-- ==== Proof.Step.Pay.lean ====
/-
  THE SAMPLE GROUP'S PROJECTION KERNEL, PAYLOAD BY PAYLOAD: each value the body computes, read at an index over the extended reals.
-/
module

public import proofs.«01_k».proof.Proof.Gen.Kernel6Ideal.Skeleton
public import proofs.«01_k».proof.Proof.Proj.Spec
public import Idealize.ShloMosaic.Lib.KernelVsHost

@[expose] public section

set_option maxRecDepth 16384

noncomputable section

namespace Cert.StepPay

open Idealize.ShloMosaic Idealize.SL.Sem
open Cert.Kernel6Ideal Cert.Kernel6Ideal.Gen Cert.Proj

/-! ## The rows, the projection and the mix -/

/-- A normalised row of the block. -/
def bxn (x : Vec Ideal S128x1024 .f32) (nw : Vec Ideal S1x1024 .f32) (l : Fin 128) (d : Fin 1024) : EReal :=
  x (ix2 l d) * Ideal.rsqrt (Ideal.div (∑ j : Fin 1024, x (ix2 l j) * x (ix2 l j)) (Ideal.ofBits .f32 0x44800000#32)
    + Ideal.ofBits .f32 0x3727C5AC#32) * nw (ix2 0 d)

theorem p6 (x : Vec Ideal S128x1024 .f32) (nw : Vec Ideal S1x1024 .f32) (l : Fin 128) (d : Fin 1024) :
    k0_pay6 x nw (ix2 l d) = bxn x nw l d := by
  pointwise [k0_pay6]
  rfl

theorem p7 (x : Vec Ideal S128x1024 .f32) (nw : Vec Ideal S1x1024 .f32) (l : Fin 128) (d : Fin 1024) :
    k0_pay7 x nw (ix2 l d) = bxn x nw l d := by
  refine Eq.trans ?_ (p6 x nw l d)
  pointwise [k0_pay7]

/-- The products are the projected block. -/
def bproj {n : ℕ} (X : Fin 128 → Fin 1024 → EReal) (w : Fin 1024 → Fin n → EReal) (l : Fin 128) (q : Fin n) : EReal :=
  ∑ d : Fin 1024, X l d * w d q

/-- A projected row mixed with the given one. -/
def bmix {n : ℕ} (z : Fin 128 → Fin n → EReal) (pv : Fin 128 → Fin n → EReal) (mu : Fin n → EReal) (l : Fin 128) (q : Fin n) : EReal :=
  z l q + (pv l q - z l q) * mu q

theorem p8 (x : Vec Ideal S128x1024 .f32) (nw : Vec Ideal S1x1024 .f32) (w : Vec Ideal S1024x128 .bf16) (pv : Vec Ideal S128x128 .f32)
    (mu : Vec Ideal S1x128 .f32) (l : Fin 128) (q : Fin 128) :
    k0_pay8 x nw w pv mu (ix2 l q)
      = bmix (bproj (bxn x nw) (fun d q => w (ix2 d q))) (fun l q => pv (ix2 l q)) (fun q => mu (ix2 0 q)) l q := by
  unfold bmix bproj
  simp only [← p7]
  pointwise [k0_pay8]

theorem p9 (x : Vec Ideal S128x1024 .f32) (nw : Vec Ideal S1x1024 .f32) (w : Vec Ideal S1024x1024 .bf16) (pv : Vec Ideal S128x1024 .f32)
    (mu : Vec Ideal S1x1024 .f32) (l : Fin 128) (q : Fin 1024) :
    k0_pay9 x nw w pv mu (ix2 l q)
      = bmix (bproj (bxn x nw) (fun d q => w (ix2 d q))) (fun l q => pv (ix2 l q)) (fun q => mu (ix2 0 q)) l q := by
  unfold bmix bproj
  simp only [← p7]
  pointwise [k0_pay9]

section Rows

variable (X : FVec Ideal S128x1024 .bf16)

theorem p10 (w : Vec Ideal S1024x1024 .bf16) (l : Fin 128) (q : Fin 1024) :
    k0_pay10 X w (ix2 l q) = bproj (fun l d => X (ix2 l d)) (fun d q => w (ix2 d q)) l q := by
  pointwise [k0_pay10]
  rfl

theorem p11 (w : Vec Ideal S1024x1024 .bf16) (l : Fin 128) (q : Fin 1024) :
    k0_pay11 X w (ix2 l q) = bproj (fun l d => X (ix2 l d)) (fun d q => w (ix2 d q)) l q := p10 X w l q

theorem p1 (w : Vec Ideal S1024x1536 .bf16) (l : Fin 128) (q : Fin 1536) :
    k0_pay1 X w (ix2 l q) = bproj (fun l d => X (ix2 l d)) (fun d q => w (ix2 d q)) l q := by
  pointwise [k0_pay1]
  rfl

theorem p2 (w : Vec Ideal S1024x128 .bf16) (l : Fin 128) (q : Fin 128) :
    k0_pay2 X w (ix2 l q) = bproj (fun l d => X (ix2 l d)) (fun d q => w (ix2 d q)) l q := by
  pointwise [k0_pay2]
  rfl

theorem p25 (w : Vec Ideal S1024x1024 .bf16) (pv : Vec Ideal S128x1024 .f32) (mu : Vec Ideal S1x1024 .f32) (l : Fin 128) (q : Fin 1024) :
    k0_pay25 X w pv mu (ix2 l q)
      = bmix (bproj (fun l d => X (ix2 l d)) (fun d q => w (ix2 d q))) (fun l q => pv (ix2 l q)) (fun q => mu (ix2 0 q)) l q := by
  unfold bmix
  rw [← p10]
  pointwise [k0_pay25, k0_pay10]

theorem p26 (w : Vec Ideal S1024x1024 .bf16) (pv : Vec Ideal S128x1024 .f32) (mu : Vec Ideal S1x1024 .f32) (l : Fin 128) (q : Fin 1024) :
    k0_pay26 X w pv mu (ix2 l q)
      = bmix (bproj (fun l d => X (ix2 l d)) (fun d q => w (ix2 d q))) (fun l q => pv (ix2 l q)) (fun q => mu (ix2 0 q)) l q :=
  p25 X w pv mu l q

end Rows

/-! ## The decay and the learning rate -/

theorem p12 (z : FVec Ideal S128x128 .f32) (w : Vec Ideal S128x1024 .bf16) (b : Vec Ideal S1x1024 .f32) (l : Fin 128) (k : Fin 1024) :
    k0_pay12 z w b (ix2 l k) = logDecay (b (ix2 0 k) + ∑ q : Fin 128, Ideal.tanh (z (ix2 l q)) * w (ix2 q k)) := by
  rw [logDecay_eq, sigm]
  pointwise [k0_pay12]
  rw [zero_sub]

theorem p5 (z : FVec Ideal S128x1024 .f32) (l : Fin 128) (k : Fin 1024) : k0_pay5 z (ix2 l k) = Ideal.exp (z (ix2 l k)) := by
  pointwise [k0_pay5]

theorem p15 (z : FVec Ideal S128x128 .f32) (w : Vec Ideal S128x1024 .bf16) (b : Vec Ideal S1x1024 .f32) (l : Fin 128) (k : Fin 1024) :
    k0_pay15 (k0_pay13 z w b) k0_pay14 (ix2 l k) = sigm (b (ix2 0 k) + ∑ q : Fin 128, z (ix2 l q) * w (ix2 q k)) := by
  rw [sigm]
  pointwise [k0_pay15, k0_pay13, k0_pay14]
  rw [zero_sub]

theorem p16 (z : FVec Ideal S128x1024 .f32) (b : Vec Ideal S1x1024 .f32) (l : Fin 128) (k : Fin 1024) :
    k0_pay16 z b (ix2 l k) = z (ix2 l k) * b (ix2 0 k) := by
  pointwise [k0_pay16]

theorem p17 (z : FVec Ideal S128x1024 .f32) (b : Vec Ideal S1x1024 .f32) (l : Fin 128) (k : Fin 1024) :
    k0_pay17 z b (ix2 l k) = (z (ix2 l k) * b (ix2 0 k)) * (z (ix2 l k) * b (ix2 0 k)) := by
  pointwise [k0_pay17]
  rw [p16]

/-! ## The normalised key -/

/-- The head's sum of squares of a block of 256 columns, from the two pieces of the squares. -/
theorem head_block (g e : Fin 256 → EReal) (j : Fin 256) (hg : ∀ x, IsReal (g x)) (he : ∀ x, e x = if x.val / 64 = j.val / 64 then 1 else 0) :
    (∑ x, g x * e x) + ∑ x, (g x - g x) * e x = ∑ q : Fin 64, g ⟨64 * (j.val / 64) + q.val, by omega⟩ := by
  have e2 : ∑ x, (g x - g x) * e x = 0 := Finset.sum_eq_zero fun x _ => by
    obtain ⟨r, hr⟩ := hg x
    rw [hr, ← EReal.coe_sub, sub_self]; exact zero_mul _
  rw [e2, add_zero, sum_head g e j he]

section Key

variable (z : FVec Ideal S128x1024 .f32) (b : Vec Ideal S1x1024 .f32) (w : Vec Ideal S256x256 .bf16)

/-- A key's square. -/
def sq (l : Fin 128) (k : Fin 1024) : EReal := (z (ix2 l k) * b (ix2 0 k)) * (z (ix2 l k) * b (ix2 0 k))

theorem p18 (l : Fin 128) (k : Fin 1024) : k0_pay18 z b (ix2 l k) = sq z b l k := by
  pointwise [k0_pay18]
  exact p17 z b l k

theorem p19 (l : Fin 128) (k : Fin 1024) : k0_pay19 z b (ix2 l k) = sq z b l k - sq z b l k := by
  pointwise [k0_pay19]
  rw [p18, p17]
  rfl

/-- The normalised key, as the kernel computes it. -/
abbrev kapPay : FVec Ideal S128x1024 .f32 :=
  k0_pay24 (k0_pay16 z b) (k0_pay18 z b) (k0_pay19 z b) (k0_pay20 z b w w) (k0_pay21 z b w w) (k0_pay22 z b w) (k0_pay23 z b) w w w

theorem p24 (hz : ∀ l k, IsReal (z (ix2 l k) * b (ix2 0 k)))
    (hw : ∀ x j, w (ix2 x j) = if x.val / 64 = j.val / 64 then 1 else 0) (l : Fin 128) (k : Fin 1024) :
    kapPay z b w (ix2 l k) = Ideal.div (z (ix2 l k) * b (ix2 0 k))
      (max (Ideal.sqrt (headSq (fun k => z (ix2 l k) * b (ix2 0 k)) k)) (Ideal.ofBits .f32 0x2B8CBCCC#32)) := by
  have hq : ∀ k, IsReal (sq z b l k) := fun k => (hz l k).mul (hz l k)
  have hb : ∀ (o : ℕ) (ho : o + 256 ≤ 1024) (j : Fin 256) (hk : k.val = o + j.val) (h64 : o % 64 = 0),
      (∑ x : Fin 256, k0_pay18 z b (ix2 l ⟨o + x.val, by omega⟩) * w (ix2 x j))
        + ∑ x : Fin 256, k0_pay19 z b (ix2 l ⟨o + x.val, by omega⟩) * w (ix2 x j)
        = headSq (fun k => z (ix2 l k) * b (ix2 0 k)) k := by
    intro o ho j hk h64
    simp only [p18, p19]
    rw [head_block (fun x => sq z b l ⟨o + x.val, by omega⟩) (fun x => w (ix2 x j)) j (fun x => hq _) (fun x => hw x j)]
    unfold headSq sq
    refine Finset.sum_congr rfl fun q _ => ?_
    have e : (⟨o + (64 * (j.val / 64) + q.val), by omega⟩ : Fin 1024) = ⟨64 * (k.val / 64) + q.val, by omega⟩ := Fin.ext (by dsimp only; omega)
    dsimp only
    rw [e]
  pointwise [kapPay, k0_pay24, k0_pay20, k0_pay21, k0_pay22, k0_pay23]
  rw [p16]
  refine congrArg (fun t => Ideal.div _ (max (Ideal.sqrt t) _)) ?_
  by_cases h1 : k.val < 256
  · rw [dif_pos h1]
    simpa using hb 0 (by omega) ⟨k.val, h1⟩ (by simp) rfl
  rw [dif_neg h1]
  by_cases h2 : k.val - 256 < 256
  · rw [dif_pos h2]
    exact hb 256 (by omega) ⟨k.val - 256, h2⟩ (by dsimp only; omega) rfl
  rw [dif_neg h2]
  by_cases h3 : k.val - 256 - 256 < 256
  · rw [dif_pos h3]
    exact hb 512 (by omega) ⟨k.val - 256 - 256, h3⟩ (by dsimp only; omega) rfl
  rw [dif_neg h3]
  exact hb 768 (by omega) ⟨k.val - 256 - 256 - 256, by omega⟩ (by dsimp only; omega) rfl

end Key

/-! ## The operands of the recurrence -/

theorem p4 (a kap : FVec Ideal S128x1024 .f32) (l : Fin 128) (q : Fin 1024) : k0_pay4 a kap (ix2 l q) = kap (ix2 l q) * a (ix2 l q) := by
  pointwise [k0_pay4]

theorem p3 (k a : FVec Ideal S128x1024 .f32) (b : Vec Ideal S1x1024 .f32) (l : Fin 128) (q : Fin 1024) :
    k0_pay3 k a b (ix2 l q) = k (ix2 l q) * (1 + (a (ix2 l q) - 1) * b (ix2 0 q)) := by
  pointwise [k0_pay3]

end Cert.StepPay

end
-- ==== Proof.Step.Blk.lean ====
/-
  THE BLOCKS THE SAMPLE GROUP'S PROJECTION READS, as the arguments' elements: its one grid point reads every argument whole. The two
  low-rank output matrices stand in 128 rows with zeros in the other half, and the head matrix is 0/1.
-/
module

public import proofs.«01_k».proof.Proof.Gen.Kernel6Ideal.Frame
public import Idealize.ShloMosaic.Lib.Claim
public import Idealize.ShloMosaic.Lib.Pipeline.ValueKit
public import Idealize.ShloMosaic.Lib.StableHlo.ReadAt
public import Idealize.ShloMosaic.Lib.WordCmp
public import Idealize.ShloMosaic.Lib.KernelVsHost

@[expose] public section

set_option maxRecDepth 16384

noncomputable section

namespace Cert.StepBlk

open Idealize.ShloMosaic Idealize.ShloMosaic.TcCoe Idealize.SL.Sem
open Cert.Kernel6Ideal Cert.Kernel6Ideal.Gen

variable (m : (ℓ : Loc nD τ sig) → Buf (Elt Ideal) ℓ) (c : Dev nD) (t : Fin cfg0.N)

theorem z0 (a : Fin 2) : win0_0.index t a = 0 := by revert t a; decide +kernel
theorem z3 (a : Fin 2) : win0_3.index t a = 0 := by revert t a; decide +kernel
theorem z1 (a : Fin 2) : win0_1.index t a = 0 := by fin_cases a <;> rfl
theorem z2 (a : Fin 2) : win0_2.index t a = 0 := by fin_cases a <;> rfl
theorem z4 (a : Fin 2) : win0_4.index t a = 0 := by fin_cases a <;> rfl
theorem z5 (a : Fin 2) : win0_5.index t a = 0 := by fin_cases a <;> rfl
theorem z6 (a : Fin 2) : win0_6.index t a = 0 := by fin_cases a <;> rfl
theorem z7 (a : Fin 2) : win0_7.index t a = 0 := by fin_cases a <;> rfl
theorem z8 (a : Fin 2) : win0_8.index t a = 0 := by fin_cases a <;> rfl
theorem z9 (a : Fin 2) : win0_9.index t a = 0 := by fin_cases a <;> rfl
theorem z10 (a : Fin 2) : win0_10.index t a = 0 := by fin_cases a <;> rfl
theorem z11 (a : Fin 2) : win0_11.index t a = 0 := by fin_cases a <;> rfl

theorem b0 (l : Fin 128) (d : Fin 1024) : iblk m c 0 t (ix2 l d) = m ((c : Thread nD τ).loc main_arg0) (ix2 l d) := by
  blk_ext [iblk, V_main_arg0, z0 t]

theorem b1 (d : Fin 1024) : iblk m c 1 t (ix2 0 d) = m ((c : Thread nD τ).loc main_arg1) (ix1 d) := by
  trans V m c main_v15 (ix2 0 d)
  · blk_ext [iblk, z1 t]
  · unfold V; after_reads_at

theorem b2 (d : Fin 1024) (q : Fin 6912) : iblk m c 2 t (ix2 d q) = m ((c : Thread nD τ).loc main_arg2) (ix2 d q) := by
  blk_ext [iblk, V_main_arg2, z2 t]

theorem b3 (l : Fin 128) (q : Fin 3200) : iblk m c 3 t (ix2 l q) = m ((c : Thread nD τ).loc main_arg3) (ix2 l q) := by
  blk_ext [iblk, V_main_arg3, z3 t]

theorem b4 (q : Fin 3200) : iblk m c 4 t (ix2 0 q) = m ((c : Thread nD τ).loc main_arg4) (ix1 q) := by
  trans V m c main_v16 (ix2 0 q)
  · blk_ext [iblk, z4 t]
  · unfold V; after_reads_at

theorem b5 (k : Fin 1024) : iblk m c 5 t (ix2 0 k) = m ((c : Thread nD τ).loc main_arg5) (ix1 k) := by
  trans V m c main_v17 (ix2 0 k)
  · blk_ext [iblk, z5 t]
  · unfold V; after_reads_at

theorem b6 (k : Fin 1024) : iblk m c 6 t (ix2 0 k) = m ((c : Thread nD τ).loc main_arg7) (ix1 k) := by
  trans V m c main_v18 (ix2 0 k)
  · blk_ext [iblk, z6 t]
  · unfold V; after_reads_at

theorem b7 (k : Fin 1024) : iblk m c 7 t (ix2 0 k) = m ((c : Thread nD τ).loc main_arg9) (ix1 k) := by
  trans V m c main_v19 (ix2 0 k)
  · blk_ext [iblk, z7 t]
  · unfold V; after_reads_at

theorem b8 (k : Fin 1024) : iblk m c 8 t (ix2 0 k) = m ((c : Thread nD τ).loc main_arg10) (ix1 k) := by
  trans V m c main_v20 (ix2 0 k)
  · blk_ext [iblk, z8 t]
  · unfold V; after_reads_at

theorem b9 (q : Fin 128) (k : Fin 1024) : iblk m c 9 t (ix2 q k)
    = if h : q.val < 64 then m ((c : Thread nD τ).loc main_arg6) (ix2 ⟨q.val, h⟩ k) else (0 : EReal) := by
  trans V m c main_v2 (ix2 q k)
  · blk_ext [iblk, z9 t]
  · by_cases h : q.val < 64
    · rw [dif_pos h]
      unfold V; after_reads_at
      rw [dif_pos h]
      after_reads_at
    · rw [dif_neg h]
      unfold V; after_reads_at
      rw [dif_neg h]
      after_reads_at

theorem b10 (q : Fin 128) (k : Fin 1024) : iblk m c 10 t (ix2 q k)
    = if h : q.val < 64 then (0 : EReal) else m ((c : Thread nD τ).loc main_arg8) (ix2 ⟨q.val - 64, by omega⟩ k) := by
  trans V m c main_v4 (ix2 q k)
  · blk_ext [iblk, z10 t]
  · by_cases h : q.val < 64
    · rw [dif_pos h]
      unfold V; after_reads_at
      rw [dif_pos h]
      after_reads_at
    · rw [dif_neg h]
      unfold V; after_reads_at
      rw [dif_neg h]
      after_reads_at

/-- The row's block of 64, as the words of the printed floor division. -/
theorem block_word : ∀ j : Fin 256, Scalar.select
          (IntOp.andi
            (IntOp.cmpi CmpIPredicate.ne
              (if BitVec.ofNat 32 j.val = 0 then 0 else if (BitVec.ofNat 32 j.val).msb = true then -1 else 1)
              (if (64#32 : BitVec 32) = 0 then 0 else if BitVec.msb (64#32 : BitVec 32) = true then -1 else (1 : BitVec 32)))
            (IntOp.cmpi CmpIPredicate.ne (IntOp.remsi ArithUnit.host (BitVec.ofNat 32 j.val) 64#32) 0#32))
          (IntOp.subi (IntOp.divsi ArithUnit.host (BitVec.ofNat 32 j.val) 64#32) 1#32)
          (IntOp.divsi ArithUnit.host (BitVec.ofNat 32 j.val) 64#32) = BitVec.ofNat 32 (j.val / 64) := by
  decide +kernel

theorem same_val (x j : Fin 256) :
    (FloatOps.uitofp FTy.bf16 (IntOp.cmpi CmpIPredicate.eq (BitVec.ofNat 32 (x.val / 64)) (BitVec.ofNat 32 (j.val / 64))) :
      Idealize.ShloMosaic.Ideal .bf16) = if x.val / 64 = j.val / 64 then (1 : EReal) else 0 := by
  rw [WordCmp.cmpi_eq_ofNat (by omega) (by omega)]
  by_cases h : x.val / 64 = j.val / 64
  · simp only [h, if_true]; show (((1 : Nat) : ℝ) : EReal) = 1; norm_num
  · simp only [h, if_false]; show (((0 : Nat) : ℝ) : EReal) = 0; norm_num

set_option maxHeartbeats 4000000 in
theorem b11 (x j : Fin 256) : iblk m c 11 t (ix2 x j) = if x.val / 64 = j.val / 64 then (1 : EReal) else 0 := by
  trans V m c main_v14 (ix2 x j)
  · blk_ext [iblk, z11 t]
  · unfold V; after_reads_at
    exact (congrArg₂ (fun u w => FloatOps.uitofp (F := Idealize.ShloMosaic.Ideal) FTy.bf16 (IntOp.cmpi CmpIPredicate.eq u w))
      (block_word x) (block_word j)).trans (same_val x j)

end Cert.StepBlk

end
-- ==== Proof.Step.Args.lean ====
/-
  THE SAMPLE GROUP'S PROJECTION over its arguments: 128 sequences of one token, each mixed with a projected row given for it. The
  operands are those of the prompt's projection without the decay since a chunk began.
-/
module

public import proofs.«01_k».proof.Proof.Proj.Args

@[expose] public section

noncomputable section

namespace Cert.Step

open Idealize.ShloMosaic Cert.Proj

/-- A matrix of 128 rows, by the row's number. -/
def rowsS {n : ℕ} (x : (⟨2, ![128, n]⟩ : Shape).Idx → EReal) (r : ℕ) (d : Fin n) : EReal :=
  if h : r < 128 then x (ix2 ⟨r, h⟩ d) else 0

theorem rowsS_at {n : ℕ} (x : (⟨2, ![128, n]⟩ : Shape).Idx → EReal) (i : Fin 128) (d : Fin n) : rowsS x i.val d = x (ix2 i d) :=
  dif_pos i.isLt

section Args

variable (x0 : (⟨2, ![128, 1024]⟩ : Shape).Idx → EReal) (x1 : (⟨1, ![1024]⟩ : Shape).Idx → EReal)
variable (x2 : (⟨2, ![1024, 6912]⟩ : Shape).Idx → EReal) (x3 : (⟨2, ![128, 3200]⟩ : Shape).Idx → EReal)
variable (x4 : (⟨1, ![3200]⟩ : Shape).Idx → EReal)

/-- The projected rows. -/
def prj (r : ℕ) (q : Fin 6912) : EReal := proj (rowsS x0) (vecA x1) (matA x2) r q
/-- The rows mixed with the given ones. -/
def mxd (r : ℕ) (q : Fin 3200) : EReal :=
  prj x0 x1 x2 r ⟨q.val, by omega⟩ + (rowsS x3 r q - prj x0 x1 x2 r ⟨q.val, by omega⟩) * x4 (ix1 q)

end Args

/-- The key columns are finite. -/
def KeysReal (x1 : (⟨1, ![1024]⟩ : Shape).Idx → EReal)
    (x2 : (⟨2, ![1024, 6912]⟩ : Shape).Idx → EReal) (x3 : (⟨2, ![128, 3200]⟩ : Shape).Idx → EReal)
    (x4 : (⟨1, ![3200]⟩ : Shape).Idx → EReal) (x9 : (⟨1, ![1024]⟩ : Shape).Idx → EReal) : Prop :=
  (∀ i, IsReal (x1 i)) ∧ (∀ (d k : Fin 1024), IsReal (x2 (ix2 d ⟨1024 + k.val, by omega⟩)))
    ∧ (∀ (s : Fin 128) (k : Fin 1024), IsReal (x3 (ix2 s ⟨1024 + k.val, by omega⟩)))
    ∧ (∀ k : Fin 1024, IsReal (x4 (ix1 ⟨1024 + k.val, by omega⟩))) ∧ ∀ i, IsReal (x9 i)

/-- Then so is every key. -/
theorem kk_real {x0 : (⟨2, ![128, 1024]⟩ : Shape).Idx → EReal} {x1 : (⟨1, ![1024]⟩ : Shape).Idx → EReal}
    {x2 : (⟨2, ![1024, 6912]⟩ : Shape).Idx → EReal} {x3 : (⟨2, ![128, 3200]⟩ : Shape).Idx → EReal}
    {x4 : (⟨1, ![3200]⟩ : Shape).Idx → EReal} {x9 : (⟨1, ![1024]⟩ : Shape).Idx → EReal}
    (h : KeysReal x1 x2 x3 x4 x9) (r : ℕ) (k : Fin 1024) :
    IsReal (mxd x0 x1 x2 x3 x4 r ⟨1024 + k.val, by omega⟩ * x9 (ix1 k)) := by
  obtain ⟨h1, h2, h3, h4, h9⟩ := h
  have hp : IsReal (prj x0 x1 x2 r ⟨1024 + k.val, by omega⟩) := proj_real (fun d => h1 _) _ (fun d => h2 d k) r
  refine IsReal.mul (hp.add (IsReal.mul (IsReal.sub ?_ hp) (h4 k))) (h9 _)
  unfold rowsS; split
  · exact h3 _ k
  · exact isReal_zero

end Cert.Step

end
-- ==== Proof.Step.Tile.lean ====
/-
  THE SAMPLE GROUP'S PROJECTION, BLOCK AND ARRAY: the body's values at its one grid point are the specification's rows, and so are the
  arrays the program leaves.
-/
module

public import proofs.«01_k».proof.Proof.Gen.Kernel6Ideal.Value
public import proofs.«01_k».proof.Proof.Step.Pay
public import proofs.«01_k».proof.Proof.Step.Blk
public import proofs.«01_k».proof.Proof.Step.Args
public import proofs.«01_k».proof.Proof.Proj.Tile
public import proofs.«01_k».proof.Proof.Out.Rect

@[expose] public section

set_option maxRecDepth 16384

noncomputable section

namespace Cert.StepTile

open Idealize.ShloMosaic Idealize.ShloMosaic.TcCoe Idealize.SL.Sem
open Cert.Kernel6Ideal Cert.Kernel6Ideal.Gen Cert.StepPay Cert.StepBlk Cert.Proj

variable (m : (ℓ : Loc nD τ sig) → Buf (Elt Ideal) ℓ) (c : Dev nD) (t : Fin cfg0.N)

/-- The projected rows, over the kernel's arguments. -/
abbrev prjK : ℕ → Fin 6912 → EReal := Step.prj (m ((c : Thread nD τ).loc main_arg0)) (m ((c : Thread nD τ).loc main_arg1)) (m ((c : Thread nD τ).loc main_arg2))
/-- The mixed rows. -/
abbrev mxK : ℕ → Fin 3200 → EReal := Step.mxd (m ((c : Thread nD τ).loc main_arg0)) (m ((c : Thread nD τ).loc main_arg1)) (m ((c : Thread nD τ).loc main_arg2)) (m ((c : Thread nD τ).loc main_arg3)) (m ((c : Thread nD τ).loc main_arg4))
abbrev ldK : ℕ → Fin 1024 → EReal := ld (mxK m c) (vecA (m ((c : Thread nD τ).loc main_arg5))) (matA (m ((c : Thread nD τ).loc main_arg6)))
abbrev rateK : ℕ → Fin 1024 → EReal := rate (mxK m c) (vecA (m ((c : Thread nD τ).loc main_arg7))) (matA (m ((c : Thread nD τ).loc main_arg8)))
abbrev kapK : ℕ → Fin 1024 → EReal := kap (mxK m c) (vecA (m ((c : Thread nD τ).loc main_arg9)))
abbrev keyK : ℕ → Fin 1024 → EReal := key (mxK m c) (vecA (m ((c : Thread nD τ).loc main_arg7))) (matA (m ((c : Thread nD τ).loc main_arg8))) (vecA (m ((c : Thread nD τ).loc main_arg10)))
abbrev xnK : ℕ → Fin 1024 → EReal := xn (Step.rowsS (m ((c : Thread nD τ).loc main_arg0))) (vecA (m ((c : Thread nD τ).loc main_arg1)))

/-! ## Loads -/

/-- A load of a whole matrix. -/
theorem ld_whole {a b : ℕ} {e : EltTy} (inb : ∀ i, (![0, 0] : Fin 2 → ℕ) i + (![a, b] : Fin 2 → ℕ) i ≤ (⟨2, ![a, b]⟩ : Shape).size i)
    (v : Vec Ideal ⟨2, ![a, b]⟩ e) : View.ld v (Rect.unit (s := ⟨2, ![a, b]⟩) ![0, 0] ![a, b] inb) = v := by
  funext i
  obtain ⟨r, k, rfl⟩ : ∃ (r : Fin a) (k : Fin b), i = ix2 r k := ⟨i 0, i 1, by funext q; fin_cases q <;> rfl⟩
  exact MatRect.ld_at inb v r k r k (by omega) (by omega)

theorem w_at {o n : ℕ} (inb : ∀ i, (![0, o] : Fin 2 → ℕ) i + (![1024, n] : Fin 2 → ℕ) i ≤ S1024x6912.size i) (ho : o + n ≤ 6912)
    (d : Fin 1024) (q : Fin n) : View.ld (iblk m c 2 t) (Rect.unit (s := S1024x6912) ![0, o] ![1024, n] inb) (ix2 d q)
      = m ((c : Thread nD τ).loc main_arg2) (ix2 d ⟨o + q.val, by omega⟩) :=
  (MatRect.ld_at inb _ d ⟨o + q.val, by omega⟩ d q (by omega) rfl).trans (b2 m c t d _)

theorem pv_at {o n : ℕ} (inb : ∀ i, (![0, o] : Fin 2 → ℕ) i + (![128, n] : Fin 2 → ℕ) i ≤ S128x3200.size i) (ho : o + n ≤ 3200)
    (l : Fin 128) (q : Fin n) : View.ld (iblk m c 3 t) (Rect.unit (s := S128x3200) ![0, o] ![128, n] inb) (ix2 l q)
      = m ((c : Thread nD τ).loc main_arg3) (ix2 l ⟨o + q.val, by omega⟩) :=
  (MatRect.ld_at inb _ l ⟨o + q.val, by omega⟩ l q (by omega) rfl).trans (b3 m c t l _)

theorem mu_at {o n : ℕ} (inb : ∀ i, (![0, o] : Fin 2 → ℕ) i + (![1, n] : Fin 2 → ℕ) i ≤ S1x3200.size i) (ho : o + n ≤ 3200)
    (q : Fin n) : View.ld (iblk m c 4 t) (Rect.unit (s := S1x3200) ![0, o] ![1, n] inb) (ix2 0 q)
      = m ((c : Thread nD τ).loc main_arg4) (ix1 ⟨o + q.val, by omega⟩) :=
  (MatRect.ld_at inb _ 0 ⟨o + q.val, by omega⟩ 0 q rfl rfl).trans (b4 m c t _)

theorem l0 : View.ld (iblk m c 0 t) r0_0 = iblk m c 0 t := ld_whole _ _
theorem l1 : View.ld (iblk m c 1 t) r0_1 = iblk m c 1 t := ld_whole _ _
theorem l5 : View.ld (iblk m c 5 t) r0_1 = iblk m c 5 t := ld_whole _ _
theorem l6 : View.ld (iblk m c 6 t) r0_1 = iblk m c 6 t := ld_whole _ _
theorem l7 : View.ld (iblk m c 7 t) r0_1 = iblk m c 7 t := ld_whole _ _
theorem l8 : View.ld (iblk m c 8 t) r0_1 = iblk m c 8 t := ld_whole _ _
theorem l9 : View.ld (iblk m c 9 t) r0_0 = iblk m c 9 t := ld_whole _ _
theorem l10 : View.ld (iblk m c 10 t) r0_0 = iblk m c 10 t := ld_whole _ _
theorem l11 : View.ld (iblk m c 11 t) r0_10 = iblk m c 11 t := ld_whole _ _

/-! ## The rows, their projection and the mix -/

theorem bxn_at (l : Fin 128) (d : Fin 1024) : bxn (View.ld (iblk m c 0 t) r0_0) (View.ld (iblk m c 1 t) r0_1) l d = xnK m c l.val d := by
  rw [l0, l1]
  unfold bxn xnK xn
  simp only [b0, b1, Step.rowsS_at]

theorem X_at (l : Fin 128) (d : Fin 1024) : k0_pay27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 l d) = xnK m c l.val d := by
  unfold k0_pay27
  exact (p7 _ _ l d).trans (bxn_at m c t l d)

theorem prj_at {n : ℕ} (X : Fin 128 → Fin 1024 → EReal) (hX : ∀ l d, X l d = xnK m c l.val d) (w : Fin 1024 → Fin n → EReal) (col : Fin n → Fin 6912)
    (hw : ∀ d q, w d q = m ((c : Thread nD τ).loc main_arg2) (ix2 d (col q))) (l : Fin 128) (q : Fin n) :
    bproj X w l q = prjK m c l.val (col q) := by
  unfold bproj prjK Step.prj proj
  exact Finset.sum_congr rfl fun d _ => congrArg₂ (· * ·) (hX l d) (hw d q)

theorem mix_at {o n : ℕ} (ho : o + n ≤ 3200) (X : Fin 128 → Fin 1024 → EReal) (hX : ∀ l d, X l d = xnK m c l.val d) (w : Fin 1024 → Fin n → EReal)
    (pv : Fin 128 → Fin n → EReal) (mu : Fin n → EReal)
    (hw : ∀ d q, w d q = m ((c : Thread nD τ).loc main_arg2) (ix2 d ⟨o + q.val, by omega⟩))
    (hp : ∀ l q, pv l q = m ((c : Thread nD τ).loc main_arg3) (ix2 l ⟨o + q.val, by omega⟩))
    (hm : ∀ q, mu q = m ((c : Thread nD τ).loc main_arg4) (ix1 ⟨o + q.val, by omega⟩)) (l : Fin 128) (q : Fin n) :
    bmix (bproj X w) pv mu l q = mxK m c l.val ⟨o + q.val, by omega⟩ := by
  have e := prj_at m c X hX w (fun q => ⟨o + q.val, by omega⟩) hw l q
  unfold bmix mxK Step.mxd
  rw [e, hp, hm, Step.rowsS_at]

theorem low_at (l : Fin 128) (q : Fin 128) : k0_pay28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 l q) = mxK m c l.val ⟨3072 + q.val, by omega⟩ := by
  unfold k0_pay28
  exact (p8 _ _ _ _ _ l q).trans (mix_at m c (by omega) _ (bxn_at m c t) _ _ _ (w_at m c t _ (by omega)) (pv_at m c t _ (by omega))
    (mu_at m c t _ (by omega)) l q)

theorem key_at (l : Fin 128) (q : Fin 1024) : k0_pay29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 l q) = mxK m c l.val ⟨1024 + q.val, by omega⟩ := by
  unfold k0_pay29
  exact (p9 _ _ _ _ _ l q).trans (mix_at m c (by omega) _ (bxn_at m c t) _ _ _ (w_at m c t _ (by omega)) (pv_at m c t _ (by omega))
    (mu_at m c t _ (by omega)) l q)

/-! ## The decays, the rates and the keys -/

theorem ld_at (l : Fin 128) (k : Fin 1024) :
    k0_pay12 (k0_pay28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (View.ld (iblk m c 9 t) r0_0) (View.ld (iblk m c 5 t) r0_1) (ix2 l k) = ldK m c l.val k := by
  refine (p12 _ _ _ l k).trans ?_
  rw [l9, l5]
  unfold ldK ld
  simp only [b5, b9, low_at]
  refine congrArg (fun s => logDecay (_ + s)) ?_
  exact PTile.sum_upper (fun q => Ideal.tanh (mxK m c l.val ⟨3072 + q.val, by omega⟩))
    (fun q => m ((c : Thread nD τ).loc main_arg6) (ix2 q k))

theorem rate_at (l : Fin 128) (k : Fin 1024) : k0_pay30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 l k) = rateK m c l.val k := by
  unfold k0_pay30
  refine (p15 _ _ _ l k).trans ?_
  rw [l10, l6]
  unfold rateK rate
  simp only [b6, b10, low_at]
  refine congrArg (fun s => sigm (_ + s)) ?_
  refine (PTile.sum_lower (fun q => mxK m c l.val ⟨3072 + q.val, by omega⟩)
    (fun q => m ((c : Thread nD τ).loc main_arg8) (ix2 q k))).trans (Finset.sum_congr rfl fun q _ => ?_)
  exact congrArg (fun a => mxK m c l.val a * _) (Fin.ext (by dsimp only; omega))

/-- The keys are finite, over the kernel's arguments. -/
abbrev KeysRealK : Prop := Step.KeysReal (m ((c : Thread nD τ).loc main_arg1)) (m ((c : Thread nD τ).loc main_arg2)) (m ((c : Thread nD τ).loc main_arg3)) (m ((c : Thread nD τ).loc main_arg4)) (m ((c : Thread nD τ).loc main_arg9))

theorem kap_at (h : KeysRealK m c) (l : Fin 128) (k : Fin 1024) : k0_pay31 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 l k) = kapK m c l.val k := by
  have e : k0_pay31 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = kapPay (k0_pay29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (View.ld (iblk m c 7 t) r0_1) (View.ld (iblk m c 11 t) r0_10) := rfl
  rw [e, l7, l11]
  refine (p24 _ _ _ (fun l k => ?_) (fun x j => b11 m c t x j) l k).trans ?_
  · rw [key_at, b7]; exact Step.kk_real h _ k
  unfold kapK kap kk
  simp only [key_at, b7]

/-! ## The blocks -/

theorem t12 (h : KeysRealK m c) (l : Fin 128) (k : Fin 1024) : out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 l k) = kapK m c l.val k := by
  unfold out0_12
  refine (MatRect.canon_hit _ _ _ l k l k (by omega) (by omega)).trans ?_
  exact kap_at m c t h l k

theorem t13 (h : KeysRealK m c) (l : Fin 128) (k : Fin 1024) : out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 l k) = kapK m c l.val k * rateK m c l.val k := by
  unfold out0_13
  refine (MatRect.canon_hit _ _ _ l k l k (by omega) (by omega)).trans ?_
  rw [p4, kap_at m c t h, rate_at]

theorem t14 (l : Fin 128) (k : Fin 1024) : out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 l k) = keyK m c l.val k := by
  unfold out0_14
  refine (MatRect.canon_hit _ _ _ l k l k (by omega) (by omega)).trans ?_
  rw [l8, p3, key_at, rate_at, b8]; rfl

theorem t15 (l : Fin 128) (k : Fin 1024) : out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 l k) = mxK m c l.val ⟨k.val, by omega⟩ := by
  unfold out0_15
  refine (MatRect.canon_hit _ _ _ l k l k (by omega) (by omega)).trans ?_
  refine (p25 _ _ _ _ l k).trans ((mix_at m c (by omega) _ (X_at m c t) _ _ _ (w_at m c t _ (by omega)) (pv_at m c t _ (by omega))
    (mu_at m c t _ (by omega)) l k).trans ?_)
  exact congrArg (mxK m c l.val) (Fin.ext (Nat.zero_add _))

theorem t16 (l : Fin 128) (k : Fin 1024) : out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 l k) = mxK m c l.val ⟨2048 + k.val, by omega⟩ := by
  unfold out0_16
  refine (MatRect.canon_hit _ _ _ l k l k (by omega) (by omega)).trans ?_
  exact (p26 _ _ _ _ l k).trans (mix_at m c (by omega) _ (X_at m c t) _ _ _ (w_at m c t _ (by omega)) (pv_at m c t _ (by omega))
    (mu_at m c t _ (by omega)) l k)

theorem t17 (l : Fin 128) (k : Fin 1024) : out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 l k) = Ideal.exp (ldK m c l.val k) := by
  unfold out0_17
  refine (MatRect.canon_hit _ _ _ l k l k (by omega) (by omega)).trans ?_
  exact (p5 _ _ _).trans (congrArg Ideal.exp (ld_at m c t l k))

theorem t18 (l : Fin 128) (k : Fin 1024) : out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 l k) = prjK m c l.val ⟨3200 + k.val, by omega⟩ := by
  unfold out0_18
  refine (MatRect.canon_hit _ _ _ l k l k (by omega) (by omega)).trans ?_
  exact (p10 _ _ l k).trans (prj_at m c _ (X_at m c t) _ (fun q => ⟨3200 + q.val, by omega⟩) (w_at m c t _ (by omega)) l k)

theorem t19 (l : Fin 128) (k : Fin 1024) : out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 l k) = prjK m c l.val ⟨4224 + k.val, by omega⟩ := by
  unfold out0_19
  refine (MatRect.canon_hit _ _ _ l k l k (by omega) (by omega)).trans ?_
  exact (p11 _ _ l k).trans (prj_at m c _ (X_at m c t) _ (fun q => ⟨4224 + q.val, by omega⟩) (w_at m c t _ (by omega)) l k)

theorem t20 (l : Fin 128) (k : Fin 1536) : out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 l k) = prjK m c l.val ⟨5248 + k.val, by omega⟩ := by
  unfold out0_20
  refine (MatRect.canon_hit _ _ _ l k l k (by omega) (by omega)).trans ?_
  exact (p1 _ _ l k).trans (prj_at m c _ (X_at m c t) _ (fun q => ⟨5248 + q.val, by omega⟩) (w_at m c t _ (by omega)) l k)

theorem t21 (l : Fin 128) (k : Fin 128) : out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 l k) = prjK m c l.val ⟨6784 + k.val, by omega⟩ := by
  unfold out0_21
  refine (MatRect.canon_hit _ _ _ l k l k (by omega) (by omega)).trans ?_
  exact (p2 _ _ l k).trans (prj_at m c _ (X_at m c t) _ (fun q => ⟨6784 + q.val, by omega⟩) (w_at m c t _ (by omega)) l k)

theorem t22 (l : Fin 128) (k : Fin 1024) : out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 l k) = xnK m c l.val k := by
  unfold out0_22
  refine (MatRect.canon_hit _ _ _ l k l k (by omega) (by omega)).trans ?_
  exact (p6 _ _ l k).trans (bxn_at m c t l k)

end Cert.StepTile

end
-- ==== Proof.Step.Final.lean ====
/-
  THE ARRAYS THE SAMPLE GROUP'S PROJECTION LEAVES: its one grid point's blocks are the whole arrays.
-/
module

public import proofs.«01_k».proof.Proof.Gen.Kernel6Ideal.Value
public import proofs.«01_k».proof.Proof.Step.Tile

@[expose] public section

set_option maxRecDepth 16384

noncomputable section

namespace Cert.StepFinal

open Idealize.ShloMosaic Idealize.ShloMosaic.TcCoe Idealize.SL.Sem
open Cert.Kernel6Ideal Cert.Kernel6Ideal.Gen Cert.StepTile

variable (m : (ℓ : Loc nD τ sig) → Buf (Elt Ideal) ℓ) (c : Dev nD)

/-- The grid's point. -/
abbrev t0 : Fin cfg0.N := ⟨0, by rw [show cfg0.N = 1 from N_0]; omega⟩

/-- An index of a matrix by its two coordinates. -/
theorem ix_eq {a b : ℕ} (u : (⟨2, ![a, b]⟩ : Shape).Idx) (r : Fin a) (k : Fin b) (h0 : (u 0).val = r.val) (h1 : (u 1).val = k.val) : u = ix2 r k := by
  funext q; apply Fin.ext
  match q with
  | ⟨0, _⟩ => exact h0
  | ⟨1, _⟩ => exact h1

theorem z12 : ∀ t : Fin cfg0.N, (cfg0.win 12).flush t = true ∧ win0_12.index t (0 : Fin 2) = 0 ∧ win0_12.index t (1 : Fin 2) = 0 := (by decide +kernel : ∀ t : Fin grid0.N, _)

theorem f12 (h : KeysRealK m c) (i : Fin 128) (k : Fin 1024) : (dats m 0 c).arrAt 12 cfg0.N (ix2 i k) = kapK m c i.val k := by
  obtain ⟨ef, e0, e1⟩ := z12 t0
  have e := congrFun (Value.blocks12 m c t0 ef) (ix2 i k)
  rw [Value.flushed12] at e
  have hi : ((cfg0.win 12).blk t0).view.emb (ix2 i k) = ix2 i k :=
    ix_eq _ i k (by show win0_12.index t0 (0 : Fin 2) * 128 + 1 * i.val = i.val; rw [e0]; omega) (by show win0_12.index t0 (1 : Fin 2) * 1024 + 1 * k.val = k.val; rw [e1]; omega)
  have hx : (cfg0.win 12).xinj (grid0.coords t0) (ix2 i k) = ix2 i k := ix_eq _ i k rfl rfl
  have hl : (dats m 0 c).arrAt 12 cfg0.N (((cfg0.win 12).blk t0).view.emb (ix2 i k))
      = out0_12 (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) ((cfg0.win 12).xinj (grid0.coords t0) (ix2 i k)) := e
  rw [hi, hx, t12 m c t0 h] at hl
  exact hl

theorem z13 : ∀ t : Fin cfg0.N, (cfg0.win 13).flush t = true ∧ win0_13.index t (0 : Fin 2) = 0 ∧ win0_13.index t (1 : Fin 2) = 0 := (by decide +kernel : ∀ t : Fin grid0.N, _)

theorem f13 (h : KeysRealK m c) (i : Fin 128) (k : Fin 1024) : (dats m 0 c).arrAt 13 cfg0.N (ix2 i k) = kapK m c i.val k * rateK m c i.val k := by
  obtain ⟨ef, e0, e1⟩ := z13 t0
  have e := congrFun (Value.blocks13 m c t0 ef) (ix2 i k)
  rw [Value.flushed13] at e
  have hi : ((cfg0.win 13).blk t0).view.emb (ix2 i k) = ix2 i k :=
    ix_eq _ i k (by show win0_13.index t0 (0 : Fin 2) * 128 + 1 * i.val = i.val; rw [e0]; omega) (by show win0_13.index t0 (1 : Fin 2) * 1024 + 1 * k.val = k.val; rw [e1]; omega)
  have hx : (cfg0.win 13).xinj (grid0.coords t0) (ix2 i k) = ix2 i k := ix_eq _ i k rfl rfl
  have hl : (dats m 0 c).arrAt 13 cfg0.N (((cfg0.win 13).blk t0).view.emb (ix2 i k))
      = out0_13 (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) ((cfg0.win 13).xinj (grid0.coords t0) (ix2 i k)) := e
  rw [hi, hx, t13 m c t0 h] at hl
  exact hl

theorem z14 : ∀ t : Fin cfg0.N, (cfg0.win 14).flush t = true ∧ win0_14.index t (0 : Fin 2) = 0 ∧ win0_14.index t (1 : Fin 2) = 0 := (by decide +kernel : ∀ t : Fin grid0.N, _)

theorem f14 (i : Fin 128) (k : Fin 1024) : (dats m 0 c).arrAt 14 cfg0.N (ix2 i k) = keyK m c i.val k := by
  obtain ⟨ef, e0, e1⟩ := z14 t0
  have e := congrFun (Value.blocks14 m c t0 ef) (ix2 i k)
  rw [Value.flushed14] at e
  have hi : ((cfg0.win 14).blk t0).view.emb (ix2 i k) = ix2 i k :=
    ix_eq _ i k (by show win0_14.index t0 (0 : Fin 2) * 128 + 1 * i.val = i.val; rw [e0]; omega) (by show win0_14.index t0 (1 : Fin 2) * 1024 + 1 * k.val = k.val; rw [e1]; omega)
  have hx : (cfg0.win 14).xinj (grid0.coords t0) (ix2 i k) = ix2 i k := ix_eq _ i k rfl rfl
  have hl : (dats m 0 c).arrAt 14 cfg0.N (((cfg0.win 14).blk t0).view.emb (ix2 i k))
      = out0_14 (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) ((cfg0.win 14).xinj (grid0.coords t0) (ix2 i k)) := e
  rw [hi, hx, t14] at hl
  exact hl

theorem z15 : ∀ t : Fin cfg0.N, (cfg0.win 15).flush t = true ∧ win0_15.index t (0 : Fin 2) = 0 ∧ win0_15.index t (1 : Fin 2) = 0 := (by decide +kernel : ∀ t : Fin grid0.N, _)

theorem f15 (i : Fin 128) (k : Fin 1024) : (dats m 0 c).arrAt 15 cfg0.N (ix2 i k) = mxK m c i.val ⟨k.val, by omega⟩ := by
  obtain ⟨ef, e0, e1⟩ := z15 t0
  have e := congrFun (Value.blocks15 m c t0 ef) (ix2 i k)
  rw [Value.flushed15] at e
  have hi : ((cfg0.win 15).blk t0).view.emb (ix2 i k) = ix2 i k :=
    ix_eq _ i k (by show win0_15.index t0 (0 : Fin 2) * 128 + 1 * i.val = i.val; rw [e0]; omega) (by show win0_15.index t0 (1 : Fin 2) * 1024 + 1 * k.val = k.val; rw [e1]; omega)
  have hx : (cfg0.win 15).xinj (grid0.coords t0) (ix2 i k) = ix2 i k := ix_eq _ i k rfl rfl
  have hl : (dats m 0 c).arrAt 15 cfg0.N (((cfg0.win 15).blk t0).view.emb (ix2 i k))
      = out0_15 (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) ((cfg0.win 15).xinj (grid0.coords t0) (ix2 i k)) := e
  rw [hi, hx, t15] at hl
  exact hl

theorem z16 : ∀ t : Fin cfg0.N, (cfg0.win 16).flush t = true ∧ win0_16.index t (0 : Fin 2) = 0 ∧ win0_16.index t (1 : Fin 2) = 0 := (by decide +kernel : ∀ t : Fin grid0.N, _)

theorem f16 (i : Fin 128) (k : Fin 1024) : (dats m 0 c).arrAt 16 cfg0.N (ix2 i k) = mxK m c i.val ⟨2048 + k.val, by omega⟩ := by
  obtain ⟨ef, e0, e1⟩ := z16 t0
  have e := congrFun (Value.blocks16 m c t0 ef) (ix2 i k)
  rw [Value.flushed16] at e
  have hi : ((cfg0.win 16).blk t0).view.emb (ix2 i k) = ix2 i k :=
    ix_eq _ i k (by show win0_16.index t0 (0 : Fin 2) * 128 + 1 * i.val = i.val; rw [e0]; omega) (by show win0_16.index t0 (1 : Fin 2) * 1024 + 1 * k.val = k.val; rw [e1]; omega)
  have hx : (cfg0.win 16).xinj (grid0.coords t0) (ix2 i k) = ix2 i k := ix_eq _ i k rfl rfl
  have hl : (dats m 0 c).arrAt 16 cfg0.N (((cfg0.win 16).blk t0).view.emb (ix2 i k))
      = out0_16 (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) ((cfg0.win 16).xinj (grid0.coords t0) (ix2 i k)) := e
  rw [hi, hx, t16] at hl
  exact hl

theorem z17 : ∀ t : Fin cfg0.N, (cfg0.win 17).flush t = true ∧ win0_17.index t (0 : Fin 2) = 0 ∧ win0_17.index t (1 : Fin 2) = 0 := (by decide +kernel : ∀ t : Fin grid0.N, _)

theorem f17 (i : Fin 128) (k : Fin 1024) : (dats m 0 c).arrAt 17 cfg0.N (ix2 i k) = Ideal.exp (ldK m c i.val k) := by
  obtain ⟨ef, e0, e1⟩ := z17 t0
  have e := congrFun (Value.blocks17 m c t0 ef) (ix2 i k)
  rw [Value.flushed17] at e
  have hi : ((cfg0.win 17).blk t0).view.emb (ix2 i k) = ix2 i k :=
    ix_eq _ i k (by show win0_17.index t0 (0 : Fin 2) * 128 + 1 * i.val = i.val; rw [e0]; omega) (by show win0_17.index t0 (1 : Fin 2) * 1024 + 1 * k.val = k.val; rw [e1]; omega)
  have hx : (cfg0.win 17).xinj (grid0.coords t0) (ix2 i k) = ix2 i k := ix_eq _ i k rfl rfl
  have hl : (dats m 0 c).arrAt 17 cfg0.N (((cfg0.win 17).blk t0).view.emb (ix2 i k))
      = out0_17 (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) ((cfg0.win 17).xinj (grid0.coords t0) (ix2 i k)) := e
  rw [hi, hx, t17] at hl
  exact hl

theorem z18 : ∀ t : Fin cfg0.N, (cfg0.win 18).flush t = true ∧ win0_18.index t (0 : Fin 2) = 0 ∧ win0_18.index t (1 : Fin 2) = 0 := (by decide +kernel : ∀ t : Fin grid0.N, _)

theorem f18 (i : Fin 128) (k : Fin 1024) : (dats m 0 c).arrAt 18 cfg0.N (ix2 i k) = prjK m c i.val ⟨3200 + k.val, by omega⟩ := by
  obtain ⟨ef, e0, e1⟩ := z18 t0
  have e := congrFun (Value.blocks18 m c t0 ef) (ix2 i k)
  rw [Value.flushed18] at e
  have hi : ((cfg0.win 18).blk t0).view.emb (ix2 i k) = ix2 i k :=
    ix_eq _ i k (by show win0_18.index t0 (0 : Fin 2) * 128 + 1 * i.val = i.val; rw [e0]; omega) (by show win0_18.index t0 (1 : Fin 2) * 1024 + 1 * k.val = k.val; rw [e1]; omega)
  have hx : (cfg0.win 18).xinj (grid0.coords t0) (ix2 i k) = ix2 i k := ix_eq _ i k rfl rfl
  have hl : (dats m 0 c).arrAt 18 cfg0.N (((cfg0.win 18).blk t0).view.emb (ix2 i k))
      = out0_18 (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) ((cfg0.win 18).xinj (grid0.coords t0) (ix2 i k)) := e
  rw [hi, hx, t18] at hl
  exact hl

theorem z19 : ∀ t : Fin cfg0.N, (cfg0.win 19).flush t = true ∧ win0_19.index t (0 : Fin 2) = 0 ∧ win0_19.index t (1 : Fin 2) = 0 := (by decide +kernel : ∀ t : Fin grid0.N, _)

theorem f19 (i : Fin 128) (k : Fin 1024) : (dats m 0 c).arrAt 19 cfg0.N (ix2 i k) = prjK m c i.val ⟨4224 + k.val, by omega⟩ := by
  obtain ⟨ef, e0, e1⟩ := z19 t0
  have e := congrFun (Value.blocks19 m c t0 ef) (ix2 i k)
  rw [Value.flushed19] at e
  have hi : ((cfg0.win 19).blk t0).view.emb (ix2 i k) = ix2 i k :=
    ix_eq _ i k (by show win0_19.index t0 (0 : Fin 2) * 128 + 1 * i.val = i.val; rw [e0]; omega) (by show win0_19.index t0 (1 : Fin 2) * 1024 + 1 * k.val = k.val; rw [e1]; omega)
  have hx : (cfg0.win 19).xinj (grid0.coords t0) (ix2 i k) = ix2 i k := ix_eq _ i k rfl rfl
  have hl : (dats m 0 c).arrAt 19 cfg0.N (((cfg0.win 19).blk t0).view.emb (ix2 i k))
      = out0_19 (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) ((cfg0.win 19).xinj (grid0.coords t0) (ix2 i k)) := e
  rw [hi, hx, t19] at hl
  exact hl

theorem z20 : ∀ t : Fin cfg0.N, (cfg0.win 20).flush t = true ∧ win0_20.index t (0 : Fin 2) = 0 ∧ win0_20.index t (1 : Fin 2) = 0 := (by decide +kernel : ∀ t : Fin grid0.N, _)

theorem f20 (i : Fin 128) (k : Fin 1536) : (dats m 0 c).arrAt 20 cfg0.N (ix2 i k) = prjK m c i.val ⟨5248 + k.val, by omega⟩ := by
  obtain ⟨ef, e0, e1⟩ := z20 t0
  have e := congrFun (Value.blocks20 m c t0 ef) (ix2 i k)
  rw [Value.flushed20] at e
  have hi : ((cfg0.win 20).blk t0).view.emb (ix2 i k) = ix2 i k :=
    ix_eq _ i k (by show win0_20.index t0 (0 : Fin 2) * 128 + 1 * i.val = i.val; rw [e0]; omega) (by show win0_20.index t0 (1 : Fin 2) * 1536 + 1 * k.val = k.val; rw [e1]; omega)
  have hx : (cfg0.win 20).xinj (grid0.coords t0) (ix2 i k) = ix2 i k := ix_eq _ i k rfl rfl
  have hl : (dats m 0 c).arrAt 20 cfg0.N (((cfg0.win 20).blk t0).view.emb (ix2 i k))
      = out0_20 (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) ((cfg0.win 20).xinj (grid0.coords t0) (ix2 i k)) := e
  rw [hi, hx, t20] at hl
  exact hl

theorem z21 : ∀ t : Fin cfg0.N, (cfg0.win 21).flush t = true ∧ win0_21.index t (0 : Fin 2) = 0 ∧ win0_21.index t (1 : Fin 2) = 0 := (by decide +kernel : ∀ t : Fin grid0.N, _)

theorem f21 (i : Fin 128) (k : Fin 128) : (dats m 0 c).arrAt 21 cfg0.N (ix2 i k) = prjK m c i.val ⟨6784 + k.val, by omega⟩ := by
  obtain ⟨ef, e0, e1⟩ := z21 t0
  have e := congrFun (Value.blocks21 m c t0 ef) (ix2 i k)
  rw [Value.flushed21] at e
  have hi : ((cfg0.win 21).blk t0).view.emb (ix2 i k) = ix2 i k :=
    ix_eq _ i k (by show win0_21.index t0 (0 : Fin 2) * 128 + 1 * i.val = i.val; rw [e0]; omega) (by show win0_21.index t0 (1 : Fin 2) * 128 + 1 * k.val = k.val; rw [e1]; omega)
  have hx : (cfg0.win 21).xinj (grid0.coords t0) (ix2 i k) = ix2 i k := ix_eq _ i k rfl rfl
  have hl : (dats m 0 c).arrAt 21 cfg0.N (((cfg0.win 21).blk t0).view.emb (ix2 i k))
      = out0_21 (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) ((cfg0.win 21).xinj (grid0.coords t0) (ix2 i k)) := e
  rw [hi, hx, t21] at hl
  exact hl

theorem z22 : ∀ t : Fin cfg0.N, (cfg0.win 22).flush t = true ∧ win0_22.index t (0 : Fin 2) = 0 ∧ win0_22.index t (1 : Fin 2) = 0 := (by decide +kernel : ∀ t : Fin grid0.N, _)

theorem f22 (i : Fin 128) (k : Fin 1024) : (dats m 0 c).arrAt 22 cfg0.N (ix2 i k) = xnK m c i.val k := by
  obtain ⟨ef, e0, e1⟩ := z22 t0
  have e := congrFun (Value.blocks22 m c t0 ef) (ix2 i k)
  rw [Value.flushed22] at e
  have hi : ((cfg0.win 22).blk t0).view.emb (ix2 i k) = ix2 i k :=
    ix_eq _ i k (by show win0_22.index t0 (0 : Fin 2) * 128 + 1 * i.val = i.val; rw [e0]; omega) (by show win0_22.index t0 (1 : Fin 2) * 1024 + 1 * k.val = k.val; rw [e1]; omega)
  have hx : (cfg0.win 22).xinj (grid0.coords t0) (ix2 i k) = ix2 i k := ix_eq _ i k rfl rfl
  have hl : (dats m 0 c).arrAt 22 cfg0.N (((cfg0.win 22).blk t0).view.emb (ix2 i k))
      = out0_22 (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) ((cfg0.win 22).xinj (grid0.coords t0) (ix2 i k)) := e
  rw [hi, hx, t22] at hl
  exact hl

end Cert.StepFinal

end
-- ==== Proof.Step.Ref.lean ====
/-
  THE SAMPLE GROUP'S REFERENCE PROJECTION, read at an index: its eleven results are the specification's rows.
-/
module

public import proofs.«01_k».proof.Proof.Gen.Reference6Ideal.Read
public import proofs.«01_k».proof.Proof.Step.Args
public import Idealize.ShloMosaic.Lib.KernelVsHost

@[expose] public section

set_option maxRecDepth 16384

noncomputable section

namespace Cert.StepRef

open Idealize.ShloMosaic Idealize.SL.Sem
open Cert.Reference6Ideal Cert.Reference6Ideal.Gen Cert.Reference6Ideal.Read Cert.Proj Cert.Step

variable (x0 : Vec Ideal S128x1024 .f32) (x1 : Vec Ideal S1024 .f32) (x2 : Vec Ideal S1024x6912 .bf16) (x3 : Vec Ideal S128x3200 .f32)
  (x4 : Vec Ideal S3200 .f32) (x5 : Vec Ideal S1024 .f32) (x6 : Vec Ideal S64x1024 .f32) (x7 : Vec Ideal S1024 .f32)
  (x8 : Vec Ideal S64x1024 .f32) (x9 x10 : Vec Ideal S1024 .f32)

/-! ## The normalised rows, their projection, and the mix with the given row -/

theorem v12_at (i : Fin 128) (d : Fin 1024) : val_main_v12 (F := Ideal) x0 x1 (ix2 i d) = xn (rowsS x0) (vecA x1) i.val d := by
  unfold xn
  simp only [rowsS_at]
  pointwise [val_main_v12, val_main_v11, val_main_v10, val_main_v9, val_main_v8, val_main_v7, val_main_v6, val_main_v5, val_main_v4, val_main_v3, val_main_v2, val_main_v1, val_main_v0, val_main_cst, val_main_cst_0, val_main_cst_1]

theorem v14_at (i : Fin 128) (q : Fin 6912) : val_main_v14 (F := Ideal) x0 x1 x2 (ix2 i q) = Step.prj x0 x1 x2 i.val q := by
  show _ = ∑ d : Fin 1024, xn (rowsS x0) (vecA x1) i.val d * x2 (ix2 d q)
  refine (val_main_v14_apply _ _ _ _).trans (Finset.sum_congr rfl fun d _ => congrArg₂ (fun a b : EReal => a * b) ?_ ?_)
  · exact (congrArg (val_main_v12 (F := Ideal) x0 x1) (funext fun a => by fin_cases a <;> rfl)).trans (v12_at x0 x1 i d)
  · pointwise [val_main_v13]
    exact congrArg x2 (funext fun a => by fin_cases a <;> rfl)

/-- The mixed rows. -/
theorem v20_at (i : Fin 128) (q : Fin 3200) : val_main_v20 (F := Ideal) x0 x1 x2 x3 x4 (ix2 i q) = Step.mxd x0 x1 x2 x3 x4 i.val q := by
  unfold Step.mxd
  rw [rowsS_at, ← v14_at]
  pointwise [val_main_v20, val_main_v19, val_main_v18, val_main_v17, val_main_v16, val_main_v15]

/-! ## The operands of the recurrence -/

theorem v27_at (i : Fin 128) (k : Fin 1024) : val_main_v27 (F := Ideal) x0 x1 x2 x3 x4 x6 (ix2 i k)
    = ∑ q : Fin 64, Ideal.tanh (Step.mxd x0 x1 x2 x3 x4 i.val ⟨3072 + q.val, by omega⟩) * x6 (ix2 q k) := by
  refine (val_main_v27_apply _ _ _ _ _ _ _).trans (Finset.sum_congr rfl fun q _ => congrArg₂ (fun a b : EReal => a * b) ?_ ?_)
  · pointwise [val_main_v26, val_main_v24]
    rw [← v20_at]
  · exact congrArg x6 (funext fun a => by fin_cases a <;> rfl)

theorem v44_at (i : Fin 128) (k : Fin 1024) : val_main_v44 (F := Ideal) x0 x1 x2 x3 x4 x8 (ix2 i k)
    = ∑ q : Fin 64, Step.mxd x0 x1 x2 x3 x4 i.val ⟨3136 + q.val, by omega⟩ * x8 (ix2 q k) := by
  refine (val_main_v44_apply _ _ _ _ _ _ _).trans (Finset.sum_congr rfl fun q _ => congrArg₂ (fun a b : EReal => a * b) ?_ ?_)
  · pointwise [val_main_v25]
    rw [← v20_at]
  · exact congrArg x8 (funext fun a => by fin_cases a <;> rfl)

/-- The log decays. -/
theorem v43_at (i : Fin 128) (k : Fin 1024) : val_main_v43 (F := Ideal) x0 x1 x2 x3 x4 x5 x6 (ix2 i k)
    = ld (Step.mxd x0 x1 x2 x3 x4) (vecA x5) (matA x6) i.val k := by
  unfold ld logDecay Ssd.softplus
  simp only [vecA, matA, ← v27_at]
  pointwise [val_main_v43, val_main_v42, val_main_v41, val_main_v40, val_main_v39, val_main_v38, val_main_v37, val_main_v36, val_main_v35, val_main_v34, val_main_v33, val_main_v32, val_main_v31, val_main_v30, val_main_v29, val_main_v28, val_main_cst_2, val_main_cst_3]
  rfl

/-- The learning rates. -/
theorem v53_at (i : Fin 128) (k : Fin 1024) : val_main_v53 (F := Ideal) x0 x1 x2 x3 x4 x7 x8 (ix2 i k)
    = rate (Step.mxd x0 x1 x2 x3 x4) (vecA x7) (matA x8) i.val k := by
  unfold rate sigm
  simp only [vecA, matA, ← v44_at]
  pointwise [val_main_v53, val_main_v52, val_main_v51, val_main_v50, val_main_v49, val_main_v48, val_main_v47, val_main_v46, val_main_v45, val_main_cst_4, val_main_cst_5]

theorem v56_at (i : Fin 128) (k : Fin 1024) : val_main_v56 (F := Ideal) x0 x1 x2 x3 x4 x9 (ix2 i k)
    = kk (Step.mxd x0 x1 x2 x3 x4) (vecA x9) i.val k := by
  unfold kk
  rw [← v20_at]
  pointwise [val_main_v56, val_main_v55, val_main_v54, val_main_v22]

theorem v57_at (i : Fin 128) (h : Fin 16) (p : Fin 64) (k : Fin 1024) (e : k.val = h.val * 64 + p.val) :
    val_main_v57 (F := Ideal) x0 x1 x2 x3 x4 x9 (ix3 i h p) = kk (Step.mxd x0 x1 x2 x3 x4) (vecA x9) i.val k := by
  pointwise [val_main_v57]
  rw [v56_at]
  exact congrArg₂ (kk (Step.mxd x0 x1 x2 x3 x4) (vecA x9)) rfl (Fin.ext e.symm)

/-- The normalised removal keys. -/
theorem r66_at (i : Fin 128) (k : Fin 1024) : val_main_v66 (F := Ideal) x0 x1 x2 x3 x4 x9 (ix2 i k)
    = kap (Step.mxd x0 x1 x2 x3 x4) (vecA x9) i.val k := by
  unfold kap headSq
  pointwise [val_main_v66, val_main_v65, val_main_v64, val_main_v63, val_main_v62, val_main_v61, val_main_v60, val_main_v59, val_main_v58, val_main_cst_6, val_main_cst_7]
  have e1 : val_main_v57 (F := Ideal) x0 x1 x2 x3 x4 x9 (ix3 i ⟨k.val / 64, by omega⟩ ⟨k.val % 64, by omega⟩)
      = kk (Step.mxd x0 x1 x2 x3 x4) (vecA x9) i.val k := v57_at _ _ _ _ _ _ _ _ _ _ (by dsimp only; omega)
  have e2 (q : Fin 64) : val_main_v57 (F := Ideal) x0 x1 x2 x3 x4 x9 (ix3 i ⟨k.val / 64, by omega⟩ q)
      = kk (Step.mxd x0 x1 x2 x3 x4) (vecA x9) i.val ⟨64 * (k.val / 64) + q.val, by omega⟩ := v57_at _ _ _ _ _ _ _ _ _ _ (by dsimp only; omega)
  rw [e1]
  simp only [e2]

/-! ## The results -/

/-- The removal's write keys. -/
theorem r75_at (i : Fin 128) (k : Fin 1024) : val_main_v75 (F := Ideal) x0 x1 x2 x3 x4 x7 x8 x9 (ix2 i k)
    = kap (Step.mxd x0 x1 x2 x3 x4) (vecA x9) i.val k * rate (Step.mxd x0 x1 x2 x3 x4) (vecA x7) (matA x8) i.val k := by
  rw [← r66_at, ← v53_at]
  pointwise [val_main_v75]

/-- The keys. -/
theorem r74_at (i : Fin 128) (k : Fin 1024) : val_main_v74 (F := Ideal) x0 x1 x2 x3 x4 x7 x8 x10 (ix2 i k)
    = key (Step.mxd x0 x1 x2 x3 x4) (vecA x7) (matA x8) (vecA x10) i.val k := by
  unfold key
  rw [← v20_at, ← v53_at]
  pointwise [val_main_v74, val_main_v73, val_main_v72, val_main_v71, val_main_v70, val_main_v69, val_main_v68, val_main_v67, val_main_v22, val_main_cst_8, val_main_cst_9]

/-- The receptances. -/
theorem r21_at (i : Fin 128) (k : Fin 1024) : val_main_v21 (F := Ideal) x0 x1 x2 x3 x4 (ix2 i k)
    = Step.mxd x0 x1 x2 x3 x4 i.val ⟨k.val, by omega⟩ := by
  rw [← v20_at]
  pointwise [val_main_v21]

/-- The values. -/
theorem r23_at (i : Fin 128) (k : Fin 1024) : val_main_v23 (F := Ideal) x0 x1 x2 x3 x4 (ix2 i k)
    = Step.mxd x0 x1 x2 x3 x4 i.val ⟨2048 + k.val, by omega⟩ := by
  rw [← v20_at]
  pointwise [val_main_v23]

/-- The decays. -/
theorem r76_at (i : Fin 128) (k : Fin 1024) : val_main_v76 (F := Ideal) x0 x1 x2 x3 x4 x5 x6 (ix2 i k)
    = Ideal.exp (ld (Step.mxd x0 x1 x2 x3 x4) (vecA x5) (matA x6) i.val k) := by
  rw [← v43_at]
  pointwise [val_main_v76]

/-- The first gate's columns. -/
theorem r77_at (i : Fin 128) (k : Fin 1024) : val_main_v77 (F := Ideal) x0 x1 x2 (ix2 i k) = Step.prj x0 x1 x2 i.val ⟨3200 + k.val, by omega⟩ := by
  rw [← v14_at]
  pointwise [val_main_v77]

/-- The second gate's columns. -/
theorem r78_at (i : Fin 128) (k : Fin 1024) : val_main_v78 (F := Ideal) x0 x1 x2 (ix2 i k) = Step.prj x0 x1 x2 i.val ⟨4224 + k.val, by omega⟩ := by
  rw [← v14_at]
  pointwise [val_main_v78]

/-- The scan's columns. -/
theorem r79_at (i : Fin 128) (k : Fin 1536) : val_main_v79 (F := Ideal) x0 x1 x2 (ix2 i k) = Step.prj x0 x1 x2 i.val ⟨5248 + k.val, by omega⟩ := by
  rw [← v14_at]
  pointwise [val_main_v79]

/-- The scan's steps. -/
theorem r80_at (i : Fin 128) (k : Fin 128) : val_main_v80 (F := Ideal) x0 x1 x2 (ix2 i k) = Step.prj x0 x1 x2 i.val ⟨6784 + k.val, by omega⟩ := by
  rw [← v14_at]
  pointwise [val_main_v80]

end Cert.StepRef

end
-- ==== Proof.Step.Claim.lean ====
/-
  THE CLAIMS of the sample group's input projection: the frames, and the equality of the kernel's eleven results with the reference's
  where the arguments the removal key is made of are finite.
-/
module

public import proofs.«01_k».proof.Defs
public import proofs.«01_k».proof.Proof.Gen.Kernel6.Frame
public import proofs.«01_k».proof.Proof.Gen.Kernel6Ideal.Frame
public import proofs.«01_k».proof.Proof.Gen.Reference6Ideal.Run
public import proofs.«01_k».proof.Proof.Proj.Claim
public import proofs.«01_k».proof.Proof.Step.Final
public import proofs.«01_k».proof.Proof.Step.Ref
public import Idealize.ShloMosaic.Lib.ReduceAll
public import Idealize.ShloMosaic.Adequacy
public import Idealize.ShloMosaic.Init

@[expose] public section

set_option maxRecDepth 16384

noncomputable section

namespace Cert.StepClaims

open Idealize.ShloMosaic Idealize.ShloMosaic.TcCoe Idealize.SL.Sem Idealize.ShloMosaic.StableHlo Cert.Proj

/-- The side conditions that the precondition's operations state. -/
instance preFacts : Cert.Pre_finite_step_keys.Facts where
  h_S_ := by decide
  bcast_S_S1024 := by decide
  reducesTo_S1024_S_d0 := by decide
  bitsLt_bf16_f32 := by decide
  slices_S1024x6912_S1024x1024_0_1024 := by decide
  bcast_S_S1024x1024 := by decide
  reducesTo_S1024x1024_S_d0_1 := by decide
  slices_S128x3200_S128x1024_0_1024 := by decide
  bcast_S_S128x1024 := by decide
  reducesTo_S128x1024_S_d0_1 := by decide
  slices_S3200_S1024_1024 := by decide

/-- The device's frame. -/
theorem frame_p : Cert.quiescent_Kernel6 := fun m ρ _ => Cert.Kernel6.Gen.frame m ρ
/-- The idealized kernel's frame. -/
theorem frame_pi : Cert.quiescent_Kernel6Ideal := fun m ρ _ => Cert.Kernel6Ideal.Gen.frame m ρ
/-- The same under the precondition. -/
theorem frame_pi_pre : Cert.quiescent_Kernel6Ideal_pre_finite_step_keys := fun m ρ _ => Cert.Kernel6Ideal.Gen.frame m ρ
/-- The reference's frame: its generated run keeps the arguments, and it has no semaphore. -/
theorem frame_ri : Cert.quiescent_Reference6Ideal := fun m ρ _ =>
  (θ_run Cert.Reference6Ideal.defs _ _).mono (fun r h => ⟨fun c => (h c).2.2.2.2.2.2.2.2.2.2.2,
      Idealize.ShloMosaic.sem_eq_zero_of_no_sems (by decide) r.2⟩)
    (Cert.Reference6Ideal.Value.run (F := Ideal) m ρ)
/-- The same under the precondition. -/
theorem frame_ri_pre : Cert.quiescent_Reference6Ideal_pre_finite_step_keys := fun m ρ _ => frame_ri m ρ trivial

/-- No operation was replaced. -/
theorem preserves : Cert.preserves_Kernel6_Kernel6Ideal := trivial

/-- Matrices that agree entry by entry are equal. -/
theorem ext2 {a b : ℕ} {α : Type} {f g : (⟨2, ![a, b]⟩ : Shape).Idx → α} (h : ∀ r k, f (ix2 r k) = g (ix2 r k)) : f = g := by
  funext i
  obtain ⟨r, k, rfl⟩ : ∃ (r : Fin a) (k : Fin b), i = ix2 r k := ⟨i 0, i 1, by funext q; fin_cases q <;> rfl⟩
  exact h r k

/-- Where the precondition holds, what the removal key is made of is finite. -/
theorem real_of_pre (x0 : Vec Ideal ⟨2, ![128, 1024]⟩ .f32) (x1 : Vec Ideal ⟨1, ![1024]⟩ .f32) (x2 : Vec Ideal ⟨2, ![1024, 6912]⟩ .bf16) (x3 : Vec Ideal ⟨2, ![128, 3200]⟩ .f32) (x4 : Vec Ideal ⟨1, ![3200]⟩ .f32) (x5 : Vec Ideal ⟨1, ![1024]⟩ .f32) (x6 : Vec Ideal ⟨2, ![64, 1024]⟩ .f32) (x7 : Vec Ideal ⟨1, ![1024]⟩ .f32) (x8 : Vec Ideal ⟨2, ![64, 1024]⟩ .f32) (x9 : Vec Ideal ⟨1, ![1024]⟩ .f32) (x10 : Vec Ideal ⟨1, ![1024]⟩ .f32)
    (h : Cert.Pre_finite_step_keys.fn (F := Ideal) x0 x1 x2 x3 x4 x5 x6 x7 x8 x9 x10 = fun _ => 1#1) : Step.KeysReal x1 x2 x3 x4 x9 := by
  have h0 := congrFun h ix0
  dsimp only [Cert.Pre_finite_step_keys.fn, Cert.Pre_finite_step_keys.fn_part1] at h0
  haveI : Subsingleton Cert.Pre_finite_step_keys.S_.Idx := ⟨fun a b => funext fun q => q.elim0⟩
  obtain ⟨h0, g9⟩ := ProjClaims.both_one _ _ _ h0
  obtain ⟨h0, g4⟩ := ProjClaims.both_one _ _ _ h0
  obtain ⟨h0, g3⟩ := ProjClaims.both_one _ _ _ h0
  obtain ⟨g1, g2⟩ := ProjClaims.both_one _ _ _ h0
  refine ⟨fun i => ?_, fun d k => ?_, fun s k => ?_, fun k => ?_, fun i => ?_⟩
  · obtain ⟨k, rfl⟩ : ∃ k : Fin 1024, i = ix1 k := ⟨i 0, by funext a; fin_cases a; rfl⟩
    have h1 := Host.reduce_andi_all _ _ _ _ _ g1 (ix1 k)
    pointwise [] at h1
    exact ProjClaims.real_of_lt h1
  · have h1 := Host.reduce_andi_all _ _ _ _ _ g2 (ix2 d k)
    pointwise [] at h1
    exact ProjClaims.real_of_lt h1
  · have h1 := Host.reduce_andi_all _ _ _ _ _ g3 (ix2 s k)
    pointwise [] at h1
    exact ProjClaims.real_of_lt h1
  · have h1 := Host.reduce_andi_all _ _ _ _ _ g4 (ix1 k)
    pointwise [] at h1
    exact ProjClaims.real_of_lt h1
  · obtain ⟨k, rfl⟩ : ∃ k : Fin 1024, i = ix1 k := ⟨i 0, by funext a; fin_cases a; rfl⟩
    have h1 := Host.reduce_andi_all _ _ _ _ _ g9 (ix1 k)
    pointwise [] at h1
    exact ProjClaims.real_of_lt h1

section Results

variable (m : (ℓ : Loc Cert.Kernel6Ideal.nD Cert.Kernel6Ideal.τ Cert.Kernel6Ideal.sig) → Buf (Elt Ideal) ℓ) (c : Dev Cert.Kernel6Ideal.nD)
  (hK : Cert.StepTile.KeysRealK m c)
  (x0 : Vec Ideal ⟨2, ![128, 1024]⟩ .f32)
  (x1 : Vec Ideal ⟨1, ![1024]⟩ .f32)
  (x2 : Vec Ideal ⟨2, ![1024, 6912]⟩ .bf16)
  (x3 : Vec Ideal ⟨2, ![128, 3200]⟩ .f32)
  (x4 : Vec Ideal ⟨1, ![3200]⟩ .f32)
  (x5 : Vec Ideal ⟨1, ![1024]⟩ .f32)
  (x6 : Vec Ideal ⟨2, ![64, 1024]⟩ .f32)
  (x7 : Vec Ideal ⟨1, ![1024]⟩ .f32)
  (x8 : Vec Ideal ⟨2, ![64, 1024]⟩ .f32)
  (x9 : Vec Ideal ⟨1, ![1024]⟩ .f32)
  (x10 : Vec Ideal ⟨1, ![1024]⟩ .f32)
  (e0 : x0 = m ((c.tc : Thread Cert.Kernel6Ideal.nD Cert.Kernel6Ideal.τ).loc Cert.Kernel6Ideal.main_arg0))
  (e1 : x1 = m ((c.tc : Thread Cert.Kernel6Ideal.nD Cert.Kernel6Ideal.τ).loc Cert.Kernel6Ideal.main_arg1))
  (e2 : x2 = m ((c.tc : Thread Cert.Kernel6Ideal.nD Cert.Kernel6Ideal.τ).loc Cert.Kernel6Ideal.main_arg2))
  (e3 : x3 = m ((c.tc : Thread Cert.Kernel6Ideal.nD Cert.Kernel6Ideal.τ).loc Cert.Kernel6Ideal.main_arg3))
  (e4 : x4 = m ((c.tc : Thread Cert.Kernel6Ideal.nD Cert.Kernel6Ideal.τ).loc Cert.Kernel6Ideal.main_arg4))
  (e5 : x5 = m ((c.tc : Thread Cert.Kernel6Ideal.nD Cert.Kernel6Ideal.τ).loc Cert.Kernel6Ideal.main_arg5))
  (e6 : x6 = m ((c.tc : Thread Cert.Kernel6Ideal.nD Cert.Kernel6Ideal.τ).loc Cert.Kernel6Ideal.main_arg6))
  (e7 : x7 = m ((c.tc : Thread Cert.Kernel6Ideal.nD Cert.Kernel6Ideal.τ).loc Cert.Kernel6Ideal.main_arg7))
  (e8 : x8 = m ((c.tc : Thread Cert.Kernel6Ideal.nD Cert.Kernel6Ideal.τ).loc Cert.Kernel6Ideal.main_arg8))
  (e9 : x9 = m ((c.tc : Thread Cert.Kernel6Ideal.nD Cert.Kernel6Ideal.τ).loc Cert.Kernel6Ideal.main_arg9))
  (e10 : x10 = m ((c.tc : Thread Cert.Kernel6Ideal.nD Cert.Kernel6Ideal.τ).loc Cert.Kernel6Ideal.main_arg10))

include hK e0 e1 e2 e3 e4 e9 in
/-- The removal keys agree. -/
theorem res12 : Cert.Reference6Ideal.Read.val_main_v66 (F := Ideal) x0 x1 x2 x3 x4 x9
    = (Cert.Kernel6Ideal.Gen.dats m 0 c).arrAt 12 Cert.Kernel6Ideal.cfg0.N := by
  subst e0 e1 e2 e3 e4 e9
  exact ext2 fun r k => (Cert.StepRef.r66_at _ _ _ _ _ _ r k).trans (Cert.StepFinal.f12 m c hK r k).symm

include hK e0 e1 e2 e3 e4 e7 e8 e9 in
/-- The removal's write keys agree. -/
theorem res13 : Cert.Reference6Ideal.Read.val_main_v75 (F := Ideal) x0 x1 x2 x3 x4 x7 x8 x9
    = (Cert.Kernel6Ideal.Gen.dats m 0 c).arrAt 13 Cert.Kernel6Ideal.cfg0.N := by
  subst e0 e1 e2 e3 e4 e7 e8 e9
  exact ext2 fun r k => (Cert.StepRef.r75_at _ _ _ _ _ _ _ _ r k).trans (Cert.StepFinal.f13 m c hK r k).symm

include e0 e1 e2 e3 e4 e7 e8 e10 in
/-- The keys agree. -/
theorem res14 : Cert.Reference6Ideal.Read.val_main_v74 (F := Ideal) x0 x1 x2 x3 x4 x7 x8 x10
    = (Cert.Kernel6Ideal.Gen.dats m 0 c).arrAt 14 Cert.Kernel6Ideal.cfg0.N := by
  subst e0 e1 e2 e3 e4 e7 e8 e10
  exact ext2 fun r k => (Cert.StepRef.r74_at _ _ _ _ _ _ _ _ r k).trans (Cert.StepFinal.f14 m c r k).symm

include e0 e1 e2 e3 e4 in
/-- The receptances agree. -/
theorem res15 : Cert.Reference6Ideal.Read.val_main_v21 (F := Ideal) x0 x1 x2 x3 x4
    = (Cert.Kernel6Ideal.Gen.dats m 0 c).arrAt 15 Cert.Kernel6Ideal.cfg0.N := by
  subst e0 e1 e2 e3 e4
  exact ext2 fun r k => (Cert.StepRef.r21_at _ _ _ _ _ r k).trans (Cert.StepFinal.f15 m c r k).symm

include e0 e1 e2 e3 e4 in
/-- The values agree. -/
theorem res16 : Cert.Reference6Ideal.Read.val_main_v23 (F := Ideal) x0 x1 x2 x3 x4
    = (Cert.Kernel6Ideal.Gen.dats m 0 c).arrAt 16 Cert.Kernel6Ideal.cfg0.N := by
  subst e0 e1 e2 e3 e4
  exact ext2 fun r k => (Cert.StepRef.r23_at _ _ _ _ _ r k).trans (Cert.StepFinal.f16 m c r k).symm

include e0 e1 e2 e3 e4 e5 e6 in
/-- The decays agree. -/
theorem res17 : Cert.Reference6Ideal.Read.val_main_v76 (F := Ideal) x0 x1 x2 x3 x4 x5 x6
    = (Cert.Kernel6Ideal.Gen.dats m 0 c).arrAt 17 Cert.Kernel6Ideal.cfg0.N := by
  subst e0 e1 e2 e3 e4 e5 e6
  exact ext2 fun r k => (Cert.StepRef.r76_at _ _ _ _ _ _ _ r k).trans (Cert.StepFinal.f17 m c r k).symm

include e0 e1 e2 in
/-- The first gate's columns agree. -/
theorem res18 : Cert.Reference6Ideal.Read.val_main_v77 (F := Ideal) x0 x1 x2
    = (Cert.Kernel6Ideal.Gen.dats m 0 c).arrAt 18 Cert.Kernel6Ideal.cfg0.N := by
  subst e0 e1 e2
  exact ext2 fun r k => (Cert.StepRef.r77_at _ _ _ r k).trans (Cert.StepFinal.f18 m c r k).symm

include e0 e1 e2 in
/-- The second gate's columns agree. -/
theorem res19 : Cert.Reference6Ideal.Read.val_main_v78 (F := Ideal) x0 x1 x2
    = (Cert.Kernel6Ideal.Gen.dats m 0 c).arrAt 19 Cert.Kernel6Ideal.cfg0.N := by
  subst e0 e1 e2
  exact ext2 fun r k => (Cert.StepRef.r78_at _ _ _ r k).trans (Cert.StepFinal.f19 m c r k).symm

include e0 e1 e2 in
/-- The scan's columns agree. -/
theorem res20 : Cert.Reference6Ideal.Read.val_main_v79 (F := Ideal) x0 x1 x2
    = (Cert.Kernel6Ideal.Gen.dats m 0 c).arrAt 20 Cert.Kernel6Ideal.cfg0.N := by
  subst e0 e1 e2
  exact ext2 fun r k => (Cert.StepRef.r79_at _ _ _ r k).trans (Cert.StepFinal.f20 m c r k).symm

include e0 e1 e2 in
/-- The scan's steps agree. -/
theorem res21 : Cert.Reference6Ideal.Read.val_main_v80 (F := Ideal) x0 x1 x2
    = (Cert.Kernel6Ideal.Gen.dats m 0 c).arrAt 21 Cert.Kernel6Ideal.cfg0.N := by
  subst e0 e1 e2
  exact ext2 fun r k => (Cert.StepRef.r80_at _ _ _ r k).trans (Cert.StepFinal.f21 m c r k).symm

include e0 e1 in
/-- The normalised rows agree. -/
theorem res22 : Cert.Reference6Ideal.Read.val_main_v12 (F := Ideal) x0 x1
    = (Cert.Kernel6Ideal.Gen.dats m 0 c).arrAt 22 Cert.Kernel6Ideal.cfg0.N := by
  subst e0 e1
  exact ext2 fun r k => (Cert.StepRef.v12_at _ _ r k).trans (Cert.StepFinal.f22 m c r k).symm

end Results

set_option maxHeartbeats 4000000 in
/-- The results agree: both sides are the specification's terms of the same arguments. -/
theorem algebraic : Cert.algebraic_Kernel6Ideal_Reference6Ideal_pre_finite_step_keys := by
  intro m ρ m' ρ' hpre hag
  have hK (c : Dev Cert.Kernel6Ideal.nD) : Cert.StepTile.KeysRealK m c := real_of_pre _ _ _ _ _ _ _ _ _ _ _ (hpre c)
  refine ⟨fun c => (Cert.Kernel6Ideal.Gen.dats m 0 c).arrAt 12 Cert.Kernel6Ideal.cfg0.N,
    fun c => (Cert.Kernel6Ideal.Gen.dats m 0 c).arrAt 13 Cert.Kernel6Ideal.cfg0.N,
    fun c => (Cert.Kernel6Ideal.Gen.dats m 0 c).arrAt 14 Cert.Kernel6Ideal.cfg0.N,
    fun c => (Cert.Kernel6Ideal.Gen.dats m 0 c).arrAt 15 Cert.Kernel6Ideal.cfg0.N,
    fun c => (Cert.Kernel6Ideal.Gen.dats m 0 c).arrAt 16 Cert.Kernel6Ideal.cfg0.N,
    fun c => (Cert.Kernel6Ideal.Gen.dats m 0 c).arrAt 17 Cert.Kernel6Ideal.cfg0.N,
    fun c => (Cert.Kernel6Ideal.Gen.dats m 0 c).arrAt 18 Cert.Kernel6Ideal.cfg0.N,
    fun c => (Cert.Kernel6Ideal.Gen.dats m 0 c).arrAt 19 Cert.Kernel6Ideal.cfg0.N,
    fun c => (Cert.Kernel6Ideal.Gen.dats m 0 c).arrAt 20 Cert.Kernel6Ideal.cfg0.N,
    fun c => (Cert.Kernel6Ideal.Gen.dats m 0 c).arrAt 21 Cert.Kernel6Ideal.cfg0.N,
    fun c => (Cert.Kernel6Ideal.Gen.dats m 0 c).arrAt 22 Cert.Kernel6Ideal.cfg0.N,
    (θ_run Cert.Kernel6Ideal.defs _ _).mono (fun _ h c => h c) (Cert.Kernel6Ideal.Value.run_blocks (F := Ideal) m ρ), ?_⟩
  refine (θ_run Cert.Reference6Ideal.defs _ _).mono (fun r h c => ?_) (Cert.Reference6Ideal.Value.run (F := Ideal) m' ρ')
  obtain ⟨h0, h1, h2, h3, h4, h5, h6, h7, h8, h9, h10, hk⟩ := h c
  obtain ⟨e0, e1, e2, e3, e4, e5, e6, e7, e8, e9, e10⟩ := hag c
  refine ⟨h0.trans ((Cert.Reference6Ideal.Read.val_main_v66_eq m' c).trans ?_),
    h1.trans ((Cert.Reference6Ideal.Read.val_main_v75_eq m' c).trans ?_),
    h2.trans ((Cert.Reference6Ideal.Read.val_main_v74_eq m' c).trans ?_),
    h3.trans ((Cert.Reference6Ideal.Read.val_main_v21_eq _ _ _ _ _).trans ?_),
    h4.trans ((Cert.Reference6Ideal.Read.val_main_v23_eq _ _ _ _ _).trans ?_),
    h5.trans ((Cert.Reference6Ideal.Read.val_main_v76_eq m' c).trans ?_),
    h6.trans ((Cert.Reference6Ideal.Read.val_main_v77_eq _ _ _).trans ?_),
    h7.trans ((Cert.Reference6Ideal.Read.val_main_v78_eq _ _ _).trans ?_),
    h8.trans ((Cert.Reference6Ideal.Read.val_main_v79_eq _ _ _).trans ?_),
    h9.trans ((Cert.Reference6Ideal.Read.val_main_v80_eq _ _ _).trans ?_),
    h10.trans ((Cert.Reference6Ideal.Read.val_main_v12_eq _ _).trans ?_), hk⟩
  · exact res12 m c (hK c) _ _ _ _ _ _ e0 e1 e2 e3 e4 e9
  · exact res13 m c (hK c) _ _ _ _ _ _ _ _ e0 e1 e2 e3 e4 e7 e8 e9
  · exact res14 m c _ _ _ _ _ _ _ _ e0 e1 e2 e3 e4 e7 e8 e10
  · exact res15 m c _ _ _ _ _ e0 e1 e2 e3 e4
  · exact res16 m c _ _ _ _ _ e0 e1 e2 e3 e4
  · exact res17 m c _ _ _ _ _ _ _ e0 e1 e2 e3 e4 e5 e6
  · exact res18 m c _ _ _ e0 e1 e2
  · exact res19 m c _ _ _ e0 e1 e2
  · exact res20 m c _ _ _ e0 e1 e2
  · exact res21 m c _ _ _ e0 e1 e2
  · exact res22 m c _ _ e0 e1

end Cert.StepClaims

end
-- ==== Proof.Conv.Ref.lean ====
/-
  THE REFERENCE'S NEW CONVOLUTION ROWS: the last two rows before and the token's own.
-/
module

public import proofs.«01_k».proof.Proof.Gen.Reference7Ideal.Read
public import Idealize.ShloMosaic.Lib.Claim
public import Idealize.ShloMosaic.Lib.StableHlo.ReadAt
public import Idealize.ShloMosaic.Lib.Pipeline.ValueKit

@[expose] public section

set_option maxRecDepth 16384

noncomputable section

namespace Cert.ConvRef

open Idealize.ShloMosaic Idealize.ShloMosaic.StableHlo
open Cert.Reference7Ideal Cert.Reference7Ideal.Read

/-- Row `p` of sequence `i`. -/
def row (x0 : Vec Ideal ⟨2, ![128, 1536]⟩ .f32) (x3 : Vec Ideal ⟨3, ![128, 3, 1536]⟩ .f32) (i : Fin 128) (p : Fin 3) (q : Fin 1536) : EReal :=
  if h : p.val < 2 then x3 (ix3 i ⟨p.val + 1, by omega⟩ q) else x0 (ix2 i q)

theorem v3_at (x0 : Vec Ideal ⟨2, ![128, 1536]⟩ .f32) (x3 : Vec Ideal ⟨3, ![128, 3, 1536]⟩ .f32) (i : Fin 128) (p : Fin 3) (q : Fin 1536) :
    val_main_v3 (F := Ideal) x0 x3 (ix4 0 i p q) = row x0 x3 i p q := by
  rw [val_main_v3_apply, val_main_v2_apply]
  unfold row val_main_v1
  by_cases h : p.val < 2
  · rw [dif_pos h]
    exact concatenate_pair_apply_left (t := S128x4x1536) (s₁ := S128x3x1536) (s₂ := S128x1x1536) 1 _ _ _ _ rfl (ix3 i ⟨p.val + 1, by omega⟩ q) (fun b => match b with
      | ⟨0, _⟩ => rfl
      | ⟨1, _⟩ => Nat.add_comm _ _
      | ⟨2, _⟩ => rfl)
  · rw [dif_neg h]
    refine (concatenate_pair_apply_right (t := S128x4x1536) (s₁ := S128x3x1536) (s₂ := S128x1x1536) 1 _ _ _ _ rfl rfl (ix3 i 0 q) (fun b => match b with
      | ⟨0, _⟩ => fun _ => rfl
      | ⟨1, _⟩ => fun hb => absurd rfl hb
      | ⟨2, _⟩ => fun _ => rfl) (by show 0 + 3 = 1 + p.val; omega)).trans ?_
    rw [val_main_v0_apply]
    refine congrArg x0 (funext fun a => ?_)
    fin_cases a <;> rfl

end Cert.ConvRef

end
-- ==== Proof.Conv.Body.lean ====
/-
  WHAT A GRID POINT LEAVES of the convolution rows: sixteen stores, two for each of its eight sequences.
-/
module

public import proofs.«01_k».proof.Proof.Gen.Kernel7Ideal.Value
public import proofs.«01_k».proof.Proof.Conv.Ref
public import Idealize.ShloMosaic.Lib.Claim
public import Idealize.ShloMosaic.Lib.Pipeline.ReadBack
public import Idealize.ShloMosaic.Lib.Pipeline.ValueKit
public import Idealize.ShloMosaic.Lib.StableHlo.ReadAt

@[expose] public section

set_option maxRecDepth 16384

noncomputable section

namespace Cert.ConvBody

open Idealize.ShloMosaic Idealize.ShloMosaic.TcCoe Idealize.SL.Sem
open Cert.Kernel7Ideal Cert.Kernel7Ideal.Gen

variable (m : (ℓ : Loc nD τ sig) → Buf (Elt Ideal) ℓ) (c : Dev nD) (t : Fin cfg0.N)

theorem t_lt : t.val < 16 := lt_of_lt_of_eq t.isLt N_0

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 4) = 0 ∧ win0_1.index t (1 : Fin 4) = t.val ∧ win0_1.index t (2 : Fin 4) = 0
    ∧ win0_1.index t (3 : Fin 4) = 0 := (by decide +kernel : ∀ t : Fin grid0.N, _)

theorem b0 (j : Fin 8) (q : Fin 1536) : iblk m c 0 t (ix2 j q)
    = m ((c : Thread nD τ).loc main_arg0) (ix2 ⟨8 * t.val + j.val, by have := t_lt t; omega⟩ q) := by
  obtain ⟨e0, e1⟩ := idx0 t
  blk_ext [iblk, V_main_arg0, e0, e1]

theorem b1 (j : Fin 8) (p : Fin 3) (q : Fin 1536) : iblk m c 1 t (ix4 0 j p q)
    = m ((c : Thread nD τ).loc main_arg3) (ix3 ⟨8 * t.val + j.val, by have := t_lt t; omega⟩ p q) := by
  obtain ⟨e0, e1, e2, e3⟩ := idx1 t
  trans V m c main_v0 (ix4 0 ⟨8 * t.val + j.val, by have := t_lt t; omega⟩ p q)
  · blk_ext [iblk, e0, e1, e2, e3]
  · unfold V; after_reads_at

/-! ## The stores -/

/-- The new rows of a block: the last two before, and the token's own. -/
def rows (X : Vec Ideal S8x1536 .f32) (C : Vec Ideal S1x8x3x1536 .f32) (i : S1x8x3x1536.Idx) : EReal :=
  if h : (i 2).val < 2 then C (ix4 0 (i 1) ⟨(i 2).val + 1, by omega⟩ (i 3)) else X (ix2 (i 1) (i 3))

theorem rows_lo (X : Vec Ideal S8x1536 .f32) (C : Vec Ideal S1x8x3x1536 .f32) (j : Fin 8) (a : Fin 3) (q : Fin 1536) (h : a.val < 2) :
    rows X C (ix4 0 j a q) = C (ix4 0 j ⟨a.val + 1, by omega⟩ q) := dif_pos h

theorem rows_hi (X : Vec Ideal S8x1536 .f32) (C : Vec Ideal S1x8x3x1536 .f32) (j : Fin 8) (a : Fin 3) (q : Fin 1536) (h : ¬a.val < 2) :
    rows X C (ix4 0 j a q) = X (ix2 j q) := dif_neg h

/-- A store of rows `p …` of sequence `j` holds `G` where its payload does. -/
theorem piece_at {n p j : ℕ} (hj : j < 8) (hp : p + n ≤ 3) (G : S1x8x3x1536.Idx → EReal)
    (i0 : ∀ a, (![0, 0, 0, 0] : Fin 4 → ℕ) a + (![1, 8, 3, 1536] : Fin 4 → ℕ) a ≤ S1x8x3x1536.size a)
    (i1 : ∀ a, (![j, p, 0] : Fin 3 → ℕ) a + (![1, n, 1536] : Fin 3 → ℕ) a ≤ S8x3x1536.size a)
    (h0 : (![1, 8, 3, 1536] : Fin 4 → ℕ) 0 = 1) (hs : ∀ i : Fin 3, (![1, 8, 3, 1536] : Fin 4 → ℕ) i.succ = S8x3x1536.size i) (h1)
    (hR : ((Rect.unit (s := S1x8x3x1536) ![0, 0, 0, 0] ![1, 8, 3, 1536] i0).within
      ((Rect.unit (s := S8x3x1536) ![j, p, 0] ![1, n, 1536] i1).consLift ![1, 8, 3, 1536] h0 hs) h1).shape.numel
        = (Rect.unit (s := S8x3x1536) ![j, p, 0] ![1, n, 1536] i1).shape.numel)
    (w : (⟨3, ![1, n, 1536]⟩ : Shape).Idx → EReal)
    (hw : ∀ (a : Fin n) (q : Fin 1536), w (ix3 0 a q) = G (ix4 0 ⟨j, hj⟩ ⟨p + a.val, by omega⟩ q))
    (x : ((Rect.unit (s := S1x8x3x1536) ![0, 0, 0, 0] ![1, 8, 3, 1536] i0).within
      ((Rect.unit (s := S8x3x1536) ![j, p, 0] ![1, n, 1536] i1).consLift ![1, 8, 3, 1536] h0 hs) h1).shape.Idx) :
    Rect.payAlong hR w x = G (((Rect.unit (s := S1x8x3x1536) ![0, 0, 0, 0] ![1, 8, 3, 1536] i0).within
      ((Rect.unit (s := S8x3x1536) ![j, p, 0] ![1, n, 1536] i1).consLift ![1, 8, 3, 1536] h0 hs) h1).emb x) := by
  have x0 : (x 0).val < 1 := (x 0).isLt
  have x1 : (x 1).val < 1 := (x 1).isLt
  have x2 : (x 2).val < n := (x 2).isLt
  have x3 : (x 3).val < 1536 := (x 3).isLt
  refine (Rect.payAlong_consLift (Rect.unit (s := S8x3x1536) ![j, p, 0] ![1, n, 1536] i1) ![1, 8, 3, 1536] h0 hs w hR x
    (ix3 0 ⟨(x 2).val, x2⟩ ⟨(x 3).val, x3⟩) (fun i => ?_)).trans ((hw _ _).trans (congrArg G (funext fun b => Fin.ext ?_)))
  · match i with
    | ⟨0, _⟩ => show 0 = (x 1).val; omega
    | ⟨1, _⟩ => rfl
    | ⟨2, _⟩ => rfl
  · match b with
    | ⟨0, _⟩ => show 0 = 0 + 0 + 1 * (x 0).val; omega
    | ⟨1, _⟩ => show j = 0 + j + 1 * (x 1).val; omega
    | ⟨2, _⟩ => show p + (x 2).val = 0 + p + 1 * (x 2).val; omega
    | ⟨3, _⟩ => show (x 3).val = 0 + 0 + 1 * (x 3).val; omega

/-- The two rows kept. -/
theorem kept_at (X : Vec Ideal S8x1536 .f32) (C : Vec Ideal S1x8x3x1536 .f32) {j : ℕ} (hj : j < 8)
    (inb : ∀ a, (![0, j, 1, 0] : Fin 4 → ℕ) a + (![1, 1, 2, 1536] : Fin 4 → ℕ) a ≤ S1x8x3x1536.size a)
    (h1 : S1x1x2x1536.ShapeCasts S2x1536) (h2 : S2x1536.ShapeCasts S1x2x1536) (a : Fin 2) (q : Fin 1536) :
    shapeCast S1x2x1536 (shapeCast S2x1536 (View.ld C (Rect.unit (s := S1x8x3x1536) ![0, j, 1, 0] ![1, 1, 2, 1536] inb)) h1) h2 (ix3 0 a q)
      = rows X C (ix4 0 ⟨j, hj⟩ ⟨0 + a.val, by omega⟩ q) := by
  rw [rows_lo _ _ _ _ _ (by show 0 + a.val < 2; omega)]
  trans View.ld C (Rect.unit (s := S1x8x3x1536) ![0, j, 1, 0] ![1, 1, 2, 1536] inb) (ix4 0 0 a q)
  · generalize View.ld C (Rect.unit (s := S1x8x3x1536) ![0, j, 1, 0] ![1, 1, 2, 1536] inb) = v
    refine (congrFun (shapeCast_comp v h1 h2) _).trans ((shapeCast_dropUnit_apply ![1, 2, 1536] v _ (ix3 0 a q)).trans
      (congrArg v (funext fun b => ?_)))
    match b with
    | ⟨0, _⟩ => rfl
    | ⟨1, _⟩ => rfl
    | ⟨2, _⟩ => rfl
    | ⟨3, _⟩ => rfl
  · refine congrArg C (funext fun b => Fin.ext ?_)
    match b with
    | ⟨0, _⟩ => rfl
    | ⟨1, _⟩ => show j + 1 * 0 = j; omega
    | ⟨2, _⟩ => show 1 + 1 * a.val = 0 + a.val + 1; omega
    | ⟨3, _⟩ => show 0 + 1 * q.val = q.val; omega

/-- The token's row. -/
theorem new_at (X : Vec Ideal S8x1536 .f32) (C : Vec Ideal S1x8x3x1536 .f32) {j : ℕ} (hj : j < 8)
    (inb : ∀ a, (![j, 0] : Fin 2 → ℕ) a + (![1, 1536] : Fin 2 → ℕ) a ≤ S8x1536.size a)
    (h1 : S1x1536.ShapeCasts S1x1x1536) (a : Fin 1) (q : Fin 1536) :
    shapeCast S1x1x1536 (View.ld X (Rect.unit (s := S8x1536) ![j, 0] ![1, 1536] inb)) h1 (ix3 0 a q)
      = rows X C (ix4 0 ⟨j, hj⟩ ⟨2 + a.val, by omega⟩ q) := by
  rw [rows_hi _ _ _ _ _ (by show ¬2 + a.val < 2; omega)]
  obtain rfl : a = 0 := Subsingleton.elim _ _
  trans View.ld X (Rect.unit (s := S8x1536) ![j, 0] ![1, 1536] inb) (ix2 0 q)
  · generalize View.ld X (Rect.unit (s := S8x1536) ![j, 0] ![1, 1536] inb) = v
    pointwise []
  · refine congrArg X (funext fun b => Fin.ext ?_)
    match b with
    | ⟨0, _⟩ => show j + 1 * 0 = j; omega
    | ⟨1, _⟩ => show 0 + 1 * q.val = q.val; omega

set_option maxHeartbeats 4000000 in
theorem conv_out : (outsAt0 m c t).2.1 = rows (iblk m c 0 t) (iblk m c 1 t) := by
  unfold outsAt0
  frame_out
  funext y
  refine View.canon_apply_of_pieces (Val := Elt Ideal) (e := .f32) (rows (iblk m c 0 t) (iblk m c 1 t)) _ ?_ y ?_
  · iterate 8
      refine List.forall_mem_cons.2 ⟨?_, List.forall_mem_cons.2 ⟨?_, ?_⟩⟩
      · dsimp only
        refine piece_at (n := 1) (p := 2) ?_ (by decide) (rows (iblk m c 0 t) (iblk m c 1 t)) _ _ _ _ _ _ _ ?_
        · decide
        · exact fun a q => new_at (iblk m c 0 t) (iblk m c 1 t) _ _ _ a q
      · dsimp only
        refine piece_at (n := 2) (p := 0) ?_ (by decide) (rows (iblk m c 0 t) (iblk m c 1 t)) _ _ _ _ _ _ _ ?_
        · decide
        · exact fun a q => kept_at (iblk m c 0 t) (iblk m c 1 t) _ _ _ _ a q
    exact fun _ h => absurd h List.not_mem_nil
  · exact View.cover_of_tiledBy _ ![1, 1, 1, 1536] (by sl_kernel_rfl) y

/-! ## The array -/

theorem z13 : ∀ t : Fin cfg0.N, (cfg0.win 13).flush t = true ∧ win0_13.index t (0 : Fin 4) = 0 ∧ win0_13.index t (1 : Fin 4) = t.val
    ∧ win0_13.index t (2 : Fin 4) = 0 ∧ win0_13.index t (3 : Fin 4) = 0 := (by decide +kernel : ∀ t : Fin grid0.N, _)

theorem final_blk (j : Fin 8) (p : Fin 3) (q : Fin 1536) :
    (dats m 0 c).arrAt 13 cfg0.N (ix4 0 ⟨8 * t.val + j.val, by have := t_lt t; omega⟩ p q)
      = Cert.ConvRef.row (m ((c : Thread nD τ).loc main_arg0)) (m ((c : Thread nD τ).loc main_arg3))
          ⟨8 * t.val + j.val, by have := t_lt t; omega⟩ p q := by
  obtain ⟨ef, e0, e1, e2, e3⟩ := z13 t
  have e := congrFun (Value.blocks13 m c t ef) (ix4 0 j p q)
  rw [Value.flushed13] at e
  have hi : ((cfg0.win 13).blk t).view.emb (ix4 0 j p q) = ix4 0 ⟨8 * t.val + j.val, by have := t_lt t; omega⟩ p q := by
    funext b; apply Fin.ext
    match b with
    | ⟨0, _⟩ => show win0_13.index t (0 : Fin 4) * 1 + 1 * 0 = 0; rw [e0]
    | ⟨1, _⟩ => show win0_13.index t (1 : Fin 4) * 8 + 1 * j.val = 8 * t.val + j.val; rw [e1]; omega
    | ⟨2, _⟩ => show win0_13.index t (2 : Fin 4) * 3 + 1 * p.val = p.val; rw [e2]; omega
    | ⟨3, _⟩ => show win0_13.index t (3 : Fin 4) * 1536 + 1 * q.val = q.val; rw [e3]; omega
  have hx : (cfg0.win 13).xinj (grid0.coords t) (ix4 0 j p q) = ix4 0 j p q := by
    funext b; apply Fin.ext
    match b with
    | ⟨0, _⟩ => rfl
    | ⟨1, _⟩ => rfl
    | ⟨2, _⟩ => rfl
    | ⟨3, _⟩ => rfl
  have hl : (dats m 0 c).arrAt 13 cfg0.N (((cfg0.win 13).blk t).view.emb (ix4 0 j p q))
      = (outsAt0 m c t).2.1 ((cfg0.win 13).xinj (grid0.coords t) (ix4 0 j p q)) := e
  rw [hi, hx, conv_out] at hl
  refine hl.trans ?_
  by_cases h : p.val < 2
  · rw [rows_lo _ _ _ _ _ h, b1]
    unfold Cert.ConvRef.row; rw [dif_pos h]
  · rw [rows_hi _ _ _ _ _ h, b0]
    unfold Cert.ConvRef.row; rw [dif_neg h]

theorem final_at (i : Fin 128) (p : Fin 3) (q : Fin 1536) : (dats m 0 c).arrAt 13 cfg0.N (ix4 0 i p q)
    = Cert.ConvRef.row (m ((c : Thread nD τ).loc main_arg0)) (m ((c : Thread nD τ).loc main_arg3)) i p q := by
  have h := final_blk m c ⟨i.val / 8, by rw [show cfg0.N = 16 from N_0]; omega⟩ ⟨i.val % 8, by omega⟩ p q
  have hi : (⟨8 * (i.val / 8) + i.val % 8, by omega⟩ : Fin 128) = i := Fin.ext (by show 8 * (i.val / 8) + i.val % 8 = i.val; omega)
  simpa only [hi] using h

end Cert.ConvBody

end
-- ==== Proof.Conv.Claim.lean ====
/-
  THE CLAIMS of the sample group's convolution rows: the frames are the generated ones, the idealization replaced nothing, and the kernel's rows
  are the reference's at every input.
-/
module

public import proofs.«01_k».proof.Defs
public import proofs.«01_k».proof.Proof.Gen.Kernel7.Frame
public import proofs.«01_k».proof.Proof.Gen.Kernel7Ideal.Frame
public import proofs.«01_k».proof.Proof.Gen.Reference7Ideal.Run
public import proofs.«01_k».proof.Proof.Conv.Body
public import Idealize.ShloMosaic.Adequacy
public import Idealize.ShloMosaic.Init

@[expose] public section

set_option maxRecDepth 16384

noncomputable section

namespace Cert.ConvClaims

open Idealize.ShloMosaic Idealize.ShloMosaic.TcCoe Idealize.SL.Sem Idealize.ShloMosaic.StableHlo

/-- The device's frame, as generated. -/
theorem frame_p : Cert.quiescent_Kernel7 := fun m ρ _ => Cert.Kernel7.Gen.frame m ρ
/-- The idealized kernel's frame, as generated. -/
theorem frame_pi : Cert.quiescent_Kernel7Ideal := fun m ρ _ => Cert.Kernel7Ideal.Gen.frame m ρ
/-- The reference's frame: its generated run keeps the arguments, and it has no semaphore. -/
theorem frame_ri : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)

/-- No operation was replaced. -/
theorem preserves : Cert.preserves_Kernel7_Kernel7Ideal := trivial

/-- The rows, element by element. -/
theorem res0 (m : (ℓ : Loc Cert.Kernel7Ideal.nD Cert.Kernel7Ideal.τ Cert.Kernel7Ideal.sig) → Buf (Elt Ideal) ℓ) (c : Dev Cert.Kernel7Ideal.nD)
    (x0 : Vec Ideal ⟨2, ![128, 1536]⟩ .f32) (x3 : Vec Ideal ⟨3, ![128, 3, 1536]⟩ .f32)
    (e0 : x0 = m ((c.tc : Thread Cert.Kernel7Ideal.nD Cert.Kernel7Ideal.τ).loc Cert.Kernel7Ideal.main_arg0))
    (e3 : x3 = m ((c.tc : Thread Cert.Kernel7Ideal.nD Cert.Kernel7Ideal.τ).loc Cert.Kernel7Ideal.main_arg3)) :
    Cert.Reference7Ideal.Read.val_main_v3 (F := Ideal) x0 x3
      = (Cert.Kernel7Ideal.Gen.dats m 0 c).arrAt 13 Cert.Kernel7Ideal.cfg0.N := by
  subst e0 e3
  funext i
  obtain ⟨a, b, p, q, rfl⟩ : ∃ (a : Fin 1) (b : Fin 128) (p : Fin 3) (q : Fin 1536), i = ix4 a b p q :=
    ⟨i 0, i 1, i 2, i 3, by funext a; fin_cases a <;> rfl⟩
  obtain rfl : a = 0 := Subsingleton.elim _ _
  exact (Cert.ConvRef.v3_at _ _ b p q).trans (Cert.ConvBody.final_at m c b p q).symm

/-- The rows agree. -/
theorem algebraic : Cert.algebraic_Kernel7Ideal_Reference7Ideal := by
  intro m ρ m' ρ' _ hag
  refine ⟨fun c => (Cert.Kernel7Ideal.Gen.dats m 0 c).arrAt 13 Cert.Kernel7Ideal.cfg0.N,
    (θ_run Cert.Kernel7Ideal.defs _ _).mono (fun _ h c => ⟨(h c).2.1, (h c).2.2.2⟩)
      (Cert.Kernel7Ideal.Value.run_blocks (F := Ideal) m ρ), ?_⟩
  refine (θ_run Cert.Reference7Ideal.defs _ _).mono (fun r h c => ?_) (Cert.Reference7Ideal.Value.run (F := Ideal) m' ρ')
  obtain ⟨h0, hk⟩ := h c
  obtain ⟨e0, _, _, e3, _⟩ := hag c
  exact ⟨h0.trans ((Cert.Reference7Ideal.Read.val_main_v3_eq _ _).trans (res0 m c _ _ e0 e3)), hk⟩

end Cert.ConvClaims

end
-- ==== Proof.SOut.Body.lean ====
/-
  THE SAMPLE GROUP'S OUTPUT PROJECTION'S RESULT ARRAY: a grid point's payload read at an index, the blocks it reads as the arguments' elements, and
  the array the points' blocks tile.
-/
module

public import proofs.«01_k».proof.Proof.Gen.Kernel5Ideal.Value
public import Idealize.ShloMosaic.Lib.Claim
public import Idealize.ShloMosaic.Lib.Pipeline.ValueKit
public import Idealize.ShloMosaic.Lib.StableHlo.ReadAt
public import proofs.«01_k».proof.Proof.Out.Spec
public import proofs.«01_k».proof.Proof.Out.Rect

@[expose] public section

set_option maxRecDepth 16384

noncomputable section

namespace Cert.SOutBody

open Idealize.ShloMosaic Idealize.ShloMosaic.TcCoe Idealize.SL.Sem
open Cert.Kernel5Ideal Cert.Kernel5Ideal.Gen Cert.Out

/-- The payload, read at an index. -/
theorem pay_at (v0 : Vec Ideal S128x1024 .f32) (v1 : Vec Ideal S128x1024 .f32) (v2 : Vec Ideal S1024x1024 .bf16)
    (v6 : Vec Ideal S128x1024 .f32) (v7 : Vec Ideal S1024x1024 .bf16) (v21 : Vec Ideal S1x1024 .f32) (r : Fin 128) (k : Fin 1024) :
    k0_pay1 (F := Idealize.ShloMosaic.Ideal) v0 v1 v2 v6 v7 v21 (ix2 r k)
      = scaled (fun k => v21 (ix2 0 k)) (fun k => (v0 (ix2 r k) + ∑ j : Fin 1024, (v1 (ix2 r j) * v2 (ix2 j k) : EReal))
          + ∑ j : Fin 1024, (v6 (ix2 r j) * v7 (ix2 j k) : EReal)) k := by
  pointwise [k0_pay1]
  rfl

variable (m : (ℓ : Loc nD τ sig) → Buf (Elt Ideal) ℓ) (c : Dev nD) (t : Fin cfg0.N)

theorem t_lt : t.val < 1 := lt_of_lt_of_eq t.isLt N_0

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem flush5 : ∀ t : Fin cfg0.N, (cfg0.win 5).flush t = true :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem z4 (a : Fin 2) : win0_4.index t a = 0 := by fin_cases a <;> rfl

theorem b0 (r : Fin 128) (k : Fin 1024) : iblk m c 0 t (ix2 r k)
    = m ((c : Thread nD τ).loc main_arg0) (ix2 ⟨128 * t.val + r.val, by have := t_lt t; omega⟩ k) := by
  obtain ⟨e0, e1⟩ := idx0 t
  blk_ext [iblk, V_main_arg0, e0, e1]

theorem b1 (r : Fin 128) (k : Fin 1024) : iblk m c 1 t (ix2 r k)
    = m ((c : Thread nD τ).loc main_arg1) (ix2 ⟨128 * t.val + r.val, by have := t_lt t; omega⟩ k) := by
  obtain ⟨e0, e1⟩ := idx1 t
  blk_ext [iblk, V_main_arg1, e0, e1]

theorem b2 (r : Fin 128) (k : Fin 1024) : iblk m c 2 t (ix2 r k)
    = m ((c : Thread nD τ).loc main_arg2) (ix2 ⟨128 * t.val + r.val, by have := t_lt t; omega⟩ k) := by
  obtain ⟨e0, e1⟩ := idx2 t
  blk_ext [iblk, V_main_arg2, e0, e1]

theorem b3 (r : Fin 2048) (k : Fin 1024) : iblk m c 3 t (ix2 r k) = m ((c : Thread nD τ).loc main_arg3) (ix2 r k) := by
  obtain ⟨e0, e1⟩ := idx3 t
  trans V m c main_v0 (ix2 r k)
  · blk_ext [iblk, e0, e1]
  · unfold V; after_reads_at

theorem b4 (k : Fin 1024) : iblk m c 4 t (ix2 0 k) = m ((c : Thread nD τ).loc main_arg4) (ix1 k) := by
  trans V m c main_v1 (ix2 0 k)
  · blk_ext [iblk, z4 t]
  · unfold V; after_reads_at

/-- Row `i` of the result, with the kernel's five arguments. -/
def outRow (i : Fin 128) (k : Fin 1024) : EReal :=
  scaled (fun k => m ((c : Thread nD τ).loc main_arg4) (ix1 k))
    (row (fun k => m ((c : Thread nD τ).loc main_arg0) (ix2 i k)) (fun k => m ((c : Thread nD τ).loc main_arg1) (ix2 i k))
      (fun k => m ((c : Thread nD τ).loc main_arg2) (ix2 i k)) (fun j k => m ((c : Thread nD τ).loc main_arg3) (ix2 j k))) k

/-- A point's output block. -/
theorem block_at (r : Fin 128) (k : Fin 1024) :
    out0_5 (iblk m c 0 t) (iblk m c 1 t) (iblk m c 2 t) (iblk m c 3 t) (iblk m c 4 t) (ix2 r k)
      = outRow m c ⟨128 * t.val + r.val, by have := t_lt t; omega⟩ k := by
  unfold out0_5
  refine (MatRect.canon_hit _ _ _ r k r k (by omega) (by omega)).trans ?_
  rw [pay_at]
  have h0 (k : Fin 1024) := (MatRect.ld_at inb_S128x1024_S128x1024_0_0 (iblk m c 0 t) r k r k (by omega) (by omega)).trans (b0 m c t r k)
  have h1 (k : Fin 1024) := (MatRect.ld_at inb_S128x1024_S128x1024_0_0 (iblk m c 1 t) r k r k (by omega) (by omega)).trans (b1 m c t r k)
  have h2 (k : Fin 1024) := (MatRect.ld_at inb_S128x1024_S128x1024_0_0 (iblk m c 2 t) r k r k (by omega) (by omega)).trans (b2 m c t r k)
  have h3 (j k : Fin 1024) := (MatRect.ld_at inb_S2048x1024_S1024x1024_0_0 (iblk m c 3 t) ⟨j.val, by omega⟩ k j k (by dsimp only; omega) (by omega)).trans (b3 m c t ⟨j.val, by omega⟩ k)
  have h3' (j k : Fin 1024) := (MatRect.ld_at inb_S2048x1024_S1024x1024_1024_0 (iblk m c 3 t) ⟨1024 + j.val, by omega⟩ k j k (by dsimp only) (by omega)).trans (b3 m c t ⟨1024 + j.val, by omega⟩ k)
  have h4 (k : Fin 1024) := (MatRect.ld_at inb_S1x1024_S1x1024_0_0 (iblk m c 4 t) 0 k 0 k (by rfl) (by omega)).trans (b4 m c t k)
  unfold outRow row
  refine congrArg₂ (fun f g => scaled f g k) (funext fun k => h4 k) (funext fun k => ?_)
  refine congrArg₂ (fun a b : EReal => a + b) (congrArg₂ (fun a b : EReal => a + b) (h0 k) ?_) ?_
  · exact Finset.sum_congr rfl fun j _ => congrArg₂ (fun a b : EReal => a * b) (h1 j) (h3 j k)
  · exact Finset.sum_congr rfl fun j _ => congrArg₂ (fun a b : EReal => a * b) (h2 j) (h3' j k)

/-- What a point leaves in the result array. -/
theorem at_point (t : Fin cfg0.N) (r : Fin 128) (k : Fin 1024) :
    (dats m 0 c).arrAt 5 cfg0.N (ix2 ⟨128 * t.val + r.val, by have := t_lt t; omega⟩ k)
      = outRow m c ⟨128 * t.val + r.val, by have := t_lt t; omega⟩ k := by
  have h := congrFun (Value.blocks5 m c t (flush5 _)) (ix2 r k)
  rw [Value.flushed5] at h
  obtain ⟨e0, e1⟩ := idx5 t
  have hi : ((cfg0.win 5).blk t).view.emb (ix2 r k) = ix2 ⟨128 * t.val + r.val, by have := t_lt t; omega⟩ k := by
    funext a; apply Fin.ext
    match a with
    | ⟨0, _⟩ => show win0_5.index t (0 : Fin 2) * 128 + 1 * r.val = 128 * t.val + r.val; rw [e0]; omega
    | ⟨1, _⟩ => show win0_5.index t (1 : Fin 2) * 1024 + 1 * k.val = k.val; rw [e1]; omega
  have hx : (cfg0.win 5).xinj (grid0.coords t) (ix2 r k) = ix2 r k := by
    funext a; apply Fin.ext
    match a with
    | ⟨0, _⟩ => rfl
    | ⟨1, _⟩ => rfl
  have hl : (dats m 0 c).arrAt 5 cfg0.N (((cfg0.win 5).blk t).view.emb (ix2 r k))
      = out0_5 (iblk m c 0 t) (iblk m c 1 t) (iblk m c 2 t) (iblk m c 3 t) (iblk m c 4 t) ((cfg0.win 5).xinj (grid0.coords t) (ix2 r k)) := h
  rw [hi, hx, block_at] at hl
  exact hl

/-- The result array, entry by entry. -/
theorem final_at (i : Fin 128) (k : Fin 1024) : (dats m 0 c).arrAt 5 cfg0.N (ix2 i k) = outRow m c i k := by
  have e : (⟨128 * (0 : ℕ) + i.val, by omega⟩ : Fin 128) = i := Fin.ext (by dsimp only; omega)
  have h := at_point m c ⟨0, by rw [show cfg0.N = 1 from N_0]; omega⟩ i k
  dsimp only at h
  rw [e] at h
  exact h

end Cert.SOutBody

end
-- ==== Proof.SOut.Ref.lean ====
/-
  THE SAMPLE GROUP'S OUTPUT PROJECTION'S REFERENCE, read at an index: one product with the two mixers' rows side by side, which is the sum of two.
-/
module

public import proofs.«01_k».proof.Proof.Gen.Reference5Ideal.Read
public import Idealize.ShloMosaic.Lib.Claim
public import proofs.«01_k».proof.Proof.Out.Spec

@[expose] public section

set_option maxRecDepth 16384

noncomputable section

namespace Cert.SOutRef

open Idealize.ShloMosaic Idealize.SL.Sem
open Cert.Reference5Ideal Cert.Reference5Ideal.Gen Cert.Reference5Ideal.Read Cert.Out

variable (x0 : Vec Ideal S128x1024 .f32) (x1 x2 : Vec Ideal S128x1024 .f32) (x3 : Vec Ideal S2048x1024 .f32) (x4 : Vec Ideal S1024 .f32)

/-- The row before its norm. -/
theorem v2_at (i : Fin 128) (k : Fin 1024) : val_main_v2 (F := Idealize.ShloMosaic.Ideal) x0 x1 x2 x3 (ix2 i k)
    = row (fun k => x0 (ix2 i k)) (fun k => x1 (ix2 i k)) (fun k => x2 (ix2 i k)) (fun j k => x3 (ix2 j k)) k := by
  unfold row
  rw [add_assoc]
  refine (val_main_v2_apply _ _ _ _ _).trans (congrArg (fun z : EReal => x0 (ix2 i k) + z) ?_)
  rw [val_main_v1_apply]
  refine (Fin.sum_univ_add (a := 1024) (b := 1024) _).trans (congrArg₂ (fun a b : EReal => a + b) ?_ ?_)
  · refine Finset.sum_congr rfl fun j _ => ?_
    pointwise [val_main_v0]
    rw [dif_pos (show (Fin.castAdd 1024 j).val < 1024 from j.isLt)]
    refine congrArg₂ (fun a b : EReal => a * b) rfl (congrArg x3 (funext fun a => ?_))
    fin_cases a <;> rfl
  · refine Finset.sum_congr rfl fun j _ => ?_
    pointwise [val_main_v0]
    rw [dif_neg (show ¬(Fin.natAdd 1024 j).val < 1024 by rw [Fin.val_natAdd]; omega)]
    refine congrArg₂ (fun a b : EReal => a * b) (congrArg x2 (funext fun a => Fin.ext ?_)) (congrArg x3 (funext fun a => ?_))
    · match a with
      | ⟨0, _⟩ => rfl
      | ⟨1, _⟩ => exact (congrArg (· - 1024) (Fin.val_natAdd 1024 j)).trans (Nat.add_sub_cancel_left 1024 j.val)
    · fin_cases a <;> rfl

/-- The result. -/
theorem v15_at (i : Fin 128) (k : Fin 1024) : val_main_v15 (F := Idealize.ShloMosaic.Ideal) x0 x1 x2 x3 x4 (ix2 i k)
    = scaled (fun k => x4 (ix1 k)) (row (fun k => x0 (ix2 i k)) (fun k => x1 (ix2 i k)) (fun k => x2 (ix2 i k)) (fun j k => x3 (ix2 j k))) k := by
  have h (k : Fin 1024) := v2_at x0 x1 x2 x3 i k
  unfold scaled
  simp only [← h]
  pointwise [val_main_v15, val_main_v14, val_main_v13, val_main_v12, val_main_v11, val_main_v10, val_main_v9, val_main_v8, val_main_v7, val_main_v6, val_main_v5, val_main_v4, val_main_v3, val_main_cst, val_main_cst_0, val_main_cst_1]

end Cert.SOutRef

end
-- ==== Proof.SOut.Claim.lean ====
/-
  THE CLAIMS of the sample group's output projection: the frames are the generated ones, the idealization replaced nothing, and the kernel's result
  is the reference's at every input.
-/
module

public import proofs.«01_k».proof.Defs
public import proofs.«01_k».proof.Proof.Gen.Kernel5.Frame
public import proofs.«01_k».proof.Proof.Gen.Kernel5Ideal.Frame
public import proofs.«01_k».proof.Proof.Gen.Reference5Ideal.Run
public import proofs.«01_k».proof.Proof.SOut.Body
public import proofs.«01_k».proof.Proof.SOut.Ref
public import Idealize.ShloMosaic.Adequacy
public import Idealize.ShloMosaic.Init

@[expose] public section

set_option maxRecDepth 16384

noncomputable section

namespace Cert.SOutClaims

open Idealize.ShloMosaic Idealize.ShloMosaic.TcCoe Idealize.SL.Sem Idealize.ShloMosaic.StableHlo

/-- The device's frame, as generated. -/
theorem frame_p : Cert.quiescent_Kernel5 := fun m ρ _ => Cert.Kernel5.Gen.frame m ρ
/-- The idealized kernel's frame, as generated. -/
theorem frame_pi : Cert.quiescent_Kernel5Ideal := fun m ρ _ => Cert.Kernel5Ideal.Gen.frame m ρ
/-- The reference's frame: its generated run keeps the arguments, and it has no semaphore. -/
theorem frame_ri : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

/-- No operation was replaced. -/
theorem preserves : Cert.preserves_Kernel5_Kernel5Ideal := trivial

/-- The result, element by element. -/
theorem res0 (m : (ℓ : Loc Cert.Kernel5Ideal.nD Cert.Kernel5Ideal.τ Cert.Kernel5Ideal.sig) → Buf (Elt Ideal) ℓ) (c : Dev Cert.Kernel5Ideal.nD)
    (x0 : Vec Ideal ⟨2, ![128, 1024]⟩ .f32) (x1 x2 : Vec Ideal ⟨2, ![128, 1024]⟩ .f32) (x3 : Vec Ideal ⟨2, ![2048, 1024]⟩ .f32)
    (x4 : Vec Ideal ⟨1, ![1024]⟩ .f32)
    (e0 : x0 = m ((c.tc : Thread Cert.Kernel5Ideal.nD Cert.Kernel5Ideal.τ).loc Cert.Kernel5Ideal.main_arg0))
    (e1 : x1 = m ((c.tc : Thread Cert.Kernel5Ideal.nD Cert.Kernel5Ideal.τ).loc Cert.Kernel5Ideal.main_arg1))
    (e2 : x2 = m ((c.tc : Thread Cert.Kernel5Ideal.nD Cert.Kernel5Ideal.τ).loc Cert.Kernel5Ideal.main_arg2))
    (e3 : x3 = m ((c.tc : Thread Cert.Kernel5Ideal.nD Cert.Kernel5Ideal.τ).loc Cert.Kernel5Ideal.main_arg3))
    (e4 : x4 = m ((c.tc : Thread Cert.Kernel5Ideal.nD Cert.Kernel5Ideal.τ).loc Cert.Kernel5Ideal.main_arg4)) :
    Cert.Reference5Ideal.Read.val_main_v15 (F := Ideal) x0 x1 x2 x3 x4
      = (Cert.Kernel5Ideal.Gen.dats m 0 c).arrAt 5 Cert.Kernel5Ideal.cfg0.N := by
  subst e0 e1 e2 e3 e4
  funext i
  obtain ⟨r, k, rfl⟩ : ∃ (r : Fin 128) (k : Fin 1024), i = ix2 r k := ⟨i 0, i 1, by funext a; fin_cases a <;> rfl⟩
  exact (Cert.SOutRef.v15_at _ _ _ _ _ r k).trans (Cert.SOutBody.final_at m c r k).symm

/-- The results agree: both sides are the specification's terms of the same arguments. -/
theorem algebraic : Cert.algebraic_Kernel5Ideal_Reference5Ideal := by
  intro m ρ m' ρ' _ hag
  refine ⟨fun c => (Cert.Kernel5Ideal.Gen.dats m 0 c).arrAt 5 Cert.Kernel5Ideal.cfg0.N,
    (θ_run Cert.Kernel5Ideal.defs _ _).mono (fun _ h c => h c) (Cert.Kernel5Ideal.Value.run_blocks (F := Ideal) m ρ), ?_⟩
  refine (θ_run Cert.Reference5Ideal.defs _ _).mono (fun r h c => ?_) (Cert.Reference5Ideal.Value.run (F := Ideal) m' ρ')
  obtain ⟨h0, hk⟩ := h c
  obtain ⟨e0, e1, e2, e3, e4⟩ := hag c
  refine ⟨h0.trans ((Cert.Reference5Ideal.Read.val_main_v15_eq _ _ _ _ _).trans ?_), hk⟩
  exact res0 m c _ _ _ _ _ e0 e1 e2 e3 e4

end Cert.SOutClaims

end
-- ==== Proof.Norm.Body.lean ====
/-
  THE LAST ROWS' NORM: the call's payload read at an index, the rows it reads as the argument's, and the result array.
-/
module

public import proofs.«01_k».proof.Proof.Gen.Kernel4Ideal.Value
public import Idealize.ShloMosaic.Lib.Claim
public import Idealize.ShloMosaic.Lib.Pipeline.ValueKit
public import Idealize.ShloMosaic.Lib.StableHlo.ReadAt
public import proofs.«01_k».proof.Proof.Out.Spec
public import proofs.«01_k».proof.Proof.Out.Rect

@[expose] public section

set_option maxRecDepth 16384

noncomputable section

namespace Cert.NormBody

open Idealize.ShloMosaic Idealize.ShloMosaic.TcCoe Idealize.SL.Sem
open Cert.Kernel4Ideal Cert.Kernel4Ideal.Gen Cert.Out

/-- The payload, read at an index. -/
theorem pay_at (v0 : Vec Ideal S8x1024 .f32) (v12 : Vec Ideal S1x1024 .f32) (r : Fin 8) (k : Fin 1024) :
    k0_pay1 (F := Idealize.ShloMosaic.Ideal) v0 v12 (ix2 r k) = scaled (fun k => v12 (ix2 0 k)) (fun k => v0 (ix2 r k)) k := by
  pointwise [k0_pay1]
  rfl

variable (m : (ℓ : Loc nD τ sig) → Buf (Elt Ideal) ℓ) (c : Dev nD) (t : Fin cfg0.N)

theorem z0 (a : Fin 2) : win0_0.index t a = 0 := by fin_cases a <;> rfl
theorem z1 (a : Fin 2) : win0_1.index t a = 0 := by fin_cases a <;> rfl

theorem b0 (r : Fin 8) (k : Fin 1024) : iblk m c 0 t (ix2 r k)
    = m ((c : Thread nD τ).loc main_arg0) (ix2 ⟨2048 * r.val + 2047, by omega⟩ k) := by
  trans V m c main_v2 (ix2 r k)
  · blk_ext [iblk, z0 t]
  · unfold V; after_reads_at
    exact congrArg (fun i : Fin 16384 => m ((c : Thread nD τ).loc main_arg0) (ix2 i k)) (Fin.ext (by dsimp only; omega))

theorem b1 (k : Fin 1024) : iblk m c 1 t (ix2 0 k) = m ((c : Thread nD τ).loc main_arg1) (ix1 k) := by
  trans V m c main_v3 (ix2 0 k)
  · blk_ext [iblk, z1 t]
  · unfold V; after_reads_at

/-- The last row of sequence `r`, normalised. -/
def lastRow (r : Fin 8) (k : Fin 1024) : EReal :=
  scaled (fun k => m ((c : Thread nD τ).loc main_arg1) (ix1 k))
    (fun k => m ((c : Thread nD τ).loc main_arg0) (ix2 ⟨2048 * r.val + 2047, by omega⟩ k)) k

/-- The call's output block. -/
theorem block_at (r : Fin 8) (k : Fin 1024) : out0_2 (iblk m c 0 t) (iblk m c 1 t) (ix2 r k) = lastRow m c r k := by
  unfold out0_2
  refine (MatRect.canon_hit _ _ _ r k r k (by omega) (by omega)).trans ?_
  rw [pay_at]
  have h0 (k : Fin 1024) := (MatRect.ld_at inb_S8x1024_S8x1024_0_0 (iblk m c 0 t) r k r k (by omega) (by omega)).trans (b0 m c t r k)
  have h1 (k : Fin 1024) := (MatRect.ld_at inb_S1x1024_S1x1024_0_0 (iblk m c 1 t) 0 k 0 k (by rfl) (by omega)).trans (b1 m c t k)
  exact congrArg₂ (fun f g => scaled f g k) (funext fun k => h1 k) (funext fun k => h0 k)

/-- The result array, entry by entry. -/
theorem final_at (r : Fin 8) (k : Fin 1024) : (dats m 0 c).arrAt 2 cfg0.N (ix2 r k) = lastRow m c r k := by
  have ht : 0 < cfg0.N := by rw [show cfg0.N = 1 from N_0]; omega
  obtain ⟨t⟩ : Nonempty (Fin cfg0.N) := ⟨⟨0, ht⟩⟩
  have h := congrFun (Value.blocks2 m c t ((by decide +kernel : ∀ t : Fin grid0.N, (cfg0.win 2).flush t = true) t)) (ix2 r k)
  rw [Value.flushed2] at h
  have hi : ((cfg0.win 2).blk t).view.emb (ix2 r k) = ix2 r k := by
    funext a; apply Fin.ext
    match a with
    | ⟨0, _⟩ => show 0 * 8 + 1 * r.val = r.val; omega
    | ⟨1, _⟩ => show 0 * 1024 + 1 * k.val = k.val; omega
  have hx : (cfg0.win 2).xinj (grid0.coords t) (ix2 r k) = ix2 r k := by
    funext a; apply Fin.ext
    match a with
    | ⟨0, _⟩ => rfl
    | ⟨1, _⟩ => rfl
  have hl : (dats m 0 c).arrAt 2 cfg0.N (((cfg0.win 2).blk t).view.emb (ix2 r k))
      = out0_2 (iblk m c 0 t) (iblk m c 1 t) ((cfg0.win 2).xinj (grid0.coords t) (ix2 r k)) := h
  rw [hi, hx, block_at] at hl
  exact hl

end Cert.NormBody

end
-- ==== Proof.Norm.Ref.lean ====
/-
  THE LAST ROWS' NORM, the reference read at an index: all the rows normalised, then the last one of each sequence.
-/
module

public import proofs.«01_k».proof.Proof.Gen.Reference4Ideal.Read
public import Idealize.ShloMosaic.Lib.Claim
public import proofs.«01_k».proof.Proof.Out.Spec

@[expose] public section

set_option maxRecDepth 16384

noncomputable section

namespace Cert.NormRef

open Idealize.ShloMosaic Idealize.SL.Sem
open Cert.Reference4Ideal Cert.Reference4Ideal.Gen Cert.Reference4Ideal.Read Cert.Out

variable (x0 : Vec Ideal S16384x1024 .f32) (x1 : Vec Ideal S1024 .f32)

/-- The rows by sequence. -/
theorem v0_at (s : Fin 8) (l : Fin 2048) (k : Fin 1024) :
    val_main_v0 (F := Idealize.ShloMosaic.Ideal) x0 (ix3 s l k) = x0 (ix2 ⟨2048 * s.val + l.val, by omega⟩ k) := by
  refine (val_main_v0_apply _ _).trans (congrArg x0 (funext fun a => Fin.ext ?_))
  match a with
  | ⟨0, _⟩ => show ((s.val * 2048 + l.val) * 1024 + k.val) / 1024 = 2048 * s.val + l.val; omega
  | ⟨1, _⟩ => show ((s.val * 2048 + l.val) * 1024 + k.val) % 1024 = k.val; omega

/-- The result. -/
theorem v15_at (s : Fin 8) (k : Fin 1024) : val_main_v15 (F := Idealize.ShloMosaic.Ideal) x0 x1 (ix2 s k)
    = scaled (fun k => x1 (ix1 k)) (fun k => x0 (ix2 ⟨2048 * s.val + 2047, by omega⟩ k)) k := by
  have h (k : Fin 1024) : val_main_v0 (F := Idealize.ShloMosaic.Ideal) x0 (ix3 s 2047 k) = x0 (ix2 ⟨2048 * s.val + 2047, by omega⟩ k) :=
    v0_at x0 s 2047 k
  unfold scaled
  pointwise [val_main_v15, val_main_v14, val_main_v13, val_main_v12, val_main_v11, val_main_v10, val_main_v9, val_main_v8, val_main_v7, val_main_v6, val_main_v5, val_main_v4, val_main_v3, val_main_v2, val_main_v1, val_main_cst, val_main_cst_0, val_main_cst_1]
  simp only [h]

end Cert.NormRef

end
-- ==== Proof.Norm.Claim.lean ====
/-
  THE CLAIMS of the last rows' norm: the frames are the generated ones, the idealization replaced nothing, and the kernel's result is
  the reference's at every input.
-/
module

public import proofs.«01_k».proof.Defs
public import proofs.«01_k».proof.Proof.Gen.Kernel4.Frame
public import proofs.«01_k».proof.Proof.Gen.Kernel4Ideal.Frame
public import proofs.«01_k».proof.Proof.Gen.Reference4Ideal.Run
public import proofs.«01_k».proof.Proof.Norm.Body
public import proofs.«01_k».proof.Proof.Norm.Ref
public import Idealize.ShloMosaic.Adequacy
public import Idealize.ShloMosaic.Init

@[expose] public section

set_option maxRecDepth 16384

noncomputable section

namespace Cert.NormClaims

open Idealize.ShloMosaic Idealize.ShloMosaic.TcCoe Idealize.SL.Sem Idealize.ShloMosaic.StableHlo

/-- The device's frame, as generated. -/
theorem frame_p : Cert.quiescent_Kernel4 := fun m ρ _ => Cert.Kernel4.Gen.frame m ρ
/-- The idealized kernel's frame, as generated. -/
theorem frame_pi : Cert.quiescent_Kernel4Ideal := fun m ρ _ => Cert.Kernel4Ideal.Gen.frame m ρ
/-- The reference's frame: its generated run keeps the arguments, and it has no semaphore. -/
theorem frame_ri : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- No operation was replaced. -/
theorem preserves : Cert.preserves_Kernel4_Kernel4Ideal := trivial

/-- The result, element by element. -/
theorem res0 (m : (ℓ : Loc Cert.Kernel4Ideal.nD Cert.Kernel4Ideal.τ Cert.Kernel4Ideal.sig) → Buf (Elt Ideal) ℓ) (c : Dev Cert.Kernel4Ideal.nD)
    (x0 : Vec Ideal ⟨2, ![16384, 1024]⟩ .f32) (x1 : Vec Ideal ⟨1, ![1024]⟩ .f32)
    (e0 : x0 = m ((c.tc : Thread Cert.Kernel4Ideal.nD Cert.Kernel4Ideal.τ).loc Cert.Kernel4Ideal.main_arg0))
    (e1 : x1 = m ((c.tc : Thread Cert.Kernel4Ideal.nD Cert.Kernel4Ideal.τ).loc Cert.Kernel4Ideal.main_arg1)) :
    Cert.Reference4Ideal.Read.val_main_v15 (F := Ideal) x0 x1
      = (Cert.Kernel4Ideal.Gen.dats m 0 c).arrAt 2 Cert.Kernel4Ideal.cfg0.N := by
  subst e0 e1
  funext i
  obtain ⟨r, k, rfl⟩ : ∃ (r : Fin 8) (k : Fin 1024), i = ix2 r k := ⟨i 0, i 1, by funext a; fin_cases a <;> rfl⟩
  exact (Cert.NormRef.v15_at _ _ r k).trans (Cert.NormBody.final_at m c r k).symm

/-- The results agree: both sides are the specification's terms of the same arguments. -/
theorem algebraic : Cert.algebraic_Kernel4Ideal_Reference4Ideal := by
  intro m ρ m' ρ' _ hag
  refine ⟨fun c => (Cert.Kernel4Ideal.Gen.dats m 0 c).arrAt 2 Cert.Kernel4Ideal.cfg0.N,
    (θ_run Cert.Kernel4Ideal.defs _ _).mono (fun _ h c => h c) (Cert.Kernel4Ideal.Value.run_blocks (F := Ideal) m ρ), ?_⟩
  refine (θ_run Cert.Reference4Ideal.defs _ _).mono (fun r h c => ?_) (Cert.Reference4Ideal.Value.run (F := Ideal) m' ρ')
  obtain ⟨h0, hk⟩ := h c
  obtain ⟨e0, e1⟩ := hag c
  refine ⟨h0.trans ((Cert.Reference4Ideal.Read.val_main_v15_eq _ _).trans ?_), hk⟩
  exact res0 m c _ _ e0 e1

end Cert.NormClaims

end
-- ==== Proof.lean ====
/-
  THE CERTIFICATE of seven calls, the fused scan, the input and the output projection of both groups, the last rows' norm and
  the sample group's new convolution rows: for each the frames of the kernel, of its idealization and of the reference, what the
  idealization changed, and the equality of all the results with the reference's.
-/
module

public import proofs.«01_k».proof.Defs
public import proofs.«01_k».proof.Proof.Ssd.Claim
public import proofs.«01_k».proof.Proof.Proj.Claim
public import proofs.«01_k».proof.Proof.Out.Claim
public import proofs.«01_k».proof.Proof.Step.Claim
public import proofs.«01_k».proof.Proof.Conv.Claim
public import proofs.«01_k».proof.Proof.SOut.Claim
public import proofs.«01_k».proof.Proof.Norm.Claim
public import Idealize.ShloMosaic.Adequacy
public import Idealize.ShloMosaic.Init

@[expose] public section

noncomputable section

namespace Cert.Proof

/-- Every claim of this certificate. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.SsdClaims.preFacts, Cert.ProjClaims.preFacts, Cert.StepClaims.preFacts,
    Cert.SsdClaims.frame_p, Cert.SsdClaims.frame_pi, Cert.SsdClaims.frame_pi_pre, Cert.SsdClaims.frame_ri, Cert.SsdClaims.frame_ri_pre,
    Cert.ProjClaims.frame_p, Cert.ProjClaims.frame_pi, Cert.ProjClaims.frame_pi_pre, Cert.ProjClaims.frame_ri, Cert.ProjClaims.frame_ri_pre,
    Cert.OutClaims.frame_p, Cert.OutClaims.frame_pi, Cert.OutClaims.frame_ri,
    Cert.NormClaims.frame_p, Cert.NormClaims.frame_pi, Cert.NormClaims.frame_ri,
    Cert.SOutClaims.frame_p, Cert.SOutClaims.frame_pi, Cert.SOutClaims.frame_ri,
    Cert.StepClaims.frame_p, Cert.StepClaims.frame_pi, Cert.StepClaims.frame_pi_pre, Cert.StepClaims.frame_ri, Cert.StepClaims.frame_ri_pre,
    Cert.ConvClaims.frame_p, Cert.ConvClaims.frame_pi, Cert.ConvClaims.frame_ri,
    Cert.SsdClaims.preserves, Cert.SsdClaims.algebraic,
    Cert.ProjClaims.preserves, Cert.ProjClaims.algebraic,
    Cert.OutClaims.preserves, Cert.OutClaims.algebraic,
    Cert.NormClaims.preserves, Cert.NormClaims.algebraic,
    Cert.SOutClaims.preserves, Cert.SOutClaims.algebraic,
    Cert.StepClaims.preserves, Cert.StepClaims.algebraic,
    Cert.ConvClaims.preserves, Cert.ConvClaims.algebraic⟩

end Cert.Proof

end
